-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v67) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v42_0)) (v1 : (c : Dev Cert.Kernel9Ideal.nD) → Buf (Elt Ideal) ((c.tc : Thread Cert.Kernel9Ideal.nD Cert.Kernel9Ideal.τ).loc Cert.Kernel9Ideal.main_v42_1)) (v2 : (c : Dev Cert.Kernel9Ideal.nD) → Buf (Elt Ideal) ((c.tc : Thread Cert.Kernel9Ideal.nD Cert.Kernel9Ideal.τ).loc Cert.Kernel9Ideal.main_v42_2)) (v3 : (c : Dev Cert.Kernel9Ideal.nD) → Buf (Elt Ideal) ((c.tc : Thread Cert.Kernel9Ideal.nD Cert.Kernel9Ideal.τ).loc Cert.Kernel9Ideal.main_v42_3)) (v4 : (c : Dev Cert.Kernel9Ideal.nD) → Buf (Elt Ideal) ((c.tc : Thread Cert.Kernel9Ideal.nD Cert.Kernel9Ideal.τ).loc Cert.Kernel9Ideal.main_v42_4)) (v5 : (c : Dev Cert.Kernel9Ideal.nD) → Buf (Elt Ideal) ((c.tc : Thread Cert.Kernel9Ideal.nD Cert.Kernel9Ideal.τ).loc Cert.Kernel9Ideal.main_v42_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v42_0) = v0 c
          ∧ r.2.mem ((c.tc : Thread Cert.Kernel9Ideal.nD Cert.Kernel9Ideal.τ).loc Cert.Kernel9Ideal.main_v42_1) = v1 c
          ∧ r.2.mem ((c.tc : Thread Cert.Kernel9Ideal.nD Cert.Kernel9Ideal.τ).loc Cert.Kernel9Ideal.main_v42_2) = v2 c
          ∧ r.2.mem ((c.tc : Thread Cert.Kernel9Ideal.nD Cert.Kernel9Ideal.τ).loc Cert.Kernel9Ideal.main_v42_3) = v3 c
          ∧ r.2.mem ((c.tc : Thread Cert.Kernel9Ideal.nD Cert.Kernel9Ideal.τ).loc Cert.Kernel9Ideal.main_v42_4) = v4 c
          ∧ r.2.mem ((c.tc : Thread Cert.Kernel9Ideal.nD Cert.Kernel9Ideal.τ).loc Cert.Kernel9Ideal.main_v42_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v95) = v0 c
          ∧ r.2.mem ((c.tc : Thread Cert.Reference9Ideal.nD Cert.Reference9Ideal.τ).loc Cert.Reference9Ideal.main_v96) = v1 c
          ∧ r.2.mem ((c.tc : Thread Cert.Reference9Ideal.nD Cert.Reference9Ideal.τ).loc Cert.Reference9Ideal.main_v97) = v2 c
          ∧ r.2.mem ((c.tc : Thread Cert.Reference9Ideal.nD Cert.Reference9Ideal.τ).loc Cert.Reference9Ideal.main_v99) = v3 c
          ∧ r.2.mem ((c.tc : Thread Cert.Reference9Ideal.nD Cert.Reference9Ideal.τ).loc Cert.Reference9Ideal.main_v100) = v4 c
          ∧ r.2.mem ((c.tc : Thread Cert.Reference9Ideal.nD Cert.Reference9Ideal.τ).loc Cert.Reference9Ideal.main_v101) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v17_0)) (v1 : (c : Dev Cert.Kernel10Ideal.nD) → Buf (Elt Ideal) ((c.tc : Thread Cert.Kernel10Ideal.nD Cert.Kernel10Ideal.τ).loc Cert.Kernel10Ideal.main_v17_1)) (v2 : (c : Dev Cert.Kernel10Ideal.nD) → Buf (Elt Ideal) ((c.tc : Thread Cert.Kernel10Ideal.nD Cert.Kernel10Ideal.τ).loc Cert.Kernel10Ideal.main_v17_2)) (v3 : (c : Dev Cert.Kernel10Ideal.nD) → Buf (Elt Ideal) ((c.tc : Thread Cert.Kernel10Ideal.nD Cert.Kernel10Ideal.τ).loc Cert.Kernel10Ideal.main_v17_3)) (v4 : (c : Dev Cert.Kernel10Ideal.nD) → Buf (Elt Ideal) ((c.tc : Thread Cert.Kernel10Ideal.nD Cert.Kernel10Ideal.τ).loc Cert.Kernel10Ideal.main_v17_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v17_0) = v0 c
          ∧ r.2.mem ((c.tc : Thread Cert.Kernel10Ideal.nD Cert.Kernel10Ideal.τ).loc Cert.Kernel10Ideal.main_v17_1) = v1 c
          ∧ r.2.mem ((c.tc : Thread Cert.Kernel10Ideal.nD Cert.Kernel10Ideal.τ).loc Cert.Kernel10Ideal.main_v17_2) = v2 c
          ∧ r.2.mem ((c.tc : Thread Cert.Kernel10Ideal.nD Cert.Kernel10Ideal.τ).loc Cert.Kernel10Ideal.main_v17_3) = v3 c
          ∧ r.2.mem ((c.tc : Thread Cert.Kernel10Ideal.nD Cert.Kernel10Ideal.τ).loc Cert.Kernel10Ideal.main_v17_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_v34) = v1 c
          ∧ r.2.mem ((c.tc : Thread Cert.Reference10Ideal.nD Cert.Reference10Ideal.τ).loc Cert.Reference10Ideal.main_v36) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_v50) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v40) = v0 c
          ∧ r.2.mem ((c.tc : Thread Cert.Reference13Ideal.nD Cert.Reference13Ideal.τ).loc Cert.Reference13Ideal.main_v41) = v1 c
          ∧ r.2.mem ((c.tc : Thread Cert.Reference13Ideal.nD Cert.Reference13Ideal.τ).loc Cert.Reference13Ideal.main_v39) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_v41) = v1 c
          ∧ r.2.mem ((c.tc : Thread Cert.Reference14Ideal.nD Cert.Reference14Ideal.τ).loc Cert.Reference14Ideal.main_v39) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v41) = v0 c
          ∧ r.2.mem ((c.tc : Thread Cert.Reference15Ideal.nD Cert.Reference15Ideal.τ).loc Cert.Reference15Ideal.main_v42) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_v16) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite9 : Cert.Pre_finite9.Facts) (hPre_finite13 : Cert.Pre_finite13.Facts) (hPre_finite14 : Cert.Pre_finite14.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x4096 : Shape := ⟨2, ![8192, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩

class Facts : Prop where
  bcast_S_S8192x4096 : S_.BroadcastsInDim S8192x4096 (![] : Fin 0 → Fin S8192x4096.rank)
  bcast_S_S4096 : S_.BroadcastsInDim S4096 (![] : Fin 0 → Fin S4096.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S8192x2048 : S_.BroadcastsInDim S8192x2048 (![] : Fin 0 → Fin S8192x2048.rank)

variable [Facts]

def fn_part1 {F : FTy → Type} [FloatOps F] (main_arg6 : FVec F S8192x2048 .f32) (main_v2 : IVec S8192x4096 1) (main_v5 : IVec S4096 1) (main_v8 : IVec S2048 1) (main_v11 : IVec S2048 1) (main_v14 : IVec S8x128x128 1) (main_v17 : IVec S8x128 1) : IVec S8192x4096 1 × IVec S4096 1 × IVec S2048 1 × IVec S2048 1 × IVec S8x128x128 1 × IVec S8x128 1 × IVec S8192x2048 1 :=
  let main_v18 : FVec F S8192x2048 .f32 := Host.absf main_arg6
  let main_cst_5 : FVec F S_ .f32 := constant S_ .f32 0x7F800000#32
  let main_v19 : FVec F S8192x2048 .f32 := broadcastInDim S8192x2048 ![] bcast_S_S8192x2048 main_cst_5
  let main_v20 : IVec S8192x2048 1 := cmpf .olt main_v18 main_v19
  (main_v2, main_v5, main_v8, main_v11, main_v14, main_v17, main_v20)

def fn {F : FTy → Type} [FloatOps F] (main_arg0 : FVec F S8192x4096 .f32) (main_arg1 : FVec F S4096 .f32) (main_arg2 : FVec F S2048 .f32) (main_arg3 : FVec F S2048 .f32) (main_arg4 : FVec F S8x128x128 .f32) (main_arg5 : FVec F S8x128 .f32) (main_arg6 : FVec F S8192x2048 .f32) : IVec S8192x4096 1 × IVec S4096 1 × IVec S2048 1 × IVec S2048 1 × IVec S8x128x128 1 × IVec S8x128 1 × IVec S8192x2048 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096 .f32 := Host.absf main_arg1
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  fn_part1 (F := F) main_arg6 main_v2 main_v5 main_v8 main_v11 main_v14 main_v17
-- ==== Pre_finite13.lean ====
abbrev S8192x1024 : Shape := ⟨2, ![8192, 1024]⟩
abbrev S1024 : Shape := ⟨1, ![1024]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S2048x1024 : S_.BroadcastsInDim S2048x1024 (![] : Fin 0 → Fin S2048x1024.rank)

variable [Facts]

def fn {F : FTy → Type} [FloatOps F] (main_arg0 : FVec F S8192x1024 .f32) (main_arg1 : FVec F S8192x1024 .f32) (main_arg2 : FVec F S1024 .f32) (main_arg3 : FVec F S2048x1024 .bf16) : IVec S8192x1024 1 × IVec S8192x1024 1 × IVec S1024 1 × IVec S2048x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2048x1024 .bf16 := Host.absf main_arg3
  let main_cst_2 : FVec F S_ .bf16 := constant S_ .bf16 0x7F80#16
  let main_v10 : FVec F S2048x1024 .bf16 := broadcastInDim S2048x1024 ![] bcast_S_S2048x1024 main_cst_2
  let main_v11 : IVec S2048x1024 1 := cmpf .olt main_v9 main_v10
  (main_v2, main_v5, main_v8, main_v11)
-- ==== Pre_finite14.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1024 .f32) (main_arg3 : FVec F S1024x1024 .bf16) : IVec S8192x1024 1 × IVec S8192x1024 1 × IVec S1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .bf16 := Host.absf main_arg3
  let main_cst_2 : FVec F S_ .bf16 := constant S_ .bf16 0x7F80#16
  let main_v10 : FVec F S1024x1024 .bf16 := broadcastInDim S1024x1024 ![] bcast_S_S1024x1024 main_cst_2
  let main_v11 : IVec S1024x1024 1 := cmpf .olt main_v9 main_v10
  (main_v2, main_v5, main_v8, main_v11)
-- ==== Pre_finite15.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  bcast_S_S1024x4096 : S_.BroadcastsInDim S1024x4096 (![] : Fin 0 → Fin S1024x4096.rank)
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x4096 .bf16) (main_arg1 : FVec F S1024x4096 .bf16) (main_arg2 : FVec F S8192x1024 .f32) (main_arg3 : FVec F S8192x1024 .f32) (main_arg4 : FVec F S1024 .f32) : IVec S8192x4096 1 × IVec S1024x4096 1 × IVec S8192x1024 1 × IVec S8192x1024 1 × IVec S1024 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_finite9.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S8192x1024 .f32) (main_v2 : IVec S8192x1024 1) (main_v5 : IVec S1024 1) (main_v8 : IVec S1024 1) (main_v11 : IVec S1024x2816 1) (main_v14 : IVec S1024x2816 1) (main_v17 : IVec S2816x1024 1) : IVec S8192x1024 1 × IVec S1024 1 × IVec S1024 1 × IVec S1024x2816 1 × IVec S1024x2816 1 × IVec S2816x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S2816x1024 .f32) (main_arg6 : FVec F S8192x1024 .f32) : IVec S8192x1024 1 × IVec S1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S8192x4096 : Shape := ⟨2, ![8192, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S8192x2048 : Shape := ⟨2, ![8192, 2048]⟩
abbrev S128x8 : Shape := ⟨2, ![128, 8]⟩
abbrev S_ : Shape := ⟨0, ![]⟩
abbrev S128x128 : Shape := ⟨2, ![128, 128]⟩
abbrev S1x4096 : Shape := ⟨2, ![1, 4096]⟩
abbrev S1x2048 : Shape := ⟨2, ![1, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩

abbrev nBuf : Space → Nat
  | .hbm => 20
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S8192x2048, .f32⟩
  | .hbm, ⟨7, _⟩ => ⟨S128x8, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S1x4096, .f32⟩
  | .hbm, ⟨12, _⟩ => ⟨S1x2048, .f32⟩
  | .hbm, ⟨13, _⟩ => ⟨S1x2048, .f32⟩
  | .hbm, ⟨14, _⟩ => ⟨S8192x4096, .bf16⟩
  | .hbm, ⟨15, _⟩ => ⟨S1x4096, .f32⟩
  | .hbm, ⟨16, _⟩ => ⟨S1x2048, .f32⟩
  | .hbm, ⟨17, _⟩ => ⟨S1x2048, .f32⟩
  | .hbm, ⟨18, _⟩ => ⟨S8x128x128, .f32⟩
  | .hbm, ⟨19, _⟩ => ⟨S128x128, .f32⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x2048, .f32⟩
  | .local _ .vmem, ⟨4, _⟩ => ⟨S1x2048, .f32⟩
  | .local _ .vmem, ⟨5, _⟩ => ⟨S8x128x128, .f32⟩
  | .local _ .vmem, ⟨6, _⟩ => ⟨S128x128, .f32⟩
  | .local _ .vmem, ⟨7, _⟩ => ⟨S128x2048, .f32⟩
  | .local _ .vmem, ⟨8, _⟩ => ⟨S128x2048, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | .local _ .vmem, ⟨12, _⟩ => ⟨S1x2048, .f32⟩
  | .local _ .vmem, ⟨13, _⟩ => ⟨S1x2048, .f32⟩
  | .local _ .vmem, ⟨14, _⟩ => ⟨S8x128x128, .f32⟩
  | .local _ .vmem, ⟨15, _⟩ => ⟨S128x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S8192x4096 : Shape := ⟨2, ![8192, 4096]⟩
abbrev S4096 : Shape := ⟨1, ![4096]⟩
abbrev S2048 : Shape := ⟨1, ![2048]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S128x128 : Shape := ⟨2, ![128, 128]⟩
abbrev S1x4096 : Shape := ⟨2, ![1, 4096]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 173
  | .vmem => 0
  | .smem => 0
  | _ => 0

abbrev hbmTy0_0 (i : Nat) : BufTy := match i % 128 with
  | 0 => ⟨S8192x4096, .f32⟩
  | 1 => ⟨S4096, .f32⟩
  | 2 => ⟨S2048, .f32⟩
  | 3 => ⟨S2048, .f32⟩
  | 4 => ⟨S8x128x128, .f32⟩
  | 5 => ⟨S8x128, .f32⟩
  | 6 => ⟨S8192x2048, .f32⟩
  | 7 => ⟨S_, .i1⟩
  | 8 => ⟨S128x128, .i1⟩
  | 9 => ⟨S128x128, .i32⟩
  | 10 => ⟨S_, .i32⟩
  | 11 => ⟨S128x128, .i32⟩
  | 12 => ⟨S128x128, .i32⟩
  | 13 => ⟨S128x128, .i32⟩
  | 14 => ⟨S128x128, .i1⟩
  | 15 => ⟨S_, .i1⟩
  | 16 => ⟨S128x128, .i1⟩
  | 17 => ⟨S128x128, .i1⟩
  | 18 => ⟨S_, .f32⟩
  | 19 => ⟨S_, .f32⟩
  | 20 => ⟨S8x128x128, .i1⟩
  | 21 => ⟨S8x128x128, .f32⟩
  | 22 => ⟨S8x128x128, .f32⟩
  | 23 => ⟨S1x4096, .f32⟩
  | 24 => ⟨S8192x4096, .f32⟩
  | 25 => ⟨S8192x4096, .f32⟩
  | 26 => ⟨S_, .f32⟩
  | 27 => ⟨S8192x4096, .f32⟩
  | 28 => ⟨S8192x4096, .f32⟩
  | 29 => ⟨S_, .f32⟩
  | 30 => ⟨S_, .f32⟩
  | 31 => ⟨S8192x4096, .f32⟩
  | 32 => ⟨S8192x4096, .f32⟩
  | 33 => ⟨S_, .f32⟩
  | 34 => ⟨S_, .f32⟩
  | 35 => ⟨S_, .f32⟩
  | 36 => ⟨S8192x4096, .f32⟩
  | 37 => ⟨S_, .f32⟩
  | 38 => ⟨S_, .f32⟩
  | 39 => ⟨S_, .f32⟩
  | 40 => ⟨S8192x4096, .f32⟩
  | 41 => ⟨S8192x4096, .f32⟩
  | 42 => ⟨S8192x4096, .f32⟩
  | 43 => ⟨S8192x4096, .f32⟩
  | 44 => ⟨S8192x4096, .f32⟩
  | 45 => ⟨S_, .f32⟩
  | 46 => ⟨S8192x4096, .f32⟩
  | 47 => ⟨S8192x4096, .f32⟩
  | 48 => ⟨S8192x4096, .f32⟩
  | 49 => ⟨S8192x2048, .f32⟩
  | 50 => ⟨S8192x2048, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x2048, .f32⟩
  | 58 => ⟨S8192x2048, .f32⟩
  | 59 => ⟨S8192x2048, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x2048, .f32⟩
  | 75 => ⟨S8192x2048, .f32⟩
  | 76 => ⟨S1x2048, .f32⟩
  | 77 => ⟨S8192x2048, .f32⟩
  | 78 => ⟨S8192x2048, .f32⟩
  | 79 => ⟨S1x2048, .f32⟩
  | 80 => ⟨S8192x2048, .f32⟩
  | 81 => ⟨S8192x2048, .f32⟩
  | 82 => ⟨S64x128x8x256, .f32⟩
  | 83 => ⟨S8x64x256x128, .f32⟩
  | 84 => ⟨S64x128x8x256, .f32⟩
  | 85 => ⟨S128x8, .f32⟩
  | 86 => ⟨S1x128x8x1, .f32⟩
  | 87 => ⟨S64x128x8x256, .f32⟩
  | 88 => ⟨S64x128x8x256, .f32⟩
  | 89 => ⟨S8192x2048, .f32⟩
  | 90 => ⟨S8192x2048, .f32⟩
  | 91 => ⟨S8192x2048, .f32⟩
  | 92 => ⟨S8192x2048, .f32⟩
  | 93 => ⟨S64x128x8x256, .f32⟩
  | 94 => ⟨S_, .f32⟩
  | 95 => ⟨S128x8, .f32⟩
  | 96 => ⟨S1x128x8x1, .f32⟩
  | 97 => ⟨S_, .f32⟩
  | 98 => ⟨S128x8, .f32⟩
  | 99 => ⟨S8x128, .f32⟩
  | 100 => ⟨S8x64x256x128, .f32⟩
  | 101 => ⟨S8x128x128, .f32⟩
  | 102 => ⟨S8x64x256x128, .f32⟩
  | 103 => ⟨S64x128x8x256, .f32⟩
  | 104 => ⟨S8192x2048, .f32⟩
  | 105 => ⟨S_, .f32⟩
  | 106 => ⟨S2048, .f32⟩
  | 107 => ⟨S1x2048, .f32⟩
  | 108 => ⟨S_, .f32⟩
  | 109 => ⟨S2048, .f32⟩
  | 110 => ⟨S8192x2048, .f32⟩
  | 111 => ⟨S_, .f32⟩
  | 112 => ⟨S2048, .f32⟩
  | 113 => ⟨S1x2048, .f32⟩
  | 114 => ⟨S8192x2048, .f32⟩
  | 115 => ⟨S8192x2048, .f32⟩
  | 116 => ⟨S_, .f32⟩
  | 117 => ⟨S2048, .f32⟩
  | 118 => ⟨S8192x2048, .f32⟩
  | 119 => ⟨S_, .f32⟩
  | 120 => ⟨S8192, .f32⟩
  | 121 => ⟨S8192x1, .f32⟩
  | 122 => ⟨S8192x2048, .f32⟩
  | 123 => ⟨S8192x2048, .f32⟩
  | 124 => ⟨S8192x1, .f32⟩
  | 125 => ⟨S_, .f32⟩
  | 126 => ⟨S8192x1, .f32⟩
  | 127 => ⟨S8192x1, .f32⟩
  | _ => ⟨S8192x4096, .f32⟩

abbrev hbmTy0_1 (i : Nat) : BufTy := match i % 128 with
  | 0 => ⟨S_, .f32⟩
  | 1 => ⟨S8192, .f32⟩
  | 2 => ⟨S8192x2048, .f32⟩
  | 3 => ⟨S8192x2048, .f32⟩
  | 4 => ⟨S8192x2048, .f32⟩
  | 5 => ⟨S8192x2048, .f32⟩
  | 6 => ⟨S8192x2048, .f32⟩
  | 7 => ⟨S8192x2048, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192, .f32⟩
  | 16 => ⟨S8192x2048, .f32⟩
  | 17 => ⟨S8192x2048, .f32⟩
  | 18 => ⟨S_, .f32⟩
  | 19 => ⟨S8192x4096, .f32⟩
  | 20 => ⟨S_, .f32⟩
  | 21 => ⟨S8192x4096, .f32⟩
  | 22 => ⟨S8192x4096, .f32⟩
  | 23 => ⟨S8192x4096, .f32⟩
  | 24 => ⟨S8192x4096, .f32⟩
  | 25 => ⟨S8192x4096, .f32⟩
  | 26 => ⟨S8192x4096, .f32⟩
  | 27 => ⟨S8192x4096, .f32⟩
  | 28 => ⟨S_, .f32⟩
  | 29 => ⟨S8192x4096, .f32⟩
  | 30 => ⟨S8192x4096, .f32⟩
  | 31 => ⟨S8192x4096, .f32⟩
  | 32 => ⟨S_, .f32⟩
  | 33 => ⟨S4096, .f32⟩
  | 34 => ⟨S1x4096, .f32⟩
  | 35 => ⟨S_, .f32⟩
  | 36 => ⟨S4096, .f32⟩
  | 37 => ⟨S8192x4096, .bf16⟩
  | 38 => ⟨S1x4096, .f32⟩
  | 39 => ⟨S1x2048, .f32⟩
  | 40 => ⟨S1x2048, .f32⟩
  | 41 => ⟨S128x8, .f32⟩
  | 42 => ⟨S_, .i32⟩
  | 43 => ⟨S_, .f32⟩
  | 44 => ⟨S128x128, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_cst_3 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_cst_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_cst_10 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_19 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_24 : Ref sig .tc := ⟨.hbm, 146, rfl⟩
abbrev main_v102 : Ref sig .tc := ⟨.hbm, 147, rfl⟩
abbrev main_cst_25 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_26 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_27 : Ref sig .tc := ⟨.hbm, 160, rfl⟩
abbrev main_v113 : Ref sig .tc := ⟨.hbm, 161, rfl⟩
abbrev main_v114 : Ref sig .tc := ⟨.hbm, 162, rfl⟩
abbrev main_cst_28 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_call2_v0 : Ref sig .tc := ⟨.hbm, 171, rfl⟩
abbrev main_v121 : Ref sig .tc := ⟨.hbm, 172, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S5632x1024, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x256 : Shape := ⟨2, ![8192, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S_, .f32⟩
  | .hbm, ⟨3, _⟩ => ⟨S1024x256, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S256x1024, .f32⟩
  | .hbm, ⟨8, _⟩ => ⟨S1024x256, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x5632 : Shape := ⟨2, ![8192, 5632]⟩
abbrev S4x704x1024 : Shape := ⟨3, ![4, 704, 1024]⟩
abbrev S1x704x1024 : Shape := ⟨3, ![1, 704, 1024]⟩
abbrev S704x1024 : Shape := ⟨2, ![704, 1024]⟩
abbrev S256x1024 : Shape := ⟨2, ![256, 1024]⟩
abbrev S256x5632 : Shape := ⟨2, ![256, 5632]⟩
abbrev S256x2816 : Shape := ⟨2, ![256, 2816]⟩
abbrev S5632x1024 : Shape := ⟨2, ![5632, 1024]⟩
abbrev S12 : Shape := ⟨1, ![12]⟩
abbrev S1 : Shape := ⟨1, ![1]⟩
abbrev S256 : Shape := ⟨1, ![256]⟩
abbrev S256x1 : Shape := ⟨2, ![256, 1]⟩

abbrev nBuf : Space → Nat
  | .hbm => 60
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x5632, .f32⟩
  | .hbm, ⟨37, _⟩ => ⟨S8192x5632, .bf16⟩
  | .hbm, ⟨38, _⟩ => ⟨S2816x1024, .f32⟩
  | .hbm, ⟨39, _⟩ => ⟨S2816x1024, .bf16⟩
  | .hbm, ⟨40, _⟩ => ⟨S4x704x1024, .bf16⟩
  | .hbm, ⟨41, _⟩ => ⟨S1x704x1024, .bf16⟩
  | .hbm, ⟨42, _⟩ => ⟨S704x1024, .bf16⟩
  | .hbm, ⟨43, _⟩ => ⟨S2816x1024, .f32⟩
  | .hbm, ⟨44, _⟩ => ⟨S2816x1024, .bf16⟩
  | .hbm, ⟨45, _⟩ => ⟨S4x704x1024, .bf16⟩
  | .hbm, ⟨46, _⟩ => ⟨S1x704x1024, .bf16⟩
  | .hbm, ⟨47, _⟩ => ⟨S704x1024, .bf16⟩
  | .hbm, ⟨48, _⟩ => ⟨S2816x1024, .bf16⟩
  | .hbm, ⟨49, _⟩ => ⟨S4x704x1024, .bf16⟩
  | .hbm, ⟨50, _⟩ => ⟨S1x704x1024, .bf16⟩
  | .hbm, ⟨51, _⟩ => ⟨S704x1024, .bf16⟩
  | .hbm, ⟨52, _⟩ => ⟨S1x1024, .f32⟩
  | .hbm, ⟨53, _⟩ => ⟨S1x1024, .f32⟩
  | .hbm, ⟨54, _⟩ => ⟨S8192x1024, .f32⟩
  | .hbm, ⟨55, _⟩ => ⟨S8192x1024, .bf16⟩
  | .hbm, ⟨56, _⟩ => ⟨S8192x2816, .bf16⟩
  | .hbm, ⟨57, _⟩ => ⟨S8192x5632, .bf16⟩
  | .hbm, ⟨58, _⟩ => ⟨S1x1024, .f32⟩
  | .hbm, ⟨59, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x2816, .bf16⟩
  | .local _ .vmem, ⟨15, _⟩ => ⟨S256x2816, .bf16⟩
  | .local _ .vmem, ⟨16, _⟩ => ⟨S256x5632, .bf16⟩
  | .local _ .vmem, ⟨17, _⟩ => ⟨S256x5632, .bf16⟩
  | .local _ .vmem, ⟨18, _⟩ => ⟨S1x1024, .f32⟩
  | .local _ .vmem, ⟨19, _⟩ => ⟨S1x1024, .f32⟩
  | .local _ .vmem, ⟨20, _⟩ => ⟨S5632x1024, .bf16⟩
  | .local _ .vmem, ⟨21, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev main_v42_5 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference9Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 146
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192x2816, .f32⟩
  | 9 => ⟨S_, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2816, .f32⟩
  | 32 => ⟨S8192x2816, .f32⟩
  | 33 => ⟨S8192x2816, .f32⟩
  | 34 => ⟨S8192x2816, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S_, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S8192x1024, .f32⟩
  | 85 => ⟨S_, .f32⟩
  | 86 => ⟨S1024, .f32⟩
  | 87 => ⟨S8192x1024, .f32⟩
  | 88 => ⟨S_, .f32⟩
  | 89 => ⟨S8192, .f32⟩
  | 90 => ⟨S8192x1, .f32⟩
  | 91 => ⟨S8192x1024, .f32⟩
  | 92 => ⟨S8192x1024, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x2816, .f32⟩
  | 105 => ⟨S8192x2816, .f32⟩
  | 106 => ⟨S8192x2816, .f32⟩
  | 107 => ⟨S8192x2816, .f32⟩
  | 108 => ⟨S8192x2816, .f32⟩
  | 109 => ⟨S8192x2816, .f32⟩
  | 110 => ⟨S8192x2816, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .bf16⟩
  | 13 => ⟨S8192x2816, .bf16⟩
  | 14 => ⟨S8192x5632, .f32⟩
  | 15 => ⟨S8192x5632, .bf16⟩
  | 16 => ⟨S1x1024, .f32⟩
  | 17 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_16 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_v80 : Ref sig .tc := ⟨.hbm, 121, rfl⟩
abbrev main_v81 : Ref sig .tc := ⟨.hbm, 122, rfl⟩
abbrev main_cst_18 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_19 : Ref sig .tc := ⟨.hbm, 130, rfl⟩
abbrev main_v88 : Ref sig .tc := ⟨.hbm, 131, rfl⟩
abbrev main_v89 : Ref sig .tc := ⟨.hbm, 132, rfl⟩
abbrev main_cst_20 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S4x704x1024 : Shape := ⟨3, ![4, 704, 1024]⟩
abbrev S1x704x1024 : Shape := ⟨3, ![1, 704, 1024]⟩
abbrev S704x1024 : Shape := ⟨2, ![704, 1024]⟩
abbrev S1x1024 : Shape := ⟨2, ![1, 1024]⟩
abbrev S8192x5632 : Shape := ⟨2, ![8192, 5632]⟩
abbrev S256x1024 : Shape := ⟨2, ![256, 1024]⟩
abbrev S256x5632 : Shape := ⟨2, ![256, 5632]⟩
abbrev S5632x1024 : Shape := ⟨2, ![5632, 1024]⟩
abbrev S12 : Shape := ⟨1, ![12]⟩
abbrev S1 : Shape := ⟨1, ![1]⟩
abbrev S_ : Shape := ⟨0, ![]⟩
abbrev S256 : Shape := ⟨1, ![256]⟩
abbrev S256x1 : Shape := ⟨2, ![256, 1]⟩
abbrev S256x2816 : Shape := ⟨2, ![256, 2816]⟩

abbrev nBuf : Space → Nat
  | .hbm => 29
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S1x704x1024, .bf16⟩
  | .hbm, ⟨11, _⟩ => ⟨S704x1024, .bf16⟩
  | .hbm, ⟨12, _⟩ => ⟨S2816x1024, .f32⟩
  | .hbm, ⟨13, _⟩ => ⟨S2816x1024, .bf16⟩
  | .hbm, ⟨14, _⟩ => ⟨S4x704x1024, .bf16⟩
  | .hbm, ⟨15, _⟩ => ⟨S1x704x1024, .bf16⟩
  | .hbm, ⟨16, _⟩ => ⟨S704x1024, .bf16⟩
  | .hbm, ⟨17, _⟩ => ⟨S2816x1024, .bf16⟩
  | .hbm, ⟨18, _⟩ => ⟨S4x704x1024, .bf16⟩
  | .hbm, ⟨19, _⟩ => ⟨S1x704x1024, .bf16⟩
  | .hbm, ⟨20, _⟩ => ⟨S704x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .bf16⟩
  | .hbm, ⟨26, _⟩ => ⟨S8192x5632, .bf16⟩
  | .hbm, ⟨27, _⟩ => ⟨S8192x1024, .f32⟩
  | .hbm, ⟨28, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x5632, .bf16⟩
  | .local _ .vmem, ⟨10, _⟩ => ⟨S256x5632, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S5632x1024, .bf16⟩
  | .local _ .vmem, ⟨16, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x5632 : Shape := ⟨2, ![8192, 5632]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x5632, .f32⟩
  | .hbm, ⟨58, _⟩ => ⟨S8192x5632, .bf16⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Kernel11.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x3072 : Shape := ⟨2, ![8192, 3072]⟩
abbrev S1024x3072 : Shape := ⟨2, ![1024, 3072]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S2048x1024 : Shape := ⟨2, ![2048, 1024]⟩
abbrev S1x1024 : Shape := ⟨2, ![1, 1024]⟩
abbrev S8192x2048 : Shape := ⟨2, ![8192, 2048]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S2048x1024, .bf16⟩
  | .hbm, ⟨4, _⟩ => ⟨S1x1024, .f32⟩
  | .hbm, ⟨5, _⟩ => ⟨S8192x1024, .bf16⟩
  | .hbm, ⟨6, _⟩ => ⟨S1x1024, .f32⟩
  | .hbm, ⟨7, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x2048, .f32⟩
  | .local _ .vmem, ⟨10, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S8192x1024 : Shape := ⟨2, ![8192, 1024]⟩
abbrev S1024 : Shape := ⟨1, ![1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S2048x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x2048, .f32⟩
  | .hbm, ⟨51, _⟩ => ⟨S2048x1024, .f32⟩
  | .hbm, ⟨52, _⟩ => ⟨S8192x1024, .f32⟩
  | .hbm, ⟨53, _⟩ => ⟨S8192x2048, .f32⟩
  | .hbm, ⟨54, _⟩ => ⟨S8192x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S8192x1024, .bf16⟩
  | .hbm, ⟨6, _⟩ => ⟨S1x1024, .f32⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S1024x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel15.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference15Ideal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S1024x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8192x2048 : Shape := ⟨2, ![8192, 2048]⟩
abbrev S2048x1024 : Shape := ⟨2, ![2048, 1024]⟩
abbrev S8192x1024 : Shape := ⟨2, ![8192, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S8192x2048 : Shape := ⟨2, ![8192, 2048]⟩
abbrev S2048x1024 : Shape := ⟨2, ![2048, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1024, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Sg.Spec.lean ====
/-
  The gradient of the spatial gate over the real numbers, one definition per intermediate value. Arrays are functions of
  natural numbers, so that an index is written the same way whichever program it comes from; `z` is one row of the
  gate's input and `zs` the 128 rows of one chunk. Nothing here mentions either program.
-/
module

public import Idealize.ShloMosaic.Lib.Pointwise
public import Idealize.ShloMosaic.PureOps.Ideal.Laws
public import Idealize.ShloMosaic.Lib.IdealHost

@[expose] public section

noncomputable section

namespace Cert.Sg

open Idealize.ShloMosaic

/-! ## The words that are constants -/

/-- The epsilon of the layer norm: the value of the f32 nearest to 1e-5. -/
def eps : ℝ := 10995116 / 2 ^ 40

theorem eps_pos : 0 < eps := by unfold eps; positivity

theorem ofBits_eps : Ideal.ofBits .f32 0x3727C5AC#32 = ((eps : ℝ) : EReal) := by
  simp [Ideal.ofBits, Ideal.ieee, eps, -EReal.coe_mul, -EReal.coe_neg]; norm_num

theorem ofBits_2048 : Ideal.ofBits .f32 0x45000000#32 = ((2048 : ℝ) : EReal) := by
  simp [Ideal.ofBits, Ideal.ieee, -EReal.coe_mul, -EReal.coe_neg]; norm_num

theorem ofBits_half : Ideal.ofBits .f32 0x3F000000#32 = ((1 / 2 : ℝ) : EReal) := by
  simp [Ideal.ofBits, Ideal.ieee, -EReal.coe_mul, -EReal.coe_neg]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul, -EReal.coe_neg]; norm_num

theorem ofBits_neg_one : Ideal.ofBits .f32 0xBF800000#32 = ((-1 : ℝ) : EReal) := by
  simp [Ideal.ofBits, Ideal.ieee, -EReal.coe_mul, -EReal.coe_neg]; norm_num

theorem ofBits_one : Ideal.ofBits .f32 0x3F800000#32 = ((1 : ℝ) : EReal) := by
  rw [Ideal.ofBits_one_f32]; rfl

/-! ## Real numbers among the extended ones -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem div_real {x y : ℝ} (h : y ≠ 0) : Ideal.div (x : EReal) (y : EReal) = ((x / y : ℝ) : EReal) := by
  rw [Ideal.div_coe h, ← EReal.coe_mul]; congr 1; ring

theorem rsqrt_real {x : ℝ} (h : 0 < x) : Ideal.rsqrt (x : EReal) = (((Real.sqrt x)⁻¹ : ℝ) : EReal) := by
  rw [Ideal.rsqrt_coe, if_neg (not_lt.mpr h.le), if_neg h.ne']

theorem sqrt_real {x : ℝ} (h : 0 ≤ x) : Ideal.sqrt (x : EReal) = ((Real.sqrt x : ℝ) : EReal) := by
  rw [Ideal.sqrt_coe, if_neg (not_lt.mpr h)]

/-- The error function of a real number. -/
def erfR (x : ℝ) : ℝ := 2 / Real.sqrt Real.pi * ∫ t in (0 : ℝ)..x, Real.exp (-(t ^ 2))

theorem erf_real (x : ℝ) : Ideal.erf (x : EReal) = ((erfR x : ℝ) : EReal) := rfl

theorem atan2_pi : Ideal.atan2 ((0 : ℝ) : EReal) ((-1 : ℝ) : EReal) = ((Real.pi : ℝ) : EReal) := by
  show (((if (0 : ℝ) < -1 then _ else if (-1 : ℝ) < 0 then (if (0 : ℝ) ≤ 0 then Real.arctan (0 / -1) + Real.pi else _) else _ : ℝ)) : EReal) = _
  rw [if_neg (by norm_num), if_pos (by norm_num), if_pos le_rfl]
  simp

/-! ## One row: gelu and the layer norm -/

variable (b g bn : ℕ → ℝ) (z : ℕ → ℝ)

/-- The row with its bias. -/
def zin (j : ℕ) : ℝ := z j + b j
/-- The Gaussian's distribution function there. -/
def cdf (j : ℕ) : ℝ := 1 / 2 * (1 + erfR (zin b z j * (Real.sqrt 2)⁻¹))
/-- gelu of the row: its first half gates, its second half is normed. -/
def act (j : ℕ) : ℝ := zin b z j * cdf b z j
def mean : ℝ := (∑ k : Fin 2048, act b z (2048 + k)) / 2048
def cen (j : ℕ) : ℝ := act b z (2048 + j) - mean b z
def var : ℝ := (∑ k : Fin 2048, cen b z k * cen b z k) / 2048
def rstd : ℝ := (Real.sqrt (var b z + eps))⁻¹
def xhat (j : ℕ) : ℝ := cen b z j * rstd b z
def nrm (j : ℕ) : ℝ := xhat b z j * g j + bn j
/-- The derivative of gelu: the distribution function plus the argument times the density. -/
def slope (j : ℕ) : ℝ := cdf b z j + zin b z j * ((Real.sqrt (2 * Real.pi))⁻¹ * Real.exp (-(1 / 2) * zin b z j * zin b z j))

theorem var_nonneg : 0 ≤ var b z := div_nonneg (Finset.sum_nonneg fun _ _ => mul_self_nonneg _) (by norm_num)

theorem var_eps_pos : 0 < var b z + eps := add_pos_of_nonneg_of_pos (var_nonneg b z) eps_pos

/-! ## One chunk of 128 rows: the causal mix and its gradient -/

variable (w : ℕ → ℕ → ℕ → ℝ) (s : ℕ → ℕ → ℝ) (zs ds : ℕ → ℕ → ℝ)

/-- The mixing weights of group `q`, kept on and below the diagonal. -/
def wm (q t r : ℕ) : ℝ := if r ≤ t then w q t r else 0
/-- The gradient with respect to the mixed rows: the incoming one times the gate. -/
def dmix (t j : ℕ) : ℝ := ds t j * act b (zs t) j
/-- The mixed rows, group `j / 256` of the columns mixed by its own weights. -/
def mixed (t j : ℕ) : ℝ := (∑ r : Fin 128, wm w (j / 256) t r * nrm b g bn (zs r) j) + s (j / 256) t
/-- The gradient with respect to the gate. -/
def dgate (t j : ℕ) : ℝ := ds t j * mixed b g bn w s zs t j
/-- The gradient with respect to the normed rows. -/
def dnrm (t j : ℕ) : ℝ := ∑ r : Fin 128, wm w (j / 256) r t * dmix b zs ds r j
/-- The same, through the gain. -/
def dxh (t j : ℕ) : ℝ := dnrm b w zs ds t j * g j
def dxhMean (t : ℕ) : ℝ := (∑ k : Fin 2048, dxh b g w zs ds t k) / 2048
def dxhCov (t : ℕ) : ℝ := (∑ k : Fin 2048, dxh b g w zs ds t k * xhat b (zs t) k) / 2048
/-- The gradient with respect to what the layer norm reads. -/
def dcen (t j : ℕ) : ℝ :=
  rstd b (zs t) * (dxh b g w zs ds t j - dxhMean b g w zs ds t - xhat b (zs t) j * dxhCov b g w zs ds t)
/-- The gradient with respect to gelu's result. -/
def dact (t j : ℕ) : ℝ := if j < 2048 then dgate b g bn w s zs ds t j else dcen b g w zs ds t (j - 2048)
/-- The gradient with respect to the gate's input. -/
def dz (t j : ℕ) : ℝ := dact b g bn w s zs ds t j * slope b (zs t) j

/-- What one chunk adds to the gradients of the small parameters. -/
def dbinC (j : ℕ) : ℝ := ∑ t : Fin 128, dz b g bn w s zs ds t j
def dgainC (j : ℕ) : ℝ := ∑ t : Fin 128, dnrm b w zs ds t j * xhat b (zs t) j
def dbiasC (j : ℕ) : ℝ := ∑ t : Fin 128, dnrm b w zs ds t j
def dwC (q t r : ℕ) : ℝ := ∑ k : Fin 256, dmix b zs ds t (256 * q + k) * nrm b g bn (zs r) (256 * q + k)
def dsC (t q : ℕ) : ℝ := if q < 8 then ∑ k : Fin 256, dmix b zs ds t (256 * q + k) else 0

end Cert.Sg

end
-- ==== Proof.Sg.Row.lean ====
/-
  The kernel's row-wise values (the bias, gelu, the layer norm) read at an index: each is the real number the
  specification names, when the blocks the point reads hold real numbers.
-/
module

public import proofs.«01_k».proof.Proof.Gen.KernelIdeal.Value
public import proofs.«01_k».proof.Proof.Sg.Spec

@[expose] public section

set_option maxRecDepth 16384

noncomputable section

namespace Cert.Sg

open Cert.KernelIdeal Cert.KernelIdeal.Gen Idealize.ShloMosaic Idealize.ShloMosaic.TcCoe

/-- A matrix of extended reals holds the real numbers `f`. -/
def IsR {a b : ℕ} (x : (⟨2, ![a, b]⟩ : Shape).Idx → EReal) (f : ℕ → ℕ → ℝ) : Prop :=
  ∀ (r : Fin a) (j : Fin b), x (ix2 r j) = ((f r j : ℝ) : EReal)

theorem named_sqrt2 : (Named.named κ "inv_sqrt2" 0x3F3504F3#32 : Ideal .f32) = (((Real.sqrt 2)⁻¹ : ℝ) : EReal) :=
  rfl

theorem named_sqrt_2pi :
    (Named.named κ "inv_sqrt_2pi" 0x3ECC422A#32 : Ideal .f32) = (((Real.sqrt (2 * Real.pi))⁻¹ : ℝ) : EReal) :=
  rfl

variable {b g bn : ℕ → ℝ} {zs : ℕ → ℕ → ℝ}
  {x0 : Vec Ideal S128x4096 .f32} {x1 : Vec Ideal S1x4096 .f32} {x2 x3 : Vec Ideal S1x2048 .f32}
  (h0 : IsR x0 zs) (h1 : IsR x1 fun _ => b) (h2 : IsR x2 fun _ => g) (h3 : IsR x3 fun _ => bn)

include h0 h1

theorem zin_val : IsR (k0_pay9 x0 x1) fun r => zin b (zs r) := fun r j => by
  pointwise [k0_pay9]
  rw [h0, h1, ← EReal.coe_add]; rfl

theorem cdf_val : IsR (k0_pay10 x0 x1) fun r => cdf b (zs r) := fun r j => by
  have hz := zin_val h0 h1 r j
  pointwise [k0_pay10]
  rw [named_sqrt2, hz, ofBits_half, ← EReal.coe_mul, ← EReal.coe_one]
  show ((1 / 2 : ℝ) : EReal) * (_ + Ideal.erf _) = _
  rw [erf_real, ← EReal.coe_add, ← EReal.coe_mul]; rfl

theorem act_val : IsR (k0_pay11 x0 x1) fun r => act b (zs r) := fun r j => by
  have hz := zin_val h0 h1 r j
  have hc := cdf_val h0 h1 r j
  pointwise [k0_pay11]
  rw [hz, hc, ← EReal.coe_mul]; rfl

theorem gate_val : IsR (k0_pay12 x0 x1) fun r => act b (zs r) := fun r j => by
  pointwise [k0_pay12]
  exact (act_val h0 h1 _ _).trans (by simp)

theorem cen_val : IsR (k0_pay13 x0 x1) fun r => cen b (zs r) := fun r j => by
  have ha := act_val h0 h1
  pointwise [k0_pay13]
  simp only [ha _ _]
  rw [← coe_sum, ofBits_2048, div_real (by norm_num), ← EReal.coe_sub]; rfl

theorem rstd_val : IsR (k0_pay14 x0 x1) fun r _ => rstd b (zs r) := fun r j => by
  have hc := cen_val h0 h1
  pointwise [k0_pay14]
  simp only [hc _ _, ← EReal.coe_mul]
  rw [← coe_sum, ofBits_2048, div_real (by norm_num), ofBits_eps, ← EReal.coe_add, rsqrt_real]; rfl
  exact var_eps_pos b (zs r)

theorem xhat_val : IsR (k0_pay15 x0 x1) fun r => xhat b (zs r) := fun r j => by
  have hc := cen_val h0 h1 r j
  have hs := rstd_val h0 h1
  pointwise [k0_pay15]
  rw [hc, hs, ← EReal.coe_mul]; rfl

include h2 h3

theorem nrm_val : IsR (k0_pay18 (k0_pay16 x0 x1 x2) (k0_pay17 x3)) fun r => nrm b g bn (zs r) := fun r j => by
  have hx := xhat_val h0 h1 r j
  pointwise [k0_pay18, k0_pay16, k0_pay17]
  rw [hx, h2, h3, ← EReal.coe_mul, ← EReal.coe_add]; rfl

end Cert.Sg

end
-- ==== Proof.Sg.Group.lean ====
/-
  The kernel's values for one group of 256 columns, and the chunk's gradients assembled from the eight groups. The
  printed program states each group's values again under names of its own; here one definition serves all eight, and
  each is read at an index as the real number the specification names.
-/
module

public import proofs.«01_k».proof.Proof.Sg.Row
public import Idealize.ShloMosaic.Lib.WordCmp

@[expose] public section

set_option maxRecDepth 16384

noncomputable section

namespace Cert.Sg

open Cert.KernelIdeal Cert.KernelIdeal.Gen Idealize.ShloMosaic Idealize.ShloMosaic.TcCoe

/-- The columns of group `q` lie among the 2048. -/
abbrev Cut (q : ℕ) : Prop := S128x2048.Slices ![0, 256 * q] S128x256

/-- The columns of group `q`, at the matrix unit's width. -/
def cols (q : ℕ) (h : Cut q) (v : FVec Ideal S128x2048 .f32) : FVec Ideal S128x256 .bf16 :=
  truncf .bf16 (extractStridedSlice S128x256 ![0, 256 * q] v h) bitsLt_bf16_f32

/-- Group `q` of the gradient with respect to the mixed rows. -/
def dmixK (q : ℕ) (h : Cut q) (u d : FVec Ideal S128x2048 .f32) : FVec Ideal S128x256 .f32 :=
  mulf (extractStridedSlice S128x256 ![0, 256 * q] d h) (extractStridedSlice S128x256 ![0, 256 * q] u h)

/-- Group `q` of the gradient with respect to the normed rows. -/
def dnrmK (q : ℕ) (h : Cut q) (u d : FVec Ideal S128x2048 .f32) (w : Vec Ideal S1x128x128 .f32) : FVec Ideal S128x256 .f32 :=
  matmul dot_S128x128_S128x256_S128x256_0_0_1_1_n_n none (k0_pay21 w) (truncf .bf16 (dmixK q h u d) bitsLt_bf16_f32)
    (constant S128x256 .f32 0x00000000#32)

/-- Group `q` of the gradient with respect to the gate. -/
def dgateK (q : ℕ) (h : Cut q) (hb : S128x128.Slices ![0, q] S128x1) (v d : FVec Ideal S128x2048 .f32)
    (s : Vec Ideal S128x128 .f32) (w : Vec Ideal S1x128x128 .f32) : FVec Ideal S128x256 .f32 :=
  mulf (extractStridedSlice S128x256 ![0, 256 * q] d h)
    (addf (matmul dot_S128x128_S128x256_S128x256_1_0_0_1_n_n none (k0_pay21 w) (cols q h v) (constant S128x256 .f32 0x00000000#32))
      (broadcastTo S128x256 (extractStridedSlice S128x1 ![0, q] (k0_pay19 s) hb) broadcasts_S128x1_S128x256))

/-- The weights' accumulator of group `q` after the chunk. -/
def dwK (q : ℕ) (h : Cut q) (v u d : FVec Ideal S128x2048 .f32) (old : Vec Ideal S1x128x128 .f32) : FVec Ideal S1x128x128 .f32 :=
  shapeCast S1x128x128 (addf (shapeCast S128x128 old shapeCasts_S1x128x128_S128x128)
    (matmul dot_S128x256_S128x256_S128x128_1_1_0_0_n_n none (truncf .bf16 (dmixK q h u d) bitsLt_bf16_f32) (cols q h v)
      (constant S128x128 .f32 0x00000000#32))) shapeCasts_S128x128_S1x128x128

/-- The sums of group `q` put in lane `q`, the other lanes as they were. -/
def laneK (q : ℕ) (h : Cut q) (u d : FVec Ideal S128x2048 .f32) (rest : FVec Ideal S128x128 .f32) : FVec Ideal S128x128 .f32 :=
  select (cmpi .eq (iota .tc S128x128 32 [1] iota_S128x128_d1_w32) (broadcast S128x128 (BitVec.ofNat 32 q)))
    (broadcastTo S128x128 (shapeCast S128x1 (shapeCast S128x1
        (multiReduction .add [1] S128 (dmixK q h u d) 0x00000000#32 reduces_S128x256_S128 (.inl rfl) rfl)
        shapeCasts_S128_S128x1) shapeCasts_S128x1_S128x1) broadcasts_S128x1_S128x128) rest

/-- Group `q` of the mixing weights, as the point loads it. -/
def wl (q : ℕ) (h : ∀ a, (![q, 0, 0] : Fin 3 → ℕ) a + S1x128x128.size a ≤ S8x128x128.size a) (x4 : Vec Ideal S8x128x128 .f32) :
    Vec Ideal S1x128x128 .f32 :=
  View.ld x4 (Rect.unit ![q, 0, 0] S1x128x128.size h)

variable {b g bn : ℕ → ℝ} {zs ds : ℕ → ℕ → ℝ} {w : ℕ → ℕ → ℕ → ℝ} {s : ℕ → ℕ → ℝ}
  {x0 : Vec Ideal S128x4096 .f32} {x1 : Vec Ideal S1x4096 .f32} {x2 x3 : Vec Ideal S1x2048 .f32}
  {x4 : Vec Ideal S8x128x128 .f32} {x5 : Vec Ideal S128x128 .f32} {x6 : Vec Ideal S128x2048 .f32}

/-! ## One group at an index -/

theorem keep_sge (t r : Fin 128) (x y : EReal) :
    Scalar.select (IntOp.cmpi .sge (BitVec.ofNat 32 t) (BitVec.ofNat 32 r)) x y = if (r : ℕ) ≤ t then x else y := by
  rw [WordCmp.cmpi_sge_ofNat (by have := t.isLt; omega) (by have := r.isLt; omega)]
  by_cases hr : (r : ℕ) ≤ t <;> simp [Scalar.select, hr]

theorem keep_eq (t : Fin 128) (q : ℕ) (hq : q < 8) (x y : EReal) :
    Scalar.select (IntOp.cmpi .eq (BitVec.ofNat 32 t) (BitVec.ofNat 32 q)) x y = if (t : ℕ) = q then x else y := by
  rw [WordCmp.cmpi_eq_ofNat (by have := t.isLt; omega) (by omega)]
  by_cases hr : (t : ℕ) = q <;> simp [Scalar.select, hr]

section
variable {q : ℕ} {h : Cut q} {u v d : FVec Ideal S128x2048 .f32} {wq : Vec Ideal S1x128x128 .f32}

theorem wl_val (hq : q < 8) (h) (hw : ∀ (q : Fin 8) (t r : Fin 128), x4 (ix3 q t r) = ((w q t r : ℝ) : EReal)) :
    IsR (k0_pay21 (wl q h x4)) fun t r => wm w q t r := fun t r => by
  pointwise [k0_pay21, wl]
  rw [keep_sge]
  split
  · rename_i hr
    exact (hw ⟨q, hq⟩ t r).trans (by simp [wm, hr])
  · rename_i hr
    simp [wm, hr]

theorem cols_val (hv : IsR v fun r => nrm b g bn (zs r)) : IsR (cols q h v) fun r c => nrm b g bn (zs r) (256 * q + c) := fun r c => by
  pointwise [cols]
  exact hv _ _

theorem dmixK_val (hu : IsR u fun r => act b (zs r)) (hd : IsR d ds) :
    IsR (dmixK q h u d) fun r c => dmix b zs ds r (256 * q + c) := fun r c => by
  pointwise [dmixK]
  rw [hu, hd, ← EReal.coe_mul]; rfl

theorem dnrmK_val (hu : IsR u fun r => act b (zs r)) (hd : IsR d ds) (hw : IsR (k0_pay21 wq) fun t r => wm w q t r) :
    IsR (dnrmK q h u d wq) fun r c => dnrm b w zs ds r (256 * q + c) := fun r c => by
  have hm := dmixK_val (q := q) (h := h) hu hd
  pointwise [dnrmK]
  have hc : (256 * q + (c : ℕ)) / 256 = q := by have := c.isLt; omega
  simp only [hw _ _, hm _ _, ← EReal.coe_mul, dnrm, hc]
  exact (coe_sum _ _).symm

theorem dgateK_val {hb} (hv : IsR v fun r => nrm b g bn (zs r)) (hd : IsR d ds) (hw : IsR (k0_pay21 wq) fun t r => wm w q t r)
    (h5 : IsR x5 fun t q => s q t) :
    IsR (dgateK q h hb v d x5 wq) fun r c => dgate b g bn w s zs ds r (256 * q + c) := fun r c => by
  have hm := cols_val (q := q) (h := h) hv
  pointwise [dgateK, k0_pay19]
  have hc : (256 * q + (c : ℕ)) / 256 = q := by have := c.isLt; omega
  simp only [hw _ _, hm _ _, hd _ _, h5 _ _, ← EReal.coe_mul, dgate, mixed, hc]
  rw [← coe_sum, ← EReal.coe_add, ← EReal.coe_mul]

theorem dwK_val {old : Vec Ideal S1x128x128 .f32} (hv : IsR v fun r => nrm b g bn (zs r)) (hu : IsR u fun r => act b (zs r))
    (hd : IsR d ds) (t r : Fin 128) :
    dwK q h v u d old (ix3 0 t r) = old (ix3 0 t r) + ((dwC b g bn zs ds q t r : ℝ) : EReal) := by
  have hm := dmixK_val (q := q) (h := h) hu hd
  have hn := cols_val (q := q) (h := h) hv
  pointwise [dwK]
  simp only [hm _ _, hn _ _, ← EReal.coe_mul]
  rw [← coe_sum]; rfl

theorem laneK_val (hq : q < 8) {rest : FVec Ideal S128x128 .f32} (hu : IsR u fun r => act b (zs r)) (hd : IsR d ds) (t p : Fin 128) :
    laneK q h u d rest (ix2 t p) = if (p : ℕ) = q then ((dsC b zs ds t q : ℝ) : EReal) else rest (ix2 t p) := by
  have hm := dmixK_val (q := q) (h := h) hu hd
  pointwise [laneK]
  rw [keep_eq _ _ hq]
  simp only [hm _ _]
  rw [← coe_sum]
  simp [dsC, hq]
end

/-! ## The chunk, from its groups -/

theorem join_val {p0 p1 p2 p3 p4 p5 p6 p7 : FVec Ideal S128x256 .f32} {f : ℕ → ℕ → ℝ}
    (e0 : IsR p0 fun r c => f r (256 * 0 + c)) (e1 : IsR p1 fun r c => f r (256 * 1 + c)) (e2 : IsR p2 fun r c => f r (256 * 2 + c))
    (e3 : IsR p3 fun r c => f r (256 * 3 + c)) (e4 : IsR p4 fun r c => f r (256 * 4 + c)) (e5 : IsR p5 fun r c => f r (256 * 5 + c))
    (e6 : IsR p6 fun r c => f r (256 * 6 + c)) (e7 : IsR p7 fun r c => f r (256 * 7 + c)) :
    IsR (k0_pay100 p0 p1 p2 p3 p4 p5 p6 p7) f := fun r j => by
  pointwise [k0_pay100]
  have hj := j.isLt
  simp only [e0 _ _, e1 _ _, e2 _ _, e3 _ _, e4 _ _, e5 _ _, e6 _ _, e7 _ _]
  split_ifs <;> congr 2 <;> omega

end Cert.Sg

end
-- ==== Proof.Sg.Chunk.lean ====
/-
  One chunk of the kernel: what the body computes from the blocks it reads, and each of these values at an index as the
  real number the specification names.
-/
module

public import proofs.«01_k».proof.Proof.Sg.Group

@[expose] public section

set_option maxRecDepth 16384

noncomputable section

namespace Cert.Sg

open Cert.KernelIdeal Cert.KernelIdeal.Gen Idealize.ShloMosaic Idealize.ShloMosaic.TcCoe

/-! ## What the body computes -/

section
variable (x0 : Vec Ideal S128x4096 .f32) (x1 : Vec Ideal S1x4096 .f32) (x2 x3 : Vec Ideal S1x2048 .f32)
  (x4 : Vec Ideal S8x128x128 .f32) (x5 : Vec Ideal S128x128 .f32) (x6 : Vec Ideal S128x2048 .f32)

/-- The gate and the normed rows. -/
abbrev gateOf : FVec Ideal S128x2048 .f32 := k0_pay12 x0 x1
abbrev nrmOf : FVec Ideal S128x2048 .f32 := k0_pay18 (k0_pay16 x0 x1 x2) (k0_pay17 x3)

/-- The gradient with respect to gelu's result. -/
def dactK (u v : FVec Ideal S128x2048 .f32) : FVec Ideal S128x4096 .f32 :=
  k0_pay103 (k0_pay14 x0 x1) (k0_pay15 x0 x1)
      (dgateK 0 slices_S128x2048_o0_0_S128x256 slices_S128x128_o0_0_S128x1 v x6 x5 (wl 0 inb_S8x128x128_S1x128x128_0_0_0 x4)) (dnrmK 0 slices_S128x2048_o0_0_S128x256 u x6 (wl 0 inb_S8x128x128_S1x128x128_0_0_0 x4))
       (dgateK 1 slices_S128x2048_o0_256_S128x256 slices_S128x128_o0_1_S128x1 v x6 x5 (wl 1 inb_S8x128x128_S1x128x128_1_0_0 x4)) (dnrmK 1 slices_S128x2048_o0_256_S128x256 u x6 (wl 1 inb_S8x128x128_S1x128x128_1_0_0 x4))
       (dgateK 2 slices_S128x2048_o0_512_S128x256 slices_S128x128_o0_2_S128x1 v x6 x5 (wl 2 inb_S8x128x128_S1x128x128_2_0_0 x4)) (dnrmK 2 slices_S128x2048_o0_512_S128x256 u x6 (wl 2 inb_S8x128x128_S1x128x128_2_0_0 x4))
       (dgateK 3 slices_S128x2048_o0_768_S128x256 slices_S128x128_o0_3_S128x1 v x6 x5 (wl 3 inb_S8x128x128_S1x128x128_3_0_0 x4)) (dnrmK 3 slices_S128x2048_o0_768_S128x256 u x6 (wl 3 inb_S8x128x128_S1x128x128_3_0_0 x4))
       (dgateK 4 slices_S128x2048_o0_1024_S128x256 slices_S128x128_o0_4_S128x1 v x6 x5 (wl 4 inb_S8x128x128_S1x128x128_4_0_0 x4)) (dnrmK 4 slices_S128x2048_o0_1024_S128x256 u x6 (wl 4 inb_S8x128x128_S1x128x128_4_0_0 x4))
       (dgateK 5 slices_S128x2048_o0_1280_S128x256 slices_S128x128_o0_5_S128x1 v x6 x5 (wl 5 inb_S8x128x128_S1x128x128_5_0_0 x4)) (dnrmK 5 slices_S128x2048_o0_1280_S128x256 u x6 (wl 5 inb_S8x128x128_S1x128x128_5_0_0 x4))
       (dgateK 6 slices_S128x2048_o0_1536_S128x256 slices_S128x128_o0_6_S128x1 v x6 x5 (wl 6 inb_S8x128x128_S1x128x128_6_0_0 x4)) (dnrmK 6 slices_S128x2048_o0_1536_S128x256 u x6 (wl 6 inb_S8x128x128_S1x128x128_6_0_0 x4))
       (dgateK 7 slices_S128x2048_o0_1792_S128x256 slices_S128x128_o0_7_S128x1 v x6 x5 (wl 7 inb_S8x128x128_S1x128x128_7_0_0 x4)) (dnrmK 7 slices_S128x2048_o0_1792_S128x256 u x6 (wl 7 inb_S8x128x128_S1x128x128_7_0_0 x4))
      x2

/-- The gradient with respect to the normed rows, all groups. -/
def dnrmAll (u : FVec Ideal S128x2048 .f32) : FVec Ideal S128x2048 .f32 :=
  k0_pay100 (dnrmK 0 slices_S128x2048_o0_0_S128x256 u x6 (wl 0 inb_S8x128x128_S1x128x128_0_0_0 x4))
       (dnrmK 1 slices_S128x2048_o0_256_S128x256 u x6 (wl 1 inb_S8x128x128_S1x128x128_1_0_0 x4))
       (dnrmK 2 slices_S128x2048_o0_512_S128x256 u x6 (wl 2 inb_S8x128x128_S1x128x128_2_0_0 x4))
       (dnrmK 3 slices_S128x2048_o0_768_S128x256 u x6 (wl 3 inb_S8x128x128_S1x128x128_3_0_0 x4))
       (dnrmK 4 slices_S128x2048_o0_1024_S128x256 u x6 (wl 4 inb_S8x128x128_S1x128x128_4_0_0 x4))
       (dnrmK 5 slices_S128x2048_o0_1280_S128x256 u x6 (wl 5 inb_S8x128x128_S1x128x128_5_0_0 x4))
       (dnrmK 6 slices_S128x2048_o0_1536_S128x256 u x6 (wl 6 inb_S8x128x128_S1x128x128_6_0_0 x4))
       (dnrmK 7 slices_S128x2048_o0_1792_S128x256 u x6 (wl 7 inb_S8x128x128_S1x128x128_7_0_0 x4))

/-- The sums over each group's columns, one group to a lane. -/
def lanesK (u : FVec Ideal S128x2048 .f32) : FVec Ideal S128x128 .f32 :=
  (laneK 7 slices_S128x2048_o0_1792_S128x256 u x6 (laneK 6 slices_S128x2048_o0_1536_S128x256 u x6 (laneK 5 slices_S128x2048_o0_1280_S128x256 u x6 (laneK 4 slices_S128x2048_o0_1024_S128x256 u x6 (laneK 3 slices_S128x2048_o0_768_S128x256 u x6 (laneK 2 slices_S128x2048_o0_512_S128x256 u x6 (laneK 1 slices_S128x2048_o0_256_S128x256 u x6 (laneK 0 slices_S128x2048_o0_0_S128x256 u x6 k0_pay20))))))))

/-- The body's results on blocks `x0` … `x6`, the accumulators holding `o8` … `o12` before it. -/
def dzK : FVec Ideal S128x4096 .f32 :=
  k0_pay1 (k0_pay9 x0 x1) (k0_pay10 x0 x1) (dactK x0 x1 x2 x4 x5 x6 (gateOf x0 x1) (nrmOf x0 x1 x2 x3)) (k0_pay104 (k0_pay9 x0 x1))
def dinK : FVec Ideal S128x4096 .bf16 := truncf .bf16 (dzK x0 x1 x2 x3 x4 x5 x6) bitsLt_bf16_f32
def dbinK (o8 : Vec Ideal S1x4096 .f32) : FVec Ideal S1x4096 .f32 :=
  addf (shapeCast S1x4096 o8 shapeCasts_S1x4096_S1x4096) (shapeCast S1x4096
    (multiReduction .add [0] S4096 (dzK x0 x1 x2 x3 x4 x5 x6) 0x00000000#32 reduces_S128x4096_S4096 (.inl rfl) rfl) shapeCasts_S4096_S1x4096)
def dgainK (o9 : Vec Ideal S1x2048 .f32) : FVec Ideal S1x2048 .f32 :=
  addf (shapeCast S1x2048 o9 shapeCasts_S1x2048_S1x2048) (shapeCast S1x2048
    (multiReduction .add [0] S2048 (mulf (dnrmAll x4 x6 (gateOf x0 x1)) (k0_pay15 x0 x1)) 0x00000000#32 reduces_S128x2048_S2048 (.inl rfl) rfl) shapeCasts_S2048_S1x2048)
def dbiasK (o10 : Vec Ideal S1x2048 .f32) : FVec Ideal S1x2048 .f32 :=
  addf (shapeCast S1x2048 o10 shapeCasts_S1x2048_S1x2048) (shapeCast S1x2048
    (multiReduction .add [0] S2048 (dnrmAll x4 x6 (gateOf x0 x1)) 0x00000000#32 reduces_S128x2048_S2048 (.inl rfl) rfl) shapeCasts_S2048_S1x2048)
def dsK (o12 : Vec Ideal S128x128 .f32) : FVec Ideal S128x128 .f32 :=
  addf (shapeCast S128x128 o12 shapeCasts_S128x128_S128x128) (lanesK x6 (gateOf x0 x1))

end

/-! ## The same at an index -/

variable {b g bn : ℕ → ℝ} {zs ds : ℕ → ℕ → ℝ} {w : ℕ → ℕ → ℕ → ℝ} {s : ℕ → ℕ → ℝ}
  {x0 : Vec Ideal S128x4096 .f32} {x1 : Vec Ideal S1x4096 .f32} {x2 x3 : Vec Ideal S1x2048 .f32}
  {x4 : Vec Ideal S8x128x128 .f32} {x5 : Vec Ideal S128x128 .f32} {x6 : Vec Ideal S128x2048 .f32}
  (h0 : IsR x0 zs) (h1 : IsR x1 fun _ => b) (h2 : IsR x2 fun _ => g) (h3 : IsR x3 fun _ => bn)
  (h4 : ∀ (q : Fin 8) (t r : Fin 128), x4 (ix3 q t r) = ((w q t r : ℝ) : EReal))
  (h5 : IsR x5 fun t q => s q t) (h6 : IsR x6 ds)

include h4 h6 in
theorem dnrmAll_val {u : FVec Ideal S128x2048 .f32} (hu : IsR u fun r => act b (zs r)) :
    IsR (dnrmAll x4 x6 u) fun r => dnrm b w zs ds r := by
  unfold dnrmAll
  apply join_val <;> exact dnrmK_val hu h6 (wl_val (by norm_num) _ h4)

include h0 h1 h2 h3 h4 h5 h6

theorem dact_val : IsR (dactK x0 x1 x2 x4 x5 x6 (gateOf x0 x1) (nrmOf x0 x1 x2 x3)) fun r => dact b g bn w s zs ds r := fun r j => by
  have hn := dnrmAll_val h4 h6 (gate_val h0 h1)
  have hx := xhat_val h0 h1
  have hs := rstd_val h0 h1
  have hg := fun (q : ℕ) (hq : q < 8) (hc : Cut q) hb hw => dgateK_val (q := q) (h := hc) (hb := hb) (nrm_val h0 h1 h2 h3) h6 (wl_val (q := q) hq hw h4) h5
  unfold dnrmAll at hn
  have e0 := hg 0 (by norm_num) slices_S128x2048_o0_0_S128x256 slices_S128x128_o0_0_S128x1 inb_S8x128x128_S1x128x128_0_0_0
  have e1 := hg 1 (by norm_num) slices_S128x2048_o0_256_S128x256 slices_S128x128_o0_1_S128x1 inb_S8x128x128_S1x128x128_1_0_0
  have e2 := hg 2 (by norm_num) slices_S128x2048_o0_512_S128x256 slices_S128x128_o0_2_S128x1 inb_S8x128x128_S1x128x128_2_0_0
  have e3 := hg 3 (by norm_num) slices_S128x2048_o0_768_S128x256 slices_S128x128_o0_3_S128x1 inb_S8x128x128_S1x128x128_3_0_0
  have e4 := hg 4 (by norm_num) slices_S128x2048_o0_1024_S128x256 slices_S128x128_o0_4_S128x1 inb_S8x128x128_S1x128x128_4_0_0
  have e5 := hg 5 (by norm_num) slices_S128x2048_o0_1280_S128x256 slices_S128x128_o0_5_S128x1 inb_S8x128x128_S1x128x128_5_0_0
  have e6 := hg 6 (by norm_num) slices_S128x2048_o0_1536_S128x256 slices_S128x128_o0_6_S128x1 inb_S8x128x128_S1x128x128_6_0_0
  have e7 := hg 7 (by norm_num) slices_S128x2048_o0_1792_S128x256 slices_S128x128_o0_7_S128x1 inb_S8x128x128_S1x128x128_7_0_0
  have hj := j.isLt
  pointwise [dactK, k0_pay103]
  simp only [hn _ _, hx _ _, hs _ _, h2 _ _, e0 _ _, e1 _ _, e2 _ _, e3 _ _, e4 _ _, e5 _ _, e6 _ _, e7 _ _, ← EReal.coe_mul]
  simp only [← coe_sum, ofBits_2048, div_real (show (2048 : ℝ) ≠ 0 by norm_num), ← EReal.coe_sub, ← EReal.coe_mul]
  by_cases hlt : (j : ℕ) < 2048
  · simp only [hlt, dact, if_true, dif_pos]
    split_ifs <;> congr 2 <;> omega
  · simp only [hlt, dact, if_false, dif_neg, not_false_eq_true]
    rfl

theorem dz_val : IsR (dzK x0 x1 x2 x3 x4 x5 x6) fun r => dz b g bn w s zs ds r := fun r j => by
  have ha := dact_val h0 h1 h2 h3 h4 h5 h6 r j
  have hz := zin_val h0 h1 r j
  have hc := cdf_val h0 h1 r j
  pointwise [dzK, k0_pay1, k0_pay104]
  rw [named_sqrt_2pi, hz, hc, ha, ofBits_neg_half, ← EReal.coe_mul, ← EReal.coe_mul]
  show _ * (_ + _ * (_ * Ideal.exp _)) = _
  rw [Ideal.exp_coe, ← EReal.coe_mul, ← EReal.coe_mul, ← EReal.coe_add, ← EReal.coe_mul]
  rfl

theorem din_val : IsR (dinK x0 x1 x2 x3 x4 x5 x6) fun r => dz b g bn w s zs ds r := fun r j => by
  have ha := dz_val h0 h1 h2 h3 h4 h5 h6 r j
  pointwise [dinK]
  exact ha

theorem dbin_val {o : Vec Ideal S1x4096 .f32} (r : Fin 1) (j : Fin 4096) :
    dbinK x0 x1 x2 x3 x4 x5 x6 o (ix2 r j) = o (ix2 r j) + ((dbinC b g bn w s zs ds j : ℝ) : EReal) := by
  have ha := dz_val h0 h1 h2 h3 h4 h5 h6
  pointwise [dbinK]
  simp only [ha _ _]
  rw [← coe_sum]; rfl

theorem dgain_val {o : Vec Ideal S1x2048 .f32} (r : Fin 1) (j : Fin 2048) :
    dgainK x0 x1 x4 x6 o (ix2 r j) = o (ix2 r j) + ((dgainC b w zs ds j : ℝ) : EReal) := by
  have hn := dnrmAll_val h4 h6 (gate_val h0 h1)
  have hx := xhat_val h0 h1
  pointwise [dgainK]
  simp only [hn _ _, hx _ _, ← EReal.coe_mul]
  rw [← coe_sum]; rfl

theorem dbias_val {o : Vec Ideal S1x2048 .f32} (r : Fin 1) (j : Fin 2048) :
    dbiasK x0 x1 x4 x6 o (ix2 r j) = o (ix2 r j) + ((dbiasC b w zs ds j : ℝ) : EReal) := by
  have hn := dnrmAll_val h4 h6 (gate_val h0 h1)
  pointwise [dbiasK]
  simp only [hn _ _]
  rw [← coe_sum]; rfl

theorem ds_val {o : Vec Ideal S128x128 .f32} (t p : Fin 128) :
    dsK x0 x1 x6 o (ix2 t p) = o (ix2 t p) + ((dsC b zs ds t p : ℝ) : EReal) := by
  have hu := gate_val h0 h1
  pointwise [dsK]
  congr 1
  unfold lanesK
  rw [laneK_val (by norm_num) hu h6, laneK_val (by norm_num) hu h6, laneK_val (by norm_num) hu h6, laneK_val (by norm_num) hu h6,
    laneK_val (by norm_num) hu h6, laneK_val (by norm_num) hu h6, laneK_val (by norm_num) hu h6, laneK_val (by norm_num) hu h6]
  have hp : k0_pay20 (F := Ideal) (ix2 t p) = ((0 : ℝ) : EReal) := by
    pointwise [k0_pay20]; rfl
  rw [hp]
  by_cases h8 : (p : ℕ) < 8
  · rcases (by omega : (p : ℕ) = 0 ∨ (p : ℕ) = 1 ∨ (p : ℕ) = 2 ∨ (p : ℕ) = 3 ∨ (p : ℕ) = 4 ∨ (p : ℕ) = 5 ∨ (p : ℕ) = 6 ∨ (p : ℕ) = 7) with
      h | h | h | h | h | h | h | h <;> simp [h]
  · rw [if_neg (by omega), if_neg (by omega), if_neg (by omega), if_neg (by omega), if_neg (by omega), if_neg (by omega),
      if_neg (by omega), if_neg (by omega)]
    simp [dsC, h8]

end Cert.Sg

end
-- ==== Proof.Sg.Step.lean ====
/-
  What the kernel's result blocks hold after a point, as the body's values on that point's blocks: the generated run's
  found contents opened, one result at a time, at the first point and at a later one.
-/
module

public import proofs.«01_k».proof.Proof.Sg.Chunk
public import proofs.«01_k».proof.Proof.Gen.KernelIdeal.Value
public import Idealize.ShloMosaic.Lib.Pipeline.Value
public import Idealize.ShloMosaic.Lib.Pipeline.ValueKit.Acc
public import Idealize.ShloMosaic.Lib.Pipeline.CanonAppend
public import Idealize.ShloMosaic.Lib.Tactic

@[expose] public section

set_option maxRecDepth 16384

noncomputable section

namespace Cert.Sg

open Cert.KernelIdeal Cert.KernelIdeal.Gen Idealize.ShloMosaic Idealize.ShloMosaic.TcCoe Idealize.SL.Sem

variable (m : (ℓ : Loc nD τ sig) → Buf (Elt Ideal) ℓ) (c : Dev nD)

/-- The blocks a point reads. -/
abbrev B0 (t : Fin cfg0.N) : Vec Ideal S128x4096 .f32 := iblk m c 0 t
abbrev B1 (t : Fin cfg0.N) : Vec Ideal S1x4096 .f32 := iblk m c 1 t
abbrev B2 (t : Fin cfg0.N) : Vec Ideal S1x2048 .f32 := iblk m c 2 t
abbrev B3 (t : Fin cfg0.N) : Vec Ideal S1x2048 .f32 := iblk m c 3 t
abbrev B4 (t : Fin cfg0.N) : Vec Ideal S8x128x128 .f32 := iblk m c 4 t
abbrev B5 (t : Fin cfg0.N) : Vec Ideal S128x128 .f32 := iblk m c 5 t
abbrev B6 (t : Fin cfg0.N) : Vec Ideal S128x2048 .f32 := iblk m c 6 t

theorem outA_7 (t : Fin cfg0.N) (h : t.val % 64 = 0) :
    (outsAt0 m c t.val t.isLt).1 = dinK (B0 m c t) (B1 m c t) (B2 m c t) (B3 m c t) (B4 m c t) (B5 m c t) (B6 m c t) := by
  rw [outsAt0_A m c t h]
  frame_out
  rfl

theorem outB_7 (t : Fin cfg0.N) (h : ¬t.val % 64 = 0) :
    (outsAt0 m c t.val t.isLt).1 = dinK (B0 m c t) (B1 m c t) (B2 m c t) (B3 m c t) (B4 m c t) (B5 m c t) (B6 m c t) := by
  rw [outsAt0_B m c t h]
  frame_out
  rfl

theorem outA_8 (t : Fin cfg0.N) (h : t.val % 64 = 0) :
    (outsAt0 m c t.val t.isLt).2.1 = dbinK (B0 m c t) (B1 m c t) (B2 m c t) (B3 m c t) (B4 m c t) (B5 m c t) (B6 m c t) (k0_pay4 (F := Ideal)) := by
  rw [outsAt0_A m c t h]
  frame_out
  rfl

theorem outB_8 (t : Fin cfg0.N) (h : ¬t.val % 64 = 0) :
    (outsAt0 m c t.val t.isLt).2.1 = dbinK (B0 m c t) (B1 m c t) (B2 m c t) (B3 m c t) (B4 m c t) (B5 m c t) (B6 m c t) (outsAt0 m c (t.val - 1) (lt_of_le_of_lt (Nat.sub_le _ _) t.isLt)).2.1 := by
  rw [outsAt0_B m c t h]
  frame_out
  rfl

theorem outA_9 (t : Fin cfg0.N) (h : t.val % 64 = 0) :
    (outsAt0 m c t.val t.isLt).2.2.1 = dgainK (B0 m c t) (B1 m c t) (B4 m c t) (B6 m c t) (k0_pay5 (F := Ideal)) := by
  rw [outsAt0_A m c t h]
  frame_out
  rfl

theorem outB_9 (t : Fin cfg0.N) (h : ¬t.val % 64 = 0) :
    (outsAt0 m c t.val t.isLt).2.2.1 = dgainK (B0 m c t) (B1 m c t) (B4 m c t) (B6 m c t) (outsAt0 m c (t.val - 1) (lt_of_le_of_lt (Nat.sub_le _ _) t.isLt)).2.2.1 := by
  rw [outsAt0_B m c t h]
  frame_out
  rfl

theorem outA_10 (t : Fin cfg0.N) (h : t.val % 64 = 0) :
    (outsAt0 m c t.val t.isLt).2.2.2.1 = dbiasK (B0 m c t) (B1 m c t) (B4 m c t) (B6 m c t) (k0_pay6 (F := Ideal)) := by
  rw [outsAt0_A m c t h]
  frame_out
  rfl

theorem outB_10 (t : Fin cfg0.N) (h : ¬t.val % 64 = 0) :
    (outsAt0 m c t.val t.isLt).2.2.2.1 = dbiasK (B0 m c t) (B1 m c t) (B4 m c t) (B6 m c t) (outsAt0 m c (t.val - 1) (lt_of_le_of_lt (Nat.sub_le _ _) t.isLt)).2.2.2.1 := by
  rw [outsAt0_B m c t h]
  frame_out
  rfl

theorem outA_12 (t : Fin cfg0.N) (h : t.val % 64 = 0) :
    (outsAt0 m c t.val t.isLt).2.2.2.2.2 = dsK (B0 m c t) (B1 m c t) (B6 m c t) (k0_pay8 (F := Ideal)) := by
  rw [outsAt0_A m c t h]
  frame_out
  rfl

theorem outB_12 (t : Fin cfg0.N) (h : ¬t.val % 64 = 0) :
    (outsAt0 m c t.val t.isLt).2.2.2.2.2 = dsK (B0 m c t) (B1 m c t) (B6 m c t) (outsAt0 m c (t.val - 1) (lt_of_le_of_lt (Nat.sub_le _ _) t.isLt)).2.2.2.2.2 := by
  rw [outsAt0_B m c t h]
  frame_out
  rfl

/-! ## The weights' block: one piece a group -/

section
variable {b g bn : ℕ → ℝ} {zs ds : ℕ → ℕ → ℝ} {v u d : FVec Ideal S128x2048 .f32}

/-- One group's piece of the weights' block. -/
abbrev Pc := View.Piece (Elt Ideal) S8x128x128 .f32

theorem grp {q : ℕ} (hq : q < 8) (a : Fin 3) : (![q, 0, 0] : Fin 3 → ℕ) a + (![1, 128, 128] : Fin 3 → ℕ) a ≤ S8x128x128.size a := by
  match a with
  | ⟨0, _⟩ => show q + 1 ≤ 8; omega
  | ⟨1, _⟩ => show 0 + 128 ≤ 128; omega
  | ⟨2, _⟩ => show 0 + 128 ≤ 128; omega

theorem mem_group {q k : ℕ} (hq : q < 8) (hk : k < 8) (t r : Fin 128) :
    ix3 (⟨k, hk⟩ : Fin 8) t r ∈ (Rect.unit (s := S8x128x128) ![q, 0, 0] ![1, 128, 128] (grp hq)).set ↔ k = q := by
  rw [Rect.mem_set_unit]
  constructor
  · intro ha
    have h0 := ha 0
    have : q ≤ k ∧ k < q + 1 := h0
    omega
  · rintro rfl a
    have ht := t.isLt
    have hr := r.isLt
    match a with
    | ⟨0, _⟩ => show k ≤ k ∧ k < k + 1; omega
    | ⟨1, _⟩ => show 0 ≤ (t : ℕ) ∧ (t : ℕ) < 0 + 128; omega
    | ⟨2, _⟩ => show 0 ≤ (r : ℕ) ∧ (r : ℕ) < 0 + 128; omega

theorem emb_group {q : ℕ} (h) (hq : q < 8) (t r : Fin 128) :
    (Rect.unit (s := S8x128x128) ![q, 0, 0] ![1, 128, 128] h).emb (ix3 (0 : Fin 1) t r) = ix3 (⟨q, hq⟩ : Fin 8) t r := by
  funext a
  apply Fin.ext
  match a with
  | ⟨0, _⟩ => show q + 1 * 0 = q; omega
  | ⟨1, _⟩ => show 0 + 1 * (t : ℕ) = t; omega
  | ⟨2, _⟩ => show 0 + 1 * (r : ℕ) = r; omega

/-- The eight pieces cover the block, and each adds its group's sums to what it read. -/
theorem ws_val (hv : IsR v fun r => nrm b g bn (zs r)) (hu : IsR u fun r => act b (zs r)) (hd : IsR d ds)
    (O : Vec Ideal S8x128x128 .f32) {p0 p1 p2 p3 p4 p5 p6 p7 : Vec Ideal S1x128x128 .f32}
    (e0 : ∀ t r, p0 (ix3 0 t r) = O (ix3 0 t r)) (e1 : ∀ t r, p1 (ix3 0 t r) = O (ix3 1 t r)) (e2 : ∀ t r, p2 (ix3 0 t r) = O (ix3 2 t r)) (e3 : ∀ t r, p3 (ix3 0 t r) = O (ix3 3 t r)) (e4 : ∀ t r, p4 (ix3 0 t r) = O (ix3 4 t r)) (e5 : ∀ t r, p5 (ix3 0 t r) = O (ix3 5 t r)) (e6 : ∀ t r, p6 (ix3 0 t r) = O (ix3 6 t r)) (e7 : ∀ t r, p7 (ix3 0 t r) = O (ix3 7 t r))
    (L : List Pc) (q : Fin 8) (t r : Fin 128) :
    View.canon ([⟨Rect.unit ![7, 0, 0] ![1, 128, 128] inb_S8x128x128_S1x128x128_7_0_0, dwK 7 slices_S128x2048_o0_1792_S128x256 v u d p7⟩,
      ⟨Rect.unit ![6, 0, 0] ![1, 128, 128] inb_S8x128x128_S1x128x128_6_0_0, dwK 6 slices_S128x2048_o0_1536_S128x256 v u d p6⟩,
      ⟨Rect.unit ![5, 0, 0] ![1, 128, 128] inb_S8x128x128_S1x128x128_5_0_0, dwK 5 slices_S128x2048_o0_1280_S128x256 v u d p5⟩,
      ⟨Rect.unit ![4, 0, 0] ![1, 128, 128] inb_S8x128x128_S1x128x128_4_0_0, dwK 4 slices_S128x2048_o0_1024_S128x256 v u d p4⟩,
      ⟨Rect.unit ![3, 0, 0] ![1, 128, 128] inb_S8x128x128_S1x128x128_3_0_0, dwK 3 slices_S128x2048_o0_768_S128x256 v u d p3⟩,
      ⟨Rect.unit ![2, 0, 0] ![1, 128, 128] inb_S8x128x128_S1x128x128_2_0_0, dwK 2 slices_S128x2048_o0_512_S128x256 v u d p2⟩,
      ⟨Rect.unit ![1, 0, 0] ![1, 128, 128] inb_S8x128x128_S1x128x128_1_0_0, dwK 1 slices_S128x2048_o0_256_S128x256 v u d p1⟩,
      ⟨Rect.unit ![0, 0, 0] ![1, 128, 128] inb_S8x128x128_S1x128x128_0_0_0, dwK 0 slices_S128x2048_o0_0_S128x256 v u d p0⟩] ++ L : List Pc) (ix3 q t r)
      = O (ix3 q t r) + ((dwC b g bn zs ds q t r : ℝ) : EReal) := by
  refine View.canon_append_of_pieces (fun y : S8x128x128.Idx => O y + ((dwC b g bn zs ds (y 0).val (y 1).val (y 2).val : ℝ) : EReal)) _ _ ?_ _ ?_
  · intro p hp x
    simp only [List.mem_cons, List.not_mem_nil, or_false] at hp
    rcases hp with rfl | rfl | rfl | rfl | rfl | rfl | rfl | rfl <;> (
      change S1x128x128.Idx at x
      idx_vars x
      obtain rfl : x0 = 0 := Subsingleton.elim _ _
      rw [dwK_val hv hu hd, emb_group _ (by norm_num)]
      first | (rw [e0]; rfl) | (rw [e1]; rfl) | (rw [e2]; rfl) | (rw [e3]; rfl) | (rw [e4]; rfl) | (rw [e5]; rfl) | (rw [e6]; rfl) | (rw [e7]; rfl))
  · have hq := q.isLt
    rcases (by omega : (q : ℕ) = 0 ∨ (q : ℕ) = 1 ∨ (q : ℕ) = 2 ∨ (q : ℕ) = 3 ∨ (q : ℕ) = 4 ∨ (q : ℕ) = 5 ∨ (q : ℕ) = 6 ∨ (q : ℕ) = 7) with
      h | h | h | h | h | h | h | h
    · exact ⟨⟨Rect.unit ![0, 0, 0] ![1, 128, 128] inb_S8x128x128_S1x128x128_0_0_0, dwK 0 slices_S128x2048_o0_0_S128x256 v u d p0⟩, by simp, (mem_group (by norm_num) q.isLt t r).mpr h⟩
    · exact ⟨⟨Rect.unit ![1, 0, 0] ![1, 128, 128] inb_S8x128x128_S1x128x128_1_0_0, dwK 1 slices_S128x2048_o0_256_S128x256 v u d p1⟩, by simp, (mem_group (by norm_num) q.isLt t r).mpr h⟩
    · exact ⟨⟨Rect.unit ![2, 0, 0] ![1, 128, 128] inb_S8x128x128_S1x128x128_2_0_0, dwK 2 slices_S128x2048_o0_512_S128x256 v u d p2⟩, by simp, (mem_group (by norm_num) q.isLt t r).mpr h⟩
    · exact ⟨⟨Rect.unit ![3, 0, 0] ![1, 128, 128] inb_S8x128x128_S1x128x128_3_0_0, dwK 3 slices_S128x2048_o0_768_S128x256 v u d p3⟩, by simp, (mem_group (by norm_num) q.isLt t r).mpr h⟩
    · exact ⟨⟨Rect.unit ![4, 0, 0] ![1, 128, 128] inb_S8x128x128_S1x128x128_4_0_0, dwK 4 slices_S128x2048_o0_1024_S128x256 v u d p4⟩, by simp, (mem_group (by norm_num) q.isLt t r).mpr h⟩
    · exact ⟨⟨Rect.unit ![5, 0, 0] ![1, 128, 128] inb_S8x128x128_S1x128x128_5_0_0, dwK 5 slices_S128x2048_o0_1280_S128x256 v u d p5⟩, by simp, (mem_group (by norm_num) q.isLt t r).mpr h⟩
    · exact ⟨⟨Rect.unit ![6, 0, 0] ![1, 128, 128] inb_S8x128x128_S1x128x128_6_0_0, dwK 6 slices_S128x2048_o0_1536_S128x256 v u d p6⟩, by simp, (mem_group (by norm_num) q.isLt t r).mpr h⟩
    · exact ⟨⟨Rect.unit ![7, 0, 0] ![1, 128, 128] inb_S8x128x128_S1x128x128_7_0_0, dwK 7 slices_S128x2048_o0_1792_S128x256 v u d p7⟩, by simp, (mem_group (by norm_num) q.isLt t r).mpr h⟩

end

theorem old_val (O : Vec Ideal S8x128x128 .f32) {q : ℕ} (h) (hq : q < 8) (t r : Fin 128) :
    View.ld O (Rect.unit ![q, 0, 0] ![1, 128, 128] h) (ix3 (0 : Fin 1) t r) = O (ix3 (⟨q, hq⟩ : Fin 8) t r) := by
  show O ((Rect.unit (s := S8x128x128) ![q, 0, 0] ![1, 128, 128] h).emb (ix3 (0 : Fin 1) t r)) = _
  rw [emb_group _ hq]

theorem hz3 : (![0, 0, 0] : Fin 3 → ℕ) = fun _ => 0 := funext fun a => by fin_cases a <;> rfl

/-- What a group's piece reads at the first point: the zero block, since the earlier pieces are other groups'. -/
theorem fresh_val (W : View sig .tc .vmem S8x128x128 .f32) (O : Vec Ideal S8x128x128 .f32) (L : List Pc) (q : ℕ)
    (h : ∀ a, (![q, 0, 0] : Fin 3 → ℕ) a + (![1, 128, 128] : Fin 3 → ℕ) a ≤ S8x128x128.size a) (hq : q < 8)
    (hL : ∀ p ∈ L, ∀ t r : Fin 128, ix3 (⟨q, hq⟩ : Fin 8) t r ∉ p.1.set) (t r : Fin 128) :
    (W.readCov (L ++ [⟨Rect.unit ![0, 0, 0] ![8, 128, 128] inb_S8x128x128_S8x128x128_0_0_0, O⟩])
      (Rect.unit (s := S8x128x128) ![q, 0, 0] ![1, 128, 128] h).toLoadRect : Vec Ideal S1x128x128 .f32) (ix3 (0 : Fin 1) t r) = O (ix3 (⟨q, hq⟩ : Fin 8) t r) := by
  rw [View.readCov_eq_canon_ld]
  · show View.canon _ ((Rect.unit (s := S8x128x128) ![q, 0, 0] ![1, 128, 128] h).emb (ix3 (0 : Fin 1) t r)) = _
    rw [emb_group _ hq]
    induction L with
    | nil => rw [List.nil_append, View.canon_unit_zero (S := S8x128x128) hz3]
    | cons p L ih =>
      rw [List.cons_append, View.canon_cons_of_not_mem _ _ (hL p (by simp) t r)]
      exact ih fun p hp => hL p (by simp [hp])
  · intro y
    refine ⟨_, List.mem_append_right _ (List.mem_singleton_self _), ?_⟩
    rw [Rect.mem_set_unit]
    intro a
    exact ⟨by rw [congrFun hz3 a]; exact Nat.zero_le _, by rw [congrFun hz3 a, Nat.zero_add]; exact (y a).isLt⟩

section
variable {b g bn : ℕ → ℝ} {zs ds : ℕ → ℕ → ℝ}

theorem outB_11 (t : Fin cfg0.N) (h : ¬t.val % 64 = 0) (hv : IsR (nrmOf (B0 m c t) (B1 m c t) (B2 m c t) (B3 m c t)) fun r => nrm b g bn (zs r))
    (hu : IsR (gateOf (B0 m c t) (B1 m c t)) fun r => act b (zs r)) (hd : IsR (B6 m c t) ds) (q : Fin 8) (p r : Fin 128) :
    (outsAt0 m c t.val t.isLt).2.2.2.2.1 (ix3 q p r)
      = (outsAt0 m c (t.val - 1) (lt_of_le_of_lt (Nat.sub_le _ _) t.isLt)).2.2.2.2.1 (ix3 q p r) + ((dwC b g bn zs ds q p r : ℝ) : EReal) := by
  rw [outsAt0_B m c t h]
  frame_out
  exact ws_val hv hu hd _ (old_val _ _ (by norm_num)) (old_val _ _ (by norm_num)) (old_val _ _ (by norm_num)) (old_val _ _ (by norm_num)) (old_val _ _ (by norm_num)) (old_val _ _ (by norm_num)) (old_val _ _ (by norm_num)) (old_val _ _ (by norm_num)) [] q p r

theorem outA_11 (t : Fin cfg0.N) (h : t.val % 64 = 0) (hv : IsR (nrmOf (B0 m c t) (B1 m c t) (B2 m c t) (B3 m c t)) fun r => nrm b g bn (zs r))
    (hu : IsR (gateOf (B0 m c t) (B1 m c t)) fun r => act b (zs r)) (hd : IsR (B6 m c t) ds) (q : Fin 8) (p r : Fin 128) :
    (outsAt0 m c t.val t.isLt).2.2.2.2.1 (ix3 q p r)
      = k0_pay7 (F := Ideal) (ix3 q p r) + ((dwC b g bn zs ds q p r : ℝ) : EReal) := by
  rw [outsAt0_A m c t h]
  frame_out
  refine ws_val hv hu hd (k0_pay7 (F := Ideal)) ?_ ?_ ?_ ?_ ?_ ?_ ?_ ?_ [_] q p r
  · exact fresh_val _ _ [] 0 _ (by norm_num) (by simp)
  · refine fresh_val _ _ [_] 1 _ (by norm_num) fun p hp t r => ?_
    simp only [List.mem_cons, List.not_mem_nil, or_false] at hp
    rcases hp with rfl <;> exact fun hm => absurd ((mem_group (by norm_num) (by norm_num) t r).mp hm) (by norm_num)
  · refine fresh_val _ _ [_, _] 2 _ (by norm_num) fun p hp t r => ?_
    simp only [List.mem_cons, List.not_mem_nil, or_false] at hp
    rcases hp with rfl | rfl <;> exact fun hm => absurd ((mem_group (by norm_num) (by norm_num) t r).mp hm) (by norm_num)
  · refine fresh_val _ _ [_, _, _] 3 _ (by norm_num) fun p hp t r => ?_
    simp only [List.mem_cons, List.not_mem_nil, or_false] at hp
    rcases hp with rfl | rfl | rfl <;> exact fun hm => absurd ((mem_group (by norm_num) (by norm_num) t r).mp hm) (by norm_num)
  · refine fresh_val _ _ [_, _, _, _] 4 _ (by norm_num) fun p hp t r => ?_
    simp only [List.mem_cons, List.not_mem_nil, or_false] at hp
    rcases hp with rfl | rfl | rfl | rfl <;> exact fun hm => absurd ((mem_group (by norm_num) (by norm_num) t r).mp hm) (by norm_num)
  · refine fresh_val _ _ [_, _, _, _, _] 5 _ (by norm_num) fun p hp t r => ?_
    simp only [List.mem_cons, List.not_mem_nil, or_false] at hp
    rcases hp with rfl | rfl | rfl | rfl | rfl <;> exact fun hm => absurd ((mem_group (by norm_num) (by norm_num) t r).mp hm) (by norm_num)
  · refine fresh_val _ _ [_, _, _, _, _, _] 6 _ (by norm_num) fun p hp t r => ?_
    simp only [List.mem_cons, List.not_mem_nil, or_false] at hp
    rcases hp with rfl | rfl | rfl | rfl | rfl | rfl <;> exact fun hm => absurd ((mem_group (by norm_num) (by norm_num) t r).mp hm) (by norm_num)
  · refine fresh_val _ _ [_, _, _, _, _, _, _] 7 _ (by norm_num) fun p hp t r => ?_
    simp only [List.mem_cons, List.not_mem_nil, or_false] at hp
    rcases hp with rfl | rfl | rfl | rfl | rfl | rfl | rfl <;> exact fun hm => absurd ((mem_group (by norm_num) (by norm_num) t r).mp hm) (by norm_num)

end

end Cert.Sg
end
-- ==== Proof.Sg.Total.lean ====
/-
  The kernel's result arrays as numbers: the blocks a point reads are the arguments' rows, so each result is the sum over
  the 64 chunks of what a chunk adds, and the first result is written chunk by chunk.
-/
module

public import proofs.«01_k».proof.Proof.Sg.Step
public import Idealize.ShloMosaic.Lib.Pipeline.ValueKit.Point
public import Idealize.ShloMosaic.Lib.StableHlo.RunRead

@[expose] public section

set_option maxRecDepth 16384

noncomputable section

namespace Cert.Sg

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments. -/
abbrev A0 : S8192x4096.Idx → EReal := m ((c : Thread nD τ).loc main_arg0)
abbrev A1 : S4096.Idx → EReal := m ((c : Thread nD τ).loc main_arg1)
abbrev A2 : S2048.Idx → EReal := m ((c : Thread nD τ).loc main_arg2)
abbrev A3 : S2048.Idx → EReal := m ((c : Thread nD τ).loc main_arg3)
abbrev A4 : S8x128x128.Idx → EReal := m ((c : Thread nD τ).loc main_arg4)
abbrev A5 : S8x128.Idx → EReal := m ((c : Thread nD τ).loc main_arg5)
abbrev A6 : S8192x2048.Idx → EReal := m ((c : Thread nD τ).loc main_arg6)

theorem N64 : cfg0.N = 64 := N_0

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem idx7 : ∀ t : Fin cfg0.N, win0_7.index t 0 = t.val ∧ win0_7.index t 1 = 0 :=
  (by decide +kernel : ∀ t : Fin grid0.N, win0_7.index t 0 = t.val ∧ win0_7.index t 1 = 0)

theorem row_lt (t : Fin cfg0.N) (r : Fin 128) : 128 * t.val + r.val < 8192 := by
  have := t.isLt; have := N64; omega

theorem blk0 (t : Fin cfg0.N) (r : Fin 128) (j : Fin 4096) :
    B0 m c t (ix2 r j) = A0 m c (ix2 ⟨128 * t.val + r.val, row_lt t r⟩ j) := by
  blk_ext! [B0, A0, iblk, V, idx0 t]

theorem blk6 (t : Fin cfg0.N) (r : Fin 128) (j : Fin 2048) :
    B6 m c t (ix2 r j) = A6 m c (ix2 ⟨128 * t.val + r.val, row_lt t r⟩ j) := by
  blk_ext! [B6, A6, iblk, V, idx6 t]

theorem V_v2 (j : Fin 4096) : (V m c main_v2 : S1x4096.Idx → EReal) (ix2 0 j) = A1 m c (ix1 j) := by
  unfold V
  after_reads_simp
  pointwise
theorem V_v3 (j : Fin 2048) : (V m c main_v3 : S1x2048.Idx → EReal) (ix2 0 j) = A2 m c (ix1 j) := by
  unfold V
  after_reads_simp
  pointwise
theorem V_v4 (j : Fin 2048) : (V m c main_v4 : S1x2048.Idx → EReal) (ix2 0 j) = A3 m c (ix1 j) := by
  unfold V
  after_reads_simp
  pointwise
theorem V_v1 (p q : Fin 128) :
    (V m c main_v1 : S128x128.Idx → EReal) (ix2 p q) = if h : (q : ℕ) < 8 then A5 m c (ix2 ⟨q, h⟩ p) else (0 : EReal) := by
  unfold V
  after_reads_simp
  show (pad S128x128 ![0, 0] ![0, 120] ![0, 0] (transpose S128x8 [1, 0] (A5 m c) transposes_S8x128_S128x8_1_0)
    (sitofp (F := Ideal) FTy.f32 (constantI S_ 32 0#32)) pads_S128x8_S128x128_000_01200 h_S_ : S128x128.Idx → EReal) (ix2 p q) = _
  pointwise
  split_ifs
  · rfl
  · show ((((0#32 : BitVec 32).toInt : ℤ) : ℝ) : EReal) = 0
    simp
theorem blk1 (t : Fin cfg0.N) (r : Fin 1) (j : Fin 4096) : B1 m c t (ix2 r j) = A1 m c (ix1 j) := by
  rw [← V_v2 m c]
  blk_ext! [B1, iblk, idx1 t]
theorem blk2 (t : Fin cfg0.N) (r : Fin 1) (j : Fin 2048) : B2 m c t (ix2 r j) = A2 m c (ix1 j) := by
  rw [← V_v3 m c]
  blk_ext! [B2, iblk, idx2 t]
theorem blk3 (t : Fin cfg0.N) (r : Fin 1) (j : Fin 2048) : B3 m c t (ix2 r j) = A3 m c (ix1 j) := by
  rw [← V_v4 m c]
  blk_ext! [B3, iblk, idx3 t]
theorem blk4 (t : Fin cfg0.N) (q : Fin 8) (p r : Fin 128) : B4 m c t (ix3 q p r) = A4 m c (ix3 q p r) := by
  blk_ext! [B4, A4, iblk, V, idx4 t]
theorem blk5 (t : Fin cfg0.N) (p q : Fin 128) :
    B5 m c t (ix2 p q) = if h : (q : ℕ) < 8 then A5 m c (ix2 ⟨q, h⟩ p) else (0 : EReal) := by
  rw [← V_v1 m c]
  blk_ext! [B5, iblk, idx5 t]

/-! ## The arguments as real numbers -/

/-- The arguments hold the real numbers named. -/
structure Lifted (Z D : ℕ → ℕ → ℝ) (b g bn : ℕ → ℝ) (w : ℕ → ℕ → ℕ → ℝ) (s : ℕ → ℕ → ℝ) : Prop where
  h0 : ∀ R j, A0 m c (ix2 R j) = ((Z R j : ℝ) : EReal)
  h1 : ∀ j, A1 m c (ix1 j) = ((b j : ℝ) : EReal)
  h2 : ∀ j, A2 m c (ix1 j) = ((g j : ℝ) : EReal)
  h3 : ∀ j, A3 m c (ix1 j) = ((bn j : ℝ) : EReal)
  h4 : ∀ q p r, A4 m c (ix3 q p r) = ((w q p r : ℝ) : EReal)
  h5 : ∀ q p, A5 m c (ix2 q p) = ((s q p : ℝ) : EReal)
  h6 : ∀ R j, A6 m c (ix2 R j) = ((D R j : ℝ) : EReal)
  hs : ∀ q p, 8 ≤ q → s q p = 0

/-- The rows of chunk `t`. -/
def ch (Z : ℕ → ℕ → ℝ) (t : ℕ) : ℕ → ℕ → ℝ := fun r => Z (128 * t + r)

variable {m c} {Z D : ℕ → ℕ → ℝ} {b g bn : ℕ → ℝ} {w : ℕ → ℕ → ℕ → ℝ} {s : ℕ → ℕ → ℝ} (H : Lifted m c Z D b g bn w s)

theorem lastN : (⟨63, by have := N64; omega⟩ : Fin cfg0.N).val + 1 = cfg0.N := N64.symm
/-- The last point. -/
abbrev last : Fin cfg0.N := ⟨63, by have := N64; omega⟩

include H

theorem is0 (t : Fin cfg0.N) : IsR (B0 m c t) (ch Z t) := fun r j => (blk0 m c t r j).trans (H.h0 _ _)
theorem is1 (t : Fin cfg0.N) : IsR (B1 m c t) fun _ => b := fun r j => (blk1 m c t r j).trans (H.h1 _)
theorem is2 (t : Fin cfg0.N) : IsR (B2 m c t) fun _ => g := fun r j => (blk2 m c t r j).trans (H.h2 _)
theorem is3 (t : Fin cfg0.N) : IsR (B3 m c t) fun _ => bn := fun r j => (blk3 m c t r j).trans (H.h3 _)
theorem is4 (t : Fin cfg0.N) (q : Fin 8) (p r : Fin 128) : B4 m c t (ix3 q p r) = ((w q p r : ℝ) : EReal) :=
  (blk4 m c t q p r).trans (H.h4 _ _ _)
theorem is5 (t : Fin cfg0.N) : IsR (B5 m c t) fun p q => s q p := fun p q => by
  rw [blk5]
  split
  · exact H.h5 _ _
  · show (0 : EReal) = ((s q p : ℝ) : EReal)
    rw [H.hs q p (by omega)]; rfl
theorem is6 (t : Fin cfg0.N) : IsR (B6 m c t) (ch D t) := fun r j => (blk6 m c t r j).trans (H.h6 _ _)

/-! ## The results' blocks after a point -/

theorem at7 (t : Fin cfg0.N) : IsR (outsAt0 m c t.val t.isLt).1 fun r => dz b g bn w s (ch Z t) (ch D t) r := fun r j => by
  by_cases h : t.val % 64 = 0
  · rw [outA_7 m c t h]; exact din_val (is0 H t) (is1 H t) (is2 H t) (is3 H t) (is4 H t) (is5 H t) (is6 H t) r j
  · rw [outB_7 m c t h]; exact din_val (is0 H t) (is1 H t) (is2 H t) (is3 H t) (is4 H t) (is5 H t) (is6 H t) r j

theorem at8 (j : S1x4096.Idx) : (outsAt0 m c last.val last.isLt).2.1 j
    = ((∑ p : Fin cfg0.N, dbinC b g bn w s (ch Z p) (ch D p) (j 1).val : ℝ) : EReal) := by
  idx_vars j
  rw [Pipeline.eq_sum_fin_of_reset_step_apply_last (fun n h => (outsAt0 m c n h).2.1) 64 (fun _ => 0)
    (fun t j => ((dbinC b g bn w s (ch Z t) (ch D t) (j 1).val : ℝ) : EReal))
    (fun t h j => by
      idx_vars j
      show (outsAt0 m c t.val t.isLt).2.1 _ = _
      rw [outA_8 m c t h, dbin_val (is0 H t) (is1 H t) (is2 H t) (is3 H t) (is4 H t) (is5 H t) (is6 H t)]
      congr 1
      pointwise [k0_pay4])
    (fun t h j => by
      idx_vars j
      show (outsAt0 m c t.val t.isLt).2.1 _ = _
      rw [outB_8 m c t h, dbin_val (is0 H t) (is1 H t) (is2 H t) (is3 H t) (is4 H t) (is5 H t) (is6 H t)])
    (le_of_eq N64) last lastN]
  rw [zero_add, ← coe_sum]
  rfl

/-- Result 1: the sum over the chunks. -/
theorem res8 (j : S1x4096.Idx) : ((dats m 0 c).arrAt 8 cfg0.N : S1x4096.Idx → EReal) j
    = ((∑ p : Fin cfg0.N, dbinC b g bn w s (ch Z p) (ch D p) (j 1).val : ℝ) : EReal) := by
  refine ((dats m 0 c).arrAt_emb_eq_after_last 8 last (by decide +kernel) j).trans ?_
  blk_simp
  rw [after0_8]
  exact at8 H j

theorem at9 (j : S1x2048.Idx) : (outsAt0 m c last.val last.isLt).2.2.1 j
    = ((∑ p : Fin cfg0.N, dgainC b w (ch Z p) (ch D p) (j 1).val : ℝ) : EReal) := by
  idx_vars j
  rw [Pipeline.eq_sum_fin_of_reset_step_apply_last (fun n h => (outsAt0 m c n h).2.2.1) 64 (fun _ => 0)
    (fun t j => ((dgainC b w (ch Z t) (ch D t) (j 1).val : ℝ) : EReal))
    (fun t h j => by
      idx_vars j
      show (outsAt0 m c t.val t.isLt).2.2.1 _ = _
      rw [outA_9 m c t h, dgain_val (is0 H t) (is1 H t) (is2 H t) (is3 H t) (is4 H t) (is5 H t) (is6 H t)]
      congr 1
      pointwise [k0_pay5])
    (fun t h j => by
      idx_vars j
      show (outsAt0 m c t.val t.isLt).2.2.1 _ = _
      rw [outB_9 m c t h, dgain_val (is0 H t) (is1 H t) (is2 H t) (is3 H t) (is4 H t) (is5 H t) (is6 H t)])
    (le_of_eq N64) last lastN]
  rw [zero_add, ← coe_sum]
  rfl

/-- Result 2: the sum over the chunks. -/
theorem res9 (j : S1x2048.Idx) : ((dats m 0 c).arrAt 9 cfg0.N : S1x2048.Idx → EReal) j
    = ((∑ p : Fin cfg0.N, dgainC b w (ch Z p) (ch D p) (j 1).val : ℝ) : EReal) := by
  refine ((dats m 0 c).arrAt_emb_eq_after_last 9 last (by decide +kernel) j).trans ?_
  blk_simp
  rw [after0_9]
  exact at9 H j

theorem at10 (j : S1x2048.Idx) : (outsAt0 m c last.val last.isLt).2.2.2.1 j
    = ((∑ p : Fin cfg0.N, dbiasC b w (ch Z p) (ch D p) (j 1).val : ℝ) : EReal) := by
  idx_vars j
  rw [Pipeline.eq_sum_fin_of_reset_step_apply_last (fun n h => (outsAt0 m c n h).2.2.2.1) 64 (fun _ => 0)
    (fun t j => ((dbiasC b w (ch Z t) (ch D t) (j 1).val : ℝ) : EReal))
    (fun t h j => by
      idx_vars j
      show (outsAt0 m c t.val t.isLt).2.2.2.1 _ = _
      rw [outA_10 m c t h, dbias_val (is0 H t) (is1 H t) (is2 H t) (is3 H t) (is4 H t) (is5 H t) (is6 H t)]
      congr 1
      pointwise [k0_pay6])
    (fun t h j => by
      idx_vars j
      show (outsAt0 m c t.val t.isLt).2.2.2.1 _ = _
      rw [outB_10 m c t h, dbias_val (is0 H t) (is1 H t) (is2 H t) (is3 H t) (is4 H t) (is5 H t) (is6 H t)])
    (le_of_eq N64) last lastN]
  rw [zero_add, ← coe_sum]
  rfl

/-- Result 3: the sum over the chunks. -/
theorem res10 (j : S1x2048.Idx) : ((dats m 0 c).arrAt 10 cfg0.N : S1x2048.Idx → EReal) j
    = ((∑ p : Fin cfg0.N, dbiasC b w (ch Z p) (ch D p) (j 1).val : ℝ) : EReal) := by
  refine ((dats m 0 c).arrAt_emb_eq_after_last 10 last (by decide +kernel) j).trans ?_
  blk_simp
  rw [after0_10]
  exact at10 H j

theorem at11 (j : S8x128x128.Idx) : (outsAt0 m c last.val last.isLt).2.2.2.2.1 j
    = ((∑ p : Fin cfg0.N, dwC b g bn (ch Z p) (ch D p) (j 0).val (j 1).val (j 2).val : ℝ) : EReal) := by
  idx_vars j
  rw [Pipeline.eq_sum_fin_of_reset_step_apply_last (fun n h => (outsAt0 m c n h).2.2.2.2.1) 64 (fun _ => 0)
    (fun t j => ((dwC b g bn (ch Z t) (ch D t) (j 0).val (j 1).val (j 2).val : ℝ) : EReal))
    (fun t h j => by
      idx_vars j
      show (outsAt0 m c t.val t.isLt).2.2.2.2.1 _ = _
      rw [outA_11 m c t h (nrm_val (is0 H t) (is1 H t) (is2 H t) (is3 H t)) (gate_val (is0 H t) (is1 H t)) (is6 H t)]
      congr 1
      pointwise [k0_pay7])
    (fun t h j => by
      idx_vars j
      show (outsAt0 m c t.val t.isLt).2.2.2.2.1 _ = _
      rw [outB_11 m c t h (nrm_val (is0 H t) (is1 H t) (is2 H t) (is3 H t)) (gate_val (is0 H t) (is1 H t)) (is6 H t)])
    (le_of_eq N64) last lastN]
  rw [zero_add, ← coe_sum]
  rfl

/-- Result 4: the sum over the chunks. -/
theorem res11 (j : S8x128x128.Idx) : ((dats m 0 c).arrAt 11 cfg0.N : S8x128x128.Idx → EReal) j
    = ((∑ p : Fin cfg0.N, dwC b g bn (ch Z p) (ch D p) (j 0).val (j 1).val (j 2).val : ℝ) : EReal) := by
  refine ((dats m 0 c).arrAt_emb_eq_after_last 11 last (by decide +kernel) j).trans ?_
  blk_simp
  rw [after0_11]
  exact at11 H j

theorem at12 (j : S128x128.Idx) : (outsAt0 m c last.val last.isLt).2.2.2.2.2 j
    = ((∑ p : Fin cfg0.N, dsC b (ch Z p) (ch D p) (j 0).val (j 1).val : ℝ) : EReal) := by
  idx_vars j
  rw [Pipeline.eq_sum_fin_of_reset_step_apply_last (fun n h => (outsAt0 m c n h).2.2.2.2.2) 64 (fun _ => 0)
    (fun t j => ((dsC b (ch Z t) (ch D t) (j 0).val (j 1).val : ℝ) : EReal))
    (fun t h j => by
      idx_vars j
      show (outsAt0 m c t.val t.isLt).2.2.2.2.2 _ = _
      rw [outA_12 m c t h, ds_val (is0 H t) (is1 H t) (is2 H t) (is3 H t) (is4 H t) (is5 H t) (is6 H t)]
      congr 1
      pointwise [k0_pay8])
    (fun t h j => by
      idx_vars j
      show (outsAt0 m c t.val t.isLt).2.2.2.2.2 _ = _
      rw [outB_12 m c t h, ds_val (is0 H t) (is1 H t) (is2 H t) (is3 H t) (is4 H t) (is5 H t) (is6 H t)])
    (le_of_eq N64) last lastN]
  rw [zero_add, ← coe_sum]
  rfl

/-- Result 5: the sum over the chunks. -/
theorem res12 (j : S128x128.Idx) : ((dats m 0 c).arrAt 12 cfg0.N : S128x128.Idx → EReal) j
    = ((∑ p : Fin cfg0.N, dsC b (ch Z p) (ch D p) (j 0).val (j 1).val : ℝ) : EReal) := by
  refine ((dats m 0 c).arrAt_emb_eq_after_last 12 last (by decide +kernel) j).trans ?_
  blk_simp
  rw [after0_12]
  exact at12 H j

/-- Result 0: row `R` is row `R % 128` of chunk `R / 128`. -/
theorem res7 (i : S8192x4096.Idx) : ((dats m 0 c).arrAt 7 cfg0.N : S8192x4096.Idx → EReal) i
    = ((dz b g bn w s (ch Z ((i 0).val / 128)) (ch D ((i 0).val / 128)) ((i 0).val % 128) (i 1).val : ℝ) : EReal) := by
  have := (dats m 0 c).arrAt_eq_of_covers 7
    (fun i : S8192x4096.Idx => ((dz b g bn w s (ch Z ((i 0).val / 128)) (ch D ((i 0).val / 128)) ((i 0).val % 128) (i 1).val : ℝ) : EReal))
    (by decide +kernel) fun t hf y => by
      blk_simp
      rw [after0_7]
      change S128x4096.Idx at y
      idx_vars y
      refine (at7 H t y0 y1).trans ?_
      have e0 : win0_7.index t 0 = t.val := (idx7 t).1
      have e1 : win0_7.index t 1 = 0 := (idx7 t).2
      show _ = ((dz b g bn w s (ch Z ((win0_7.index t 0 * 128 + y0.val) / 128)) (ch D ((win0_7.index t 0 * 128 + y0.val) / 128))
        ((win0_7.index t 0 * 128 + y0.val) % 128) (win0_7.index t 1 * 4096 + y1.val) : ℝ) : EReal)
      have h0 := y0.isLt
      rw [e0, e1, show (t.val * 128 + y0.val) / 128 = t.val by omega, show (t.val * 128 + y0.val) % 128 = y0.val by omega,
        show 0 * 4096 + y1.val = y1.val by omega]
  exact congrFun this i

end Cert.Sg
end
-- ==== Proof.Sg.RefRow.lean ====
/-
  The reference's rows: each value it computes from one row alone, at an index, as the real number the specification
  names.
-/
module

public import proofs.«01_k».proof.Proof.Sg.Total
public import proofs.«01_k».proof.Proof.Gen.ReferenceIdeal.Read

@[expose] public section

set_option maxRecDepth 16384

noncomputable section

namespace Cert.Sg

open Cert.ReferenceIdeal Cert.ReferenceIdeal.Gen Cert.ReferenceIdeal.Read Idealize.ShloMosaic Idealize.ShloMosaic.TcCoe

variable {b g bn : ℕ → ℝ} {Z : ℕ → ℕ → ℝ}
  {x0 : S8192x4096.Idx → EReal} {x1 : S4096.Idx → EReal} {x2 x3 : S2048.Idx → EReal}
  (h0 : IsR x0 Z) (h1 : ∀ j, x1 (ix1 j) = ((b j : ℝ) : EReal)) (h2 : ∀ j, x2 (ix1 j) = ((g j : ℝ) : EReal))
  (h3 : ∀ j, x3 (ix1 j) = ((bn j : ℝ) : EReal))

/-- √2 and 2/√π as the reference computes them. -/
theorem r_sqrt2 (i : S_.Idx) : val_main_v8 (F := Ideal) i = ((Real.sqrt 2 : ℝ) : EReal) := by
  show Ideal.sqrt (Ideal.ofBits .f32 0x40000000#32) = _
  rw [ofBits_two, sqrt_real (by norm_num)]

theorem r_dens (i : S_.Idx) : val_main_v14 (F := Ideal) i = ((2 / Real.sqrt Real.pi : ℝ) : EReal) := by
  show Ideal.div (Ideal.ofBits .f32 0x40000000#32) (Ideal.sqrt (Ideal.atan2 (Ideal.ofBits .f32 0x00000000#32) (Ideal.ofBits .f32 0xBF800000#32))) = _
  rw [ofBits_two, ofBits_neg_one, Ideal.ofBits_zero_f32, show (0 : EReal) = ((0 : ℝ) : EReal) from rfl, atan2_pi, sqrt_real Real.pi_pos.le,
    div_real (Real.sqrt_ne_zero'.mpr Real.pi_pos)]

theorem sqrt2_ne : Real.sqrt 2 ≠ 0 := Real.sqrt_ne_zero'.mpr (by norm_num)

include h0 h1

theorem r_zin : IsR (val_main_v5 (F := Ideal) x0 x1) fun R => zin b (Z R) := fun R j => by
  pointwise [val_main_v5, val_main_v4, val_main_v3]
  rw [h0, h1, ← EReal.coe_add]; rfl

theorem r_half : IsR (val_main_v7 (F := Ideal) x0 x1) fun R j => 1 / 2 * zin b (Z R) j := fun R j => by
  have hz := r_zin h0 h1 R j
  pointwise [val_main_v7, val_main_v6, val_main_cst_0]
  rw [hz, ofBits_half, ← EReal.coe_mul]

theorem r_arg : IsR (val_main_v10 (F := Ideal) x0 x1) fun R j => zin b (Z R) j / Real.sqrt 2 := fun R j => by
  have hz := r_zin h0 h1 R j
  pointwise [val_main_v10, val_main_v9]
  rw [hz, r_sqrt2, div_real sqrt2_ne]

theorem r_erf : IsR (val_main_v21 (F := Ideal) x0 x1) fun R j => 1 + erfR (zin b (Z R) j / Real.sqrt 2) := fun R j => by
  have hz := r_arg h0 h1 R j
  pointwise [val_main_v21, val_main_v20, val_main_v12, val_main_cst_5]
  show (1 : EReal) + Ideal.erf _ = _
  rw [hz, erf_real, ← EReal.coe_one, ← EReal.coe_add]

theorem r_act : IsR (val_main_v22 (F := Ideal) x0 x1) fun R => act b (Z R) := fun R j => by
  have hz := r_half h0 h1 R j
  have hc := r_erf h0 h1 R j
  pointwise [val_main_v22]
  rw [hz, hc, ← EReal.coe_mul]
  congr 1
  simp only [act, cdf, div_eq_mul_inv]; ring

theorem r_exp : IsR (val_main_v19 (F := Ideal) x0 x1) fun R j =>
    2 / Real.sqrt Real.pi * Real.exp (-(zin b (Z R) j / Real.sqrt 2 * (zin b (Z R) j / Real.sqrt 2))) := fun R j => by
  have hz := r_arg h0 h1 R j
  pointwise [val_main_v19, val_main_v18, val_main_v17, val_main_v16, val_main_v15]
  rw [hz, r_dens, ← EReal.coe_mul, ← EReal.coe_neg]
  show _ * Ideal.exp _ = _
  rw [Ideal.exp_coe, ← EReal.coe_mul]

theorem r_gate : IsR (val_main_v23 (F := Ideal) x0 x1) fun R => act b (Z R) := fun R j => by
  pointwise [val_main_v23]
  exact (r_act h0 h1 _ _).trans (by simp)

theorem r_val : IsR (val_main_v24 (F := Ideal) x0 x1) fun R j => act b (Z R) (2048 + j) := fun R j => by
  pointwise [val_main_v24]
  exact (r_act h0 h1 _ _).trans (by simp)

theorem r_mean : IsR (val_main_v28 (F := Ideal) x0 x1) fun R _ => mean b (Z R) := fun R j => by
  have ha := r_val h0 h1
  pointwise [val_main_v28, val_main_v27, val_main_v26, val_main_v25, val_main_cst_6, val_main_cst_7]
  simp only [ha _ _]
  rw [← coe_sum, ofBits_2048, div_real (by norm_num)]; rfl

theorem r_cen : IsR (val_main_v30 (F := Ideal) x0 x1) fun R => cen b (Z R) := fun R j => by
  have ha := r_val h0 h1 R j
  have hm := r_mean h0 h1
  pointwise [val_main_v30, val_main_v29]
  rw [ha, hm, ← EReal.coe_sub]; rfl

theorem r_var : IsR (val_main_v37 (F := Ideal) x0 x1) fun R _ => var b (Z R) + eps := fun R j => by
  have hc := r_cen h0 h1
  pointwise [val_main_v37, val_main_v36, val_main_v35, val_main_v34, val_main_v33, val_main_v32, val_main_v31, val_main_cst_8, val_main_cst_9, val_main_cst_10]
  simp only [hc _ _, ← EReal.coe_mul]
  rw [← coe_sum, ofBits_2048, div_real (by norm_num), ofBits_eps, ← EReal.coe_add]; rfl

theorem r_rstd : IsR (val_main_v38 (F := Ideal) x0 x1) fun R _ => rstd b (Z R) := fun R j => by
  have hv := r_var h0 h1 R j
  pointwise [val_main_v38]
  rw [hv, rsqrt_real (var_eps_pos b (Z R))]; rfl

theorem r_coef : IsR (val_main_v41 (F := Ideal) x0 x1) fun R _ => -(1 / 2) * (rstd b (Z R) / (var b (Z R) + eps)) := fun R j => by
  have hv := r_var h0 h1 R j
  have hs := r_rstd h0 h1 R j
  pointwise [val_main_v41, val_main_v40, val_main_v39, val_main_cst_11]
  rw [hv, hs, div_real (var_eps_pos b (Z R)).ne', ofBits_neg_half, ← EReal.coe_mul]

theorem r_xhat : IsR (val_main_v43 (F := Ideal) x0 x1) fun R => xhat b (Z R) := fun R j => by
  have hc := r_cen h0 h1 R j
  have hs := r_rstd h0 h1
  pointwise [val_main_v43, val_main_v42]
  rw [hc, hs, ← EReal.coe_mul]; rfl

include h2 h3

theorem r_nrm : IsR (val_main_v49 (F := Ideal) x0 x1 x2 x3) fun R => nrm b g bn (Z R) := fun R j => by
  have hx := r_xhat h0 h1 R j
  pointwise [val_main_v49, val_main_v48, val_main_v47, val_main_v46, val_main_v45, val_main_v44]
  rw [hx, h2, h3, ← EReal.coe_mul, ← EReal.coe_add]; rfl

end Cert.Sg

end
-- ==== Proof.Sg.RefMix.lean ====
module

public import proofs.«01_k».proof.Proof.Sg.RefRow

@[expose] public section

set_option maxRecDepth 16384

noncomputable section

namespace Cert.Sg

open Cert.ReferenceIdeal Cert.ReferenceIdeal.Gen Cert.ReferenceIdeal.Read Idealize.ShloMosaic Idealize.ShloMosaic.TcCoe

variable {b g bn : ℕ → ℝ} {Z D : ℕ → ℕ → ℝ} {w : ℕ → ℕ → ℕ → ℝ} {s : ℕ → ℕ → ℝ}
  {x0 : S8192x4096.Idx → EReal} {x1 : S4096.Idx → EReal} {x2 x3 : S2048.Idx → EReal}
  {x4 : S8x128x128.Idx → EReal} {x5 : S8x128.Idx → EReal} {x6 : S8192x2048.Idx → EReal}
  (h0 : IsR x0 Z) (h1 : ∀ j, x1 (ix1 j) = ((b j : ℝ) : EReal)) (h2 : ∀ j, x2 (ix1 j) = ((g j : ℝ) : EReal))
  (h3 : ∀ j, x3 (ix1 j) = ((bn j : ℝ) : EReal)) (h4 : ∀ q p r, x4 (ix3 q p r) = ((w q p r : ℝ) : EReal))
  (h5 : ∀ q p, x5 (ix2 q p) = ((s q p : ℝ) : EReal)) (h6 : IsR x6 D)

/-! ## Small tools -/

theorem reduce03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (t : Fin n1) (q : Fin n2) :
    Ideal.hostReduceAdd h v init (ix2 t q) = init + ∑ a : Fin n0, ∑ d : Fin n3, v (ix4 a t q d) := by
  have hd : ∀ i, h.drop i = ix2 (i 1) (i 2) := fun i => funext fun b => Fin.ext (by
    match b with
    | ⟨0, _⟩ => rfl
    | ⟨1, _⟩ => rfl)
  unfold Ideal.hostReduceAdd
  congr 1
  rw [← Fintype.sum_prod_type']
  refine Finset.sum_nbij' (fun i => (i 0, i 3)) (fun p => ix4 p.1 t q p.2) ?_ ?_ ?_ ?_ ?_
  · simp
  · intro p _
    simp only [Finset.mem_filter, Finset.mem_univ, true_and, hd]
    rfl
  · intro i hi
    simp only [Finset.mem_filter, Finset.mem_univ, true_and, hd] at hi
    have e1 : i 1 = t := congrFun hi 0
    have e2 : i 2 = q := congrFun hi 1
    funext a
    match a with
    | ⟨0, _⟩ => rfl
    | ⟨1, _⟩ => exact e1.symm
    | ⟨2, _⟩ => exact e2.symm
    | ⟨3, _⟩ => rfl
  · intro p _; rfl
  · intro i hi
    simp only [Finset.mem_filter, Finset.mem_univ, true_and, hd] at hi
    have e1 : i 1 = t := congrFun hi 0
    have e2 : i 2 = q := congrFun hi 1
    congr 1
    funext a
    match a with
    | ⟨0, _⟩ => rfl
    | ⟨1, _⟩ => exact e1
    | ⟨2, _⟩ => exact e2
    | ⟨3, _⟩ => rfl

theorem ch_row (Z : ℕ → ℕ → ℝ) (R : ℕ) : ch Z (R / 128) (R % 128) = Z R := by
  unfold ch; congr 1; omega

/-- A sum over all the rows, chunk by chunk. -/
theorem sum_rows (f : ℕ → ℝ) : ∑ R : Fin 8192, f R = ∑ n : Fin 64, ∑ t : Fin 128, f (128 * n + t) := by
  rw [← Fintype.sum_prod_type', ← Equiv.sum_comp (finProdFinEquiv (m := 64) (n := 128))]
  refine Finset.sum_congr rfl fun p _ => ?_
  congr 1
  show (p.2 : ℕ) + 128 * p.1 = _
  omega

/-! ## The mix and its gradient -/

include h4 in
theorem r_wm (q : Fin 8) (t r : Fin 128) : (val_main_v2 (F := Ideal) x4) (ix3 q t r) = ((wm w q t r : ℝ) : EReal) := by
  pointwise [val_main_v2, val_main_call1_v1, val_main_v1, val_main_call0_v4, val_main_call0_v2, val_main_call0_v0, val_main_call0_v1, val_main_call0_c, val_main_call0_v3, val_main_v0, val_main_c, val_main_call0_v5, val_main_call0_c_0, val_main_call1_v2, val_main_call1_v0, val_main_cst]
  rw [show IntOp.addi (BitVec.ofNat 32 (t : ℕ)) 0#32 = BitVec.ofNat 32 (t : ℕ) from by show _ + _ = _; simp,
    WordCmp.cmpi_sge_ofNat (by omega) (by omega)]
  by_cases hr : (r : ℕ) ≤ t
  · simp only [wm, hr, if_true, ← h4 q t r]
    simp [Scalar.select, hr]
  · simp [Scalar.select, wm, hr]
    exact Ideal.ofBits_zero_f32

include h0 h1

theorem r_dmix (h6 : IsR x6 D) (n : Fin 64) (t : Fin 128) (q : Fin 8) (k : Fin 256) :
    (val_main_v61 (F := Ideal) x0 x1 x6) (ix4 n t q k) = ((dmix b (ch Z n) (ch D n) t (256 * q + k) : ℝ) : EReal) := by
  have hu := r_gate h0 h1
  pointwise [val_main_v61, val_main_v59]
  rw [hu, h6, ← EReal.coe_mul]
  have e1 : (n : ℕ) * 128 + t = 128 * n + t := by omega
  have e2 : (q : ℕ) * 256 + k = 256 * q + k := by omega
  simp only [dmix, ch, e1, e2]
  rw [mul_comm]

theorem r_ds (h6 : IsR x6 D) (t p : Fin 128) :
    (val_main_v121 (F := Ideal) x0 x1 x6) (ix2 t p) = ((∑ n : Fin 64, dsC b (ch Z n) (ch D n) t p : ℝ) : EReal) := by
  have hd := r_dmix h0 h1 h6
  pointwise [val_main_v121, val_main_v120, val_main_v65, val_main_v64]
  split_ifs with hp
  · rw [reduce03]
    pointwise [val_main_v63, val_main_v62]
    simp only [dsC, hp, if_true]
    simp only [reduce03, hd _ _ _ _, ← coe_sum, Finset.univ_unique, Finset.sum_singleton]
    rw [show val_main_cst_13 (F := Ideal) (Shape.Idx.first h_S_) = 0 from Ideal.ofBits_zero_f32,
      show val_main_cst_12 (F := Ideal) (Shape.Idx.first h_S_) = 0 from Ideal.ofBits_zero_f32, zero_add, zero_add]
  · simp only [dsC, hp, if_false, Finset.sum_const_zero]
    show ((((0#32 : BitVec 32).toInt : ℤ) : ℝ) : EReal) = _
    simp

theorem r_dnrm (h4 : ∀ q p r, x4 (ix3 q p r) = ((w q p r : ℝ) : EReal)) (h6 : IsR x6 D) :
    IsR (val_main_v70 (F := Ideal) x0 x1 x4 x6) fun R => dnrm b w (ch Z (R / 128)) (ch D (R / 128)) (R % 128) := fun R j => by
  have hd := r_dmix h0 h1 h6
  have hw := r_wm h4
  pointwise [val_main_v70, val_main_v69, val_main_v68, val_main_v66]
  simp only [hd _ _ _ _, hw _ _ _, ← EReal.coe_mul]
  rw [← coe_sum]
  congr 1
  unfold dnrm
  refine Finset.sum_congr rfl fun r _ => ?_
  rw [mul_comm]
  congr 2
  omega

include h2 h3

theorem r_nrm4 (n : Fin 64) (t : Fin 128) (q : Fin 8) (k : Fin 256) :
    (val_main_v50 (F := Ideal) x0 x1 x2 x3) (ix4 n t q k) = ((nrm b g bn (ch Z n t) (256 * q + k) : ℝ) : EReal) := by
  pointwise [val_main_v50]
  refine (r_nrm h0 h1 h2 h3 _ _).trans ?_
  simp only [ch]
  congr 3 <;> omega

theorem r_mixed (h4 : ∀ q p r, x4 (ix3 q p r) = ((w q p r : ℝ) : EReal)) (h5 : ∀ q p, x5 (ix2 q p) = ((s q p : ℝ) : EReal)) :
    IsR (val_main_v57 (F := Ideal) x0 x1 x2 x3 x4 x5) fun R => mixed b g bn w s (ch Z (R / 128)) (R % 128) := fun R j => by
  have hn := r_nrm4 h0 h1 h2 h3
  have hw := r_wm h4
  pointwise [val_main_v57, val_main_v56, val_main_v52, val_main_v51, val_main_v55, val_main_v54, val_main_v53]
  simp only [hn _ _ _ _, hw _ _ _, h5 _ _, ← EReal.coe_mul]
  rw [← coe_sum, ← EReal.coe_add]
  congr 1
  unfold mixed
  congr 1
  refine Finset.sum_congr rfl fun r _ => ?_
  rw [mul_comm]
  congr 2
  omega

theorem r_dgate (h4 : ∀ q p r, x4 (ix3 q p r) = ((w q p r : ℝ) : EReal)) (h5 : ∀ q p, x5 (ix2 q p) = ((s q p : ℝ) : EReal)) (h6 : IsR x6 D) :
    IsR (val_main_v60 (F := Ideal) x0 x1 x2 x3 x4 x5 x6) fun R => dgate b g bn w s (ch Z (R / 128)) (ch D (R / 128)) (R % 128) := fun R j => by
  have hm := r_mixed h0 h1 h2 h3 h4 h5 R j
  pointwise [val_main_v60]
  rw [hm, h6, ← EReal.coe_mul]
  simp only [dgate, ch_row]

theorem r_dw (h6 : IsR x6 D) (q : Fin 8) (t r : Fin 128) :
    (val_main_v67 (F := Ideal) x0 x1 x2 x3 x6) (ix3 q t r) = ((∑ n : Fin 64, dwC b g bn (ch Z n) (ch D n) q t r : ℝ) : EReal) := by
  have hn := r_nrm4 h0 h1 h2 h3
  have hd := r_dmix h0 h1 h6
  pointwise [val_main_v67, val_main_v66]
  simp only [hd _ _ _ _, hn _ _ _ _, ← EReal.coe_mul, ← coe_sum]
  rfl

end Cert.Sg
end
-- ==== Proof.Sg.RefGrad.lean ====
module

public import proofs.«01_k».proof.Proof.Sg.RefMix

@[expose] public section

set_option maxRecDepth 16384

noncomputable section

namespace Cert.Sg

open Cert.ReferenceIdeal Cert.ReferenceIdeal.Gen Cert.ReferenceIdeal.Read Idealize.ShloMosaic Idealize.ShloMosaic.TcCoe

variable {b g bn : ℕ → ℝ} {Z D : ℕ → ℕ → ℝ} {w : ℕ → ℕ → ℕ → ℝ} {s : ℕ → ℕ → ℝ}
  {x0 : S8192x4096.Idx → EReal} {x1 : S4096.Idx → EReal} {x2 x3 : S2048.Idx → EReal}
  {x4 : S8x128x128.Idx → EReal} {x5 : S8x128.Idx → EReal} {x6 : S8192x2048.Idx → EReal}
  (h0 : IsR x0 Z) (h1 : ∀ j, x1 (ix1 j) = ((b j : ℝ) : EReal)) (h2 : ∀ j, x2 (ix1 j) = ((g j : ℝ) : EReal))
  (h3 : ∀ j, x3 (ix1 j) = ((bn j : ℝ) : EReal)) (h4 : ∀ q p r, x4 (ix3 q p r) = ((w q p r : ℝ) : EReal))
  (h5 : ∀ q p, x5 (ix2 q p) = ((s q p : ℝ) : EReal)) (h6 : IsR x6 D)

/-! ## The layer norm's gradient, in the two forms -/

section real
variable (R : ℕ) (zs ds : ℕ → ℕ → ℝ) (z : ℕ → ℝ) (t : ℕ)

theorem sum_cen : ∑ k : Fin 2048, cen b z k = 0 := by
  simp only [cen, Finset.sum_sub_distrib, Finset.sum_const, Finset.card_univ, Fintype.card_fin, nsmul_eq_mul]
  unfold mean
  push_cast
  ring

theorem rstd_sq : rstd b z * rstd b z * (var b z + eps) = 1 := by
  have h := var_eps_pos b z
  have hs : Real.sqrt (var b z + eps) * Real.sqrt (var b z + eps) = var b z + eps := Real.mul_self_sqrt h.le
  have hn : Real.sqrt (var b z + eps) ≠ 0 := Real.sqrt_ne_zero'.mpr h
  unfold rstd
  nth_rewrite 3 [← hs]
  field_simp

/-- The part of the gradient that goes through the centred row, variance included. -/
def viaCen (u : ℕ → ℝ) (j : ℕ) : ℝ :=
  u j * rstd b z + cen b z j * ((∑ k : Fin 2048, cen b z k * u k) * (-(1 / 2) * (rstd b z / (var b z + eps))) / 2048)
    + ((∑ k : Fin 2048, cen b z k * u k) * (-(1 / 2) * (rstd b z / (var b z + eps))) / 2048) * cen b z j

theorem viaCen_eq (u : ℕ → ℝ) (j : ℕ) : viaCen (b := b) z u j =
    rstd b z * (u j - xhat b z j * ((∑ k : Fin 2048, u k * xhat b z k) / 2048)) := by
  have h : rstd b z / (var b z + eps) = rstd b z * (rstd b z * rstd b z) := by
    rw [div_eq_iff (var_eps_pos b z).ne', mul_assoc, rstd_sq, mul_one]
  have hS : ∑ k : Fin 2048, u k * xhat b z k = (∑ k : Fin 2048, cen b z k * u k) * rstd b z := by
    rw [Finset.sum_mul]
    exact Finset.sum_congr rfl fun k _ => by unfold xhat; ring
  unfold viaCen
  rw [h, hS]
  unfold xhat
  ring

theorem viaCen_sub_mean (u : ℕ → ℝ) (j : ℕ) :
    viaCen (b := b) z u j + (∑ k : Fin 2048, -viaCen (b := b) z u k) / 2048 =
      rstd b z * (u j - (∑ k : Fin 2048, u k) / 2048 - xhat b z j * ((∑ k : Fin 2048, u k * xhat b z k) / 2048)) := by
  have hx : ∑ k : Fin 2048, xhat b z k = 0 := by
    unfold xhat; rw [← Finset.sum_mul, sum_cen, zero_mul]
  simp only [viaCen_eq, Finset.sum_neg_distrib, ← Finset.mul_sum, Finset.sum_sub_distrib, ← Finset.sum_mul, hx]
  ring

/-- gelu's derivative as the reference composes it. -/
theorem slope_eq (j : ℕ) (d : ℝ) :
    2 / Real.sqrt Real.pi * Real.exp (-(zin b z j / Real.sqrt 2 * (zin b z j / Real.sqrt 2))) * (1 / 2 * zin b z j * d) / Real.sqrt 2
      + 1 / 2 * (d * (1 + erfR (zin b z j / Real.sqrt 2))) = d * slope b z j := by
  have h2 : Real.sqrt 2 * Real.sqrt 2 = 2 := Real.mul_self_sqrt (by norm_num)
  have hp : Real.sqrt (2 * Real.pi) = Real.sqrt 2 * Real.sqrt Real.pi := Real.sqrt_mul (by norm_num) _
  have n2 := sqrt2_ne
  have np : Real.sqrt Real.pi ≠ 0 := Real.sqrt_ne_zero'.mpr Real.pi_pos
  have he : -(zin b z j / Real.sqrt 2 * (zin b z j / Real.sqrt 2)) = -(1 / 2) * zin b z j * zin b z j := by
    rw [div_mul_div_comm, h2]; ring
  unfold slope cdf
  rw [he, hp, div_eq_mul_inv (zin b z j) (Real.sqrt 2)]
  field_simp
  ring

/-- Row `t` of chunk `n` is in chunk `n` at place `t`. -/
theorem sum_chunks (f : ℕ → ℕ → ℝ) :
    ∑ n : Fin 64, ∑ t : Fin 128, f ((128 * n + t) / 128) ((128 * n + t) % 128) = ∑ n : Fin 64, ∑ t : Fin 128, f n t :=
  Finset.sum_congr rfl fun n _ => Finset.sum_congr rfl fun t _ => by congr 1 <;> omega

end real

include h0 h1

theorem r_dxh (h2 : ∀ j, x2 (ix1 j) = ((g j : ℝ) : EReal)) (h4 : ∀ q p r, x4 (ix3 q p r) = ((w q p r : ℝ) : EReal)) (h6 : IsR x6 D) :
    IsR (val_main_v78 (F := Ideal) x0 x1 x2 x4 x6) fun R => dxh b g w (ch Z (R / 128)) (ch D (R / 128)) (R % 128) := fun R j => by
  have hd := r_dnrm h0 h1 h4 h6 R j
  pointwise [val_main_v78, val_main_v77, val_main_v44]
  rw [hd, h2, ← EReal.coe_mul]; rfl

theorem r_cov (h2 : ∀ j, x2 (ix1 j) = ((g j : ℝ) : EReal)) (h4 : ∀ q p r, x4 (ix3 q p r) = ((w q p r : ℝ) : EReal)) (h6 : IsR x6 D) (R : Fin 8192) :
    (val_main_v88 (F := Ideal) x0 x1 x2 x4 x6) (ix1 R) = (((∑ k : Fin 2048, cen b (Z R) k * dxh b g w (ch Z (R / 128)) (ch D (R / 128)) (R % 128) k) *
      (-(1 / 2) * (rstd b (Z R) / (var b (Z R) + eps))) / 2048 : ℝ) : EReal) := by
  have hd := r_dxh h0 h1 h2 h4 h6
  have hc := r_cen h0 h1
  have hk := r_coef h0 h1
  pointwise [val_main_v88, val_main_v87, val_main_v86, val_main_v85, val_main_v82, val_main_v81, val_main_v80, val_main_cst_18, val_main_cst_19, val_main_cst_20]
  simp only [hd _ _, hc _ _, hk _ _, ← EReal.coe_mul, ← coe_sum, Finset.univ_unique, Finset.sum_singleton]
  rw [ofBits_2048, div_real (by norm_num)]

theorem r_via (h2 : ∀ j, x2 (ix1 j) = ((g j : ℝ) : EReal)) (h4 : ∀ q p r, x4 (ix3 q p r) = ((w q p r : ℝ) : EReal)) (h6 : IsR x6 D) :
    IsR (val_main_v93 (F := Ideal) x0 x1 x2 x4 x6) fun R => viaCen (b := b) (Z R) (dxh b g w (ch Z (R / 128)) (ch D (R / 128)) (R % 128)) := fun R j => by
  have hd := r_dxh h0 h1 h2 h4 h6 R j
  have hc := r_cen h0 h1 R j
  have hs := r_rstd h0 h1 R
  have hv := r_cov h0 h1 h2 h4 h6 R
  pointwise [val_main_v93, val_main_v92, val_main_v91, val_main_v90, val_main_v89, val_main_v84, val_main_v83]
  rw [hd, hc, hs, hv]
  simp only [← EReal.coe_mul, ← EReal.coe_add]
  rfl

theorem r_dcen (h2 : ∀ j, x2 (ix1 j) = ((g j : ℝ) : EReal)) (h4 : ∀ q p r, x4 (ix3 q p r) = ((w q p r : ℝ) : EReal)) (h6 : IsR x6 D) :
    IsR (val_main_v101 (F := Ideal) x0 x1 x2 x4 x6) fun R => dcen b g w (ch Z (R / 128)) (ch D (R / 128)) (R % 128) := fun R j => by
  have hv := r_via h0 h1 h2 h4 h6
  pointwise [val_main_v101, val_main_v100, val_main_v99, val_main_v98, val_main_v97, val_main_v96, val_main_v95, val_main_v94, val_main_cst_21, val_main_cst_22, val_main_cst_23]
  simp only [hv _ _, ← EReal.coe_neg, ← coe_sum, Finset.univ_unique, Finset.sum_singleton]
  rw [ofBits_2048, div_real (by norm_num), ← EReal.coe_add, viaCen_sub_mean]
  congr 1
  simp only [dcen, dxhMean, dxhCov, ch_row]

include h2 h3 h4 h5 h6

theorem r_dact : IsR (val_main_v104 (F := Ideal) x0 x1 x2 x3 x4 x5 x6) fun R =>
    dact b g bn w s (ch Z (R / 128)) (ch D (R / 128)) (R % 128) := fun R j => by
  have hc := r_dcen h0 h1 h2 h4 h6
  have hg := r_dgate h0 h1 h2 h3 h4 h5 h6
  pointwise [val_main_v104, val_main_v103, val_main_v102]
  by_cases hj : (j : ℕ) < 2048
  · rw [dif_neg (by omega), dif_pos hj, hg, show val_main_cst_24 (F := Ideal) (Shape.Idx.first h_S_) = 0 from Ideal.ofBits_zero_f32, zero_add]
    simp only [dact, hj, if_true]
  · rw [dif_pos (by omega), dif_neg hj, hc, show val_main_cst_25 (F := Ideal) (Shape.Idx.first h_S_) = 0 from Ideal.ofBits_zero_f32, add_zero]
    simp only [dact, hj, if_false]

theorem r_dz : IsR (val_main_v112 (F := Ideal) x0 x1 x2 x3 x4 x5 x6) fun R =>
    dz b g bn w s (ch Z (R / 128)) (ch D (R / 128)) (R % 128) := fun R j => by
  have ha := r_dact h0 h1 h2 h3 h4 h5 h6 R j
  have hh := r_half h0 h1 R j
  have he := r_erf h0 h1 R j
  have hx := r_exp h0 h1 R j
  pointwise [val_main_v112, val_main_v111, val_main_v110, val_main_v109, val_main_v108, val_main_v107, val_main_v106, val_main_v105, val_main_cst_26]
  rw [ha, hh, he, hx, r_sqrt2, ofBits_half]
  simp only [← EReal.coe_mul]
  rw [div_real sqrt2_ne, ← EReal.coe_add, slope_eq]
  simp only [dz, ch_row]

theorem r_dz16 : IsR (val_main_v116 (F := Ideal) x0 x1 x2 x3 x4 x5 x6) fun R =>
    dz b g bn w s (ch Z (R / 128)) (ch D (R / 128)) (R % 128) := r_dz h0 h1 h2 h3 h4 h5 h6

theorem r_dbin (j : Fin 4096) : (val_main_v117 (F := Ideal) x0 x1 x2 x3 x4 x5 x6) (ix2 0 j) =
    ((∑ n : Fin 64, dbinC b g bn w s (ch Z n) (ch D n) j : ℝ) : EReal) := by
  have hd := r_dz h0 h1 h2 h3 h4 h5 h6
  pointwise [val_main_v117, val_main_v115, val_main_v114, val_main_v113, val_main_cst_27, val_main_cst_28]
  simp only [hd _ _, ← coe_sum, Finset.univ_unique, Finset.sum_singleton]
  congr 1
  rw [sum_rows fun R => dz b g bn w s (ch Z (R / 128)) (ch D (R / 128)) (R % 128) j]
  exact sum_chunks fun n t => dz b g bn w s (ch Z n) (ch D n) t j

omit h2 h3 h5

theorem r_dgain (j : Fin 2048) : (val_main_v118 (F := Ideal) x0 x1 x4 x6) (ix2 0 j) =
    ((∑ n : Fin 64, dgainC b w (ch Z n) (ch D n) j : ℝ) : EReal) := by
  have hd := r_dnrm h0 h1 h4 h6
  have hx := r_xhat h0 h1
  pointwise [val_main_v118, val_main_v79, val_main_v76, val_main_v75, val_main_v74, val_main_cst_16, val_main_cst_17]
  simp only [hd _ _, hx _ _, ← EReal.coe_mul, ← coe_sum, Finset.univ_unique, Finset.sum_singleton]
  congr 1
  rw [sum_rows fun R => xhat b (Z R) j * dnrm b w (ch Z (R / 128)) (ch D (R / 128)) (R % 128) j]
  refine Eq.trans (Finset.sum_congr rfl fun n _ => Finset.sum_congr rfl fun t _ => ?_)
    (sum_chunks fun n t => dnrm b w (ch Z n) (ch D n) t j * xhat b (ch Z n t) j)
  rw [mul_comm, ← ch_row Z (128 * n + t)]

theorem r_dbias (j : Fin 2048) : (val_main_v119 (F := Ideal) x0 x1 x4 x6) (ix2 0 j) =
    ((∑ n : Fin 64, dbiasC b w (ch Z n) (ch D n) j : ℝ) : EReal) := by
  have hd := r_dnrm h0 h1 h4 h6
  pointwise [val_main_v119, val_main_v73, val_main_v72, val_main_v71, val_main_cst_14, val_main_cst_15]
  simp only [hd _ _, ← coe_sum, Finset.univ_unique, Finset.sum_singleton]
  congr 1
  rw [sum_rows fun R => dnrm b w (ch Z (R / 128)) (ch D (R / 128)) (R % 128) j]
  exact sum_chunks fun n t => dnrm b w (ch Z n) (ch D n) t j

end Cert.Sg
end
-- ==== Proof.Sg.Claims.lean ====
/-
  The claims about the spatial gate's backward kernel: its arguments are finite, hence real arrays; the kernel's results
  and the reference's are then the same real numbers, entry by entry.
-/
module

public import proofs.«01_k».proof.Defs
public import proofs.«01_k».proof.Proof.Sg.Total
public import proofs.«01_k».proof.Proof.Sg.RefGrad
public import proofs.«01_k».proof.Proof.Gen.Pre_finite
public import Idealize.ShloMosaic.Adequacy
public import Idealize.ShloMosaic.Init

@[expose] public section

set_option maxRecDepth 16384

noncomputable section

namespace Cert.Sg

open Idealize.ShloMosaic Idealize.ShloMosaic.TcCoe Idealize.SL.Sem Cert.KernelIdeal.Gen

theorem real_of_lt {x : EReal} (h : Ideal.cmp .olt (max x (-x)) (Ideal.ofBits .f32 0x7F800000#32) = 1#1) :
    ((x.toReal : ℝ) : EReal) = x := by
  have ht : Ideal.ofBits .f32 0x7F800000#32 = ⊤ := by simp [Ideal.ofBits, Ideal.ieee]
  rw [ht] at h
  apply EReal.coe_toReal
  · rintro rfl; simp [Ideal.cmp] at h
  · rintro rfl; simp [Ideal.cmp] at h

/-- An array as a function of natural numbers, zero outside. -/
def lift1 {a : ℕ} (x : (⟨1, ![a]⟩ : Shape).Idx → EReal) (j : ℕ) : ℝ := if h : j < a then (x (ix1 ⟨j, h⟩)).toReal else 0
def lift2 {a b : ℕ} (x : (⟨2, ![a, b]⟩ : Shape).Idx → EReal) (i j : ℕ) : ℝ :=
  if h : i < a ∧ j < b then (x (ix2 ⟨i, h.1⟩ ⟨j, h.2⟩)).toReal else 0
def lift3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

theorem lift1_eq {a : ℕ} {x : (⟨1, ![a]⟩ : Shape).Idx → EReal} (h : ∀ i, (((x i).toReal : ℝ) : EReal) = x i) (j : Fin a) :
    x (ix1 j) = ((lift1 x j : ℝ) : EReal) := by
  rw [lift1, dif_pos j.isLt, h]
theorem lift2_eq {a b : ℕ} {x : (⟨2, ![a, b]⟩ : Shape).Idx → EReal} (h : ∀ i, (((x i).toReal : ℝ) : EReal) = x i) (i : Fin a) (j : Fin b) :
    x (ix2 i j) = ((lift2 x i j : ℝ) : EReal) := by
  rw [lift2, dif_pos ⟨i.isLt, j.isLt⟩, h]
theorem lift3_eq {a b c : ℕ} {x : (⟨3, ![a, b, c]⟩ : Shape).Idx → EReal} (h : ∀ i, (((x i).toReal : ℝ) : EReal) = x i) (i : Fin a) (j : Fin b) (k : Fin c) :
    x (ix3 i j k) = ((lift3 x i j k : ℝ) : EReal) := by
  rw [lift3, dif_pos ⟨i.isLt, j.isLt, k.isLt⟩, h]

section run
variable (m : (ℓ : Loc Cert.KernelIdeal.nD Cert.KernelIdeal.τ Cert.KernelIdeal.sig) → Buf (Elt Ideal) ℓ)

theorem lifted (h : Pre_KernelIdeal_finite (hPre_finite := Cert.Pre_finite.Gen.facts) m) (c : Dev Cert.KernelIdeal.nD) :
    Lifted m c (lift2 (A0 m c)) (lift2 (A6 m c)) (lift1 (A1 m c)) (lift1 (A2 m c)) (lift1 (A3 m c)) (lift3 (A4 m c)) (lift2 (A5 m c)) where
  h0 := lift2_eq fun i => real_of_lt (congrFun (h c).1 i)
  h1 := lift1_eq fun i => real_of_lt (congrFun (h c).2.1 i)
  h2 := lift1_eq fun i => real_of_lt (congrFun (h c).2.2.1 i)
  h3 := lift1_eq fun i => real_of_lt (congrFun (h c).2.2.2.1 i)
  h4 := lift3_eq fun i => real_of_lt (congrFun (h c).2.2.2.2.1 i)
  h5 := lift2_eq fun i => real_of_lt (congrFun (h c).2.2.2.2.2.1 i)
  h6 := lift2_eq fun i => real_of_lt (congrFun (h c).2.2.2.2.2.2 i)
  hs := fun q p hq => dif_neg fun h => absurd h.1 (by omega)

/-- The points of the grid are the 64 chunks. -/
theorem sum_points (f : ℕ → ℝ) : ∑ p : Fin Cert.KernelIdeal.cfg0.N, f p = ∑ n : Fin 64, f n := by
  have h : ∀ N, N = 64 → ∑ p : Fin N, f p = ∑ n : Fin 64, f n := by rintro _ rfl; rfl
  exact h _ N64

end run

theorem frame_r : quiescent_ReferenceIdeal := fun m ρ _ =>
  (θ_run Cert.ReferenceIdeal.defs _ _).mono (fun r h => ⟨fun c => (h c).2.2.2.2.2.2,
      sem_eq_zero_of_no_sems (by decide) r.2⟩) (Cert.ReferenceIdeal.Value.run (F := Ideal) m ρ)

theorem preserves : preserves_Kernel_KernelIdeal :=
  ⟨IdealRules.named_const.statement Cert.KernelIdeal.κ "inv_sqrt2" .f32 0x3F3504F3#32 _ rfl,
    IdealRules.named_const.statement Cert.KernelIdeal.κ "inv_sqrt_2pi" .f32 0x3ECC422A#32 _ rfl⟩

theorem algebraic : algebraic_KernelIdeal_ReferenceIdeal_pre_finite (hPre_finite := Cert.Pre_finite.Gen.facts) := by
  intro m ρ m' ρ' hpre hagree
  refine ⟨_, _, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨e0, e1, e2, e3, e4, e5, e6⟩ := hagree c
  have H := lifted m hpre c
  obtain ⟨r0, r1, r2, r3, r4, r5, ra⟩ := h c
  have h0 : IsR (StableHlo.launchContents m' c (Proc.devRef .tc Cert.ReferenceIdeal.main_arg0)) _ := fun R j => (congrFun e0 _).trans (H.h0 R j)
  have h1 : ∀ j, (StableHlo.launchContents m' c (Proc.devRef .tc Cert.ReferenceIdeal.main_arg1) : Cert.ReferenceIdeal.S4096.Idx → EReal) (ix1 j) = _ := fun j => (congrFun e1 _).trans (H.h1 j)
  have h2 : ∀ j, (StableHlo.launchContents m' c (Proc.devRef .tc Cert.ReferenceIdeal.main_arg2) : Cert.ReferenceIdeal.S2048.Idx → EReal) (ix1 j) = _ := fun j => (congrFun e2 _).trans (H.h2 j)
  have h3 : ∀ j, (StableHlo.launchContents m' c (Proc.devRef .tc Cert.ReferenceIdeal.main_arg3) : Cert.ReferenceIdeal.S2048.Idx → EReal) (ix1 j) = _ := fun j => (congrFun e3 _).trans (H.h3 j)
  have h4 : ∀ q p r, (StableHlo.launchContents m' c (Proc.devRef .tc Cert.ReferenceIdeal.main_arg4) : Cert.ReferenceIdeal.S8x128x128.Idx → EReal) (ix3 q p r) = _ := fun q p r => (congrFun e4 _).trans (H.h4 q p r)
  have h5 : ∀ q p, (StableHlo.launchContents m' c (Proc.devRef .tc Cert.ReferenceIdeal.main_arg5) : Cert.ReferenceIdeal.S8x128.Idx → EReal) (ix2 q p) = _ := fun q p => (congrFun e5 _).trans (H.h5 q p)
  have h6 : IsR (StableHlo.launchContents m' c (Proc.devRef .tc Cert.ReferenceIdeal.main_arg6)) _ := fun R j => (congrFun e6 _).trans (H.h6 R j)
  have h0 : IsR (StableHlo.launchContents m' c (Proc.devRef .tc Cert.ReferenceIdeal.main_arg0)) _ := fun R j => (congrFun e0 _).trans (H.h0 R j)
  have h1 : ∀ j, (StableHlo.launchContents m' c (Proc.devRef .tc Cert.ReferenceIdeal.main_arg1) : Cert.ReferenceIdeal.S4096.Idx → EReal) (ix1 j) = _ := fun j => (congrFun e1 _).trans (H.h1 j)
  have h2 : ∀ j, (StableHlo.launchContents m' c (Proc.devRef .tc Cert.ReferenceIdeal.main_arg2) : Cert.ReferenceIdeal.S2048.Idx → EReal) (ix1 j) = _ := fun j => (congrFun e2 _).trans (H.h2 j)
  have h3 : ∀ j, (StableHlo.launchContents m' c (Proc.devRef .tc Cert.ReferenceIdeal.main_arg3) : Cert.ReferenceIdeal.S2048.Idx → EReal) (ix1 j) = _ := fun j => (congrFun e3 _).trans (H.h3 j)
  have h4 : ∀ q p r, (StableHlo.launchContents m' c (Proc.devRef .tc Cert.ReferenceIdeal.main_arg4) : Cert.ReferenceIdeal.S8x128x128.Idx → EReal) (ix3 q p r) = _ := fun q p r => (congrFun e4 _).trans (H.h4 q p r)
  have h5 : ∀ q p, (StableHlo.launchContents m' c (Proc.devRef .tc Cert.ReferenceIdeal.main_arg5) : Cert.ReferenceIdeal.S8x128.Idx → EReal) (ix2 q p) = _ := fun q p => (congrFun e5 _).trans (H.h5 q p)
  have h6 : IsR (StableHlo.launchContents m' c (Proc.devRef .tc Cert.ReferenceIdeal.main_arg6)) _ := fun R j => (congrFun e6 _).trans (H.h6 R j)
  refine ⟨r0.trans ?_, r1.trans ?_, r2.trans ?_, r3.trans ?_, r4.trans ?_, r5.trans ?_, ra⟩
  · rw [Cert.ReferenceIdeal.Read.val_main_v116_eq]
    funext i
    idx_vars i
    exact (r_dz16 h0 h1 h2 h3 h4 h5 h6 i0 i1).trans (res7 H (ix2 i0 i1)).symm
  · rw [Cert.ReferenceIdeal.Read.val_main_v117_eq]
    funext i
    idx_vars i
    obtain rfl : i0 = 0 := Subsingleton.elim _ _
    exact (r_dbin h0 h1 h2 h3 h4 h5 h6 i1).trans (.trans (congrArg _ (sum_points (fun n => dbinC _ _ _ _ _ (ch _ n) (ch _ n) i1)).symm) (res8 H (ix2 0 i1)).symm)
  · rw [Cert.ReferenceIdeal.Read.val_main_v118_eq]
    funext i
    idx_vars i
    obtain rfl : i0 = 0 := Subsingleton.elim _ _
    exact (r_dgain h0 h1 h4 h6 i1).trans (.trans (congrArg _ (sum_points (fun n => dgainC _ _ (ch _ n) (ch _ n) i1)).symm) (res9 H (ix2 0 i1)).symm)
  · rw [Cert.ReferenceIdeal.Read.val_main_v119_eq]
    funext i
    idx_vars i
    obtain rfl : i0 = 0 := Subsingleton.elim _ _
    exact (r_dbias h0 h1 h4 h6 i1).trans (.trans (congrArg _ (sum_points (fun n => dbiasC _ _ (ch _ n) (ch _ n) i1)).symm) (res10 H (ix2 0 i1)).symm)
  · rw [Cert.ReferenceIdeal.Read.val_main_v67_eq]
    funext i
    idx_vars i
    exact (r_dw h0 h1 h2 h3 h6 i0 i1 i2).trans (.trans (congrArg _ (sum_points (fun n => dwC _ _ _ (ch _ n) (ch _ n) i0 i1 i2)).symm) (res11 H (ix3 i0 i1 i2)).symm)
  · rw [Cert.ReferenceIdeal.Read.val_main_v121_eq]
    funext i
    idx_vars i
    exact (r_ds h0 h1 h6 i0 i1).trans (.trans (congrArg _ (sum_points (fun n => dsC _ (ch _ n) (ch _ n) i0 i1)).symm) (res12 H (ix2 i0 i1)).symm)

end Cert.Sg
end
-- ==== Proof.Mm.Blocks.lean ====
/-
  A sum over the rows of an array, taken block of rows by block of rows.
-/
module

public import Idealize.ShloMosaic.Adequacy
public import Idealize.ShloMosaic.Init
public import Idealize.ShloMosaic.Lib.IdealHost
public import Idealize.ShloMosaic.Lib.Pipeline.CanonAppend
public import Idealize.ShloMosaic.Lib.Pipeline.Value
public import Idealize.ShloMosaic.Lib.Pipeline.ValueKit.Acc
public import Idealize.ShloMosaic.Lib.Pipeline.ValueKit.Point
public import Idealize.ShloMosaic.Lib.Pointwise
public import Idealize.ShloMosaic.Lib.StableHlo.RunRead
public import Idealize.ShloMosaic.Lib.Tactic
public import Idealize.ShloMosaic.PureOps.Ideal.Laws

@[expose] public section

namespace Cert.Mm

/-- The sum over `a * b` rows is the sum over `a` blocks of `b` rows. -/
theorem sum_blocks {M : Type} [AddCommMonoid M] {a b n : ℕ} (hn : a * b = n) (f : Fin n → M)
    (hb : ∀ (s : Fin a) (k : Fin b), b * s.val + k.val < n) :
    ∑ s : Fin a, ∑ k : Fin b, f ⟨b * s.val + k.val, hb s k⟩ = ∑ k : Fin n, f k := by
  subst hn
  rw [← Equiv.sum_comp finProdFinEquiv f, Fintype.sum_prod_type]
  refine Finset.sum_congr rfl fun s _ => Finset.sum_congr rfl fun k _ => congrArg f (Fin.ext ?_)
  show b * s.val + k.val = k.val + b * s.val
  omega

end Cert.Mm
-- ==== Proof.Mm.Down.lean ====
/-
  The gradient of the feed-forward layer's down projection with respect to its weight: the kernel adds, block of 2048
  rows by block of rows, the products of the two operands' rows; the reference sums over all 8192 rows at once.
-/
module

public import proofs.«01_k».proof.Defs
public import proofs.«01_k».proof.Proof.Mm.Blocks
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Mm.Down

open Idealize.ShloMosaic Idealize.ShloMosaic.TcCoe Idealize.SL.Sem

section kernel
open Cert.Kernel2Ideal Cert.Kernel2Ideal.Gen
variable (m : (ℓ : Loc nD τ sig) → Buf (Elt Ideal) ℓ) (c : Dev nD)

/-- The arguments. -/
abbrev A0 : S8192x2816.Idx → EReal := m ((c : Thread nD τ).loc main_arg0)
abbrev A1 : S8192x1024.Idx → EReal := m ((c : Thread nD τ).loc main_arg1)
/-- The blocks a point reads. -/
abbrev B0 (t : Fin cfg0.N) : Vec Ideal S2048x1408 .bf16 := iblk m c 0 t
abbrev B1 (t : Fin cfg0.N) : Vec Ideal S2048x1024 .bf16 := iblk m c 1 t

theorem N_pts : cfg0.N = 8 := N_0

/-- What the scratch holds after the first point of a run. -/
theorem scrA (t : Fin cfg0.N) (h : t.val % 4 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 4 = 0) : (outsAt0 m c t.val t.isLt).2
    = k0_pay2 (outsAt0 m c (t.val - 1) (lt_of_le_of_lt (Nat.sub_le _ _) t.isLt)).2 (B0 m c t) (B1 m c t) := by
  by_cases h1 : t.val % 4 = 3
  · rw [outsAt0_C m c t h h1]
    frame_out
    exact congrArg (fun v => k0_pay2 v (B0 m c t) (B1 m c t)) (Memref.IsWhole.read_unread (Memref.isWhole_whole _) _)
  · rw [outsAt0_B m c t h h1]
    frame_out
    exact congrArg (fun v => k0_pay2 v (B0 m c t) (B1 m c t)) (Memref.IsWhole.read_unread (Memref.isWhole_whole _) _)

/-- The last point of a run stores the scratch. -/
theorem outC (t : Fin cfg0.N) (h : t.val % 4 = 3) : (outsAt0 m c t.val t.isLt).1 = (outsAt0 m c t.val t.isLt).2 := by
  rw [outsAt0_C m c t (by omega) h]
  frame_out

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem row_lt (t : Fin cfg0.N) (r : Fin 2048) : 2048 * (t.val % 4) + r.val < 8192 := by omega
theorem col0_lt (t : Fin cfg0.N) (r : Fin 1408) : 1408 * (t.val / 4) + r.val < 2816 := by
  have := t.isLt; have := N_pts; omega
theorem col1_lt (t : Fin cfg0.N) (r : Fin 1024) : 1024 * (0) + r.val < 1024 := by
  have := t.isLt; have := N_pts; omega

theorem blk0 (t : Fin cfg0.N) (r : Fin 2048) (j : Fin 1408) :
    B0 m c t (ix2 r j) = A0 m c (ix2 ⟨2048 * (t.val % 4) + r.val, row_lt t r⟩ ⟨1408 * (t.val / 4) + j.val, col0_lt t j⟩) := by
  blk_ext! [B0, A0, iblk, V, idx0 t]
theorem blk1 (t : Fin cfg0.N) (r : Fin 2048) (j : Fin 1024) :
    B1 m c t (ix2 r j) = A1 m c (ix2 ⟨2048 * (t.val % 4) + r.val, row_lt t r⟩ ⟨1024 * (0) + j.val, col1_lt t j⟩) := by
  blk_ext! [B1, A1, iblk, V, idx1 t]

theorem pay_apply (v : Vec Ideal S1408x1024 .f32) (a : Vec Ideal S2048x1408 .bf16) (b : Vec Ideal S2048x1024 .bf16)
    (i : Fin 1408) (j : Fin 1024) :
    k0_pay2 v a b (ix2 i j) = (v (ix2 i j) + ∑ k : Fin 2048, a (ix2 k i) * b (ix2 k j) : EReal) := by
  pointwise [k0_pay2]

theorem pay_zero (i : Fin 1408) (j : Fin 1024) : k0_pay1 (F := Ideal) (ix2 i j) = (0 : EReal) := by
  pointwise [k0_pay1]

/-- One point's products. -/
abbrev term (t : Fin cfg0.N) (j : S1408x1024.Idx) : EReal := ∑ k : Fin 2048, B0 m c t (ix2 k (j 0)) * B1 m c t (ix2 k (j 1))

/-- After the last point of a run: the sum over all rows. -/
theorem scr_last (t : Fin cfg0.N) (h : t.val % 4 = 3) (i : Fin 1408) (j : Fin 1024) : (outsAt0 m c t.val t.isLt).2 (ix2 i j)
    = (∑ k : Fin 8192, A0 m c (ix2 k ⟨1408 * (t.val / 4) + i.val, col0_lt t i⟩)
      * A1 m c (ix2 k ⟨1024 * (0) + j.val, col1_lt t j⟩) : EReal) := by
  rw [Pipeline.eq_sum_fin_of_reset_step_apply_of_flush (fun n h => (outsAt0 m c n h).2) 4 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 4) (b := 2048) rfl _ (fun s k => by omega)]
  refine Finset.sum_congr rfl fun s _ => Finset.sum_congr rfl fun k _ => ?_
  show B0 m c _ (ix2 k i) * B1 m c _ (ix2 k j) = _
  rw [blk0, blk1]
  have hs : (4 * (t.val / 4) + s.val) % 4 = s.val := by omega
  have hd : (4 * (t.val / 4) + s.val) / 4 = t.val / 4 := by omega
  simp only [hs, hd]

theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- The result after the run. -/
theorem res (i : S2816x1024.Idx) : ((dats m 0 c).arrAt 2 cfg0.N : S2816x1024.Idx → EReal) i
    = (∑ k : Fin 8192, A0 m c (ix2 k (i 0)) * A1 m c (ix2 k (i 1)) : EReal) := by
  have := (dats m 0 c).arrAt_eq_of_covers 2
    (fun i : S2816x1024.Idx => (∑ k : Fin 8192, A0 m c (ix2 k (i 0)) * A1 m c (ix2 k (i 1)) : EReal))
    (by decide +kernel) fun t hf y => by
      blk_simp
      rw [after0_2]
      change S1408x1024.Idx at y
      idx_vars y
      have hm : t.val % 4 = 3 := (flush0_2 t).mp hf
      refine ((congrFun (outC m c t hm) _).trans (scr_last m c t hm y0 y1)).trans ?_
      have e0 : win0_2.index t 0 = t.val / 4 := (idx2 t).1
      have e1 : win0_2.index t 1 = 0 := (idx2 t).2
      refine Finset.sum_congr rfl fun k _ => ?_
      congr 2
      · refine congrArg (ix2 k) (Fin.ext ?_)
        show 1408 * (t.val / 4) + y0.val = win0_2.index t 0 * 1408 + 1 * y0.val
        rw [e0]; omega
      · refine congrArg (ix2 k) (Fin.ext ?_)
        show 1024 * (0) + y1.val = win0_2.index t 1 * 1024 + 1 * y1.val
        rw [e1]; omega
  exact congrFun this i

end kernel

theorem ref {x0 : Cert.Reference2Ideal.S8192x2816.Idx → EReal} {x1 : Cert.Reference2Ideal.S8192x1024.Idx → EReal}
    (i : Fin 2816) (j : Fin 1024) : Cert.Reference2Ideal.Read.val_main_v5 (F := Ideal) x0 x1 (ix2 i j)
      = (∑ k : Fin 8192, x0 (ix2 k i) * x1 (ix2 k j) : EReal) := by
  pointwise [Cert.Reference2Ideal.Read.val_main_v5, Cert.Reference2Ideal.Read.val_main_v4, Cert.Reference2Ideal.Read.val_main_v3, Cert.Reference2Ideal.Read.val_main_v1]
  exact Finset.sum_congr rfl fun k _ => mul_comm _ _

theorem frame_r : quiescent_Reference2Ideal := fun m ρ _ =>
  (θ_run Cert.Reference2Ideal.defs _ _).mono (fun r h => ⟨fun c => (h c).2,
      sem_eq_zero_of_no_sems (by decide) r.2⟩) (Cert.Reference2Ideal.Value.run (F := Ideal) m ρ)

theorem algebraic : algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨e0, e1⟩ := hagree c
  obtain ⟨r0, ra⟩ := h c
  refine ⟨r0.trans ?_, ra⟩
  rw [Cert.Reference2Ideal.Read.val_main_v5_eq]
  funext i
  idx_vars i
  refine (ref i0 i1).trans (.trans ?_ (res m c (ix2 i0 i1)).symm)
  exact Finset.sum_congr rfl fun k _ => congrArg₂ _ (congrFun e0 _) (congrFun e1 _)

end Cert.Mm.Down
end
-- ==== Proof.Mm.Up.lean ====
/-
  The gradient of the gate and up projections with respect to their weights, stored transposed: the kernel adds, block of 2048
  rows by block of rows, the products of the two operands' rows; the reference sums over all 8192 rows at once.
-/
module

public import proofs.«01_k».proof.Defs
public import proofs.«01_k».proof.Proof.Mm.Blocks
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Mm.Up

open Idealize.ShloMosaic Idealize.ShloMosaic.TcCoe Idealize.SL.Sem

section kernel
open Cert.Kernel3Ideal Cert.Kernel3Ideal.Gen
variable (m : (ℓ : Loc nD τ sig) → Buf (Elt Ideal) ℓ) (c : Dev nD)

/-- The arguments. -/
abbrev A0 : S8192x5632.Idx → EReal := m ((c : Thread nD τ).loc main_arg0)
abbrev A1 : S8192x1024.Idx → EReal := m ((c : Thread nD τ).loc main_arg1)
/-- The blocks a point reads. -/
abbrev B0 (t : Fin cfg0.N) : Vec Ideal S2048x1408 .bf16 := iblk m c 0 t
abbrev B1 (t : Fin cfg0.N) : Vec Ideal S2048x1024 .bf16 := iblk m c 1 t

theorem N_pts : cfg0.N = 16 := N_0

/-- What the scratch holds after the first point of a run. -/
theorem scrA (t : Fin cfg0.N) (h : t.val % 4 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 4 = 0) : (outsAt0 m c t.val t.isLt).2
    = k0_pay2 (outsAt0 m c (t.val - 1) (lt_of_le_of_lt (Nat.sub_le _ _) t.isLt)).2 (B0 m c t) (B1 m c t) := by
  by_cases h1 : t.val % 4 = 3
  · rw [outsAt0_C m c t h h1]
    frame_out
    exact congrArg (fun v => k0_pay2 v (B0 m c t) (B1 m c t)) (Memref.IsWhole.read_unread (Memref.isWhole_whole _) _)
  · rw [outsAt0_B m c t h h1]
    frame_out
    exact congrArg (fun v => k0_pay2 v (B0 m c t) (B1 m c t)) (Memref.IsWhole.read_unread (Memref.isWhole_whole _) _)

/-- The last point of a run stores the scratch. -/
theorem outC (t : Fin cfg0.N) (h : t.val % 4 = 3) : (outsAt0 m c t.val t.isLt).1 = (outsAt0 m c t.val t.isLt).2 := by
  rw [outsAt0_C m c t (by omega) h]
  frame_out

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem row_lt (t : Fin cfg0.N) (r : Fin 2048) : 2048 * (t.val % 4) + r.val < 8192 := by omega
theorem col0_lt (t : Fin cfg0.N) (r : Fin 1408) : 1408 * (t.val / 4) + r.val < 5632 := by
  have := t.isLt; have := N_pts; omega
theorem col1_lt (t : Fin cfg0.N) (r : Fin 1024) : 1024 * (0) + r.val < 1024 := by
  have := t.isLt; have := N_pts; omega

theorem blk0 (t : Fin cfg0.N) (r : Fin 2048) (j : Fin 1408) :
    B0 m c t (ix2 r j) = A0 m c (ix2 ⟨2048 * (t.val % 4) + r.val, row_lt t r⟩ ⟨1408 * (t.val / 4) + j.val, col0_lt t j⟩) := by
  blk_ext! [B0, A0, iblk, V, idx0 t]
theorem blk1 (t : Fin cfg0.N) (r : Fin 2048) (j : Fin 1024) :
    B1 m c t (ix2 r j) = A1 m c (ix2 ⟨2048 * (t.val % 4) + r.val, row_lt t r⟩ ⟨1024 * (0) + j.val, col1_lt t j⟩) := by
  blk_ext! [B1, A1, iblk, V, idx1 t]

theorem pay_apply (v : Vec Ideal S1408x1024 .f32) (a : Vec Ideal S2048x1408 .bf16) (b : Vec Ideal S2048x1024 .bf16)
    (i : Fin 1408) (j : Fin 1024) :
    k0_pay2 v a b (ix2 i j) = (v (ix2 i j) + ∑ k : Fin 2048, a (ix2 k i) * b (ix2 k j) : EReal) := by
  pointwise [k0_pay2]

theorem pay_zero (i : Fin 1408) (j : Fin 1024) : k0_pay1 (F := Ideal) (ix2 i j) = (0 : EReal) := by
  pointwise [k0_pay1]

/-- One point's products. -/
abbrev term (t : Fin cfg0.N) (j : S1408x1024.Idx) : EReal := ∑ k : Fin 2048, B0 m c t (ix2 k (j 0)) * B1 m c t (ix2 k (j 1))

/-- After the last point of a run: the sum over all rows. -/
theorem scr_last (t : Fin cfg0.N) (h : t.val % 4 = 3) (i : Fin 1408) (j : Fin 1024) : (outsAt0 m c t.val t.isLt).2 (ix2 i j)
    = (∑ k : Fin 8192, A0 m c (ix2 k ⟨1408 * (t.val / 4) + i.val, col0_lt t i⟩)
      * A1 m c (ix2 k ⟨1024 * (0) + j.val, col1_lt t j⟩) : EReal) := by
  rw [Pipeline.eq_sum_fin_of_reset_step_apply_of_flush (fun n h => (outsAt0 m c n h).2) 4 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 4) (b := 2048) rfl _ (fun s k => by omega)]
  refine Finset.sum_congr rfl fun s _ => Finset.sum_congr rfl fun k _ => ?_
  show B0 m c _ (ix2 k i) * B1 m c _ (ix2 k j) = _
  rw [blk0, blk1]
  have hs : (4 * (t.val / 4) + s.val) % 4 = s.val := by omega
  have hd : (4 * (t.val / 4) + s.val) / 4 = t.val / 4 := by omega
  simp only [hs, hd]

theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- The result after the run. -/
theorem res (i : S5632x1024.Idx) : ((dats m 0 c).arrAt 2 cfg0.N : S5632x1024.Idx → EReal) i
    = (∑ k : Fin 8192, A0 m c (ix2 k (i 0)) * A1 m c (ix2 k (i 1)) : EReal) := by
  have := (dats m 0 c).arrAt_eq_of_covers 2
    (fun i : S5632x1024.Idx => (∑ k : Fin 8192, A0 m c (ix2 k (i 0)) * A1 m c (ix2 k (i 1)) : EReal))
    (by decide +kernel) fun t hf y => by
      blk_simp
      rw [after0_2]
      change S1408x1024.Idx at y
      idx_vars y
      have hm : t.val % 4 = 3 := (flush0_2 t).mp hf
      refine ((congrFun (outC m c t hm) _).trans (scr_last m c t hm y0 y1)).trans ?_
      have e0 : win0_2.index t 0 = t.val / 4 := (idx2 t).1
      have e1 : win0_2.index t 1 = 0 := (idx2 t).2
      refine Finset.sum_congr rfl fun k _ => ?_
      congr 2
      · refine congrArg (ix2 k) (Fin.ext ?_)
        show 1408 * (t.val / 4) + y0.val = win0_2.index t 0 * 1408 + 1 * y0.val
        rw [e0]; omega
      · refine congrArg (ix2 k) (Fin.ext ?_)
        show 1024 * (0) + y1.val = win0_2.index t 1 * 1024 + 1 * y1.val
        rw [e1]; omega
  exact congrFun this i

end kernel

theorem ref {x0 : Cert.Reference3Ideal.S8192x5632.Idx → EReal} {x1 : Cert.Reference3Ideal.S8192x1024.Idx → EReal}
    (i : Fin 5632) (j : Fin 1024) : Cert.Reference3Ideal.Read.val_main_v7 (F := Ideal) x0 x1 (ix2 i j)
      = (∑ k : Fin 8192, x0 (ix2 k i) * x1 (ix2 k j) : EReal) := by
  pointwise [Cert.Reference3Ideal.Read.val_main_v7, Cert.Reference3Ideal.Read.val_main_v6, Cert.Reference3Ideal.Read.val_main_v5, Cert.Reference3Ideal.Read.val_main_v4, Cert.Reference3Ideal.Read.val_main_v1]

theorem frame_r : quiescent_Reference3Ideal := fun m ρ _ =>
  (θ_run Cert.Reference3Ideal.defs _ _).mono (fun r h => ⟨fun c => (h c).2,
      sem_eq_zero_of_no_sems (by decide) r.2⟩) (Cert.Reference3Ideal.Value.run (F := Ideal) m ρ)

theorem algebraic : algebraic_Kernel3Ideal_Reference3Ideal := by
  intro m ρ m' ρ' hpre hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1⟩ := hagree c
  obtain ⟨r0, ra⟩ := h c
  refine ⟨r0.trans ?_, ra⟩
  rw [Cert.Reference3Ideal.Read.val_main_v7_eq]
  funext i
  idx_vars i
  refine (ref i0 i1).trans (.trans ?_ (res m c (ix2 i0 i1)).symm)
  exact Finset.sum_congr rfl fun k _ => congrArg₂ _ (congrFun e0 _) (congrFun e1 _)

end Cert.Mm.Up
end
-- ==== Proof.Mm.SgOut.lean ====
/-
  The gradient of the spatial gate's output projection with respect to its weight: the kernel adds, block of 2048
  rows by block of rows, the products of the two operands' rows; the reference sums over all 8192 rows at once.
-/
module

public import proofs.«01_k».proof.Defs
public import proofs.«01_k».proof.Proof.Mm.Blocks
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Mm.SgOut

open Idealize.ShloMosaic Idealize.ShloMosaic.TcCoe Idealize.SL.Sem

section kernel
open Cert.Kernel4Ideal Cert.Kernel4Ideal.Gen
variable (m : (ℓ : Loc nD τ sig) → Buf (Elt Ideal) ℓ) (c : Dev nD)

/-- The arguments. -/
abbrev A0 : S8192x2048.Idx → EReal := m ((c : Thread nD τ).loc main_arg0)
abbrev A1 : S8192x1024.Idx → EReal := m ((c : Thread nD τ).loc main_arg1)
/-- The blocks a point reads. -/
abbrev B0 (t : Fin cfg0.N) : Vec Ideal S2048x1024 .bf16 := iblk m c 0 t
abbrev B1 (t : Fin cfg0.N) : Vec Ideal S2048x1024 .bf16 := iblk m c 1 t

theorem N_pts : cfg0.N = 8 := N_0

/-- What the scratch holds after the first point of a run. -/
theorem scrA (t : Fin cfg0.N) (h : t.val % 4 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 4 = 0) : (outsAt0 m c t.val t.isLt).2
    = k0_pay2 (outsAt0 m c (t.val - 1) (lt_of_le_of_lt (Nat.sub_le _ _) t.isLt)).2 (B0 m c t) (B1 m c t) := by
  by_cases h1 : t.val % 4 = 3
  · rw [outsAt0_C m c t h h1]
    frame_out
    exact congrArg (fun v => k0_pay2 v (B0 m c t) (B1 m c t)) (Memref.IsWhole.read_unread (Memref.isWhole_whole _) _)
  · rw [outsAt0_B m c t h h1]
    frame_out
    exact congrArg (fun v => k0_pay2 v (B0 m c t) (B1 m c t)) (Memref.IsWhole.read_unread (Memref.isWhole_whole _) _)

/-- The last point of a run stores the scratch. -/
theorem outC (t : Fin cfg0.N) (h : t.val % 4 = 3) : (outsAt0 m c t.val t.isLt).1 = (outsAt0 m c t.val t.isLt).2 := by
  rw [outsAt0_C m c t (by omega) h]
  frame_out

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem row_lt (t : Fin cfg0.N) (r : Fin 2048) : 2048 * (t.val % 4) + r.val < 8192 := by omega
theorem col0_lt (t : Fin cfg0.N) (r : Fin 1024) : 1024 * (t.val / 4) + r.val < 2048 := by
  have := t.isLt; have := N_pts; omega
theorem col1_lt (t : Fin cfg0.N) (r : Fin 1024) : 1024 * (0) + r.val < 1024 := by
  have := t.isLt; have := N_pts; omega

theorem blk0 (t : Fin cfg0.N) (r : Fin 2048) (j : Fin 1024) :
    B0 m c t (ix2 r j) = A0 m c (ix2 ⟨2048 * (t.val % 4) + r.val, row_lt t r⟩ ⟨1024 * (t.val / 4) + j.val, col0_lt t j⟩) := by
  blk_ext! [B0, A0, iblk, V, idx0 t]
theorem blk1 (t : Fin cfg0.N) (r : Fin 2048) (j : Fin 1024) :
    B1 m c t (ix2 r j) = A1 m c (ix2 ⟨2048 * (t.val % 4) + r.val, row_lt t r⟩ ⟨1024 * (0) + j.val, col1_lt t j⟩) := by
  blk_ext! [B1, A1, iblk, V, idx1 t]

theorem pay_apply (v : Vec Ideal S1024x1024 .f32) (a : Vec Ideal S2048x1024 .bf16) (b : Vec Ideal S2048x1024 .bf16)
    (i : Fin 1024) (j : Fin 1024) :
    k0_pay2 v a b (ix2 i j) = (v (ix2 i j) + ∑ k : Fin 2048, a (ix2 k i) * b (ix2 k j) : EReal) := by
  pointwise [k0_pay2]

theorem pay_zero (i : Fin 1024) (j : Fin 1024) : k0_pay1 (F := Ideal) (ix2 i j) = (0 : EReal) := by
  pointwise [k0_pay1]

/-- One point's products. -/
abbrev term (t : Fin cfg0.N) (j : S1024x1024.Idx) : EReal := ∑ k : Fin 2048, B0 m c t (ix2 k (j 0)) * B1 m c t (ix2 k (j 1))

/-- After the last point of a run: the sum over all rows. -/
theorem scr_last (t : Fin cfg0.N) (h : t.val % 4 = 3) (i : Fin 1024) (j : Fin 1024) : (outsAt0 m c t.val t.isLt).2 (ix2 i j)
    = (∑ k : Fin 8192, A0 m c (ix2 k ⟨1024 * (t.val / 4) + i.val, col0_lt t i⟩)
      * A1 m c (ix2 k ⟨1024 * (0) + j.val, col1_lt t j⟩) : EReal) := by
  rw [Pipeline.eq_sum_fin_of_reset_step_apply_of_flush (fun n h => (outsAt0 m c n h).2) 4 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 4) (b := 2048) rfl _ (fun s k => by omega)]
  refine Finset.sum_congr rfl fun s _ => Finset.sum_congr rfl fun k _ => ?_
  show B0 m c _ (ix2 k i) * B1 m c _ (ix2 k j) = _
  rw [blk0, blk1]
  have hs : (4 * (t.val / 4) + s.val) % 4 = s.val := by omega
  have hd : (4 * (t.val / 4) + s.val) / 4 = t.val / 4 := by omega
  simp only [hs, hd]

theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- The result after the run. -/
theorem res (i : S2048x1024.Idx) : ((dats m 0 c).arrAt 2 cfg0.N : S2048x1024.Idx → EReal) i
    = (∑ k : Fin 8192, A0 m c (ix2 k (i 0)) * A1 m c (ix2 k (i 1)) : EReal) := by
  have := (dats m 0 c).arrAt_eq_of_covers 2
    (fun i : S2048x1024.Idx => (∑ k : Fin 8192, A0 m c (ix2 k (i 0)) * A1 m c (ix2 k (i 1)) : EReal))
    (by decide +kernel) fun t hf y => by
      blk_simp
      rw [after0_2]
      change S1024x1024.Idx at y
      idx_vars y
      have hm : t.val % 4 = 3 := (flush0_2 t).mp hf
      refine ((congrFun (outC m c t hm) _).trans (scr_last m c t hm y0 y1)).trans ?_
      have e0 : win0_2.index t 0 = t.val / 4 := (idx2 t).1
      have e1 : win0_2.index t 1 = 0 := (idx2 t).2
      refine Finset.sum_congr rfl fun k _ => ?_
      congr 2
      · refine congrArg (ix2 k) (Fin.ext ?_)
        show 1024 * (t.val / 4) + y0.val = win0_2.index t 0 * 1024 + 1 * y0.val
        rw [e0]; omega
      · refine congrArg (ix2 k) (Fin.ext ?_)
        show 1024 * (0) + y1.val = win0_2.index t 1 * 1024 + 1 * y1.val
        rw [e1]; omega
  exact congrFun this i

end kernel

theorem ref {x0 : Cert.Reference4Ideal.S8192x2048.Idx → EReal} {x1 : Cert.Reference4Ideal.S8192x1024.Idx → EReal}
    (i : Fin 2048) (j : Fin 1024) : Cert.Reference4Ideal.Read.val_main_v5 (F := Ideal) x0 x1 (ix2 i j)
      = (∑ k : Fin 8192, x0 (ix2 k i) * x1 (ix2 k j) : EReal) := by
  pointwise [Cert.Reference4Ideal.Read.val_main_v5, Cert.Reference4Ideal.Read.val_main_v4, Cert.Reference4Ideal.Read.val_main_v3, Cert.Reference4Ideal.Read.val_main_v1]
  exact Finset.sum_congr rfl fun k _ => mul_comm _ _

theorem frame_r : quiescent_Reference4Ideal := fun m ρ _ =>
  (θ_run Cert.Reference4Ideal.defs _ _).mono (fun r h => ⟨fun c => (h c).2,
      sem_eq_zero_of_no_sems (by decide) r.2⟩) (Cert.Reference4Ideal.Value.run (F := Ideal) m ρ)

theorem algebraic : algebraic_Kernel4Ideal_Reference4Ideal := by
  intro m ρ m' ρ' hpre hagree
  refine ⟨_, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨e0, e1⟩ := hagree c
  obtain ⟨r0, ra⟩ := h c
  refine ⟨r0.trans ?_, ra⟩
  rw [Cert.Reference4Ideal.Read.val_main_v5_eq]
  funext i
  idx_vars i
  refine (ref i0 i1).trans (.trans ?_ (res m c (ix2 i0 i1)).symm)
  exact Finset.sum_congr rfl fun k _ => congrArg₂ _ (congrFun e0 _) (congrFun e1 _)

end Cert.Mm.SgOut
end
-- ==== Proof.Mm.SgIn.lean ====
/-
  The gradient of the spatial gate's input projection with respect to its weight, stored transposed: the kernel adds, block of 2048
  rows by block of rows, the products of the two operands' rows; the reference sums over all 8192 rows at once.
-/
module

public import proofs.«01_k».proof.Defs
public import proofs.«01_k».proof.Proof.Mm.Blocks
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace Cert.Mm.SgIn

open Idealize.ShloMosaic Idealize.ShloMosaic.TcCoe Idealize.SL.Sem

section kernel
open Cert.Kernel5Ideal Cert.Kernel5Ideal.Gen
variable (m : (ℓ : Loc nD τ sig) → Buf (Elt Ideal) ℓ) (c : Dev nD)

/-- The arguments. -/
abbrev A0 : S8192x4096.Idx → EReal := m ((c : Thread nD τ).loc main_arg0)
abbrev A1 : S8192x1024.Idx → EReal := m ((c : Thread nD τ).loc main_arg1)
/-- The blocks a point reads. -/
abbrev B0 (t : Fin cfg0.N) : Vec Ideal S2048x1024 .bf16 := iblk m c 0 t
abbrev B1 (t : Fin cfg0.N) : Vec Ideal S2048x1024 .bf16 := iblk m c 1 t

theorem N_pts : cfg0.N = 16 := N_0

/-- What the scratch holds after the first point of a run. -/
theorem scrA (t : Fin cfg0.N) (h : t.val % 4 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 4 = 0) : (outsAt0 m c t.val t.isLt).2
    = k0_pay2 (outsAt0 m c (t.val - 1) (lt_of_le_of_lt (Nat.sub_le _ _) t.isLt)).2 (B0 m c t) (B1 m c t) := by
  by_cases h1 : t.val % 4 = 3
  · rw [outsAt0_C m c t h h1]
    frame_out
    exact congrArg (fun v => k0_pay2 v (B0 m c t) (B1 m c t)) (Memref.IsWhole.read_unread (Memref.isWhole_whole _) _)
  · rw [outsAt0_B m c t h h1]
    frame_out
    exact congrArg (fun v => k0_pay2 v (B0 m c t) (B1 m c t)) (Memref.IsWhole.read_unread (Memref.isWhole_whole _) _)

/-- The last point of a run stores the scratch. -/
theorem outC (t : Fin cfg0.N) (h : t.val % 4 = 3) : (outsAt0 m c t.val t.isLt).1 = (outsAt0 m c t.val t.isLt).2 := by
  rw [outsAt0_C m c t (by omega) h]
  frame_out

theorem idx0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem row_lt (t : Fin cfg0.N) (r : Fin 2048) : 2048 * (t.val % 4) + r.val < 8192 := by omega
theorem col0_lt (t : Fin cfg0.N) (r : Fin 1024) : 1024 * (t.val / 4) + r.val < 4096 := by
  have := t.isLt; have := N_pts; omega
theorem col1_lt (t : Fin cfg0.N) (r : Fin 1024) : 1024 * (0) + r.val < 1024 := by
  have := t.isLt; have := N_pts; omega

theorem blk0 (t : Fin cfg0.N) (r : Fin 2048) (j : Fin 1024) :
    B0 m c t (ix2 r j) = A0 m c (ix2 ⟨2048 * (t.val % 4) + r.val, row_lt t r⟩ ⟨1024 * (t.val / 4) + j.val, col0_lt t j⟩) := by
  blk_ext! [B0, A0, iblk, V, idx0 t]
theorem blk1 (t : Fin cfg0.N) (r : Fin 2048) (j : Fin 1024) :
    B1 m c t (ix2 r j) = A1 m c (ix2 ⟨2048 * (t.val % 4) + r.val, row_lt t r⟩ ⟨1024 * (0) + j.val, col1_lt t j⟩) := by
  blk_ext! [B1, A1, iblk, V, idx1 t]

theorem pay_apply (v : Vec Ideal S1024x1024 .f32) (a : Vec Ideal S2048x1024 .bf16) (b : Vec Ideal S2048x1024 .bf16)
    (i : Fin 1024) (j : Fin 1024) :
    k0_pay2 v a b (ix2 i j) = (v (ix2 i j) + ∑ k : Fin 2048, a (ix2 k i) * b (ix2 k j) : EReal) := by
  pointwise [k0_pay2]

theorem pay_zero (i : Fin 1024) (j : Fin 1024) : k0_pay1 (F := Ideal) (ix2 i j) = (0 : EReal) := by
  pointwise [k0_pay1]

/-- One point's products. -/
abbrev term (t : Fin cfg0.N) (j : S1024x1024.Idx) : EReal := ∑ k : Fin 2048, B0 m c t (ix2 k (j 0)) * B1 m c t (ix2 k (j 1))

/-- After the last point of a run: the sum over all rows. -/
theorem scr_last (t : Fin cfg0.N) (h : t.val % 4 = 3) (i : Fin 1024) (j : Fin 1024) : (outsAt0 m c t.val t.isLt).2 (ix2 i j)
    = (∑ k : Fin 8192, A0 m c (ix2 k ⟨1024 * (t.val / 4) + i.val, col0_lt t i⟩)
      * A1 m c (ix2 k ⟨1024 * (0) + j.val, col1_lt t j⟩) : EReal) := by
  rw [Pipeline.eq_sum_fin_of_reset_step_apply_of_flush (fun n h => (outsAt0 m c n h).2) 4 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 4) (b := 2048) rfl _ (fun s k => by omega)]
  refine Finset.sum_congr rfl fun s _ => Finset.sum_congr rfl fun k _ => ?_
  show B0 m c _ (ix2 k i) * B1 m c _ (ix2 k j) = _
  rw [blk0, blk1]
  have hs : (4 * (t.val / 4) + s.val) % 4 = s.val := by omega
  have hd : (4 * (t.val / 4) + s.val) / 4 = t.val / 4 := by omega
  simp only [hs, hd]

theorem idx2 : ∀ t : Fin cfg0.N, win0_2.index t 0 = t.val / 4 ∧ win0_2.index t 1 = 0 :=
  (by decide +kernel : ∀ t : Fin grid0.N, win0_2.index t 0 = t.val / 4 ∧ win0_2.index t 1 = 0)

/-- The result after the run. -/
theorem res (i : S4096x1024.Idx) : ((dats m 0 c).arrAt 2 cfg0.N : S4096x1024.Idx → EReal) i
    = (∑ k : Fin 8192, A0 m c (ix2 k (i 0)) * A1 m c (ix2 k (i 1)) : EReal) := by
  have := (dats m 0 c).arrAt_eq_of_covers 2
    (fun i : S4096x1024.Idx => (∑ k : Fin 8192, A0 m c (ix2 k (i 0)) * A1 m c (ix2 k (i 1)) : EReal))
    (by decide +kernel) fun t hf y => by
      blk_simp
      rw [after0_2]
      change S1024x1024.Idx at y
      idx_vars y
      have hm : t.val % 4 = 3 := (flush0_2 t).mp hf
      refine ((congrFun (outC m c t hm) _).trans (scr_last m c t hm y0 y1)).trans ?_
      have e0 : win0_2.index t 0 = t.val / 4 := (idx2 t).1
      have e1 : win0_2.index t 1 = 0 := (idx2 t).2
      refine Finset.sum_congr rfl fun k _ => ?_
      congr 2
      · refine congrArg (ix2 k) (Fin.ext ?_)
        show 1024 * (t.val / 4) + y0.val = win0_2.index t 0 * 1024 + 1 * y0.val
        rw [e0]; omega
      · refine congrArg (ix2 k) (Fin.ext ?_)
        show 1024 * (0) + y1.val = win0_2.index t 1 * 1024 + 1 * y1.val
        rw [e1]; omega
  exact congrFun this i

end kernel

theorem ref {x0 : Cert.Reference5Ideal.S8192x4096.Idx → EReal} {x1 : Cert.Reference5Ideal.S8192x1024.Idx → EReal}
    (i : Fin 4096) (j : Fin 1024) : Cert.Reference5Ideal.Read.val_main_v7 (F := Ideal) x0 x1 (ix2 i j)
      = (∑ k : Fin 8192, x0 (ix2 k i) * x1 (ix2 k j) : EReal) := by
  pointwise [Cert.Reference5Ideal.Read.val_main_v7, Cert.Reference5Ideal.Read.val_main_v6, Cert.Reference5Ideal.Read.val_main_v5, Cert.Reference5Ideal.Read.val_main_v4, Cert.Reference5Ideal.Read.val_main_v1]

theorem frame_r : quiescent_Reference5Ideal := fun m ρ _ =>
  (θ_run Cert.Reference5Ideal.defs _ _).mono (fun r h => ⟨fun c => (h c).2,
      sem_eq_zero_of_no_sems (by decide) r.2⟩) (Cert.Reference5Ideal.Value.run (F := Ideal) m ρ)

theorem algebraic : algebraic_Kernel5Ideal_Reference5Ideal := by
  intro m ρ m' ρ' hpre hagree
  refine ⟨_, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨e0, e1⟩ := hagree c
  obtain ⟨r0, ra⟩ := h c
  refine ⟨r0.trans ?_, ra⟩
  rw [Cert.Reference5Ideal.Read.val_main_v7_eq]
  funext i
  idx_vars i
  refine (ref i0 i1).trans (.trans ?_ (res m c (ix2 i0 i1)).symm)
  exact Finset.sum_congr rfl fun k _ => congrArg₂ _ (congrFun e0 _) (congrFun e1 _)

end Cert.Mm.SgIn
end
-- ==== Proof.Mm.DnSquare.lean ====
/-
  The gradient of a square projection of the delta-rule layer with respect to its weight: the kernel adds, block of 2048
  rows by block of rows, the products of the two operands' rows; the reference sums over all 8192 rows at once.
-/
module

public import proofs.«01_k».proof.Defs
public import proofs.«01_k».proof.Proof.Mm.Blocks
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Mm.DnSquare

open Idealize.ShloMosaic Idealize.ShloMosaic.TcCoe Idealize.SL.Sem

section kernel
open Cert.Kernel6Ideal Cert.Kernel6Ideal.Gen
variable (m : (ℓ : Loc nD τ sig) → Buf (Elt Ideal) ℓ) (c : Dev nD)

/-- The arguments. -/
abbrev A0 : S8192x1024.Idx → EReal := m ((c : Thread nD τ).loc main_arg0)
abbrev A1 : S8192x1024.Idx → EReal := m ((c : Thread nD τ).loc main_arg1)
/-- The blocks a point reads. -/
abbrev B0 (t : Fin cfg0.N) : Vec Ideal S2048x1024 .bf16 := iblk m c 0 t
abbrev B1 (t : Fin cfg0.N) : Vec Ideal S2048x1024 .bf16 := iblk m c 1 t

theorem N_pts : cfg0.N = 4 := N_0

/-- What the scratch holds after the first point of a run. -/
theorem scrA (t : Fin cfg0.N) (h : t.val % 4 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 4 = 0) : (outsAt0 m c t.val t.isLt).2
    = k0_pay2 (outsAt0 m c (t.val - 1) (lt_of_le_of_lt (Nat.sub_le _ _) t.isLt)).2 (B0 m c t) (B1 m c t) := by
  by_cases h1 : t.val % 4 = 3
  · rw [outsAt0_C m c t h h1]
    frame_out
    exact congrArg (fun v => k0_pay2 v (B0 m c t) (B1 m c t)) (Memref.IsWhole.read_unread (Memref.isWhole_whole _) _)
  · rw [outsAt0_B m c t h h1]
    frame_out
    exact congrArg (fun v => k0_pay2 v (B0 m c t) (B1 m c t)) (Memref.IsWhole.read_unread (Memref.isWhole_whole _) _)

/-- The last point of a run stores the scratch. -/
theorem outC (t : Fin cfg0.N) (h : t.val % 4 = 3) : (outsAt0 m c t.val t.isLt).1 = (outsAt0 m c t.val t.isLt).2 := by
  rw [outsAt0_C m c t (by omega) h]
  frame_out

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem row_lt (t : Fin cfg0.N) (r : Fin 2048) : 2048 * (t.val % 4) + r.val < 8192 := by omega
theorem col0_lt (t : Fin cfg0.N) (r : Fin 1024) : 1024 * (0) + r.val < 1024 := by
  have := t.isLt; have := N_pts; omega
theorem col1_lt (t : Fin cfg0.N) (r : Fin 1024) : 1024 * (0) + r.val < 1024 := by
  have := t.isLt; have := N_pts; omega

theorem blk0 (t : Fin cfg0.N) (r : Fin 2048) (j : Fin 1024) :
    B0 m c t (ix2 r j) = A0 m c (ix2 ⟨2048 * (t.val % 4) + r.val, row_lt t r⟩ ⟨1024 * (0) + j.val, col0_lt t j⟩) := by
  blk_ext! [B0, A0, iblk, V, idx0 t]
theorem blk1 (t : Fin cfg0.N) (r : Fin 2048) (j : Fin 1024) :
    B1 m c t (ix2 r j) = A1 m c (ix2 ⟨2048 * (t.val % 4) + r.val, row_lt t r⟩ ⟨1024 * (0) + j.val, col1_lt t j⟩) := by
  blk_ext! [B1, A1, iblk, V, idx1 t]

theorem pay_apply (v : Vec Ideal S1024x1024 .f32) (a : Vec Ideal S2048x1024 .bf16) (b : Vec Ideal S2048x1024 .bf16)
    (i : Fin 1024) (j : Fin 1024) :
    k0_pay2 v a b (ix2 i j) = (v (ix2 i j) + ∑ k : Fin 2048, a (ix2 k i) * b (ix2 k j) : EReal) := by
  pointwise [k0_pay2]

theorem pay_zero (i : Fin 1024) (j : Fin 1024) : k0_pay1 (F := Ideal) (ix2 i j) = (0 : EReal) := by
  pointwise [k0_pay1]

/-- One point's products. -/
abbrev term (t : Fin cfg0.N) (j : S1024x1024.Idx) : EReal := ∑ k : Fin 2048, B0 m c t (ix2 k (j 0)) * B1 m c t (ix2 k (j 1))

/-- After the last point of a run: the sum over all rows. -/
theorem scr_last (t : Fin cfg0.N) (h : t.val % 4 = 3) (i : Fin 1024) (j : Fin 1024) : (outsAt0 m c t.val t.isLt).2 (ix2 i j)
    = (∑ k : Fin 8192, A0 m c (ix2 k ⟨1024 * (0) + i.val, col0_lt t i⟩)
      * A1 m c (ix2 k ⟨1024 * (0) + j.val, col1_lt t j⟩) : EReal) := by
  rw [Pipeline.eq_sum_fin_of_reset_step_apply_of_flush (fun n h => (outsAt0 m c n h).2) 4 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 4) (b := 2048) rfl _ (fun s k => by omega)]
  refine Finset.sum_congr rfl fun s _ => Finset.sum_congr rfl fun k _ => ?_
  show B0 m c _ (ix2 k i) * B1 m c _ (ix2 k j) = _
  rw [blk0, blk1]
  have hs : (4 * (t.val / 4) + s.val) % 4 = s.val := by omega
  have hd : (4 * (t.val / 4) + s.val) / 4 = t.val / 4 := by omega
  simp only [hs, hd]

theorem idx2 : ∀ t : Fin cfg0.N, win0_2.index t 0 = 0 ∧ win0_2.index t 1 = 0 :=
  (by decide +kernel : ∀ t : Fin grid0.N, win0_2.index t 0 = 0 ∧ win0_2.index t 1 = 0)

/-- The result after the run. -/
theorem res (i : S1024x1024.Idx) : ((dats m 0 c).arrAt 2 cfg0.N : S1024x1024.Idx → EReal) i
    = (∑ k : Fin 8192, A0 m c (ix2 k (i 0)) * A1 m c (ix2 k (i 1)) : EReal) := by
  have := (dats m 0 c).arrAt_eq_of_covers 2
    (fun i : S1024x1024.Idx => (∑ k : Fin 8192, A0 m c (ix2 k (i 0)) * A1 m c (ix2 k (i 1)) : EReal))
    (by decide +kernel) fun t hf y => by
      blk_simp
      rw [after0_2]
      change S1024x1024.Idx at y
      idx_vars y
      have hm : t.val % 4 = 3 := (flush0_2 t).mp hf
      refine ((congrFun (outC m c t hm) _).trans (scr_last m c t hm y0 y1)).trans ?_
      have e0 : win0_2.index t 0 = 0 := (idx2 t).1
      have e1 : win0_2.index t 1 = 0 := (idx2 t).2
      refine Finset.sum_congr rfl fun k _ => ?_
      congr 2
      · refine congrArg (ix2 k) (Fin.ext ?_)
        show 1024 * (0) + y0.val = win0_2.index t 0 * 1024 + 1 * y0.val
        rw [e0]; omega
      · refine congrArg (ix2 k) (Fin.ext ?_)
        show 1024 * (0) + y1.val = win0_2.index t 1 * 1024 + 1 * y1.val
        rw [e1]; omega
  exact congrFun this i

end kernel

theorem ref {x0 : Cert.Reference6Ideal.S8192x1024.Idx → EReal} {x1 : Cert.Reference6Ideal.S8192x1024.Idx → EReal}
    (i : Fin 1024) (j : Fin 1024) : Cert.Reference6Ideal.Read.val_main_v5 (F := Ideal) x0 x1 (ix2 i j)
      = (∑ k : Fin 8192, x0 (ix2 k i) * x1 (ix2 k j) : EReal) := by
  pointwise [Cert.Reference6Ideal.Read.val_main_v5, Cert.Reference6Ideal.Read.val_main_v4, Cert.Reference6Ideal.Read.val_main_v3, Cert.Reference6Ideal.Read.val_main_v1]
  exact Finset.sum_congr rfl fun k _ => mul_comm _ _

theorem frame_r : quiescent_Reference6Ideal := fun m ρ _ =>
  (θ_run Cert.Reference6Ideal.defs _ _).mono (fun r h => ⟨fun c => (h c).2,
      sem_eq_zero_of_no_sems (by decide) r.2⟩) (Cert.Reference6Ideal.Value.run (F := Ideal) m ρ)

theorem algebraic : algebraic_Kernel6Ideal_Reference6Ideal := by
  intro m ρ m' ρ' hpre hagree
  refine ⟨_, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨e0, e1⟩ := hagree c
  obtain ⟨r0, ra⟩ := h c
  refine ⟨r0.trans ?_, ra⟩
  rw [Cert.Reference6Ideal.Read.val_main_v5_eq]
  funext i
  idx_vars i
  refine (ref i0 i1).trans (.trans ?_ (res m c (ix2 i0 i1)).symm)
  exact Finset.sum_congr rfl fun k _ => congrArg₂ _ (congrFun e0 _) (congrFun e1 _)

end Cert.Mm.DnSquare
end
-- ==== Proof.Mm.DnQkv.lean ====
/-
  The gradient of the query, key and value projection with respect to its weight: the kernel adds, block of 2048
  rows by block of rows, the products of the two operands' rows; the reference sums over all 8192 rows at once.
-/
module

public import proofs.«01_k».proof.Defs
public import proofs.«01_k».proof.Proof.Mm.Blocks
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Mm.DnQkv

open Idealize.ShloMosaic Idealize.ShloMosaic.TcCoe Idealize.SL.Sem

section kernel
open Cert.Kernel7Ideal Cert.Kernel7Ideal.Gen
variable (m : (ℓ : Loc nD τ sig) → Buf (Elt Ideal) ℓ) (c : Dev nD)

/-- The arguments. -/
abbrev A0 : S8192x1024.Idx → EReal := m ((c : Thread nD τ).loc main_arg0)
abbrev A1 : S8192x3072.Idx → EReal := m ((c : Thread nD τ).loc main_arg1)
/-- The blocks a point reads. -/
abbrev B0 (t : Fin cfg0.N) : Vec Ideal S2048x1024 .bf16 := iblk m c 0 t
abbrev B1 (t : Fin cfg0.N) : Vec Ideal S2048x1024 .bf16 := iblk m c 1 t

theorem N_pts : cfg0.N = 12 := N_0

/-- What the scratch holds after the first point of a run. -/
theorem scrA (t : Fin cfg0.N) (h : t.val % 4 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 4 = 0) : (outsAt0 m c t.val t.isLt).2
    = k0_pay2 (outsAt0 m c (t.val - 1) (lt_of_le_of_lt (Nat.sub_le _ _) t.isLt)).2 (B0 m c t) (B1 m c t) := by
  by_cases h1 : t.val % 4 = 3
  · rw [outsAt0_C m c t h h1]
    frame_out
    exact congrArg (fun v => k0_pay2 v (B0 m c t) (B1 m c t)) (Memref.IsWhole.read_unread (Memref.isWhole_whole _) _)
  · rw [outsAt0_B m c t h h1]
    frame_out
    exact congrArg (fun v => k0_pay2 v (B0 m c t) (B1 m c t)) (Memref.IsWhole.read_unread (Memref.isWhole_whole _) _)

/-- The last point of a run stores the scratch. -/
theorem outC (t : Fin cfg0.N) (h : t.val % 4 = 3) : (outsAt0 m c t.val t.isLt).1 = (outsAt0 m c t.val t.isLt).2 := by
  rw [outsAt0_C m c t (by omega) h]
  frame_out

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx1 : ∀ t : Fin cfg0.N, win0_1.index t 0 = t.val % 4 ∧ win0_1.index t 1 = t.val / 4 :=
  (by decide +kernel : ∀ t : Fin grid0.N, win0_1.index t 0 = t.val % 4 ∧ win0_1.index t 1 = t.val / 4)

theorem row_lt (t : Fin cfg0.N) (r : Fin 2048) : 2048 * (t.val % 4) + r.val < 8192 := by omega
theorem col0_lt (t : Fin cfg0.N) (r : Fin 1024) : 1024 * (0) + r.val < 1024 := by
  have := t.isLt; have := N_pts; omega
theorem col1_lt (t : Fin cfg0.N) (r : Fin 1024) : 1024 * (t.val / 4) + r.val < 3072 := by
  have := t.isLt; have := N_pts; omega

theorem blk0 (t : Fin cfg0.N) (r : Fin 2048) (j : Fin 1024) :
    B0 m c t (ix2 r j) = A0 m c (ix2 ⟨2048 * (t.val % 4) + r.val, row_lt t r⟩ ⟨1024 * (0) + j.val, col0_lt t j⟩) := by
  blk_ext! [B0, A0, iblk, V, idx0 t]
theorem blk1 (t : Fin cfg0.N) (r : Fin 2048) (j : Fin 1024) :
    B1 m c t (ix2 r j) = A1 m c (ix2 ⟨2048 * (t.val % 4) + r.val, row_lt t r⟩ ⟨1024 * (t.val / 4) + j.val, col1_lt t j⟩) := by
  blk_ext! [B1, A1, iblk, V, idx1 t]

theorem pay_apply (v : Vec Ideal S1024x1024 .f32) (a : Vec Ideal S2048x1024 .bf16) (b : Vec Ideal S2048x1024 .bf16)
    (i : Fin 1024) (j : Fin 1024) :
    k0_pay2 v a b (ix2 i j) = (v (ix2 i j) + ∑ k : Fin 2048, a (ix2 k i) * b (ix2 k j) : EReal) := by
  pointwise [k0_pay2]

theorem pay_zero (i : Fin 1024) (j : Fin 1024) : k0_pay1 (F := Ideal) (ix2 i j) = (0 : EReal) := by
  pointwise [k0_pay1]

/-- One point's products. -/
abbrev term (t : Fin cfg0.N) (j : S1024x1024.Idx) : EReal := ∑ k : Fin 2048, B0 m c t (ix2 k (j 0)) * B1 m c t (ix2 k (j 1))

/-- After the last point of a run: the sum over all rows. -/
theorem scr_last (t : Fin cfg0.N) (h : t.val % 4 = 3) (i : Fin 1024) (j : Fin 1024) : (outsAt0 m c t.val t.isLt).2 (ix2 i j)
    = (∑ k : Fin 8192, A0 m c (ix2 k ⟨1024 * (0) + i.val, col0_lt t i⟩)
      * A1 m c (ix2 k ⟨1024 * (t.val / 4) + j.val, col1_lt t j⟩) : EReal) := by
  rw [Pipeline.eq_sum_fin_of_reset_step_apply_of_flush (fun n h => (outsAt0 m c n h).2) 4 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 4) (b := 2048) rfl _ (fun s k => by omega)]
  refine Finset.sum_congr rfl fun s _ => Finset.sum_congr rfl fun k _ => ?_
  show B0 m c _ (ix2 k i) * B1 m c _ (ix2 k j) = _
  rw [blk0, blk1]
  have hs : (4 * (t.val / 4) + s.val) % 4 = s.val := by omega
  have hd : (4 * (t.val / 4) + s.val) / 4 = t.val / 4 := by omega
  simp only [hs, hd]

theorem idx2 : ∀ t : Fin cfg0.N, win0_2.index t 0 = 0 ∧ win0_2.index t 1 = t.val / 4 :=
  (by decide +kernel : ∀ t : Fin grid0.N, win0_2.index t 0 = 0 ∧ win0_2.index t 1 = t.val / 4)

/-- The result after the run. -/
theorem res (i : S1024x3072.Idx) : ((dats m 0 c).arrAt 2 cfg0.N : S1024x3072.Idx → EReal) i
    = (∑ k : Fin 8192, A0 m c (ix2 k (i 0)) * A1 m c (ix2 k (i 1)) : EReal) := by
  have := (dats m 0 c).arrAt_eq_of_covers 2
    (fun i : S1024x3072.Idx => (∑ k : Fin 8192, A0 m c (ix2 k (i 0)) * A1 m c (ix2 k (i 1)) : EReal))
    (by decide +kernel) fun t hf y => by
      blk_simp
      rw [after0_2]
      change S1024x1024.Idx at y
      idx_vars y
      have hm : t.val % 4 = 3 := (flush0_2 t).mp hf
      refine ((congrFun (outC m c t hm) _).trans (scr_last m c t hm y0 y1)).trans ?_
      have e0 : win0_2.index t 0 = 0 := (idx2 t).1
      have e1 : win0_2.index t 1 = t.val / 4 := (idx2 t).2
      refine Finset.sum_congr rfl fun k _ => ?_
      congr 2
      · refine congrArg (ix2 k) (Fin.ext ?_)
        show 1024 * (0) + y0.val = win0_2.index t 0 * 1024 + 1 * y0.val
        rw [e0]; omega
      · refine congrArg (ix2 k) (Fin.ext ?_)
        show 1024 * (t.val / 4) + y1.val = win0_2.index t 1 * 1024 + 1 * y1.val
        rw [e1]; omega
  exact congrFun this i

end kernel

theorem ref {x0 : Cert.Reference7Ideal.S8192x1024.Idx → EReal} {x1 : Cert.Reference7Ideal.S8192x3072.Idx → EReal}
    (i : Fin 1024) (j : Fin 3072) : Cert.Reference7Ideal.Read.val_main_v5 (F := Ideal) x0 x1 (ix2 i j)
      = (∑ k : Fin 8192, x0 (ix2 k i) * x1 (ix2 k j) : EReal) := by
  pointwise [Cert.Reference7Ideal.Read.val_main_v5, Cert.Reference7Ideal.Read.val_main_v4, Cert.Reference7Ideal.Read.val_main_v3, Cert.Reference7Ideal.Read.val_main_v1]
  exact Finset.sum_congr rfl fun k _ => mul_comm _ _

theorem frame_r : quiescent_Reference7Ideal := fun m ρ _ =>
  (θ_run Cert.Reference7Ideal.defs _ _).mono (fun r h => ⟨fun c => (h c).2,
      sem_eq_zero_of_no_sems (by decide) r.2⟩) (Cert.Reference7Ideal.Value.run (F := Ideal) m ρ)

theorem algebraic : algebraic_Kernel7Ideal_Reference7Ideal := by
  intro m ρ m' ρ' hpre hagree
  refine ⟨_, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨e0, e1⟩ := hagree c
  obtain ⟨r0, ra⟩ := h c
  refine ⟨r0.trans ?_, ra⟩
  rw [Cert.Reference7Ideal.Read.val_main_v5_eq]
  funext i
  idx_vars i
  refine (ref i0 i1).trans (.trans ?_ (res m c (ix2 i0 i1)).symm)
  exact Finset.sum_congr rfl fun k _ => congrArg₂ _ (congrFun e0 _) (congrFun e1 _)

end Cert.Mm.DnQkv
end
-- ==== Proof.Mm.DnGates.lean ====
/-
  The gradient of the gates' projection with respect to its weight: the kernel adds, block of 2048
  rows by block of rows, the products of the two operands' rows; the reference sums over all 8192 rows at once.
-/
module

public import proofs.«01_k».proof.Defs
public import proofs.«01_k».proof.Proof.Mm.Blocks
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Mm.DnGates

open Idealize.ShloMosaic Idealize.ShloMosaic.TcCoe Idealize.SL.Sem

section kernel
open Cert.Kernel8Ideal Cert.Kernel8Ideal.Gen
variable (m : (ℓ : Loc nD τ sig) → Buf (Elt Ideal) ℓ) (c : Dev nD)

/-- The arguments. -/
abbrev A0 : S8192x1024.Idx → EReal := m ((c : Thread nD τ).loc main_arg0)
abbrev A1 : S8192x256.Idx → EReal := m ((c : Thread nD τ).loc main_arg1)
/-- The blocks a point reads. -/
abbrev B0 (t : Fin cfg0.N) : Vec Ideal S2048x1024 .bf16 := iblk m c 0 t
abbrev B1 (t : Fin cfg0.N) : Vec Ideal S2048x256 .bf16 := iblk m c 1 t

theorem N_pts : cfg0.N = 4 := N_0

/-- What the scratch holds after the first point of a run. -/
theorem scrA (t : Fin cfg0.N) (h : t.val % 4 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 4 = 0) : (outsAt0 m c t.val t.isLt).2
    = k0_pay2 (outsAt0 m c (t.val - 1) (lt_of_le_of_lt (Nat.sub_le _ _) t.isLt)).2 (B0 m c t) (B1 m c t) := by
  by_cases h1 : t.val % 4 = 3
  · rw [outsAt0_C m c t h h1]
    frame_out
    exact congrArg (fun v => k0_pay2 v (B0 m c t) (B1 m c t)) (Memref.IsWhole.read_unread (Memref.isWhole_whole _) _)
  · rw [outsAt0_B m c t h h1]
    frame_out
    exact congrArg (fun v => k0_pay2 v (B0 m c t) (B1 m c t)) (Memref.IsWhole.read_unread (Memref.isWhole_whole _) _)

/-- The last point of a run stores the scratch. -/
theorem outC (t : Fin cfg0.N) (h : t.val % 4 = 3) : (outsAt0 m c t.val t.isLt).1 = (outsAt0 m c t.val t.isLt).2 := by
  rw [outsAt0_C m c t (by omega) h]
  frame_out

theorem idx0 : ∀ t : Fin cfg0.N, win0_0.index t 0 = t.val % 4 ∧ win0_0.index t 1 = 0 :=
  (by decide +kernel : ∀ t : Fin grid0.N, win0_0.index t 0 = t.val % 4 ∧ win0_0.index t 1 = 0)
theorem idx1 : ∀ t : Fin cfg0.N, win0_1.index t 0 = t.val % 4 ∧ win0_1.index t 1 = 0 :=
  (by decide +kernel : ∀ t : Fin grid0.N, win0_1.index t 0 = t.val % 4 ∧ win0_1.index t 1 = 0)

theorem row_lt (t : Fin cfg0.N) (r : Fin 2048) : 2048 * (t.val % 4) + r.val < 8192 := by omega
theorem col0_lt (t : Fin cfg0.N) (r : Fin 1024) : 1024 * (0) + r.val < 1024 := by
  have := t.isLt; have := N_pts; omega
theorem col1_lt (t : Fin cfg0.N) (r : Fin 256) : 256 * (0) + r.val < 256 := by
  have := t.isLt; have := N_pts; omega

theorem blk0 (t : Fin cfg0.N) (r : Fin 2048) (j : Fin 1024) :
    B0 m c t (ix2 r j) = A0 m c (ix2 ⟨2048 * (t.val % 4) + r.val, row_lt t r⟩ ⟨1024 * (0) + j.val, col0_lt t j⟩) := by
  blk_ext! [B0, A0, iblk, V, idx0 t]
theorem blk1 (t : Fin cfg0.N) (r : Fin 2048) (j : Fin 256) :
    B1 m c t (ix2 r j) = A1 m c (ix2 ⟨2048 * (t.val % 4) + r.val, row_lt t r⟩ ⟨256 * (0) + j.val, col1_lt t j⟩) := by
  blk_ext! [B1, A1, iblk, V, idx1 t]

theorem pay_apply (v : Vec Ideal S1024x256 .f32) (a : Vec Ideal S2048x1024 .bf16) (b : Vec Ideal S2048x256 .bf16)
    (i : Fin 1024) (j : Fin 256) :
    k0_pay2 v a b (ix2 i j) = (v (ix2 i j) + ∑ k : Fin 2048, a (ix2 k i) * b (ix2 k j) : EReal) := by
  pointwise [k0_pay2]

theorem pay_zero (i : Fin 1024) (j : Fin 256) : k0_pay1 (F := Ideal) (ix2 i j) = (0 : EReal) := by
  pointwise [k0_pay1]

/-- One point's products. -/
abbrev term (t : Fin cfg0.N) (j : S1024x256.Idx) : EReal := ∑ k : Fin 2048, B0 m c t (ix2 k (j 0)) * B1 m c t (ix2 k (j 1))

/-- After the last point of a run: the sum over all rows. -/
theorem scr_last (t : Fin cfg0.N) (h : t.val % 4 = 3) (i : Fin 1024) (j : Fin 256) : (outsAt0 m c t.val t.isLt).2 (ix2 i j)
    = (∑ k : Fin 8192, A0 m c (ix2 k ⟨1024 * (0) + i.val, col0_lt t i⟩)
      * A1 m c (ix2 k ⟨256 * (0) + j.val, col1_lt t j⟩) : EReal) := by
  rw [Pipeline.eq_sum_fin_of_reset_step_apply_of_flush (fun n h => (outsAt0 m c n h).2) 4 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 4) (b := 2048) rfl _ (fun s k => by omega)]
  refine Finset.sum_congr rfl fun s _ => Finset.sum_congr rfl fun k _ => ?_
  show B0 m c _ (ix2 k i) * B1 m c _ (ix2 k j) = _
  rw [blk0, blk1]
  have hs : (4 * (t.val / 4) + s.val) % 4 = s.val := by omega
  have hd : (4 * (t.val / 4) + s.val) / 4 = t.val / 4 := by omega
  simp only [hs, hd]

theorem idx2 : ∀ t : Fin cfg0.N, win0_2.index t 0 = 0 ∧ win0_2.index t 1 = 0 :=
  (by decide +kernel : ∀ t : Fin grid0.N, win0_2.index t 0 = 0 ∧ win0_2.index t 1 = 0)

/-- The result after the run. -/
theorem res (i : S1024x256.Idx) : ((dats m 0 c).arrAt 2 cfg0.N : S1024x256.Idx → EReal) i
    = (∑ k : Fin 8192, A0 m c (ix2 k (i 0)) * A1 m c (ix2 k (i 1)) : EReal) := by
  have := (dats m 0 c).arrAt_eq_of_covers 2
    (fun i : S1024x256.Idx => (∑ k : Fin 8192, A0 m c (ix2 k (i 0)) * A1 m c (ix2 k (i 1)) : EReal))
    (by decide +kernel) fun t hf y => by
      blk_simp
      rw [after0_2]
      change S1024x256.Idx at y
      idx_vars y
      have hm : t.val % 4 = 3 := (flush0_2 t).mp hf
      refine ((congrFun (outC m c t hm) _).trans (scr_last m c t hm y0 y1)).trans ?_
      have e0 : win0_2.index t 0 = 0 := (idx2 t).1
      have e1 : win0_2.index t 1 = 0 := (idx2 t).2
      refine Finset.sum_congr rfl fun k _ => ?_
      congr 2
      · refine congrArg (ix2 k) (Fin.ext ?_)
        show 1024 * (0) + y0.val = win0_2.index t 0 * 1024 + 1 * y0.val
        rw [e0]; omega
      · refine congrArg (ix2 k) (Fin.ext ?_)
        show 256 * (0) + y1.val = win0_2.index t 1 * 256 + 1 * y1.val
        rw [e1]; omega
  exact congrFun this i

end kernel

theorem ref {x0 : Cert.Reference8Ideal.S8192x1024.Idx → EReal} {x1 : Cert.Reference8Ideal.S8192x256.Idx → EReal}
    (i : Fin 1024) (j : Fin 256) : Cert.Reference8Ideal.Read.val_main_v5 (F := Ideal) x0 x1 (ix2 i j)
      = (∑ k : Fin 8192, x0 (ix2 k i) * x1 (ix2 k j) : EReal) := by
  pointwise [Cert.Reference8Ideal.Read.val_main_v5, Cert.Reference8Ideal.Read.val_main_v4, Cert.Reference8Ideal.Read.val_main_v3, Cert.Reference8Ideal.Read.val_main_v1]
  exact Finset.sum_congr rfl fun k _ => mul_comm _ _

theorem frame_r : quiescent_Reference8Ideal := fun m ρ _ =>
  (θ_run Cert.Reference8Ideal.defs _ _).mono (fun r h => ⟨fun c => (h c).2,
      sem_eq_zero_of_no_sems (by decide) r.2⟩) (Cert.Reference8Ideal.Value.run (F := Ideal) m ρ)

theorem algebraic : algebraic_Kernel8Ideal_Reference8Ideal := by
  intro m ρ m' ρ' hpre hagree
  refine ⟨_, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨e0, e1⟩ := hagree c
  obtain ⟨r0, ra⟩ := h c
  refine ⟨r0.trans ?_, ra⟩
  rw [Cert.Reference8Ideal.Read.val_main_v5_eq]
  funext i
  idx_vars i
  refine (ref i0 i1).trans (.trans ?_ (res m c (ix2 i0 i1)).symm)
  exact Finset.sum_congr rfl fun k _ => congrArg₂ _ (congrFun e0 _) (congrFun e1 _)

end Cert.Mm.DnGates
end
-- ==== Proof.Ffn.IdealRunA.lean ====
module

public import proofs.«01_k».proof.Proof.Gen.Kernel9Ideal.Frame.Runs

@[expose] public section

/-! The first grid point of the feed-forward backward kernel, read over the extended reals. -/

set_option maxRecDepth 16384

noncomputable section

namespace Cert.Ffn.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (Pipeline.UD sig nD τ) ℕ

-- the run's term is large
set_option maxHeartbeats 1000000 in
set_option sl_exec.rejoinHeartbeats 400000 in
set_option sl_exec.dmaWindow true in
set_option sl_exec.dmaWindowSet true in
/-- The body at the first point: the weights are copied from the shards into scratch and the two sums start from zero. The lists are what the run stores into each output and into scratch. -/
noncomputable def runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg13 : Memref sig .tc .vmem S256x1024 .f32) (harg13 : arg13.IsWhole) (arg14 : Memref sig .tc .vmem S256x1024 .bf16) (harg14 : arg14.IsWhole) (arg15 : Memref sig .tc .vmem S256x2816 .bf16) (harg15 : arg15.IsWhole) (arg16 : Memref sig .tc .vmem S256x5632 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S5632x1024 .bf16) (harg19 : arg19.IsWhole) (arg20 : Memref sig .tc .vmem S2816x1024 .bf16) (harg20 : arg20.IsWhole) (hc0 : cond0_0 i) (hc1 : cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L13 : List (View.Piece (Elt F) S256x1024 .f32)), Σ' (L14 : List (View.Piece (Elt F) S256x1024 .bf16)), Σ' (L15 : List (View.Piece (Elt F) S256x2816 .bf16)), Σ' (L16 : List (View.Piece (Elt F) S256x5632 .bf16)), Σ' (L17 : List (View.Piece (Elt F) S1x1024 .f32)), Σ' (L18 : List (View.Piece (Elt F) S1x1024 .f32)), Σ' (L19 : List (View.Piece (Elt F) S5632x1024 .bf16)), { L20 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 arg6 harg6 (Memref.whole main_v30) (Memref.isWhole_whole _) (Memref.whole main_v28) (Memref.isWhole_whole _) (Memref.whole main_v35) (Memref.isWhole_whole _) (Memref.whole main_v33) (Memref.isWhole_whole _) (Memref.whole main_v39) (Memref.isWhole_whole _) (Memref.whole main_v37) (Memref.isWhole_whole _) arg13 harg13 arg14 harg14 arg15 harg15 arg16 harg16 arg17 harg17 arg18 harg18 arg19 harg19 arg20 harg20 cc0_scratch2) K } := by
  refine ⟨?_, ?_, ?_, ?_, ?_, ?_, ?_, ?_, fun W K => ?run⟩
  case run =>
    simp only [cc0_ffn_bwd_eq_skeleton]; unfold cc0_ffn_bwd_skel
    simp only [k0_part5_eq_skeleton, k0_part1_eq_skeleton, k0_part2_eq_skeleton, k0_part3_eq_skeleton, k0_part4_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hq0, Hq1, Hq2, Hq3, Hq4, Hq5, Hq6, Hq7, Hq8, Hq9, Hq10, Hq11, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.Ffn.Ideal

end
-- ==== Proof.Ffn.IdealRunB.lean ====
module

public import proofs.«01_k».proof.Proof.Gen.Kernel9Ideal.Frame.Runs

@[expose] public section

/-! A later grid point of the feed-forward backward kernel, read over the extended reals. -/

set_option maxRecDepth 16384

noncomputable section

namespace Cert.Ffn.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (Pipeline.UD sig nD τ) ℕ

-- the run's term is large
set_option maxHeartbeats 1000000 in
/-- The body at a later point: the weights stay in scratch and the two sums go on. The lists are what the run stores into each output. -/
noncomputable def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x5632 .bf16) (harg4 : arg4.IsWhole) (arg5 : Memref sig .tc .vmem S1x1024 .f32) (harg5 : arg5.IsWhole) (arg6 : Memref sig .tc .vmem S1x1024 .f32) (harg6 : arg6.IsWhole) (arg13 : Memref sig .tc .vmem S256x1024 .f32) (harg13 : arg13.IsWhole) (arg14 : Memref sig .tc .vmem S256x1024 .bf16) (harg14 : arg14.IsWhole) (arg15 : Memref sig .tc .vmem S256x2816 .bf16) (harg15 : arg15.IsWhole) (arg16 : Memref sig .tc .vmem S256x5632 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S5632x1024 .bf16) (harg19 : arg19.IsWhole) (arg20 : Memref sig .tc .vmem S2816x1024 .bf16) (harg20 : arg20.IsWhole) (hc0 : ¬cond0_0 i) (hc1 : ¬cond0_1 i)
    (x0 : Vec F S256x1024 .f32) (x1 : Vec F S256x1024 .f32) (x2 : Vec F S256x1024 .f32) (x3 : Vec F S256x5632 .bf16) (x4 : Vec F S1x1024 .f32) (x5 : Vec F S1x1024 .f32) (o4 : Vec F S1x1024 .f32) (o5 : Vec F S1x1024 .f32) (s0 : Vec F S5632x1024 .bf16) (s1 : Vec F S2816x1024 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L13 : List (View.Piece (Elt F) S256x1024 .f32)), Σ' (L14 : List (View.Piece (Elt F) S256x1024 .bf16)), Σ' (L15 : List (View.Piece (Elt F) S256x2816 .bf16)), Σ' (L16 : List (View.Piece (Elt F) S256x5632 .bf16)), Σ' (L17 : List (View.Piece (Elt F) S1x1024 .f32)), { L18 : List (View.Piece (Elt F) S1x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare o4 ∗ owns (c : Thread nD τ) arg18 fullShare o5 ∗ owns (c : Thread nD τ) arg19 fullShare s0 ∗ owns (c : Thread nD τ) arg20 fullShare s1 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ owns (c : Thread nD τ) arg19 fullShare s0 ∗ owns (c : Thread nD τ) arg20 fullShare s1 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 arg5 harg5 arg6 harg6 (Memref.whole main_v30) (Memref.isWhole_whole _) (Memref.whole main_v28) (Memref.isWhole_whole _) (Memref.whole main_v35) (Memref.isWhole_whole _) (Memref.whole main_v33) (Memref.isWhole_whole _) (Memref.whole main_v39) (Memref.isWhole_whole _) (Memref.whole main_v37) (Memref.isWhole_whole _) arg13 harg13 arg14 harg14 arg15 harg15 arg16 harg16 arg17 harg17 arg18 harg18 arg19 harg19 arg20 harg20 cc0_scratch2) K } := by
  refine ⟨?_, ?_, ?_, ?_, ?_, ?_, fun W K => ?run⟩
  case run =>
    simp only [cc0_ffn_bwd_eq_skeleton]; unfold cc0_ffn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hq0, Hq1, Hq2, Hq3, Hq4, Hq5, Hq6, Hq7, Hq8, Hq9, Hq10, Hq11, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg17.eq_unread hf10; obtain rfl := harg18.eq_unread hf11; obtain rfl := harg19.eq_unread hf12; obtain rfl := harg20.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact harg19.read_unread _
      iexact H12
    isplitl [H13]
    · iexists _; isplitr; · ipureintro; exact harg20.read_unread _
      iexact H13
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.Ffn.Ideal

end
-- ==== Proof.Ffn.IdealFrame.lean ====
module

public import proofs.«01_k».proof.Proof.Ffn.IdealRunA
public import proofs.«01_k».proof.Proof.Ffn.IdealRunB
public import Idealize.ShloMosaic.Lib.Claim

@[expose] public section

/-! The frame of the feed-forward backward kernel, read over the extended reals: what every point leaves, and the run as a whole. -/

set_option maxRecDepth 16384

noncomputable section

namespace Cert.Ffn.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem t_lt (t : Fin cfg0.N) : t.val < 32 := lt_of_lt_of_eq t.isLt (show cfg0.N = 32 from N_0)

/-- The condition of both branches: the point is the first. -/
theorem cA0 (t : Fin cfg0.N) (h : t.val = 0) : cond0_0 (grid0.coords t) := (hcond0_0 t).mpr (by rw [h])
theorem cA1 (t : Fin cfg0.N) (h : t.val = 0) : cond0_1 (grid0.coords t) := (hcond0_1 t).mpr (by rw [h])
theorem cB0 (t : Fin cfg0.N) (h : t.val ≠ 0) : ¬cond0_0 (grid0.coords t) := fun q => by
  have := (hcond0_0 t).mp q; have := t_lt t; omega
theorem cB1 (t : Fin cfg0.N) (h : t.val ≠ 0) : ¬cond0_1 (grid0.coords t) := fun q => by
  have := (hcond0_1 t).mp q; have := t_lt t; omega

/-- The first point's run, at the staging memrefs it is called with. -/
abbrev atA (c : Dev nD) (t : Fin cfg0.N) (h : t.val = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (cA0 t h) (cA1 t h) (iblk m c 0 t) (iblk m c 1 t) (iblk m c 2 t) (iblk m c 3 t) (iblk m c 4 t) (iblk m c 5 t) (V m c main_v30) (V m c main_v28) (V m c main_v35) (V m c main_v33) (V m c main_v39) (V m c main_v37)

/-- A later point's run, the sums and the weights at what the point before left. -/
abbrev atB (c : Dev nD) (t : Fin cfg0.N) (h : t.val ≠ 0) (o4 o5 : Vec F S1x1024 .f32) (s0 : Vec F S5632x1024 .bf16) (s1 : Vec F S2816x1024 .bf16) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (cB0 t h) (cB1 t h) (iblk m c 0 t) (iblk m c 1 t) (iblk m c 2 t) (iblk m c 3 t) (iblk m c 4 t) (iblk m c 5 t) o4 o5 s0 s1 (V m c main_v30) (V m c main_v28) (V m c main_v35) (V m c main_v33) (V m c main_v39) (V m c main_v37)

theorem coverA0 (c : Dev nD) (t : Fin cfg0.N) (h : t.val = 0) (y : S256x1024.Idx) : ∃ pc ∈ (atA m c t h).1, y ∈ pc.1.set :=
  View.cover_of_tiledL (atA m c t h).1 S256x1024.size (by sl_kernel_rfl) y
theorem coverA1 (c : Dev nD) (t : Fin cfg0.N) (h : t.val = 0) (y : S256x1024.Idx) : ∃ pc ∈ (atA m c t h).2.1, y ∈ pc.1.set :=
  View.cover_of_tiledL (atA m c t h).2.1 S256x1024.size (by sl_kernel_rfl) y
theorem coverA2 (c : Dev nD) (t : Fin cfg0.N) (h : t.val = 0) (y : S256x2816.Idx) : ∃ pc ∈ (atA m c t h).2.2.1, y ∈ pc.1.set :=
  View.cover_of_tiledL (atA m c t h).2.2.1 S256x2816.size (by sl_kernel_rfl) y
theorem coverA3 (c : Dev nD) (t : Fin cfg0.N) (h : t.val = 0) (y : S256x5632.Idx) : ∃ pc ∈ (atA m c t h).2.2.2.1, y ∈ pc.1.set :=
  View.cover_of_tiledL (atA m c t h).2.2.2.1 S256x2816.size (by sl_kernel_rfl) y
theorem coverA4 (c : Dev nD) (t : Fin cfg0.N) (h : t.val = 0) (y : S1x1024.Idx) : ∃ pc ∈ (atA m c t h).2.2.2.2.1, y ∈ pc.1.set :=
  View.cover_of_tiledL (atA m c t h).2.2.2.2.1 S1x1024.size (by sl_kernel_rfl) y
theorem coverA5 (c : Dev nD) (t : Fin cfg0.N) (h : t.val = 0) (y : S1x1024.Idx) : ∃ pc ∈ (atA m c t h).2.2.2.2.2.1, y ∈ pc.1.set :=
  View.cover_of_tiledL (atA m c t h).2.2.2.2.2.1 S1x1024.size (by sl_kernel_rfl) y
theorem coverA6 (c : Dev nD) (t : Fin cfg0.N) (h : t.val = 0) (y : S5632x1024.Idx) : ∃ pc ∈ (atA m c t h).2.2.2.2.2.2.1, y ∈ pc.1.set :=
  View.cover_of_tiledL (atA m c t h).2.2.2.2.2.2.1 S704x1024.size (by sl_kernel_rfl) y
theorem coverA7 (c : Dev nD) (t : Fin cfg0.N) (h : t.val = 0) (y : S2816x1024.Idx) : ∃ pc ∈ (atA m c t h).2.2.2.2.2.2.2.1, y ∈ pc.1.set :=
  View.cover_of_tiledL (atA m c t h).2.2.2.2.2.2.2.1 S704x1024.size (by sl_kernel_rfl) y
theorem coverB0 (c : Dev nD) (t : Fin cfg0.N) (h : t.val ≠ 0) (o4 o5 : Vec F S1x1024 .f32) (s0 : Vec F S5632x1024 .bf16) (s1 : Vec F S2816x1024 .bf16) (y : S256x1024.Idx) : ∃ pc ∈ (atB m c t h o4 o5 s0 s1).1, y ∈ pc.1.set :=
  View.cover_of_tiledL (atB m c t h o4 o5 s0 s1).1 S256x1024.size (by sl_kernel_rfl) y
theorem coverB1 (c : Dev nD) (t : Fin cfg0.N) (h : t.val ≠ 0) (o4 o5 : Vec F S1x1024 .f32) (s0 : Vec F S5632x1024 .bf16) (s1 : Vec F S2816x1024 .bf16) (y : S256x1024.Idx) : ∃ pc ∈ (atB m c t h o4 o5 s0 s1).2.1, y ∈ pc.1.set :=
  View.cover_of_tiledL (atB m c t h o4 o5 s0 s1).2.1 S256x1024.size (by sl_kernel_rfl) y
theorem coverB2 (c : Dev nD) (t : Fin cfg0.N) (h : t.val ≠ 0) (o4 o5 : Vec F S1x1024 .f32) (s0 : Vec F S5632x1024 .bf16) (s1 : Vec F S2816x1024 .bf16) (y : S256x2816.Idx) : ∃ pc ∈ (atB m c t h o4 o5 s0 s1).2.2.1, y ∈ pc.1.set :=
  View.cover_of_tiledL (atB m c t h o4 o5 s0 s1).2.2.1 S256x2816.size (by sl_kernel_rfl) y
theorem coverB3 (c : Dev nD) (t : Fin cfg0.N) (h : t.val ≠ 0) (o4 o5 : Vec F S1x1024 .f32) (s0 : Vec F S5632x1024 .bf16) (s1 : Vec F S2816x1024 .bf16) (y : S256x5632.Idx) : ∃ pc ∈ (atB m c t h o4 o5 s0 s1).2.2.2.1, y ∈ pc.1.set :=
  View.cover_of_tiledL (atB m c t h o4 o5 s0 s1).2.2.2.1 S256x2816.size (by sl_kernel_rfl) y
theorem coverB4 (c : Dev nD) (t : Fin cfg0.N) (h : t.val ≠ 0) (o4 o5 : Vec F S1x1024 .f32) (s0 : Vec F S5632x1024 .bf16) (s1 : Vec F S2816x1024 .bf16) (y : S1x1024.Idx) : ∃ pc ∈ (atB m c t h o4 o5 s0 s1).2.2.2.2.1, y ∈ pc.1.set :=
  View.cover_of_tiledL (atB m c t h o4 o5 s0 s1).2.2.2.2.1 S1x1024.size (by sl_kernel_rfl) y
theorem coverB5 (c : Dev nD) (t : Fin cfg0.N) (h : t.val ≠ 0) (o4 o5 : Vec F S1x1024 .f32) (s0 : Vec F S5632x1024 .bf16) (s1 : Vec F S2816x1024 .bf16) (y : S1x1024.Idx) : ∃ pc ∈ (atB m c t h o4 o5 s0 s1).2.2.2.2.2.1, y ∈ pc.1.set :=
  View.cover_of_tiledL (atB m c t h o4 o5 s0 s1).2.2.2.2.2.1 S1x1024.size (by sl_kernel_rfl) y
/-- What the first point leaves in buffer 0 of the outputs and the scratch. -/
def outA0 (c : Dev nD) (t : Fin cfg0.N) (h : t.val = 0) : Vec F S256x1024 .f32 :=
  VO0_6.read (Elt F) (VO0_6.writes (Elt F) VO0_6.junk (atA m c t h).1)
/-- What the first point leaves in buffer 1 of the outputs and the scratch. -/
def outA1 (c : Dev nD) (t : Fin cfg0.N) (h : t.val = 0) : Vec F S256x1024 .bf16 :=
  VO0_7.read (Elt F) (VO0_7.writes (Elt F) VO0_7.junk (atA m c t h).2.1)
/-- What the first point leaves in buffer 2 of the outputs and the scratch. -/
def outA2 (c : Dev nD) (t : Fin cfg0.N) (h : t.val = 0) : Vec F S256x2816 .bf16 :=
  VO0_8.read (Elt F) (VO0_8.writes (Elt F) VO0_8.junk (atA m c t h).2.2.1)
/-- What the first point leaves in buffer 3 of the outputs and the scratch. -/
def outA3 (c : Dev nD) (t : Fin cfg0.N) (h : t.val = 0) : Vec F S256x5632 .bf16 :=
  VO0_9.read (Elt F) (VO0_9.writes (Elt F) VO0_9.junk (atA m c t h).2.2.2.1)
/-- What the first point leaves in buffer 4 of the outputs and the scratch. -/
def outA4 (c : Dev nD) (t : Fin cfg0.N) (h : t.val = 0) : Vec F S1x1024 .f32 :=
  VO0_10.read (Elt F) (VO0_10.writes (Elt F) VO0_10.junk (atA m c t h).2.2.2.2.1)
/-- What the first point leaves in buffer 5 of the outputs and the scratch. -/
def outA5 (c : Dev nD) (t : Fin cfg0.N) (h : t.val = 0) : Vec F S1x1024 .f32 :=
  VO0_11.read (Elt F) (VO0_11.writes (Elt F) VO0_11.junk (atA m c t h).2.2.2.2.2.1)
/-- What the first point leaves in buffer 6 of the outputs and the scratch. -/
def outA6 (c : Dev nD) (t : Fin cfg0.N) (h : t.val = 0) : Vec F S5632x1024 .bf16 :=
  VS0_0.read (Elt F) (VS0_0.writes (Elt F) VS0_0.junk (atA m c t h).2.2.2.2.2.2.1)
/-- What the first point leaves in buffer 7 of the outputs and the scratch. -/
def outA7 (c : Dev nD) (t : Fin cfg0.N) (h : t.val = 0) : Vec F S2816x1024 .bf16 :=
  VS0_1.read (Elt F) (VS0_1.writes (Elt F) VS0_1.junk (atA m c t h).2.2.2.2.2.2.2.1)
/-- What a later point leaves in output 0. -/
def outB0 (c : Dev nD) (t : Fin cfg0.N) (h : t.val ≠ 0) (o4 o5 : Vec F S1x1024 .f32) (s0 : Vec F S5632x1024 .bf16) (s1 : Vec F S2816x1024 .bf16) : Vec F S256x1024 .f32 :=
  VO0_6.read (Elt F) (VO0_6.writes (Elt F) VO0_6.junk (atB m c t h o4 o5 s0 s1).1)
/-- What a later point leaves in output 1. -/
def outB1 (c : Dev nD) (t : Fin cfg0.N) (h : t.val ≠ 0) (o4 o5 : Vec F S1x1024 .f32) (s0 : Vec F S5632x1024 .bf16) (s1 : Vec F S2816x1024 .bf16) : Vec F S256x1024 .bf16 :=
  VO0_7.read (Elt F) (VO0_7.writes (Elt F) VO0_7.junk (atB m c t h o4 o5 s0 s1).2.1)
/-- What a later point leaves in output 2. -/
def outB2 (c : Dev nD) (t : Fin cfg0.N) (h : t.val ≠ 0) (o4 o5 : Vec F S1x1024 .f32) (s0 : Vec F S5632x1024 .bf16) (s1 : Vec F S2816x1024 .bf16) : Vec F S256x2816 .bf16 :=
  VO0_8.read (Elt F) (VO0_8.writes (Elt F) VO0_8.junk (atB m c t h o4 o5 s0 s1).2.2.1)
/-- What a later point leaves in output 3. -/
def outB3 (c : Dev nD) (t : Fin cfg0.N) (h : t.val ≠ 0) (o4 o5 : Vec F S1x1024 .f32) (s0 : Vec F S5632x1024 .bf16) (s1 : Vec F S2816x1024 .bf16) : Vec F S256x5632 .bf16 :=
  VO0_9.read (Elt F) (VO0_9.writes (Elt F) VO0_9.junk (atB m c t h o4 o5 s0 s1).2.2.2.1)
/-- What a later point leaves in output 4. -/
def outB4 (c : Dev nD) (t : Fin cfg0.N) (h : t.val ≠ 0) (o4 o5 : Vec F S1x1024 .f32) (s0 : Vec F S5632x1024 .bf16) (s1 : Vec F S2816x1024 .bf16) : Vec F S1x1024 .f32 :=
  VO0_10.read (Elt F) (VO0_10.writes (Elt F) VO0_10.junk (atB m c t h o4 o5 s0 s1).2.2.2.2.1)
/-- What a later point leaves in output 5. -/
def outB5 (c : Dev nD) (t : Fin cfg0.N) (h : t.val ≠ 0) (o4 o5 : Vec F S1x1024 .f32) (s0 : Vec F S5632x1024 .bf16) (s1 : Vec F S2816x1024 .bf16) : Vec F S1x1024 .f32 :=
  VO0_11.read (Elt F) (VO0_11.writes (Elt F) VO0_11.junk (atB m c t h o4 o5 s0 s1).2.2.2.2.2.1)

/-- The outputs' staging buffers and the scratch after a point: the six outputs, then the two weights. -/
abbrev State (F : FTy → Type) : Type := Vec F S256x1024 .f32 × Vec F S256x1024 .bf16 × Vec F S256x2816 .bf16 × Vec F S256x5632 .bf16 × Vec F S1x1024 .f32 × Vec F S1x1024 .f32 × Vec F S5632x1024 .bf16 × Vec F S2816x1024 .bf16

/-- The state after the first point. -/
def first (c : Dev nD) (t : Fin cfg0.N) (h : t.val = 0) : State F := (outA0 m c t h, outA1 m c t h, outA2 m c t h, outA3 m c t h, outA4 m c t h, outA5 m c t h, outA6 m c t h, outA7 m c t h)
/-- The state after a later point, from the state before it. -/
def later (c : Dev nD) (t : Fin cfg0.N) (h : t.val ≠ 0) (p : State F) : State F :=
  (outB0 m c t h p.2.2.2.2.1 p.2.2.2.2.2.1 p.2.2.2.2.2.2.1 p.2.2.2.2.2.2.2, outB1 m c t h p.2.2.2.2.1 p.2.2.2.2.2.1 p.2.2.2.2.2.2.1 p.2.2.2.2.2.2.2, outB2 m c t h p.2.2.2.2.1 p.2.2.2.2.2.1 p.2.2.2.2.2.2.1 p.2.2.2.2.2.2.2, outB3 m c t h p.2.2.2.2.1 p.2.2.2.2.2.1 p.2.2.2.2.2.2.1 p.2.2.2.2.2.2.2, outB4 m c t h p.2.2.2.2.1 p.2.2.2.2.2.1 p.2.2.2.2.2.2.1 p.2.2.2.2.2.2.2, outB5 m c t h p.2.2.2.2.1 p.2.2.2.2.2.1 p.2.2.2.2.2.2.1 p.2.2.2.2.2.2.2, p.2.2.2.2.2.2.1, p.2.2.2.2.2.2.2)

/-- The state after point `n`. -/
def state (c : Dev nD) : (n : ℕ) → n < cfg0.N → State F
  | 0, hn => first m c ⟨0, hn⟩ rfl
  | n + 1, hn => later m c ⟨n + 1, hn⟩ (Nat.succ_ne_zero n) (state c n (Nat.lt_of_succ_lt hn))

theorem state_first (c : Dev nD) (t : Fin cfg0.N) (h : t.val = 0) : state m c t.val t.isLt = first m c t h := by
  obtain ⟨n, hn⟩ := t
  cases n with
  | zero => rfl
  | succ n => exact absurd h (Nat.succ_ne_zero n)

theorem state_later (c : Dev nD) (t : Fin cfg0.N) (h : t.val ≠ 0) :
    state m c t.val t.isLt = later m c t h (state m c (t.val - 1) (Nat.lt_of_le_of_lt (Nat.sub_le _ _) t.isLt)) := by
  obtain ⟨n, hn⟩ := t
  cases n with
  | zero => exact absurd rfl h
  | succ n => rfl

/-- The kernel's own semaphores at zero and the arrays it copies from, as the launch leaves them. -/
abbrev rest (c : Dev nD) : sProp 𝕄 := iprop((∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(hbPt0 c hbM0_0 (V m c main_v30) ∗ hbPt0 c hbM0_1 (V m c main_v28) ∗ hbPt0 c hbM0_2 (V m c main_v35) ∗ hbPt0 c hbM0_3 (V m c main_v33) ∗ hbPt0 c hbM0_4 (V m c main_v39) ∗ hbPt0 c hbM0_5 (V m c main_v37)))

/-- What holds before point `n`: at first the launch's invariant, afterwards the same with the weights in scratch. -/
def Inv (c : Dev nD) : (n : ℕ) → n ≤ cfg0.N → sProp 𝕄
  | 0, _ => Pipeline.ΦD osem0 spec0 H0 (V m) c
  | n + 1, hn => iprop(iprop(owns (c : Thread nD τ) scM0_0 fullShare (state m c n hn).2.2.2.2.2.2.1 ∗ owns (c : Thread nD τ) scM0_1 fullShare (state m c n hn).2.2.2.2.2.2.2) ∗ rest m c)

theorem Inv_zero (c : Dev nD) (n : ℕ) (h : n ≤ cfg0.N) (hz : n = 0) : Inv m c n h = Pipeline.ΦD osem0 spec0 H0 (V m) c := by
  subst hz; rfl

theorem Inv_succ (c : Dev nD) (n : ℕ) (hn : n < cfg0.N) :
    Inv m c (n + 1) hn = iprop(iprop(owns (c : Thread nD τ) scM0_0 fullShare (state m c n hn).2.2.2.2.2.2.1 ∗ owns (c : Thread nD τ) scM0_1 fullShare (state m c n hn).2.2.2.2.2.2.2) ∗ rest m c) := rfl

theorem Inv_pos (c : Dev nD) (n : ℕ) (h : n ≤ cfg0.N) (hz : n ≠ 0) :
    Inv m c n h = iprop(iprop(owns (c : Thread nD τ) scM0_0 fullShare (state m c (n - 1) (by omega)).2.2.2.2.2.2.1 ∗ owns (c : Thread nD τ) scM0_1 fullShare (state m c (n - 1) (by omega)).2.2.2.2.2.2.2) ∗ rest m c) := by
  cases n with
  | zero => exact absurd rfl hz
  | succ n => rfl

/-- The pipeline's data: the arrays as the region finds them, each input's buffer at its block, the outputs' at the state. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (state m c t.val t.isLt).1
    | ⟨7, _⟩ => (state m c t.val t.isLt).2.1
    | ⟨8, _⟩ => (state m c t.val t.isLt).2.2.1
    | ⟨9, _⟩ => (state m c t.val t.isLt).2.2.2.1
    | ⟨10, _⟩ => (state m c t.val t.isLt).2.2.2.2.1
    | ⟨11, _⟩ => (state m c t.val t.isLt).2.2.2.2.2.1
  Φ t := Inv m c t.val (Nat.le_of_lt_succ t.isLt)
  q _ := fullShare
  owed _ := 0

theorem data_A (c : Dev nD) (w : Fin cfg0.W) : (data m 0 c).A w = V m c (Pipeline.arrRef spec0 w) := by
  dsimp only [data]

theorem data_Inv (c : Dev nD) (t : Fin cfg0.N) : (data m 0 c).Φ t.castSucc = Inv m c t.val (Nat.le_of_lt t.isLt) := by
  dsimp only [data]; exact Pipeline.Dat.Φ_castSucc (Inv m c) t

theorem after0 (c : Dev nD) (t : Fin cfg0.N) : (data m 0 c).after 0 t = iblk m c 0 t := by dsimp only [data]
theorem before0 (c : Dev nD) (t : Fin cfg0.N) (d) : (data m 0 c).before 0 t d = iblk m c 0 t :=
  before0_0_of m (data m 0 c) (data_A m c 0) (after0 m c) t d
theorem after1 (c : Dev nD) (t : Fin cfg0.N) : (data m 0 c).after 1 t = iblk m c 1 t := by dsimp only [data]
theorem before1 (c : Dev nD) (t : Fin cfg0.N) (d) : (data m 0 c).before 1 t d = iblk m c 1 t :=
  before0_1_of m (data m 0 c) (data_A m c 1) (after1 m c) t d
theorem after2 (c : Dev nD) (t : Fin cfg0.N) : (data m 0 c).after 2 t = iblk m c 2 t := by dsimp only [data]
theorem before2 (c : Dev nD) (t : Fin cfg0.N) (d) : (data m 0 c).before 2 t d = iblk m c 2 t :=
  before0_2_of m (data m 0 c) (data_A m c 2) (after2 m c) t d
theorem after3 (c : Dev nD) (t : Fin cfg0.N) : (data m 0 c).after 3 t = iblk m c 3 t := by dsimp only [data]
theorem before3 (c : Dev nD) (t : Fin cfg0.N) (d) : (data m 0 c).before 3 t d = iblk m c 3 t :=
  before0_3_of m (data m 0 c) (data_A m c 3) (after3 m c) t d
theorem after4 (c : Dev nD) (t : Fin cfg0.N) : (data m 0 c).after 4 t = iblk m c 4 t := by dsimp only [data]
theorem before4 (c : Dev nD) (t : Fin cfg0.N) (d) : (data m 0 c).before 4 t d = iblk m c 4 t :=
  before0_4_of m (data m 0 c) (data_A m c 4) (after4 m c) t d
theorem after5 (c : Dev nD) (t : Fin cfg0.N) : (data m 0 c).after 5 t = iblk m c 5 t := by dsimp only [data]
theorem before5 (c : Dev nD) (t : Fin cfg0.N) (d) : (data m 0 c).before 5 t d = iblk m c 5 t :=
  before0_5_of m (data m 0 c) (data_A m c 5) (after5 m c) t d
theorem after6 (c : Dev nD) (t : Fin cfg0.N) : (data m 0 c).after 6 t = (state m c t.val t.isLt).1 := by dsimp only [data]
theorem after7 (c : Dev nD) (t : Fin cfg0.N) : (data m 0 c).after 7 t = (state m c t.val t.isLt).2.1 := by dsimp only [data]
theorem after8 (c : Dev nD) (t : Fin cfg0.N) : (data m 0 c).after 8 t = (state m c t.val t.isLt).2.2.1 := by dsimp only [data]
theorem after9 (c : Dev nD) (t : Fin cfg0.N) : (data m 0 c).after 9 t = (state m c t.val t.isLt).2.2.2.1 := by dsimp only [data]
theorem after10 (c : Dev nD) (t : Fin cfg0.N) : (data m 0 c).after 10 t = (state m c t.val t.isLt).2.2.2.2.1 := by dsimp only [data]
theorem after11 (c : Dev nD) (t : Fin cfg0.N) : (data m 0 c).after 11 t = (state m c t.val t.isLt).2.2.2.2.2.1 := by dsimp only [data]
/-- A sum's buffer is not written back between two points, so it holds what the point before left. -/
theorem kept10 (c : Dev nD) (t : Fin cfg0.N) (h : t.val ≠ 0) (d) :
    (data m 0 c).before 10 t d = (state m c (t.val - 1) (Nat.lt_of_le_of_lt (Nat.sub_le _ _) t.isLt)).2.2.2.2.1 := by
  have hN := t_lt t
  rw [Dat.before_out_kept _ 10 rfl t h (Bool.eq_false_iff.mpr fun q => by have := (flush0_10 _).mp q; dsimp only at this; omega)
    (fun _ => rfl) (fun _ _ => rfl)]
  dsimp only [data]
/-- A sum's buffer is not written back between two points, so it holds what the point before left. -/
theorem kept11 (c : Dev nD) (t : Fin cfg0.N) (h : t.val ≠ 0) (d) :
    (data m 0 c).before 11 t d = (state m c (t.val - 1) (Nat.lt_of_le_of_lt (Nat.sub_le _ _) t.isLt)).2.2.2.2.2.1 := by
  have hN := t_lt t
  rw [Dat.before_out_kept _ 11 rfl t h (Bool.eq_false_iff.mpr fun q => by have := (flush0_11 _).mp q; dsimp only at this; omega)
    (fun _ => rfl) (fun _ _ => rfl)]
  dsimp only [data]

/-- What the body is called with at point `t`. -/
def bodyPre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d)) ∗ (∃ d, owns (c : Thread nD τ) (ms0_1 t) fullShare ((data m 0 c).before 1 t d)) ∗ (∃ d, owns (c : Thread nD τ) (ms0_2 t) fullShare ((data m 0 c).before 2 t d)) ∗ (∃ d, owns (c : Thread nD τ) (ms0_3 t) fullShare ((data m 0 c).before 3 t d)) ∗ (∃ d, owns (c : Thread nD τ) (ms0_4 t) fullShare ((data m 0 c).before 4 t d)) ∗ (∃ d, owns (c : Thread nD τ) (ms0_5 t) fullShare ((data m 0 c).before 5 t d)) ∗ (∃ d, owns (c : Thread nD τ) (ms0_6 t) fullShare ((data m 0 c).before 6 t d)) ∗ (∃ d, owns (c : Thread nD τ) (ms0_7 t) fullShare ((data m 0 c).before 7 t d)) ∗ (∃ d, owns (c : Thread nD τ) (ms0_8 t) fullShare ((data m 0 c).before 8 t d)) ∗ (∃ d, owns (c : Thread nD τ) (ms0_9 t) fullShare ((data m 0 c).before 9 t d)) ∗ (∃ d, owns (c : Thread nD τ) (ms0_10 t) fullShare ((data m 0 c).before 10 t d)) ∗ (∃ d, owns (c : Thread nD τ) (ms0_11 t) fullShare ((data m 0 c).before 11 t d)))

/-- What the body leaves at point `t`. -/
def bodyPost (c : Dev nD) (t : Fin cfg0.N) : sProp 𝕄 :=
  iprop((data m 0 c).Φ t.succ ∗ (data m 0 c).owesAt () t.succ
    ∗ owns (c : Thread nD τ) (ms0_0 t) fullShare ((data m 0 c).after 0 t) ∗ owns (c : Thread nD τ) (ms0_1 t) fullShare ((data m 0 c).after 1 t) ∗ owns (c : Thread nD τ) (ms0_2 t) fullShare ((data m 0 c).after 2 t) ∗ owns (c : Thread nD τ) (ms0_3 t) fullShare ((data m 0 c).after 3 t) ∗ owns (c : Thread nD τ) (ms0_4 t) fullShare ((data m 0 c).after 4 t) ∗ owns (c : Thread nD τ) (ms0_5 t) fullShare ((data m 0 c).after 5 t) ∗ owns (c : Thread nD τ) (ms0_6 t) fullShare ((data m 0 c).after 6 t) ∗ owns (c : Thread nD τ) (ms0_7 t) fullShare ((data m 0 c).after 7 t) ∗ owns (c : Thread nD τ) (ms0_8 t) fullShare ((data m 0 c).after 8 t) ∗ owns (c : Thread nD τ) (ms0_9 t) fullShare ((data m 0 c).after 9 t) ∗ owns (c : Thread nD τ) (ms0_10 t) fullShare ((data m 0 c).after 10 t) ∗ owns (c : Thread nD τ) (ms0_11 t) fullShare ((data m 0 c).after 11 t))

set_option maxHeartbeats 9600000 in
/-- The body at any point takes what it is called with to what it leaves: the first point by its own run, every later one by the other. -/
theorem body_ok (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (data m 0 c).Φ t.succ = Inv m c (t.val + 1) t.isLt from rfl, Inv_succ, after0, after1, after2, after3, after4, after5, after6, after7, after8, after9, after10, after11]
  unfold Dat.owesAt Pipeline.owesWithin
  rw [show (data m 0 c).owed t.castSucc = 0 from rfl, show (data m 0 c).owed t.succ = 0 from rfl]
  by_cases hz : t.val = 0
  · rw [data_Inv m c t, Inv_zero m c _ _ hz, PhiD0_eq, state_first m c t hz]
    unfold first outA0 outA1 outA2 outA3 outA4 outA5 outA6 outA7
    dsimp only
    iintro ⟨⟨⟨HS0, HS1⟩, Hg, ⟨Hq0, Hq1, Hq2, Hq3, Hq4, Hq5, Hq6, Hq7, Hq8, Hq9, Hq10, Hq11⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atA m c t hz).2.2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [HW]; · iexact HW
    iintro ⟨H0, H1, H2, H3, H4, H5, ⟨%e6, H6⟩, ⟨%e7, H7⟩, ⟨%e8, H8⟩, ⟨%e9, H9⟩, ⟨%e10, H10⟩, ⟨%e11, H11⟩, ⟨%es0, HS0⟩, ⟨%es1, HS1⟩, Hq0, Hq1, Hq2, Hq3, Hq4, Hq5, Hq6, Hq7, Hq8, Hq9, Hq10, Hq11, Hh0, Hh1, Hh2, Hh3, Hh4, Hh5, ⟨%W', HW'⟩⟩
    isplitl [HS0 HS1 Hg Hq0 Hq1 Hq2 Hq3 Hq4 Hq5 Hq6 Hq7 Hq8 Hq9 Hq10 Hq11 Hh0 Hh1 Hh2 Hh3 Hh4 Hh5]
    · isplitl [HS0 HS1]
      · isplitl [HS0]
        · unfold owns; iexists _; isplitr
          swap; · iexact HS0
          ipureintro; exact View.read_writes_of_cover _ _ _ _ _ (coverA6 m c t hz)
        unfold owns; iexists _; isplitr
        swap; · iexact HS1
        ipureintro; exact View.read_writes_of_cover _ _ _ _ _ (coverA7 m c t hz)
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      isplitl [Hh2]; · iexact Hh2
      isplitl [Hh3]; · iexact Hh3
      isplitl [Hh4]; · iexact Hh4
      iexact Hh5
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA0 m c t hz)
    isplitl [H7]
    · unfold owns; iexists _; isplitr
      swap; · iexact H7
      ipureintro; exact View.read_writes_of_cover _ _ _ _ _ (coverA1 m c t hz)
    isplitl [H8]
    · unfold owns; iexists _; isplitr
      swap; · iexact H8
      ipureintro; exact View.read_writes_of_cover _ _ _ _ _ (coverA2 m c t hz)
    isplitl [H9]
    · unfold owns; iexists _; isplitr
      swap; · iexact H9
      ipureintro; exact View.read_writes_of_cover _ _ _ _ _ (coverA3 m c t hz)
    isplitl [H10]
    · unfold owns; iexists _; isplitr
      swap; · iexact H10
      ipureintro; exact View.read_writes_of_cover _ _ _ _ _ (coverA4 m c t hz)
    unfold owns; iexists _; isplitr
    swap; · iexact H11
    ipureintro; exact View.read_writes_of_cover _ _ _ _ _ (coverA5 m c t hz)
  · rw [data_Inv m c t, Inv_pos m c _ _ hz, state_later m c t hz]
    simp only [kept10 m c t hz, kept11 m c t hz]
    unfold later outB0 outB1 outB2 outB3 outB4 outB5
    dsimp only
    iintro ⟨⟨⟨HS0, HS1⟩, Hg, ⟨Hq0, Hq1, Hq2, Hq3, Hq4, Hq5, Hq6, Hq7, Hq8, Hq9, Hq10, Hq11⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atB m c t hz _ _ _ _).2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexact H10
    isplitl [H11]; · iexact H11
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [HW]; · iexact HW
    iintro ⟨H0, H1, H2, H3, H4, H5, ⟨%e6, H6⟩, ⟨%e7, H7⟩, ⟨%e8, H8⟩, ⟨%e9, H9⟩, ⟨%e10, H10⟩, ⟨%e11, H11⟩, HS0, HS1, Hq0, Hq1, Hq2, Hq3, Hq4, Hq5, Hq6, Hq7, Hq8, Hq9, Hq10, Hq11, Hh0, Hh1, Hh2, Hh3, Hh4, Hh5, ⟨%W', HW'⟩⟩
    isplitl [HS0 HS1 Hg Hq0 Hq1 Hq2 Hq3 Hq4 Hq5 Hq6 Hq7 Hq8 Hq9 Hq10 Hq11 Hh0 Hh1 Hh2 Hh3 Hh4 Hh5]
    · isplitl [HS0 HS1]
      · isplitl [HS0]; · iexact HS0
        iexact HS1
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      isplitl [Hh2]; · iexact Hh2
      isplitl [Hh3]; · iexact Hh3
      isplitl [Hh4]; · iexact Hh4
      iexact Hh5
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB0 m c t hz _ _ _ _)
    isplitl [H7]
    · unfold owns; iexists _; isplitr
      swap; · iexact H7
      ipureintro; exact View.read_writes_of_cover _ _ _ _ _ (coverB1 m c t hz _ _ _ _)
    isplitl [H8]
    · unfold owns; iexists _; isplitr
      swap; · iexact H8
      ipureintro; exact View.read_writes_of_cover _ _ _ _ _ (coverB2 m c t hz _ _ _ _)
    isplitl [H9]
    · unfold owns; iexists _; isplitr
      swap; · iexact H9
      ipureintro; exact View.read_writes_of_cover _ _ _ _ _ (coverB3 m c t hz _ _ _ _)
    isplitl [H10]
    · unfold owns; iexists _; isplitr
      swap; · iexact H10
      ipureintro; exact View.read_writes_of_cover _ _ _ _ _ (coverB4 m c t hz _ _ _ _)
    unfold owns; iexists _; isplitr
    swap; · iexact H11
    ipureintro; exact View.read_writes_of_cover _ _ _ _ _ (coverB5 m c t hz _ _ _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body_ok m c t) rfl .rfl fun _ => .rfl

theorem enter (c : Dev nD) : Pipeline.ΦD osem0 spec0 H0 (V m) c ⊢ (data m 0 c).Φ 0 := by
  rw [show (data m 0 c).Φ 0 = Inv m c 0 (Nat.zero_le _) from rfl, Inv_zero m c 0 _ rfl]
  try exact Idealize.SL.BI.Entails.refl _

/-- After the last point the weights in scratch are forgotten and the launch's invariant is back. -/
theorem leave (c : Dev nD) : (data m 0 c).Φ (Fin.last cfg0.N) ⊢ Pipeline.ΦD osem0 spec0 H0 (V m) c := by
  have hN : (Fin.last cfg0.N).val ≠ 0 := by rw [Fin.val_last]; have : cfg0.N = 32 := N_0; omega
  rw [show (data m 0 c).Φ (Fin.last cfg0.N) = Inv m c (Fin.last cfg0.N).val (Nat.le_of_lt_succ (Fin.last cfg0.N).isLt) from rfl, Inv_pos m c _ _ hN, PhiD0_eq]
  iintro ⟨⟨HS0, HS1⟩, Hr⟩
  isplitl [HS0 HS1]
  · isplitl [HS0]
    · iexists _; iexact HS0
    iexists _; iexact HS1
  iexact Hr

set_option backward.isDefEq.respectTransparency.types false in
/-- The launch: every run ends with the arrays at what the pipeline's data say and every semaphore at zero. -/
theorem run_quiet : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 osem0 defs₀ Variants.none ownSemFacts0 H0 H0_sub m ρ main
    (hbody := fun c => (obligation m c).loose) (hshare := fun c => (data m 0 c).share_full fun _ => rfl)
    (howed := fun _ _ => rfl) (V := V m) (hmain := hmain m Variants.none) (hA := data_A m)
    (hin := enter m) (hout := leave m)

theorem run_all : θ_run defs (onTc (τ := τ) (main (F := F))) (s₀ m ρ) (Pipeline.FramePost cfgs (data m) 0 (V m)) :=
  (θ_run defs _ _).mono (fun _ h => h.1) (run_quiet m ρ)

/-- The frame: the arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (data m) (data_A m) (run_all m ρ)) ((θ_run defs _ _).mono (fun _ h => h.2) (run_quiet m ρ))

end Cert.Ffn.Ideal

end
-- ==== Proof.Ffn.Point.lean ====
module

public import proofs.«01_k».proof.Proof.Ffn.IdealFrame
public import proofs.«01_k».proof.Proof.Mm.Blocks

@[expose] public section

/-! What every point leaves, as the body's own arithmetic over the point's blocks and the weights in scratch. -/

set_option maxRecDepth 16384

noncomputable section

namespace Cert.Ffn

open Cert.Kernel9Ideal Cert.Kernel9Ideal.Gen Cert.Ffn.Ideal Idealize.ShloMosaic Idealize.ShloMosaic.TcCoe Idealize.SL.Sem

/-! ## The body's outputs from its operands -/

variable (D x y : Vec Ideal S256x1024 .f32) (gu : Vec Ideal S256x5632 .bf16) (g0 g1 : Vec Ideal S1x1024 .f32)
  (wgu : Vec Ideal S5632x1024 .bf16) (wd : Vec Ideal S2816x1024 .bf16)

/-- The saved gate and up halves, and the weights' halves. -/
def gateK : Vec Ideal S256x2816 .bf16 := View.ld gu (Rect.unit ![0, 0] ![256, 2816] inb_S256x5632_S256x2816_0_0)
def upK : Vec Ideal S256x2816 .bf16 := View.ld gu (Rect.unit ![0, 2816] ![256, 2816] inb_S256x5632_S256x2816_0_2816)
def wgK : Vec Ideal S2816x1024 .bf16 := View.ld wgu (Rect.unit ![0, 0] ![2816, 1024] inb_S5632x1024_S2816x1024_0_0)
def wuK : Vec Ideal S2816x1024 .bf16 := View.ld wgu (Rect.unit ![2816, 0] ![2816, 1024] inb_S5632x1024_S2816x1024_2816_0)

/-- The gradients of the inner norm's argument, of the two halves, of the block's argument and of the two gains. -/
def dyK : FVec Ideal S256x1024 .f32 := k0_pay9 D y g1
def dgateK : FVec Ideal S256x2816 .bf16 := k0_pay20 (dyK D y g1) wd (gateK gu) (upK gu)
def dupK : FVec Ideal S256x2816 .bf16 := k0_pay21 (dyK D y g1) wd (gateK gu)
def out0K : FVec Ideal S256x1024 .f32 :=
  k0_pay2 D (k0_pay25 (k0_pay13 (F := Ideal)) (dgateK D y gu g1 wd) (dupK D y gu g1 wd) (wgK wgu) (wuK wgu) x g0)
def out1K : FVec Ideal S256x1024 .bf16 := k0_pay12 (dyK D y g1)
def out2K : FVec Ideal S256x2816 .bf16 := k0_pay19 (gateK gu) (upK gu)
def out3K : S256x5632.Idx → EReal :=
  View.canon (Val := Elt Ideal) (s := S256x5632) (e := .bf16)
    [⟨Rect.unit (s := S256x5632) ![0, 2816] ![256, 2816] inb_S256x5632_S256x2816_0_2816, dupK D y gu g1 wd⟩,
     ⟨Rect.unit (s := S256x5632) ![0, 0] ![256, 2816] inb_S256x5632_S256x2816_0_0, dgateK D y gu g1 wd⟩]
def out4K (o : Vec Ideal S1x1024 .f32) : FVec Ideal S1x1024 .f32 :=
  k0_pay1 (k0_pay26 (k0_pay13 (F := Ideal)) (dgateK D y gu g1 wd) (dupK D y gu g1 wd) (wgK wgu) (wuK wgu) x) o
def out5K (o : Vec Ideal S1x1024 .f32) : FVec Ideal S1x1024 .f32 := k0_pay11 (k0_pay10 D y) o

/-- A load of what the stores left, whether or not they cover it. -/
theorem readCov_ld {S : Shape} {e : EltTy} {κ : Kind} {sp : Space} (v : View sig κ sp S e)
    (L : List (View.Piece (Elt Ideal) S e)) (R : Rect S) : v.readCov L R.toLoadRect = View.ld (View.canon L) R :=
  View.readCov_eq_canon' v L R

/-! ## The two runs -/

variable (m : (ℓ : Loc nD τ sig) → Buf (Elt Ideal) ℓ) (c : Dev nD)

abbrev B0 (t : Fin cfg0.N) : Vec Ideal S256x1024 .f32 := iblk m c 0 t
abbrev B1 (t : Fin cfg0.N) : Vec Ideal S256x1024 .f32 := iblk m c 1 t
abbrev B2 (t : Fin cfg0.N) : Vec Ideal S256x1024 .f32 := iblk m c 2 t
abbrev B3 (t : Fin cfg0.N) : Vec Ideal S256x5632 .bf16 := iblk m c 3 t
abbrev B4 (t : Fin cfg0.N) : Vec Ideal S1x1024 .f32 := iblk m c 4 t
abbrev B5 (t : Fin cfg0.N) : Vec Ideal S1x1024 .f32 := iblk m c 5 t

section later
variable (t : Fin cfg0.N) (h : t.val ≠ 0) (o4 o5 : Vec Ideal S1x1024 .f32) (s0 : Vec Ideal S5632x1024 .bf16) (s1 : Vec Ideal S2816x1024 .bf16)

theorem back0 : View.read (Elt Ideal) (View.whole cc0_scratch0) ((Memref.isWhole_whole cc0_scratch0).unread s0) = s0 :=
  Memref.IsWhole.read_unread (Memref.isWhole_whole _) _
theorem back1 : View.read (Elt Ideal) (View.whole cc0_scratch1) ((Memref.isWhole_whole cc0_scratch1).unread s1) = s1 :=
  Memref.IsWhole.read_unread (Memref.isWhole_whole _) _

set_option maxHeartbeats 1000000 in
theorem later0 : outB0 m c t h o4 o5 s0 s1 = out0K (B0 m c t) (B1 m c t) (B2 m c t) (B3 m c t) (B4 m c t) (B5 m c t) s0 s1 := by
  unfold outB0 atB
  frame_out
  simp only [back0, back1]
  unfold out0K dupK dgateK dyK gateK upK wgK wuK
  rfl
theorem later1 : outB1 m c t h o4 o5 s0 s1 = out1K (B0 m c t) (B2 m c t) (B5 m c t) := by
  unfold outB1 atB
  frame_out
  rfl
theorem later2 : outB2 m c t h o4 o5 s0 s1 = out2K (B3 m c t) := by
  unfold outB2 atB
  frame_out
  rfl
set_option maxHeartbeats 1000000 in
theorem later3 : outB3 m c t h o4 o5 s0 s1 = out3K (B0 m c t) (B2 m c t) (B3 m c t) (B5 m c t) s1 := by
  unfold outB3 atB
  frame_out
  simp only [back1]
  unfold dupK dgateK dyK gateK upK
  rfl
set_option maxHeartbeats 1000000 in
theorem later4 : outB4 m c t h o4 o5 s0 s1 = out4K (B0 m c t) (B1 m c t) (B2 m c t) (B3 m c t) (B5 m c t) s0 s1 o4 := by
  unfold outB4 atB
  frame_out
  simp only [back0, back1]
  unfold out4K dupK dgateK dyK gateK upK wgK wuK
  rfl
theorem later5 : outB5 m c t h o4 o5 s0 s1 = out5K (B0 m c t) (B2 m c t) o5 := by
  unfold outB5 atB
  frame_out
  rfl
end later

section first
variable (t : Fin cfg0.N) (h : t.val = 0)

theorem canon6 : outA6 m c t h = View.canon (atA m c t h).2.2.2.2.2.2.1 := by
  unfold outA6; exact View.read_writes_junk_eq_canon _ _
theorem canon7 : outA7 m c t h = View.canon (atA m c t h).2.2.2.2.2.2.2.1 := by
  unfold outA7; exact View.read_writes_junk_eq_canon _ _

set_option maxHeartbeats 1000000 in
theorem first0_of (w6 : Vec Ideal S5632x1024 .bf16) (e6 : w6 = View.canon (atA m c t h).2.2.2.2.2.2.1) (w7 : Vec Ideal S2816x1024 .bf16) (e7 : w7 = View.canon (atA m c t h).2.2.2.2.2.2.2.1) : outA0 m c t h = out0K (B0 m c t) (B1 m c t) (B2 m c t) (B3 m c t) (B4 m c t) (B5 m c t) w6 w7 := by
  unfold outA0
  unfold atA at *
  frame_out
  frame_out at e6
  frame_out at e7
  simp only [readCov_ld]
  rw [← e6, ← e7, View.ld_unit_lit _ _ (by decide)]
  unfold out0K dupK dgateK dyK gateK upK wgK wuK
  rfl
theorem first0 : outA0 m c t h = out0K (B0 m c t) (B1 m c t) (B2 m c t) (B3 m c t) (B4 m c t) (B5 m c t) (outA6 m c t h) (outA7 m c t h) :=
  first0_of m c t h _ (canon6 m c t h) _ (canon7 m c t h)
theorem first1 : outA1 m c t h = out1K (B0 m c t) (B2 m c t) (B5 m c t) := by
  unfold outA1 atA
  frame_out
  rfl
theorem first2 : outA2 m c t h = out2K (B3 m c t) := by
  unfold outA2 atA
  frame_out
  rfl
set_option maxHeartbeats 1000000 in
theorem first3_of (w7 : Vec Ideal S2816x1024 .bf16) (e7 : w7 = View.canon (atA m c t h).2.2.2.2.2.2.2.1) : outA3 m c t h = out3K (B0 m c t) (B2 m c t) (B3 m c t) (B5 m c t) w7 := by
  unfold outA3
  unfold atA at *
  frame_out
  frame_out at e7
  simp only [readCov_ld]
  rw [← e7, View.ld_unit_lit _ _ (by decide)]
  unfold dupK dgateK dyK gateK upK
  rfl
theorem first3 : outA3 m c t h = out3K (B0 m c t) (B2 m c t) (B3 m c t) (B5 m c t) (outA7 m c t h) :=
  first3_of m c t h _ (canon7 m c t h)
set_option maxHeartbeats 1000000 in
theorem first4_of (w6 : Vec Ideal S5632x1024 .bf16) (e6 : w6 = View.canon (atA m c t h).2.2.2.2.2.2.1) (w7 : Vec Ideal S2816x1024 .bf16) (e7 : w7 = View.canon (atA m c t h).2.2.2.2.2.2.2.1) : outA4 m c t h = out4K (B0 m c t) (B1 m c t) (B2 m c t) (B3 m c t) (B5 m c t) w6 w7 (k0_pay3 (F := Ideal)) := by
  unfold outA4
  unfold atA at *
  frame_out
  frame_out at e6
  frame_out at e7
  simp only [readCov_ld]
  rw [← e6, ← e7, View.ld_unit_lit _ _ (by decide)]
  unfold out4K dupK dgateK dyK gateK upK wgK wuK
  rfl
theorem first4 : outA4 m c t h = out4K (B0 m c t) (B1 m c t) (B2 m c t) (B3 m c t) (B5 m c t) (outA6 m c t h) (outA7 m c t h) (k0_pay3 (F := Ideal)) :=
  first4_of m c t h _ (canon6 m c t h) _ (canon7 m c t h)
theorem first5 : outA5 m c t h = out5K (B0 m c t) (B2 m c t) (k0_pay4 (F := Ideal)) := by
  unfold outA5 atA
  frame_out
  rfl
end first

end Cert.Ffn

end

end
-- ==== Proof.Ffn.Spec.lean ====
/-
  The feed-forward block's backward pass over the real numbers, one row at a time: an inner norm, a gated product, an
  outer norm, and the cotangents of all of them.
-/
module

public import proofs.«01_k».proof.Proof.Sg.Row

@[expose] public section

noncomputable section

namespace Cert.Ffn

open Idealize.ShloMosaic

/-! ## The words that are constants -/

/-- The epsilon of the norms: the value of the f32 nearest to 1e-6. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul, -EReal.coe_neg]; norm_num

theorem ofBits_1024 : Ideal.ofBits .f32 0x44800000#32 = ((1024 : ℝ) : EReal) := by
  simp [Ideal.ofBits, Ideal.ieee, -EReal.coe_mul, -EReal.coe_neg]; norm_num

/-! ## The norm of a row and its cotangent -/

section norm
variable (g z c : ℕ → ℝ)

/-- The mean square, its reciprocal root, the normed row. -/
def ms : ℝ := (∑ k : Fin 1024, z k * z k) / 1024
def rs : ℝ := (Real.sqrt (ms z + eps))⁻¹
def xh (j : ℕ) : ℝ := z j * rs z
/-- The cotangent `c` of the normed row with gain `g`, taken back to the row. -/
def back (j : ℕ) : ℝ := rs z * (c j * g j - xh z j * ((∑ k : Fin 1024, c k * g k * xh z k) / 1024))

theorem ms_eps_pos : 0 < ms z + eps :=
  add_pos_of_nonneg_of_pos (div_nonneg (Finset.sum_nonneg fun _ _ => mul_self_nonneg _) (by norm_num)) eps_pos

theorem rs_sq : rs z * rs z * (ms z + eps) = 1 := by
  have h := ms_eps_pos z
  have hs : Real.sqrt (ms z + eps) ≠ 0 := (Real.sqrt_pos.mpr h).ne'
  unfold rs
  rw [← mul_inv, Real.mul_self_sqrt h.le]
  exact inv_mul_cancel₀ h.ne'

/-- What differentiating the mean square sends to every element of the row, twice. -/
def through : ℝ := (∑ k : Fin 1024, z k * (c k * g k)) * (-(1 / 2) * (rs z / (ms z + eps))) / 1024

theorem back_eq (j : ℕ) : c j * g j * rs z + z j * through g z c + through g z c * z j = back g z c j := by
  have h := ms_eps_pos z
  have e : rs z / (ms z + eps) = rs z * rs z * rs z := by
    rw [div_eq_iff h.ne', mul_assoc (rs z * rs z), mul_comm (rs z) (ms z + eps), ← mul_assoc, rs_sq, one_mul]
  have s : ∑ k : Fin 1024, c k * g k * xh z k = rs z * ∑ k : Fin 1024, z k * (c k * g k) := by
    rw [Finset.mul_sum]
    exact Finset.sum_congr rfl fun k _ => by unfold xh; ring
  unfold through back
  rw [e, s]
  unfold xh
  ring
end norm

/-! ## The logistic gate -/

def sgm (t : ℝ) : ℝ := 1 / (1 + Real.exp (-t))

theorem one_add_exp_ne (t : ℝ) : 1 + Real.exp (-t) ≠ 0 := by positivity

/-! ## The block -/

/-- The gains of the two norms and the three weights. -/
structure Par where
  g0 : ℕ → ℝ
  g1 : ℕ → ℝ
  wg : ℕ → ℕ → ℝ
  wu : ℕ → ℕ → ℝ
  wd : ℕ → ℕ → ℝ

variable (P : Par) (z c : ℕ → ℝ)

namespace Par
/-- Forward: the normed row, the two halves, their gated product, the product with the last weight. -/
def hh (j : ℕ) : ℝ := xh z j * P.g0 j
def ga (f : ℕ) : ℝ := ∑ k : Fin 1024, P.hh z k * P.wg k f
def up (f : ℕ) : ℝ := ∑ k : Fin 1024, P.hh z k * P.wu k f
def act (f : ℕ) : ℝ := P.ga z f * sgm (P.ga z f) * P.up z f
def yy (j : ℕ) : ℝ := ∑ f : Fin 2816, P.act z f * P.wd f j
/-- Backward, from the cotangent `c` of the block's output row. -/
def half (c : ℕ → ℝ) (j : ℕ) : ℝ := 1 / 2 * c j
def dy (j : ℕ) : ℝ := back P.g1 (P.yy z) (half c) j
def da (f : ℕ) : ℝ := ∑ j : Fin 1024, P.dy z c j * P.wd f j
def dg (f : ℕ) : ℝ := P.da z c f * P.up z f * (sgm (P.ga z f) * (1 + P.ga z f * (1 - sgm (P.ga z f))))
def du (f : ℕ) : ℝ := P.da z c f * (P.ga z f * sgm (P.ga z f))
def dh (j : ℕ) : ℝ := (∑ f : Fin 2816, P.dg z c f * P.wg j f) + ∑ f : Fin 2816, P.du z c f * P.wu j f
def dx (j : ℕ) : ℝ := c j + back P.g0 z (P.dh z c) j
/-- The two halves' cotangents side by side. -/
def dgu (f : ℕ) : ℝ := if f < 2816 then P.dg z c f else P.du z c (f - 2816)
/-- The row's part of the two gains' cotangents. -/
def dg0 (j : ℕ) : ℝ := P.dh z c j * xh z j
def dg1 (j : ℕ) : ℝ := half c j * xh (P.yy z) j
end Par

end Cert.Ffn

end

end
-- ==== Proof.Ffn.Body.lean ====
/-
  The kernel's body read at an index: each output is the real number the specification names, when the blocks and the
  weights in scratch hold real numbers.
-/
module

public import proofs.«01_k».proof.Proof.Ffn.Point
public import proofs.«01_k».proof.Proof.Ffn.Spec

@[expose] public section

set_option maxRecDepth 16384

noncomputable section

namespace Cert.Ffn

open Cert.Kernel9Ideal Cert.Kernel9Ideal.Gen Idealize.ShloMosaic Idealize.ShloMosaic.TcCoe
open Cert.Sg (IsR coe_sum div_real rsqrt_real ofBits_half ofBits_one)

/-! ## The norms -/

section norm
variable {zs ds : ℕ → ℕ → ℝ} {g : ℕ → ℝ} {y D : Vec Ideal S256x1024 .f32} {g1 : Vec Ideal S1x1024 .f32}
  (hy : IsR y zs) (hD : IsR D ds) (hg : IsR g1 fun _ => g)

include hy
theorem same_val : IsR (k0_pay5 y) zs := fun r j => by
  pointwise [k0_pay5]
  exact hy r j

theorem rs_val : IsR (k0_pay6 y) fun r _ => rs (zs r) := fun r j => by
  have hs := same_val hy
  pointwise [k0_pay6]
  simp only [hs _ _, ← EReal.coe_mul]
  rw [← coe_sum, ofBits_1024, div_real (by norm_num), ofBits_eps, ← EReal.coe_add, rsqrt_real]; rfl
  exact ms_eps_pos (zs r)

theorem rs_val' : IsR (k0_pay23 y) fun r _ => rs (zs r) := fun r j => by
  pointwise [k0_pay23]
  simp only [hy _ _, ← EReal.coe_mul]
  rw [← coe_sum, ofBits_1024, div_real (by norm_num), ofBits_eps, ← EReal.coe_add, rsqrt_real]; rfl
  exact ms_eps_pos (zs r)

theorem xh_val : IsR (k0_pay8 y) fun r => xh (zs r) := fun r j => by
  have h1 := same_val hy r j
  have h2 := rs_val hy
  pointwise [k0_pay8]
  rw [h1, h2, ← EReal.coe_mul]; rfl

theorem xh_val' : IsR (k0_pay24 y) fun r => xh (zs r) := fun r j => by
  have h1 := hy r j
  have h2 := rs_val' hy
  pointwise [k0_pay24]
  rw [h1, h2, ← EReal.coe_mul]; rfl

omit hy
include hD
theorem half_val : IsR (k0_pay7 D) fun r => Par.half (ds r) := fun r j => by
  have h1 := hD r j
  pointwise [k0_pay7]
  rw [h1, ofBits_half, ← EReal.coe_mul]; rfl

include hy hg
theorem back_val : IsR (k0_pay9 D y g1) fun r => back g (zs r) (Par.half (ds r)) := fun r j => by
  have h1 := half_val hD
  have h2 := xh_val hy
  have h3 := rs_val hy
  pointwise [k0_pay9]
  simp only [h1 _ _, h2 _ _, h3 _ _, hg _ _, ← EReal.coe_mul, ← coe_sum]
  rw [ofBits_1024, div_real (by norm_num), ← EReal.coe_mul, ← EReal.coe_sub, ← EReal.coe_mul]; rfl

omit hg
theorem gain1_val (r : Fin 1) (j : Fin 1024) :
    k0_pay10 D y (ix2 r j) = ((∑ t : Fin 256, Par.half (ds t) j * xh (zs t) j : ℝ) : EReal) := by
  have h1 := half_val hD
  have h2 := xh_val hy
  pointwise [k0_pay10]
  simp only [h1 _ _, h2 _ _, ← EReal.coe_mul, ← coe_sum]
end norm

/-! ## The halves -/

section halves
variable {ga up : ℕ → ℕ → ℝ} {v w : Vec Ideal S256x2816 .bf16} (hv : IsR v ga) (hw : IsR w up)

include hv
theorem gate_val : IsR (k0_pay15 v) ga := fun r j => by
  pointwise [k0_pay15]
  exact hv r j

theorem sgm_val : IsR (k0_pay17 v) fun r j => sgm (ga r j) := fun r j => by
  have h1 := gate_val hv r j
  pointwise [k0_pay17]
  rw [h1, zero_sub, ← EReal.coe_neg, Ideal.exp_coe, ← EReal.coe_one, ← EReal.coe_add, div_real (one_add_exp_ne _)]; rfl

theorem silu_val : IsR (k0_pay18 v) fun r j => ga r j * sgm (ga r j) := fun r j => by
  have h1 := gate_val hv r j
  have h2 := sgm_val hv r j
  pointwise [k0_pay18]
  rw [h1, h2, ← EReal.coe_mul]

omit hv
include hw
theorem up_val : IsR (k0_pay16 w) up := fun r j => by
  pointwise [k0_pay16]
  exact hw r j

include hv
theorem act_val : IsR (k0_pay19 v w) fun r j => ga r j * sgm (ga r j) * up r j := fun r j => by
  have h1 := silu_val hv r j
  have h2 := up_val hw r j
  pointwise [k0_pay19]
  rw [h1, h2, ← EReal.coe_mul]

variable {dys wd : ℕ → ℕ → ℝ} {dyv : FVec Ideal S256x1024 .f32} {W : Vec Ideal S2816x1024 .bf16} (hdy : IsR dyv dys) (hW : IsR W wd)
omit hv hw
include hdy hW
theorem da_val : IsR (k0_pay14 dyv W) fun r f => ∑ j : Fin 1024, dys r j * wd f j := fun r f => by
  pointwise [k0_pay14, k0_pay12]
  simp only [hdy _ _, hW _ _, ← EReal.coe_mul, ← coe_sum, zero_add, add_zero]

include hv hw
theorem dg_val : IsR (k0_pay20 dyv W v w) fun r f => (∑ j : Fin 1024, dys r j * wd f j) * up r f *
    (sgm (ga r f) * (1 + ga r f * (1 - sgm (ga r f)))) := fun r f => by
  have h1 := da_val hdy hW r f
  have h2 := up_val hw r f
  have h3 := sgm_val hv r f
  have h4 := gate_val hv r f
  pointwise [k0_pay20]
  rw [h1, h2, h3, h4, ← EReal.coe_one]
  simp only [← EReal.coe_mul, ← EReal.coe_sub, ← EReal.coe_add]

omit hw
theorem du_val : IsR (k0_pay21 dyv W v) fun r f => (∑ j : Fin 1024, dys r j * wd f j) * (ga r f * sgm (ga r f)) := fun r f => by
  have h1 := da_val hdy hW r f
  have h2 := silu_val hv r f
  pointwise [k0_pay21]
  rw [h1, h2, ← EReal.coe_mul]
end halves

section outer
variable {dgs dus wg wu zs ds : ℕ → ℕ → ℝ} {g : ℕ → ℝ} {a b : FVec Ideal S256x2816 .bf16} {U V : Vec Ideal S2816x1024 .bf16}
  {x : Vec Ideal S256x1024 .f32} {g0 : Vec Ideal S1x1024 .f32}
  (ha : IsR a dgs) (hb : IsR b dus) (hU : IsR U fun f d => wg d f) (hV : IsR V fun f d => wu d f) (hx : IsR x zs) (hg : IsR g0 fun _ => g)

/-- The cotangent of the inner norm's output. -/
abbrev dhOf (dgs dus wg wu : ℕ → ℕ → ℝ) (r j : ℕ) : ℝ := (∑ f : Fin 2816, dgs r f * wg j f) + ∑ f : Fin 2816, dus r f * wu j f

include ha hb hU hV
theorem dh_val : IsR (k0_pay22 (k0_pay13 (F := Ideal)) a b U V) (dhOf dgs dus wg wu) := fun r j => by
  pointwise [k0_pay22, k0_pay13]
  simp only [ha _ _, hb _ _, hU _ _, hV _ _, ← EReal.coe_mul, ← coe_sum, zero_add, add_zero]
  rw [← EReal.coe_add]

include hx
theorem gain0_val (r : Fin 1) (j : Fin 1024) : k0_pay26 (k0_pay13 (F := Ideal)) a b U V x (ix2 r j) =
    ((∑ t : Fin 256, dhOf dgs dus wg wu t j * xh (zs t) j : ℝ) : EReal) := by
  have h1 := dh_val ha hb hU hV
  have h2 := xh_val' hx
  pointwise [k0_pay26]
  simp only [h1 _ _, h2 _ _, ← EReal.coe_mul, ← coe_sum]

include hg
theorem back0_val : IsR (k0_pay25 (k0_pay13 (F := Ideal)) a b U V x g0) fun r => back g (zs r) (dhOf dgs dus wg wu r) := fun r j => by
  have h1 := dh_val ha hb hU hV
  have h2 := xh_val' hx
  have h3 := rs_val' hx
  pointwise [k0_pay25]
  simp only [h1 _ _, h2 _ _, h3 _ _, hg _ _, ← EReal.coe_mul, ← coe_sum]
  rw [ofBits_1024, div_real (by norm_num), ← EReal.coe_mul, ← EReal.coe_sub, ← EReal.coe_mul]; rfl
end outer

/-! ## The outputs -/

/-- The body's operands hold the rows `zs`, their cotangents `ds`, what the forward pass saved of them, and the parameters. -/
structure Holds (P : Par) (zs ds : ℕ → ℕ → ℝ) (D x y : Vec Ideal S256x1024 .f32) (gu : Vec Ideal S256x5632 .bf16)
    (g0 g1 : Vec Ideal S1x1024 .f32) (wgu : Vec Ideal S5632x1024 .bf16) (wd : Vec Ideal S2816x1024 .bf16) : Prop where
  D : IsR D ds
  x : IsR x zs
  y : IsR y fun r => P.yy (zs r)
  ga : IsR (gateK gu) fun r => P.ga (zs r)
  up : IsR (upK gu) fun r => P.up (zs r)
  g0 : IsR g0 fun _ => P.g0
  g1 : IsR g1 fun _ => P.g1
  wg : IsR (wgK wgu) fun f d => P.wg d f
  wu : IsR (wuK wgu) fun f d => P.wu d f
  wd : IsR wd P.wd

variable {P : Par} {zs ds : ℕ → ℕ → ℝ} {D x y : Vec Ideal S256x1024 .f32} {gu : Vec Ideal S256x5632 .bf16}
  {g0 g1 : Vec Ideal S1x1024 .f32} {wgu : Vec Ideal S5632x1024 .bf16} {wd : Vec Ideal S2816x1024 .bf16}
  (H : Holds P zs ds D x y gu g0 g1 wgu wd)
include H

theorem dyK_val : IsR (dyK D y g1) fun r => P.dy (zs r) (ds r) := back_val H.y H.D H.g1
theorem dgateK_val : IsR (dgateK D y gu g1 wd) fun r => P.dg (zs r) (ds r) := dg_val H.ga H.up (dyK_val H) H.wd
theorem dupK_val : IsR (dupK D y gu g1 wd) fun r => P.du (zs r) (ds r) := du_val H.ga (dyK_val H) H.wd

theorem out0_val : IsR (out0K D x y gu g0 g1 wgu wd) fun r => P.dx (zs r) (ds r) := fun r j => by
  have h1 := H.D r j
  have h2 := back0_val (dgateK_val H) (dupK_val H) H.wg H.wu H.x H.g0 r j
  unfold out0K
  pointwise [k0_pay2]
  rw [h1, h2, ← EReal.coe_add]; rfl
theorem out1_val : IsR (out1K D y g1) fun r => P.dy (zs r) (ds r) := fun r j => by
  have h1 := dyK_val H r j
  unfold out1K
  pointwise [k0_pay12]
  exact h1
theorem out2_val : IsR (out2K gu) fun r => P.act (zs r) := act_val H.ga H.up
theorem out3_val : IsR (out3K D y gu g1 wd) fun r => P.dgu (zs r) (ds r) := fun r j => by
  have h1 := dgateK_val H
  have h2 := dupK_val H
  unfold out3K
  refine View.canon_apply_of_pieces (Val := Elt Ideal) (S := S256x5632) (e := .bf16)
    (fun i => ((P.dgu (zs (i 0).val) (ds (i 0).val) (i 1).val : ℝ) : EReal)) _ ?_ (ix2 r j) ?_
  · intro p hp i
    simp only [List.mem_cons, List.not_mem_nil, or_false] at hp
    rcases hp with rfl | rfl
    · idx_vars i
      refine (h2 i0 i1).trans (congrArg _ ?_)
      show P.du (zs i0) (ds i0) i1 = P.dgu (zs (0 + 1 * i0)) (ds (0 + 1 * i0)) (2816 + 1 * i1)
      rw [Par.dgu, if_neg (by omega)]
      congr 1 <;> (congr 1 <;> omega)
    · idx_vars i
      refine (h1 i0 i1).trans (congrArg _ ?_)
      show P.dg (zs i0) (ds i0) i1 = P.dgu (zs (0 + 1 * i0)) (ds (0 + 1 * i0)) (0 + 1 * i1)
      rw [Par.dgu, if_pos (by omega)]
      congr 1 <;> (congr 1 <;> omega)
  · by_cases hj : j.val < 2816
    · refine ⟨_, List.mem_cons_of_mem _ (List.mem_cons_self ..), (Rect.mem_set_unit (inb := inb_S256x5632_S256x2816_0_0)).mpr fun a => ?_⟩
      match a with
      | ⟨0, _⟩ => exact ⟨Nat.zero_le _, by show r.val < 0 + 256; omega⟩
      | ⟨1, _⟩ => exact ⟨Nat.zero_le _, by show j.val < 0 + 2816; omega⟩
    · refine ⟨_, List.mem_cons_self .., (Rect.mem_set_unit (inb := inb_S256x5632_S256x2816_0_2816)).mpr fun a => ?_⟩
      match a with
      | ⟨0, _⟩ => exact ⟨Nat.zero_le _, by show r.val < 0 + 256; omega⟩
      | ⟨1, _⟩ => exact ⟨by show 2816 ≤ j.val; omega, by show j.val < 2816 + 2816; omega⟩

theorem out4_val {o : Vec Ideal S1x1024 .f32} (r : Fin 1) (j : Fin 1024) : out4K D x y gu g1 wgu wd o (ix2 r j) =
    o (ix2 r j) + ((∑ t : Fin 256, P.dg0 (zs t) (ds t) j : ℝ) : EReal) := by
  have h2 := gain0_val (dgateK_val H) (dupK_val H) H.wg H.wu H.x r j
  unfold out4K
  pointwise [k0_pay1]
  rw [h2]; rfl
theorem out5_val {o : Vec Ideal S1x1024 .f32} (r : Fin 1) (j : Fin 1024) : out5K D y o (ix2 r j) =
    o (ix2 r j) + ((∑ t : Fin 256, P.dg1 (zs t) (ds t) j : ℝ) : EReal) := by
  have h2 := gain1_val H.y H.D r j
  unfold out5K
  pointwise [k0_pay11]
  rw [h2]; rfl

end Cert.Ffn

end

end
-- ==== Proof.Ffn.Host.lean ====
/-
  What the feed-forward kernel is given: the arguments as real numbers, what the forward pass saved of them, and the
  shards of the three weights.
-/
module

public import proofs.«01_k».proof.Proof.Ffn.Body

@[expose] public section

set_option maxRecDepth 16384

noncomputable section

namespace Cert.Ffn

open Cert.Ffn.Ideal Cert.Kernel9Ideal Cert.Kernel9Ideal.Gen Idealize.ShloMosaic Idealize.ShloMosaic.TcCoe Idealize.SL.Sem
open Cert.Sg (IsR coe_sum div_real rsqrt_real)

variable (m : (ℓ : Loc nD τ sig) → Buf (Elt Ideal) ℓ) (c : Dev nD)

/-- The arguments: the rows, the two gains, the three weights, the rows' cotangents. -/
abbrev A0 : S8192x1024.Idx → EReal := m ((c : Thread nD τ).loc main_arg0)
abbrev A1 : S1024.Idx → EReal := m ((c : Thread nD τ).loc main_arg1)
abbrev A2 : S1024.Idx → EReal := m ((c : Thread nD τ).loc main_arg2)
abbrev A3 : S1024x2816.Idx → EReal := m ((c : Thread nD τ).loc main_arg3)
abbrev A4 : S1024x2816.Idx → EReal := m ((c : Thread nD τ).loc main_arg4)
abbrev A5 : S2816x1024.Idx → EReal := m ((c : Thread nD τ).loc main_arg5)
abbrev A6 : S8192x1024.Idx → EReal := m ((c : Thread nD τ).loc main_arg6)

/-- The arguments hold the real numbers named. -/
structure Lifted (P : Par) (Z C : ℕ → ℕ → ℝ) : Prop where
  h0 : IsR (A0 m c) Z
  h1 : ∀ j, A1 m c (ix1 j) = ((P.g0 j : ℝ) : EReal)
  h2 : ∀ j, A2 m c (ix1 j) = ((P.g1 j : ℝ) : EReal)
  h3 : IsR (A3 m c) P.wg
  h4 : IsR (A4 m c) P.wu
  h5 : IsR (A5 m c) P.wd
  h6 : IsR (A6 m c) C

theorem div_1024 (a : ℝ) : Ideal.div ((a : ℝ) : EReal) ((1024 : ℝ) : EReal) = ((a / 1024 : ℝ) : EReal) := div_real (by norm_num)
theorem rsqrt_var (z : ℕ → ℝ) : Ideal.rsqrt (((∑ k : Fin 1024, z k * z k) / 1024 + eps : ℝ) : EReal) = ((rs z : ℝ) : EReal) :=
  rsqrt_real (ms_eps_pos z)
theorem div_sgm (t : ℝ) : Ideal.div 1 (1 + ((Real.exp (-t) : ℝ) : EReal)) = ((sgm t : ℝ) : EReal) := by
  rw [← EReal.coe_one, ← EReal.coe_add, div_real (one_add_exp_ne _)]; rfl

variable {m c} {P : Par} {Z C : ℕ → ℕ → ℝ} (H : Lifted m c P Z C)
include H

/-! ## What the forward pass saved -/

theorem V_y : IsR (V m c main_v23 : S8192x1024.Idx → EReal) fun R => P.yy (Z R) := fun R j => by
  have a0 : ∀ R j, m (c, Proc.tc.devRef main_arg0) (ix2 R j) = ((Z R j : ℝ) : EReal) := H.h0
  have a1 : ∀ j, m (c, Proc.tc.devRef main_arg1) (ix1 j) = ((P.g0 j : ℝ) : EReal) := H.h1
  have a3 : ∀ d f, m (c, Proc.tc.devRef main_arg3) (ix2 d f) = ((P.wg d f : ℝ) : EReal) := H.h3
  have a4 : ∀ d f, m (c, Proc.tc.devRef main_arg4) (ix2 d f) = ((P.wu d f : ℝ) : EReal) := H.h4
  have a5 : ∀ f d, m (c, Proc.tc.devRef main_arg5) (ix2 f d) = ((P.wd f d : ℝ) : EReal) := H.h5
  have hr : Ideal.rsqrt (((∑ k : Fin 1024, Z R k * Z R k) / 1024 + eps : ℝ) : EReal) = ((rs (Z R) : ℝ) : EReal) := rsqrt_var (Z R)
  unfold V
  after_reads_simp
  pointwise
  simp only [a0, a1, a3, a4, a5, ofBits_1024, ofBits_eps, ← EReal.coe_mul, ← EReal.coe_add, ← EReal.coe_neg, ← coe_sum, div_1024, hr, Ideal.exp_coe, div_sgm]
  rfl

theorem V_gu : IsR (V m c main_v25 : S8192x5632.Idx → EReal) fun R f => if f < 2816 then P.ga (Z R) f else P.up (Z R) (f - 2816) := fun R j => by
  have a0 : ∀ R j, m (c, Proc.tc.devRef main_arg0) (ix2 R j) = ((Z R j : ℝ) : EReal) := H.h0
  have a1 : ∀ j, m (c, Proc.tc.devRef main_arg1) (ix1 j) = ((P.g0 j : ℝ) : EReal) := H.h1
  have a3 : ∀ d f, m (c, Proc.tc.devRef main_arg3) (ix2 d f) = ((P.wg d f : ℝ) : EReal) := H.h3
  have a4 : ∀ d f, m (c, Proc.tc.devRef main_arg4) (ix2 d f) = ((P.wu d f : ℝ) : EReal) := H.h4
  have a5 : ∀ f d, m (c, Proc.tc.devRef main_arg5) (ix2 f d) = ((P.wd f d : ℝ) : EReal) := H.h5
  have hr : Ideal.rsqrt (((∑ k : Fin 1024, Z R k * Z R k) / 1024 + eps : ℝ) : EReal) = ((rs (Z R) : ℝ) : EReal) := rsqrt_var (Z R)
  unfold V
  after_reads_simp
  pointwise
  split
  · after_reads_simp
    pointwise
    simp only [a0, a1, a3, a4, a5, ofBits_1024, ofBits_eps, ← EReal.coe_mul, ← EReal.coe_add, ← EReal.coe_neg, ← coe_sum, div_1024, hr, Ideal.exp_coe, div_sgm]
    rfl
  · after_reads_simp
    pointwise
    simp only [a0, a1, a3, a4, a5, ofBits_1024, ofBits_eps, ← EReal.coe_mul, ← EReal.coe_add, ← EReal.coe_neg, ← coe_sum, div_1024, hr, Ideal.exp_coe, div_sgm]
    rfl

theorem V_g0 : IsR (V m c main_v40 : S1x1024.Idx → EReal) fun _ => P.g0 := fun R j => by
  rw [← H.h1]
  unfold V
  after_reads_simp
  pointwise
theorem V_g1 : IsR (V m c main_v41 : S1x1024.Idx → EReal) fun _ => P.g1 := fun R j => by
  rw [← H.h2]
  unfold V
  after_reads_simp
  pointwise

/-! ## The weights' shards -/

theorem V_v28 (k : Fin 4) (r : Fin 704) (d : Fin 1024) : (V m c main_v28 : S4x704x1024.Idx → EReal) (ix3 k r d) = ((P.wg d (704 * k + r) : ℝ) : EReal) := by
  unfold V
  after_reads_simp
  pointwise
  rw [mul_comm 704 (k : ℕ)]
  exact H.h3 d ⟨k * 704 + r, _⟩
theorem V_v30 (r : Fin 704) (d : Fin 1024) : (V m c main_v30 : S704x1024.Idx → EReal) (ix2 r d) = ((P.wg d r : ℝ) : EReal) := by
  unfold V
  after_reads_simp
  pointwise
  exact H.h3 d ⟨r, _⟩
theorem V_v33 (k : Fin 4) (r : Fin 704) (d : Fin 1024) : (V m c main_v33 : S4x704x1024.Idx → EReal) (ix3 k r d) = ((P.wu d (704 * k + r) : ℝ) : EReal) := by
  unfold V
  after_reads_simp
  pointwise
  rw [mul_comm 704 (k : ℕ)]
  exact H.h4 d ⟨k * 704 + r, _⟩
theorem V_v35 (r : Fin 704) (d : Fin 1024) : (V m c main_v35 : S704x1024.Idx → EReal) (ix2 r d) = ((P.wu d r : ℝ) : EReal) := by
  unfold V
  after_reads_simp
  pointwise
  exact H.h4 d ⟨r, _⟩
theorem V_v37 (k : Fin 4) (r : Fin 704) (d : Fin 1024) : (V m c main_v37 : S4x704x1024.Idx → EReal) (ix3 k r d) = ((P.wd (704 * k + r) d : ℝ) : EReal) := by
  unfold V
  after_reads_simp
  pointwise
  rw [mul_comm 704 (k : ℕ)]
  exact H.h5 ⟨k * 704 + r, _⟩ d
theorem V_v39 (r : Fin 704) (d : Fin 1024) : (V m c main_v39 : S704x1024.Idx → EReal) (ix2 r d) = ((P.wd r d : ℝ) : EReal) := by
  unfold V
  after_reads_simp
  pointwise
  exact H.h5 ⟨r, _⟩ d

/-! ## What the first point leaves in scratch -/

omit H in
/-- A shard of an array of shards, read through the slice that drops the shards' axis. -/
theorem shard37 (x : main_v37.ty.Contents (Elt Ideal)) (k : ℕ) (hk : k < 4) (inb) (hs) (r : Fin 704) (d : Fin 1024) :
    ReadAs.same.apply (View.read (Elt Ideal) (((View.whole main_v37).slice (Rect.unit ![k, 0, 0] ![1, 704, 1024] inb)).reshape S704x1024 hs) x)
      (ix2 r d) = (x : S4x704x1024.Idx → EReal) (ix3 ⟨k, hk⟩ r d) := by
  show (shapeCast S704x1024 (fun y : S1x704x1024.Idx => (x : S4x704x1024.Idx → EReal)
    ((Rect.unit (s := S4x704x1024) ![k, 0, 0] ![1, 704, 1024] inb).emb y)) hs : S704x1024.Idx → EReal) (ix2 r d) = _
  pointwise
  refine congrArg x (funext fun a => Fin.ext ?_)
  match a with
  | ⟨0, _⟩ => rfl
  | ⟨1, _⟩ => show 0 + 1 * r.val = r.val; omega
  | ⟨2, _⟩ => show 0 + 1 * d.val = d.val; omega
omit H in
theorem shard28 (x : main_v28.ty.Contents (Elt Ideal)) (k : ℕ) (hk : k < 4) (inb) (hs) (r : Fin 704) (d : Fin 1024) :
    ReadAs.same.apply (View.read (Elt Ideal) (((View.whole main_v28).slice (Rect.unit ![k, 0, 0] ![1, 704, 1024] inb)).reshape S704x1024 hs) x)
      (ix2 r d) = (x : S4x704x1024.Idx → EReal) (ix3 ⟨k, hk⟩ r d) := by
  show (shapeCast S704x1024 (fun y : S1x704x1024.Idx => (x : S4x704x1024.Idx → EReal)
    ((Rect.unit (s := S4x704x1024) ![k, 0, 0] ![1, 704, 1024] inb).emb y)) hs : S704x1024.Idx → EReal) (ix2 r d) = _
  pointwise
  refine congrArg x (funext fun a => Fin.ext ?_)
  match a with
  | ⟨0, _⟩ => rfl
  | ⟨1, _⟩ => show 0 + 1 * r.val = r.val; omega
  | ⟨2, _⟩ => show 0 + 1 * d.val = d.val; omega
omit H in
theorem shard33 (x : main_v33.ty.Contents (Elt Ideal)) (k : ℕ) (hk : k < 4) (inb) (hs) (r : Fin 704) (d : Fin 1024) :
    ReadAs.same.apply (View.read (Elt Ideal) (((View.whole main_v33).slice (Rect.unit ![k, 0, 0] ![1, 704, 1024] inb)).reshape S704x1024 hs) x)
      (ix2 r d) = (x : S4x704x1024.Idx → EReal) (ix3 ⟨k, hk⟩ r d) := by
  show (shapeCast S704x1024 (fun y : S1x704x1024.Idx => (x : S4x704x1024.Idx → EReal)
    ((Rect.unit (s := S4x704x1024) ![k, 0, 0] ![1, 704, 1024] inb).emb y)) hs : S704x1024.Idx → EReal) (ix2 r d) = _
  pointwise
  refine congrArg x (funext fun a => Fin.ext ?_)
  match a with
  | ⟨0, _⟩ => rfl
  | ⟨1, _⟩ => show 0 + 1 * r.val = r.val; omega
  | ⟨2, _⟩ => show 0 + 1 * d.val = d.val; omega

theorem down (t : Fin cfg0.N) (h : t.val = 0) : IsR (outA7 m c t h) P.wd := fun f d => by
  rw [canon7 m c t h]
  refine View.canon_apply_of_pieces (Val := Elt Ideal) (S := S2816x1024) (e := .bf16) (fun i => ((P.wd (i 0).val (i 1).val : ℝ) : EReal)) _ ?_ (ix2 f d)
    (coverA7 m c t h _)
  intro p hp i
  unfold atA at hp
  frame_out at hp
  simp only [List.mem_cons, List.not_mem_nil, or_false] at hp
  rcases hp with rfl | rfl | rfl | rfl
  · idx_vars i
    refine (shard37 _ 3 (by decide) _ _ i0 i1).trans ((V_v37 H _ _ _).trans (congrArg _ ?_))
    show P.wd (2112 + i0.val) i1.val = P.wd (2112 + 1 * i0.val) (0 + 1 * i1.val)
    rw [Nat.zero_add, Nat.one_mul, Nat.one_mul]
  · idx_vars i
    refine (shard37 _ 2 (by decide) _ _ i0 i1).trans ((V_v37 H _ _ _).trans (congrArg _ ?_))
    show P.wd (1408 + i0.val) i1.val = P.wd (1408 + 1 * i0.val) (0 + 1 * i1.val)
    rw [Nat.zero_add, Nat.one_mul, Nat.one_mul]
  · idx_vars i
    refine (shard37 _ 1 (by decide) _ _ i0 i1).trans ((V_v37 H _ _ _).trans (congrArg _ ?_))
    show P.wd (704 + i0.val) i1.val = P.wd (704 + 1 * i0.val) (0 + 1 * i1.val)
    rw [Nat.zero_add, Nat.one_mul, Nat.one_mul]
  · idx_vars i
    refine (V_v39 H i0 i1).trans (congrArg _ ?_)
    show P.wd i0.val i1.val = P.wd (0 + 1 * i0.val) (0 + 1 * i1.val)
    rw [Nat.zero_add, Nat.zero_add, Nat.one_mul, Nat.one_mul]

omit H in
/-- The gate's and the up projection's weights, one above the other. -/
abbrev wgu (P : Par) (f d : ℕ) : ℝ := if f < 2816 then P.wg d f else P.wu d (f - 2816)

theorem gate_up (t : Fin cfg0.N) (h : t.val = 0) : IsR (outA6 m c t h) (wgu P) := fun f d => by
  rw [canon6 m c t h]
  refine View.canon_apply_of_pieces (Val := Elt Ideal) (S := S5632x1024) (e := .bf16) (fun i => ((wgu P (i 0).val (i 1).val : ℝ) : EReal)) _ ?_ (ix2 f d)
    (coverA6 m c t h _)
  intro p hp i
  unfold atA at hp
  frame_out at hp
  simp only [List.mem_cons, List.not_mem_nil, or_false] at hp
  rcases hp with rfl | rfl | rfl | rfl | rfl | rfl | rfl | rfl
  · idx_vars i
    have hi := i0.isLt
    refine (shard33 _ 3 (by decide) _ _ i0 i1).trans ((V_v33 H _ _ _).trans (congrArg _ ?_))
    show P.wu i1.val (2112 + i0.val) = wgu P (4928 + 1 * i0.val) (0 + 1 * i1.val)
    rw [wgu, if_neg (by omega), Nat.zero_add, Nat.one_mul, Nat.one_mul, show 4928 + i0.val - 2816 = 2112 + i0.val by omega]
  · idx_vars i
    have hi := i0.isLt
    refine (shard33 _ 2 (by decide) _ _ i0 i1).trans ((V_v33 H _ _ _).trans (congrArg _ ?_))
    show P.wu i1.val (1408 + i0.val) = wgu P (4224 + 1 * i0.val) (0 + 1 * i1.val)
    rw [wgu, if_neg (by omega), Nat.zero_add, Nat.one_mul, Nat.one_mul, show 4224 + i0.val - 2816 = 1408 + i0.val by omega]
  · idx_vars i
    have hi := i0.isLt
    refine (shard33 _ 1 (by decide) _ _ i0 i1).trans ((V_v33 H _ _ _).trans (congrArg _ ?_))
    show P.wu i1.val (704 + i0.val) = wgu P (3520 + 1 * i0.val) (0 + 1 * i1.val)
    rw [wgu, if_neg (by omega), Nat.zero_add, Nat.one_mul, Nat.one_mul, show 3520 + i0.val - 2816 = 704 + i0.val by omega]
  · idx_vars i
    have hi := i0.isLt
    refine (V_v35 H i0 i1).trans (congrArg _ ?_)
    show P.wu i1.val (i0.val) = wgu P (2816 + 1 * i0.val) (0 + 1 * i1.val)
    rw [wgu, if_neg (by omega), Nat.zero_add, Nat.one_mul, Nat.one_mul, show 2816 + i0.val - 2816 = i0.val by omega]
  · idx_vars i
    have hi := i0.isLt
    refine (shard28 _ 3 (by decide) _ _ i0 i1).trans ((V_v28 H _ _ _).trans (congrArg _ ?_))
    show P.wg i1.val (2112 + i0.val) = wgu P (2112 + 1 * i0.val) (0 + 1 * i1.val)
    rw [wgu, if_pos (by omega), Nat.zero_add, Nat.one_mul, Nat.one_mul]
  · idx_vars i
    have hi := i0.isLt
    refine (shard28 _ 2 (by decide) _ _ i0 i1).trans ((V_v28 H _ _ _).trans (congrArg _ ?_))
    show P.wg i1.val (1408 + i0.val) = wgu P (1408 + 1 * i0.val) (0 + 1 * i1.val)
    rw [wgu, if_pos (by omega), Nat.zero_add, Nat.one_mul, Nat.one_mul]
  · idx_vars i
    have hi := i0.isLt
    refine (shard28 _ 1 (by decide) _ _ i0 i1).trans ((V_v28 H _ _ _).trans (congrArg _ ?_))
    show P.wg i1.val (704 + i0.val) = wgu P (704 + 1 * i0.val) (0 + 1 * i1.val)
    rw [wgu, if_pos (by omega), Nat.zero_add, Nat.one_mul, Nat.one_mul]
  · idx_vars i
    have hi := i0.isLt
    refine (V_v30 H i0 i1).trans (congrArg _ ?_)
    show P.wg i1.val (i0.val) = wgu P (0 + 1 * i0.val) (0 + 1 * i1.val)
    rw [wgu, if_pos (by omega), Nat.zero_add, Nat.one_mul, Nat.one_mul, Nat.zero_add]

end Cert.Ffn

end

end
-- ==== Proof.Ffn.Total.lean ====
/-
  The feed-forward kernel's result arrays as numbers: the blocks a point reads are the arguments' rows and what the forward
  pass saved of them, the weights stay in scratch from the first point on, four results are written block by block and two
  are sums over the 32 blocks.
-/
module

public import proofs.«01_k».proof.Proof.Ffn.Host

@[expose] public section

set_option maxRecDepth 16384

noncomputable section

namespace Cert.Ffn

open Cert.Ffn.Ideal Cert.Kernel9Ideal Cert.Kernel9Ideal.Gen Idealize.ShloMosaic Idealize.ShloMosaic.TcCoe Idealize.SL.Sem
open Cert.Sg (IsR coe_sum)

variable (m : (ℓ : Loc nD τ sig) → Buf (Elt Ideal) ℓ) (ρ : Dev nD → PrngReg) (c : Dev nD)

theorem N32 : cfg0.N = 32 := N_0

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)
theorem at7 : ∀ t : Fin cfg0.N, win0_7.index t 0 = t.val ∧ win0_7.index t 1 = 0 :=
  (by decide +kernel : ∀ t : Fin grid0.N, win0_7.index t 0 = t.val ∧ win0_7.index t 1 = 0)
theorem at8 : ∀ t : Fin cfg0.N, win0_8.index t 0 = t.val ∧ win0_8.index t 1 = 0 :=
  (by decide +kernel : ∀ t : Fin grid0.N, win0_8.index t 0 = t.val ∧ win0_8.index t 1 = 0)
theorem at9 : ∀ t : Fin cfg0.N, win0_9.index t 0 = t.val ∧ win0_9.index t 1 = 0 :=
  (by decide +kernel : ∀ t : Fin grid0.N, win0_9.index t 0 = t.val ∧ win0_9.index t 1 = 0)
theorem at10 : ∀ t : Fin cfg0.N, win0_10.index t 0 = 0 ∧ win0_10.index t 1 = 0 :=
  (by decide +kernel : ∀ t : Fin grid0.N, win0_10.index t 0 = 0 ∧ win0_10.index t 1 = 0)
theorem at11 : ∀ t : Fin cfg0.N, win0_11.index t 0 = 0 ∧ win0_11.index t 1 = 0 :=
  (by decide +kernel : ∀ t : Fin grid0.N, win0_11.index t 0 = 0 ∧ win0_11.index t 1 = 0)

/-- The rows of block `t`. -/
def rows (Z : ℕ → ℕ → ℝ) (t : ℕ) : ℕ → ℕ → ℝ := fun r => Z (256 * t + r)

theorem row_lt (t : Fin cfg0.N) (r : Fin 256) : 256 * t.val + r.val < 8192 := by
  have := t.isLt; have := N32; omega

/-! ## The blocks -/

theorem blk0 (t : Fin cfg0.N) (r : Fin 256) (j : Fin 1024) : B0 m c t (ix2 r j) = A6 m c (ix2 ⟨256 * t.val + r.val, row_lt t r⟩ j) := by
  blk_ext! [B0, iblk, A6, V, at0 t]
theorem blk1 (t : Fin cfg0.N) (r : Fin 256) (j : Fin 1024) : B1 m c t (ix2 r j) = A0 m c (ix2 ⟨256 * t.val + r.val, row_lt t r⟩ j) := by
  blk_ext! [B1, iblk, A0, V, at1 t]
theorem blk2 (t : Fin cfg0.N) (r : Fin 256) (j : Fin 1024) : B2 m c t (ix2 r j) = (V m c main_v23 : S8192x1024.Idx → EReal) (ix2 ⟨256 * t.val + r.val, row_lt t r⟩ j) := by
  blk_ext! [B2, iblk, at2 t]
theorem blk3 (t : Fin cfg0.N) (r : Fin 256) (j : Fin 5632) : B3 m c t (ix2 r j) = (V m c main_v25 : S8192x5632.Idx → EReal) (ix2 ⟨256 * t.val + r.val, row_lt t r⟩ j) := by
  blk_ext! [B3, iblk, at3 t]
theorem blk4 (t : Fin cfg0.N) (r : Fin 1) (j : Fin 1024) : B4 m c t (ix2 r j) = (V m c main_v40 : S1x1024.Idx → EReal) (ix2 r j) := by
  blk_ext! [B4, iblk, at4 t]
theorem blk5 (t : Fin cfg0.N) (r : Fin 1) (j : Fin 1024) : B5 m c t (ix2 r j) = (V m c main_v41 : S1x1024.Idx → EReal) (ix2 r j) := by
  blk_ext! [B5, iblk, at5 t]

/-! ## The state, read -/

theorem stA0 (t : Fin cfg0.N) (h : t.val = 0) : (state m c t.val t.isLt).1 = outA0 m c t h := by
  rw [state_first m c t h]; unfold first; dsimp only
theorem stA1 (t : Fin cfg0.N) (h : t.val = 0) : (state m c t.val t.isLt).2.1 = outA1 m c t h := by
  rw [state_first m c t h]; unfold first; dsimp only
theorem stA2 (t : Fin cfg0.N) (h : t.val = 0) : (state m c t.val t.isLt).2.2.1 = outA2 m c t h := by
  rw [state_first m c t h]; unfold first; dsimp only
theorem stA3 (t : Fin cfg0.N) (h : t.val = 0) : (state m c t.val t.isLt).2.2.2.1 = outA3 m c t h := by
  rw [state_first m c t h]; unfold first; dsimp only
theorem stA4 (t : Fin cfg0.N) (h : t.val = 0) : (state m c t.val t.isLt).2.2.2.2.1 = outA4 m c t h := by
  rw [state_first m c t h]; unfold first; dsimp only
theorem stA5 (t : Fin cfg0.N) (h : t.val = 0) : (state m c t.val t.isLt).2.2.2.2.2.1 = outA5 m c t h := by
  rw [state_first m c t h]; unfold first; dsimp only
theorem stA6 (t : Fin cfg0.N) (h : t.val = 0) : (state m c t.val t.isLt).2.2.2.2.2.2.1 = outA6 m c t h := by
  rw [state_first m c t h]; unfold first; dsimp only
theorem stA7 (t : Fin cfg0.N) (h : t.val = 0) : (state m c t.val t.isLt).2.2.2.2.2.2.2 = outA7 m c t h := by
  rw [state_first m c t h]; unfold first; dsimp only
theorem stB0 (t : Fin cfg0.N) (h : t.val ≠ 0) : (state m c t.val t.isLt).1 =
    outB0 m c t h (state m c (t.val - 1) (Nat.lt_of_le_of_lt (Nat.sub_le _ _) t.isLt)).2.2.2.2.1 (state m c (t.val - 1) (Nat.lt_of_le_of_lt (Nat.sub_le _ _) t.isLt)).2.2.2.2.2.1
      (state m c (t.val - 1) (Nat.lt_of_le_of_lt (Nat.sub_le _ _) t.isLt)).2.2.2.2.2.2.1 (state m c (t.val - 1) (Nat.lt_of_le_of_lt (Nat.sub_le _ _) t.isLt)).2.2.2.2.2.2.2 := by
  rw [state_later m c t h]; unfold later; dsimp only
theorem stB1 (t : Fin cfg0.N) (h : t.val ≠ 0) : (state m c t.val t.isLt).2.1 =
    outB1 m c t h (state m c (t.val - 1) (Nat.lt_of_le_of_lt (Nat.sub_le _ _) t.isLt)).2.2.2.2.1 (state m c (t.val - 1) (Nat.lt_of_le_of_lt (Nat.sub_le _ _) t.isLt)).2.2.2.2.2.1
      (state m c (t.val - 1) (Nat.lt_of_le_of_lt (Nat.sub_le _ _) t.isLt)).2.2.2.2.2.2.1 (state m c (t.val - 1) (Nat.lt_of_le_of_lt (Nat.sub_le _ _) t.isLt)).2.2.2.2.2.2.2 := by
  rw [state_later m c t h]; unfold later; dsimp only
theorem stB2 (t : Fin cfg0.N) (h : t.val ≠ 0) : (state m c t.val t.isLt).2.2.1 =
    outB2 m c t h (state m c (t.val - 1) (Nat.lt_of_le_of_lt (Nat.sub_le _ _) t.isLt)).2.2.2.2.1 (state m c (t.val - 1) (Nat.lt_of_le_of_lt (Nat.sub_le _ _) t.isLt)).2.2.2.2.2.1
      (state m c (t.val - 1) (Nat.lt_of_le_of_lt (Nat.sub_le _ _) t.isLt)).2.2.2.2.2.2.1 (state m c (t.val - 1) (Nat.lt_of_le_of_lt (Nat.sub_le _ _) t.isLt)).2.2.2.2.2.2.2 := by
  rw [state_later m c t h]; unfold later; dsimp only
theorem stB3 (t : Fin cfg0.N) (h : t.val ≠ 0) : (state m c t.val t.isLt).2.2.2.1 =
    outB3 m c t h (state m c (t.val - 1) (Nat.lt_of_le_of_lt (Nat.sub_le _ _) t.isLt)).2.2.2.2.1 (state m c (t.val - 1) (Nat.lt_of_le_of_lt (Nat.sub_le _ _) t.isLt)).2.2.2.2.2.1
      (state m c (t.val - 1) (Nat.lt_of_le_of_lt (Nat.sub_le _ _) t.isLt)).2.2.2.2.2.2.1 (state m c (t.val - 1) (Nat.lt_of_le_of_lt (Nat.sub_le _ _) t.isLt)).2.2.2.2.2.2.2 := by
  rw [state_later m c t h]; unfold later; dsimp only
theorem stB4 (t : Fin cfg0.N) (h : t.val ≠ 0) : (state m c t.val t.isLt).2.2.2.2.1 =
    outB4 m c t h (state m c (t.val - 1) (Nat.lt_of_le_of_lt (Nat.sub_le _ _) t.isLt)).2.2.2.2.1 (state m c (t.val - 1) (Nat.lt_of_le_of_lt (Nat.sub_le _ _) t.isLt)).2.2.2.2.2.1
      (state m c (t.val - 1) (Nat.lt_of_le_of_lt (Nat.sub_le _ _) t.isLt)).2.2.2.2.2.2.1 (state m c (t.val - 1) (Nat.lt_of_le_of_lt (Nat.sub_le _ _) t.isLt)).2.2.2.2.2.2.2 := by
  rw [state_later m c t h]; unfold later; dsimp only
theorem stB5 (t : Fin cfg0.N) (h : t.val ≠ 0) : (state m c t.val t.isLt).2.2.2.2.2.1 =
    outB5 m c t h (state m c (t.val - 1) (Nat.lt_of_le_of_lt (Nat.sub_le _ _) t.isLt)).2.2.2.2.1 (state m c (t.val - 1) (Nat.lt_of_le_of_lt (Nat.sub_le _ _) t.isLt)).2.2.2.2.2.1
      (state m c (t.val - 1) (Nat.lt_of_le_of_lt (Nat.sub_le _ _) t.isLt)).2.2.2.2.2.2.1 (state m c (t.val - 1) (Nat.lt_of_le_of_lt (Nat.sub_le _ _) t.isLt)).2.2.2.2.2.2.2 := by
  rw [state_later m c t h]; unfold later; dsimp only
theorem stB6 (t : Fin cfg0.N) (h : t.val ≠ 0) : (state m c t.val t.isLt).2.2.2.2.2.2.1 =
    (state m c (t.val - 1) (Nat.lt_of_le_of_lt (Nat.sub_le _ _) t.isLt)).2.2.2.2.2.2.1 := by
  rw [state_later m c t h]; unfold later; dsimp only
theorem stB7 (t : Fin cfg0.N) (h : t.val ≠ 0) : (state m c t.val t.isLt).2.2.2.2.2.2.2 =
    (state m c (t.val - 1) (Nat.lt_of_le_of_lt (Nat.sub_le _ _) t.isLt)).2.2.2.2.2.2.2 := by
  rw [state_later m c t h]; unfold later; dsimp only

/-! ## The weights in scratch -/

variable {m c} {P : Par} {Z C : ℕ → ℕ → ℝ} (H : Lifted m c P Z C)
include H

theorem weights (n : ℕ) (hn : n < cfg0.N) : IsR (state m c n hn).2.2.2.2.2.2.1 (wgu P) ∧ IsR (state m c n hn).2.2.2.2.2.2.2 P.wd := by
  induction n with
  | zero =>
    have e6 := stA6 m c ⟨0, hn⟩ rfl
    have e7 := stA7 m c ⟨0, hn⟩ rfl
    dsimp only at e6 e7
    rw [e6, e7]
    exact ⟨gate_up H ⟨0, hn⟩ rfl, down H ⟨0, hn⟩ rfl⟩
  | succ n ih =>
    have e6 := stB6 m c ⟨n + 1, hn⟩ (Nat.succ_ne_zero n)
    have e7 := stB7 m c ⟨n + 1, hn⟩ (Nat.succ_ne_zero n)
    dsimp only [Nat.add_sub_cancel] at e6 e7
    rw [e6, e7]
    exact ih _

/-- A block of the saved halves, its left and its right half. -/
theorem ga_blk (t : Fin cfg0.N) : IsR (gateK (B3 m c t)) fun r => P.ga (rows Z t r) := fun r f => by
  have e : gateK (B3 m c t) (ix2 r f) = B3 m c t (ix2 r ⟨f, by omega⟩) := by
    unfold gateK
    refine congrArg (B3 m c t) (funext fun a => Fin.ext ?_)
    match a with
    | ⟨0, _⟩ => show 0 + 1 * r.val = r.val; omega
    | ⟨1, _⟩ => show 0 + 1 * f.val = f.val; omega
  refine (e.trans ((blk3 m c t _ _).trans (V_gu H _ _))).trans (congrArg _ ?_)
  exact if_pos f.isLt
theorem up_blk (t : Fin cfg0.N) : IsR (upK (B3 m c t)) fun r => P.up (rows Z t r) := fun r f => by
  have e : upK (B3 m c t) (ix2 r f) = B3 m c t (ix2 r ⟨2816 + f, by omega⟩) := by
    unfold upK
    refine congrArg (B3 m c t) (funext fun a => Fin.ext ?_)
    match a with
    | ⟨0, _⟩ => show 0 + 1 * r.val = r.val; omega
    | ⟨1, _⟩ => show 2816 + 1 * f.val = 2816 + f.val; omega
  refine (e.trans ((blk3 m c t _ _).trans (V_gu H _ _))).trans (congrArg _ ?_)
  refine (if_neg (by show ¬2816 + f.val < 2816; omega)).trans ?_
  show P.up _ (2816 + f.val - 2816) = P.up _ f.val
  rw [Nat.add_sub_cancel_left]; rfl

omit H in
theorem wg_of {w : Vec Ideal S5632x1024 .bf16} (h : IsR w (wgu P)) : IsR (wgK w) fun f d => P.wg d f := fun f d => by
  have e : wgK w (ix2 f d) = w (ix2 ⟨f, by omega⟩ d) := by
    unfold wgK
    refine congrArg w (funext fun a => Fin.ext ?_)
    match a with
    | ⟨0, _⟩ => show 0 + 1 * f.val = f.val; omega
    | ⟨1, _⟩ => show 0 + 1 * d.val = d.val; omega
  refine (e.trans (h _ _)).trans (congrArg _ ?_)
  exact if_pos f.isLt
omit H in
theorem wu_of {w : Vec Ideal S5632x1024 .bf16} (h : IsR w (wgu P)) : IsR (wuK w) fun f d => P.wu d f := fun f d => by
  have e : wuK w (ix2 f d) = w (ix2 ⟨2816 + f, by omega⟩ d) := by
    unfold wuK
    refine congrArg w (funext fun a => Fin.ext ?_)
    match a with
    | ⟨0, _⟩ => show 2816 + 1 * f.val = 2816 + f.val; omega
    | ⟨1, _⟩ => show 0 + 1 * d.val = d.val; omega
  refine (e.trans (h _ _)).trans (congrArg _ ?_)
  refine (if_neg (by show ¬2816 + f.val < 2816; omega)).trans ?_
  show P.wu _ (2816 + f.val - 2816) = P.wu _ f.val
  rw [Nat.add_sub_cancel_left]

/-- Point `t`'s operands, with weights that hold what they should. -/
theorem holds (t : Fin cfg0.N) {s0 : Vec Ideal S5632x1024 .bf16} {s1 : Vec Ideal S2816x1024 .bf16} (h0 : IsR s0 (wgu P)) (h1 : IsR s1 P.wd) :
    Holds P (rows Z t) (rows C t) (B0 m c t) (B1 m c t) (B2 m c t) (B3 m c t) (B4 m c t) (B5 m c t) s0 s1 where
  D := fun r j => (blk0 m c t r j).trans (H.h6 _ _)
  x := fun r j => (blk1 m c t r j).trans (H.h0 _ _)
  y := fun r j => (blk2 m c t r j).trans (V_y H _ _)
  ga := ga_blk H t
  up := up_blk H t
  g0 := fun r j => (blk4 m c t r j).trans (V_g0 H _ _)
  g1 := fun r j => (blk5 m c t r j).trans (V_g1 H _ _)
  wg := wg_of h0
  wu := wu_of h0
  wd := h1

theorem holdsA (t : Fin cfg0.N) (h : t.val = 0) :
    Holds P (rows Z t) (rows C t) (B0 m c t) (B1 m c t) (B2 m c t) (B3 m c t) (B4 m c t) (B5 m c t) (outA6 m c t h) (outA7 m c t h) :=
  holds H t (gate_up H t h) (down H t h)
theorem holdsB (t : Fin cfg0.N) : Holds P (rows Z t) (rows C t) (B0 m c t) (B1 m c t) (B2 m c t) (B3 m c t) (B4 m c t) (B5 m c t)
    (state m c (t.val - 1) (Nat.lt_of_le_of_lt (Nat.sub_le _ _) t.isLt)).2.2.2.2.2.2.1
    (state m c (t.val - 1) (Nat.lt_of_le_of_lt (Nat.sub_le _ _) t.isLt)).2.2.2.2.2.2.2 :=
  holds H t (weights H _ _).1 (weights H _ _).2

/-! ## What a point leaves in the outputs -/

theorem pt0 (t : Fin cfg0.N) : IsR (state m c t.val t.isLt).1 fun r => P.dx (rows Z t r) (rows C t r) := fun r j => by
  by_cases h : t.val = 0
  · rw [stA0 m c t h, first0 m c t h]; exact out0_val (holdsA H t h) r j
  · rw [stB0 m c t h, later0 m c t h]; exact out0_val (holdsB H t) r j
theorem pt1 (t : Fin cfg0.N) : IsR (state m c t.val t.isLt).2.1 fun r => P.dy (rows Z t r) (rows C t r) := fun r j => by
  by_cases h : t.val = 0
  · rw [stA1 m c t h, first1 m c t h]; exact out1_val (holdsA H t h) r j
  · rw [stB1 m c t h, later1 m c t h]; exact out1_val (holdsB H t) r j
theorem pt2 (t : Fin cfg0.N) : IsR (state m c t.val t.isLt).2.2.1 fun r => P.act (rows Z t r) := fun r j => by
  by_cases h : t.val = 0
  · rw [stA2 m c t h, first2 m c t h]; exact out2_val (holdsA H t h) r j
  · rw [stB2 m c t h, later2 m c t h]; exact out2_val (holdsB H t) r j
theorem pt3 (t : Fin cfg0.N) : IsR (state m c t.val t.isLt).2.2.2.1 fun r => P.dgu (rows Z t r) (rows C t r) := fun r j => by
  by_cases h : t.val = 0
  · rw [stA3 m c t h, first3 m c t h]; exact out3_val (holdsA H t h) r j
  · rw [stB3 m c t h, later3 m c t h]; exact out3_val (holdsB H t) r j

omit H in
theorem lastN : (⟨31, by have := N32; omega⟩ : Fin cfg0.N).val + 1 = cfg0.N := N32.symm
/-- The last point. -/
abbrev last : Fin cfg0.N := ⟨31, by have := N32; omega⟩

omit H in
theorem zero_of_mod (t : Fin cfg0.N) (h : t.val % 32 = 0) : t.val = 0 := by
  have := t.isLt; have := N32; omega
omit H in
theorem pos_of_mod (t : Fin cfg0.N) (h : ¬t.val % 32 = 0) : t.val ≠ 0 := fun e => h (by rw [e])

theorem pt4 (j : S1x1024.Idx) : (state m c last.val last.isLt).2.2.2.2.1 j
    = ((∑ p : Fin cfg0.N, ∑ r : Fin 256, P.dg0 (rows Z p r) (rows C p r) (j 1).val : ℝ) : EReal) := by
  idx_vars j
  rw [Pipeline.eq_sum_fin_of_reset_step_apply_last (fun n h => (state m c n h).2.2.2.2.1) 32 (fun _ => 0)
    (fun t j => ((∑ r : Fin 256, P.dg0 (rows Z t r) (rows C t r) (j 1).val : ℝ) : EReal))
    (fun t h j => by
      idx_vars j
      have h := zero_of_mod t h
      show (state m c t.val t.isLt).2.2.2.2.1 _ = _
      rw [stA4 m c t h, first4 m c t h, out4_val (holdsA H t h)]
      congr 1
      pointwise [k0_pay3])
    (fun t h j => by
      idx_vars j
      have h := pos_of_mod t h
      show (state m c t.val t.isLt).2.2.2.2.1 _ = _
      rw [stB4 m c t h, later4 m c t h, out4_val (holdsB H t)])
    (le_of_eq N32) last lastN]
  rw [zero_add, ← coe_sum]
  rfl
theorem pt5 (j : S1x1024.Idx) : (state m c last.val last.isLt).2.2.2.2.2.1 j
    = ((∑ p : Fin cfg0.N, ∑ r : Fin 256, P.dg1 (rows Z p r) (rows C p r) (j 1).val : ℝ) : EReal) := by
  idx_vars j
  rw [Pipeline.eq_sum_fin_of_reset_step_apply_last (fun n h => (state m c n h).2.2.2.2.2.1) 32 (fun _ => 0)
    (fun t j => ((∑ r : Fin 256, P.dg1 (rows Z t r) (rows C t r) (j 1).val : ℝ) : EReal))
    (fun t h j => by
      idx_vars j
      have h := zero_of_mod t h
      show (state m c t.val t.isLt).2.2.2.2.2.1 _ = _
      rw [stA5 m c t h, first5 m c t h, out5_val (holdsA H t h)]
      congr 1
      pointwise [k0_pay4])
    (fun t h j => by
      idx_vars j
      have h := pos_of_mod t h
      show (state m c t.val t.isLt).2.2.2.2.2.1 _ = _
      rw [stB5 m c t h, later5 m c t h, out5_val (holdsB H t)])
    (le_of_eq N32) last lastN]
  rw [zero_add, ← coe_sum]
  rfl

/-! ## The result arrays -/

theorem res0 (i : S8192x1024.Idx) : ((data m 0 c).arrAt 6 cfg0.N : S8192x1024.Idx → EReal) i
    = ((P.dx (Z (i 0).val) (C (i 0).val) (i 1).val : ℝ) : EReal) := by
  have := (data m 0 c).arrAt_eq_of_covers 6 (fun i : S8192x1024.Idx => ((P.dx (Z (i 0).val) (C (i 0).val) (i 1).val : ℝ) : EReal))
    (by decide +kernel) fun t hf y => by
      blk_simp
      rw [after6]
      change S256x1024.Idx at y
      idx_vars y
      refine (pt0 H t y0 y1).trans ?_
      have e0 : win0_6.index t 0 = t.val := (at6 t).1
      have e1 : win0_6.index t 1 = 0 := (at6 t).2
      show _ = ((P.dx (Z (win0_6.index t 0 * 256 + y0.val)) (C (win0_6.index t 0 * 256 + y0.val)) (win0_6.index t 1 * 1024 + y1.val) : ℝ) : EReal)
      rw [e0, e1, show 0 * 1024 + y1.val = y1.val by omega, Nat.mul_comm t.val 256]
      rfl
  exact congrFun this i
theorem res1 (i : S8192x1024.Idx) : ((data m 0 c).arrAt 7 cfg0.N : S8192x1024.Idx → EReal) i
    = ((P.dy (Z (i 0).val) (C (i 0).val) (i 1).val : ℝ) : EReal) := by
  have := (data m 0 c).arrAt_eq_of_covers 7 (fun i : S8192x1024.Idx => ((P.dy (Z (i 0).val) (C (i 0).val) (i 1).val : ℝ) : EReal))
    (by decide +kernel) fun t hf y => by
      blk_simp
      rw [after7]
      change S256x1024.Idx at y
      idx_vars y
      refine (pt1 H t y0 y1).trans ?_
      have e0 : win0_7.index t 0 = t.val := (at7 t).1
      have e1 : win0_7.index t 1 = 0 := (at7 t).2
      show _ = ((P.dy (Z (win0_7.index t 0 * 256 + y0.val)) (C (win0_7.index t 0 * 256 + y0.val)) (win0_7.index t 1 * 1024 + y1.val) : ℝ) : EReal)
      rw [e0, e1, show 0 * 1024 + y1.val = y1.val by omega, Nat.mul_comm t.val 256]
      rfl
  exact congrFun this i
theorem res2 (i : S8192x2816.Idx) : ((data m 0 c).arrAt 8 cfg0.N : S8192x2816.Idx → EReal) i
    = ((P.act (Z (i 0).val) (i 1).val : ℝ) : EReal) := by
  have := (data m 0 c).arrAt_eq_of_covers 8 (fun i : S8192x2816.Idx => ((P.act (Z (i 0).val) (i 1).val : ℝ) : EReal))
    (by decide +kernel) fun t hf y => by
      blk_simp
      rw [after8]
      change S256x2816.Idx at y
      idx_vars y
      refine (pt2 H t y0 y1).trans ?_
      have e0 : win0_8.index t 0 = t.val := (at8 t).1
      have e1 : win0_8.index t 1 = 0 := (at8 t).2
      show _ = ((P.act (Z (win0_8.index t 0 * 256 + y0.val)) (win0_8.index t 1 * 2816 + y1.val) : ℝ) : EReal)
      rw [e0, e1, show 0 * 2816 + y1.val = y1.val by omega, Nat.mul_comm t.val 256]
      rfl
  exact congrFun this i
theorem res3 (i : S8192x5632.Idx) : ((data m 0 c).arrAt 9 cfg0.N : S8192x5632.Idx → EReal) i
    = ((P.dgu (Z (i 0).val) (C (i 0).val) (i 1).val : ℝ) : EReal) := by
  have := (data m 0 c).arrAt_eq_of_covers 9 (fun i : S8192x5632.Idx => ((P.dgu (Z (i 0).val) (C (i 0).val) (i 1).val : ℝ) : EReal))
    (by decide +kernel) fun t hf y => by
      blk_simp
      rw [after9]
      change S256x5632.Idx at y
      idx_vars y
      refine (pt3 H t y0 y1).trans ?_
      have e0 : win0_9.index t 0 = t.val := (at9 t).1
      have e1 : win0_9.index t 1 = 0 := (at9 t).2
      show _ = ((P.dgu (Z (win0_9.index t 0 * 256 + y0.val)) (C (win0_9.index t 0 * 256 + y0.val)) (win0_9.index t 1 * 5632 + y1.val) : ℝ) : EReal)
      rw [e0, e1, show 0 * 5632 + y1.val = y1.val by omega, Nat.mul_comm t.val 256]
      rfl
  exact congrFun this i

omit H in
/-- A sum over the points and a block's rows is a sum over all the rows. -/
theorem sum_rows (f : (ℕ → ℝ) → (ℕ → ℝ) → ℝ) : ∑ p : Fin cfg0.N, ∑ r : Fin 256, f (rows Z p r) (rows C p r) = ∑ R : Fin 8192, f (Z R) (C R) := by
  have h : ∀ N, N = 32 → ∑ p : Fin N, ∑ r : Fin 256, f (rows Z p r) (rows C p r) = ∑ R : Fin 8192, f (Z R) (C R) := by
    rintro _ rfl
    exact Cert.Mm.sum_blocks (a := 32) (b := 256) rfl (fun R : Fin 8192 => f (Z R) (C R)) fun s k => by omega
  exact h _ N32

theorem res4 (r : Fin 1) (j : Fin 1024) : ((data m 0 c).arrAt 10 cfg0.N : S1x1024.Idx → EReal) (ix2 r j)
    = ((∑ R : Fin 8192, P.dg0 (Z R) (C R) j : ℝ) : EReal) := by
  refine ((data m 0 c).arrAt_emb_eq_after_last 10 last (by decide +kernel) (ix2 r j)).trans ?_
  blk_simp
  rw [after10]
  refine (pt4 H (ix2 r j)).trans (congrArg _ ?_)
  exact sum_rows fun z d => P.dg0 z d j
theorem res5 (r : Fin 1) (j : Fin 1024) : ((data m 0 c).arrAt 11 cfg0.N : S1x1024.Idx → EReal) (ix2 r j)
    = ((∑ R : Fin 8192, P.dg1 (Z R) (C R) j : ℝ) : EReal) := by
  refine ((data m 0 c).arrAt_emb_eq_after_last 11 last (by decide +kernel) (ix2 r j)).trans ?_
  blk_simp
  rw [after11]
  refine (pt5 H (ix2 r j)).trans (congrArg _ ?_)
  exact sum_rows fun z d => P.dg1 z d j

/-! ## The run -/

omit H
theorem keeps0 (r : PUnit × MemSt nD τ sig (Elt Ideal)) (h : Pipeline.FramePost cfgs (data m) 0 (V m) r) (c : Dev nD) :
    r.2.mem ((c : Thread nD τ).loc main_arg0) = m ((c : Thread nD τ).loc main_arg0) :=
  ((h c).1 1).trans (((data m 0 c).arrAt_in 1 rfl _).trans ((data_A m c 1).trans (V_main_arg0 m c)))
theorem keeps1 (r : PUnit × MemSt nD τ sig (Elt Ideal)) (h : Pipeline.FramePost cfgs (data m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem keeps2 (r : PUnit × MemSt nD τ sig (Elt Ideal)) (h : Pipeline.FramePost cfgs (data m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem keeps3 (r : PUnit × MemSt nD τ sig (Elt Ideal)) (h : Pipeline.FramePost cfgs (data m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem keeps4 (r : PUnit × MemSt nD τ sig (Elt Ideal)) (h : Pipeline.FramePost cfgs (data m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem keeps5 (r : PUnit × MemSt nD τ sig (Elt Ideal)) (h : Pipeline.FramePost cfgs (data m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem keeps6 (r : PUnit × MemSt nD τ sig (Elt Ideal)) (h : Pipeline.FramePost cfgs (data m) 0 (V m) r) (c : Dev nD) :
    r.2.mem ((c : Thread nD τ).loc main_arg6) = m ((c : Thread nD τ).loc main_arg6) :=
  ((h c).1 0).trans (((data m 0 c).arrAt_in 0 rfl _).trans ((data_A m c 0).trans (V_main_arg6 m c)))

/-- The run with each result array named and the arguments unchanged. -/
theorem run_named : θ_run defs (onTc (τ := τ) (main (F := Ideal))) ⟨m, fun _ => 0, ρ⟩ fun r => ∀ c : Dev nD,
      r.2.mem ((c : Thread nD τ).loc main_v42_0) = (data m 0 c).arrAt 6 cfg0.N
      ∧ r.2.mem ((c : Thread nD τ).loc main_v42_1) = (data m 0 c).arrAt 7 cfg0.N
      ∧ r.2.mem ((c : Thread nD τ).loc main_v42_2) = (data m 0 c).arrAt 8 cfg0.N
      ∧ r.2.mem ((c : Thread nD τ).loc main_v42_3) = (data m 0 c).arrAt 9 cfg0.N
      ∧ r.2.mem ((c : Thread nD τ).loc main_v42_4) = (data m 0 c).arrAt 10 cfg0.N
      ∧ r.2.mem ((c : Thread nD τ).loc main_v42_5) = (data m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 6, (h c).1 7, (h c).1 8, (h c).1 9, (h c).1 10, (h c).1 11, keeps0 r h c, keeps1 r h c, keeps2 r h c, keeps3 r h c, keeps4 r h c, keeps5 r h c, keeps6 r h c⟩)
    (run_all m ρ)

end Cert.Ffn

end

end
-- ==== Proof.Ffn.Ref.lean ====
/-
  The reference of the feed-forward block's backward pass: each value it computes, at an index, as the real number the
  specification names.
-/
module

public import proofs.«01_k».proof.Proof.Ffn.Spec
public import proofs.«01_k».proof.Proof.Gen.Reference9Ideal.Read

@[expose] public section

set_option maxRecDepth 16384

noncomputable section

namespace Cert.Ffn

open Cert.Reference9Ideal Cert.Reference9Ideal.Gen Cert.Reference9Ideal.Read Idealize.ShloMosaic Idealize.ShloMosaic.TcCoe
open Cert.Sg (IsR coe_sum div_real rsqrt_real ofBits_half ofBits_neg_half ofBits_one)

variable {P : Par} {Z C : ℕ → ℕ → ℝ} {x0 : S8192x1024.Idx → EReal} {x1 x2 : S1024.Idx → EReal} {x3 x4 : S1024x2816.Idx → EReal}
  {x5 : S2816x1024.Idx → EReal} {x6 : S8192x1024.Idx → EReal}
  (h0 : IsR x0 Z) (h1 : ∀ j, x1 (ix1 j) = ((P.g0 j : ℝ) : EReal)) (h2 : ∀ j, x2 (ix1 j) = ((P.g1 j : ℝ) : EReal))
  (h3 : IsR x3 P.wg) (h4 : IsR x4 P.wu) (h5 : IsR x5 P.wd) (h6 : IsR x6 C)

/-! ## The forward pass -/

section forward
include h0
theorem r_var : IsR (val_main_v8 (F := Ideal) x0) fun R _ => ms (Z R) + eps := fun R j => by
  pointwise [val_main_v8, val_main_v7, val_main_cst_3, val_main_v6, val_main_v5, val_main_cst_2, val_main_v4, val_main_v3, val_main_cst_1, val_main_v2]
  simp only [h0 _ _, ← EReal.coe_mul, zero_add]
  rw [← coe_sum, ofBits_1024, div_real (by norm_num), ofBits_eps, ← EReal.coe_add]; rfl

theorem r_rs : IsR (val_main_v9 (F := Ideal) x0) fun R _ => rs (Z R) := fun R j => by
  have h := r_var h0 R j
  pointwise [val_main_v9]
  rw [h, rsqrt_real (ms_eps_pos _)]; rfl

theorem r_slope : IsR (val_main_v12 (F := Ideal) x0) fun R _ => -(1 / 2) * (rs (Z R) / (ms (Z R) + eps)) := fun R j => by
  have h := r_var h0 R j
  have h' := r_rs h0 R j
  pointwise [val_main_v12, val_main_v11, val_main_cst_4, val_main_v10]
  rw [h, h', ofBits_neg_half, div_real (ms_eps_pos _).ne', ← EReal.coe_mul]

theorem r_xh : IsR (val_main_v14 (F := Ideal) x0) fun R => xh (Z R) := fun R j => by
  have h := r_rs h0
  pointwise [val_main_v14, val_main_v13]
  rw [h0, h, ← EReal.coe_mul]; rfl

include h1
theorem r_h : IsR (val_main_v17 (F := Ideal) x0 x1) fun R => P.hh (Z R) := fun R j => by
  have h := r_xh h0 R j
  pointwise [val_main_v17, val_main_v16, val_main_v15]
  rw [h, h1, ← EReal.coe_mul]; rfl

include h3
theorem r_ga : IsR (val_main_v19 (F := Ideal) x0 x1 x3) fun R => P.ga (Z R) := fun R j => by
  have h := r_h h0 h1
  pointwise [val_main_v19, val_main_v18, val_main_v0, val_main_cst]
  simp only [h _ _, h3 _ _, ← EReal.coe_mul, ← coe_sum, zero_add, add_zero]; rfl

theorem r_sgm : IsR (val_main_v22_2 (F := Ideal) x0 x1 x3) fun R f => sgm (P.ga (Z R) f) := fun R j => by
  have h := r_ga h0 h1 h3 R j
  pointwise [val_main_v22_2, val_main_call0_v4, val_main_call0_cst_0, val_main_call0_v3, val_main_call0_v2, val_main_call0_cst, val_main_call0_v1, val_main_call0_v0]
  rw [h, ← EReal.coe_neg, Ideal.exp_coe, ← EReal.coe_one, ← EReal.coe_add, div_real (one_add_exp_ne _)]; rfl

theorem r_silu : IsR (val_main_v22_0 (F := Ideal) x0 x1 x3) fun R f => P.ga (Z R) f * sgm (P.ga (Z R) f) := fun R j => by
  have h := r_ga h0 h1 h3 R j
  have h' := r_sgm h0 h1 h3 R j
  pointwise [val_main_v22_0]
  rw [h, h', ← EReal.coe_mul]

theorem r_dsg : IsR (val_main_v22_1 (F := Ideal) x0 x1 x3) fun R f => sgm (P.ga (Z R) f) * (1 - sgm (P.ga (Z R) f)) := fun R j => by
  have h' := r_sgm h0 h1 h3 R j
  pointwise [val_main_v22_1, val_main_call0_v7, val_main_call0_v6, val_main_call0_cst_1]
  rw [h', ← EReal.coe_one, ← EReal.coe_sub, ← EReal.coe_mul]

omit h3
include h4
theorem r_up : IsR (val_main_v21 (F := Ideal) x0 x1 x4) fun R => P.up (Z R) := fun R j => by
  have h := r_h h0 h1
  pointwise [val_main_v21, val_main_v20, val_main_v0, val_main_cst]
  simp only [h _ _, h4 _ _, ← EReal.coe_mul, ← coe_sum, zero_add, add_zero]; rfl

include h3
theorem r_act : IsR (val_main_v23 (F := Ideal) x0 x1 x3 x4) fun R => P.act (Z R) := fun R j => by
  have h := r_silu h0 h1 h3 R j
  have h' := r_up h0 h1 h4 R j
  pointwise [val_main_v23]
  rw [h, h', ← EReal.coe_mul]; rfl

include h5
theorem r_y : IsR (val_main_v25 (F := Ideal) x0 x1 x3 x4 x5) fun R => P.yy (Z R) := fun R j => by
  have h := r_act h0 h1 h3 h4
  pointwise [val_main_v25, val_main_v24, val_main_v1, val_main_cst_0]
  simp only [h _ _, h5 _ _, ← EReal.coe_mul, ← coe_sum, zero_add, add_zero]; rfl

theorem r_yvar : IsR (val_main_v32 (F := Ideal) x0 x1 x3 x4 x5) fun R _ => ms (P.yy (Z R)) + eps := fun R j => by
  have h := r_y h0 h1 h3 h4 h5
  pointwise [val_main_v32, val_main_v31, val_main_cst_7, val_main_v30, val_main_v29, val_main_cst_6, val_main_v28, val_main_v27, val_main_cst_5, val_main_v26]
  simp only [h _ _, ← EReal.coe_mul, zero_add]
  rw [← coe_sum, ofBits_1024, div_real (by norm_num), ofBits_eps, ← EReal.coe_add]; rfl

theorem r_yrs : IsR (val_main_v33 (F := Ideal) x0 x1 x3 x4 x5) fun R _ => rs (P.yy (Z R)) := fun R j => by
  have h := r_yvar h0 h1 h3 h4 h5 R j
  pointwise [val_main_v33]
  rw [h, rsqrt_real (ms_eps_pos _)]; rfl

theorem r_yslope : IsR (val_main_v36 (F := Ideal) x0 x1 x3 x4 x5) fun R _ => -(1 / 2) * (rs (P.yy (Z R)) / (ms (P.yy (Z R)) + eps)) := fun R j => by
  have h := r_yvar h0 h1 h3 h4 h5 R j
  have h' := r_yrs h0 h1 h3 h4 h5 R j
  pointwise [val_main_v36, val_main_v35, val_main_cst_8, val_main_v34]
  rw [h, h', ofBits_neg_half, div_real (ms_eps_pos _).ne', ← EReal.coe_mul]

theorem r_yxh : IsR (val_main_v38 (F := Ideal) x0 x1 x3 x4 x5) fun R => xh (P.yy (Z R)) := fun R j => by
  have h := r_yrs h0 h1 h3 h4 h5
  have h' := r_y h0 h1 h3 h4 h5 R j
  pointwise [val_main_v38, val_main_v37]
  rw [h', h, ← EReal.coe_mul]; rfl
end forward

/-! ## The backward pass -/

section backward
include h6
theorem r_half : IsR (val_main_v47 (F := Ideal) x6) fun R => Par.half (C R) := fun R j => by
  pointwise [val_main_v47, val_main_v46, val_main_cst_10, val_main_v45]
  rw [h6, ofBits_half, ← EReal.coe_mul]; rfl

include h2
theorem r_gain : IsR (val_main_v52 (F := Ideal) x2 x6) fun R j => Par.half (C R) j * P.g1 j := fun R j => by
  have h := r_half h6 R j
  pointwise [val_main_v52, val_main_v51, val_main_v39]
  rw [h, h2, ← EReal.coe_mul]

include h0 h1 h3 h4 h5
theorem r_ythrough : IsR (val_main_v63 (F := Ideal) x0 x1 x2 x3 x4 x5 x6) fun R _ => through P.g1 (P.yy (Z R)) (Par.half (C R)) := fun R j => by
  have h := r_gain h2 h6
  have h' := r_y h0 h1 h3 h4 h5
  have hs := r_yslope h0 h1 h3 h4 h5
  pointwise [val_main_v63, val_main_v62, val_main_cst_15, val_main_v61, val_main_v60, val_main_cst_14, val_main_v59, val_main_v56, val_main_v55, val_main_cst_13, val_main_v54]
  simp only [Finset.univ_unique, Finset.sum_singleton, h _ _, h' _ _, hs _ _, ← EReal.coe_mul, ← coe_sum, zero_add]
  rw [ofBits_1024, div_real (by norm_num)]; rfl

theorem r_dy : IsR (val_main_v67 (F := Ideal) x0 x1 x2 x3 x4 x5 x6) fun R => P.dy (Z R) (C R) := fun R j => by
  have h := r_gain h2 h6 R j
  have h' := r_y h0 h1 h3 h4 h5 R j
  have hr := r_yrs h0 h1 h3 h4 h5
  have ht := r_ythrough h0 h1 h2 h3 h4 h5 h6 R j
  pointwise [val_main_v67, val_main_v66, val_main_v65, val_main_v64, val_main_v58, val_main_v57]
  rw [h, h', hr, ht]
  simp only [← EReal.coe_mul, ← EReal.coe_add]
  rw [back_eq]; rfl

theorem r_da : IsR (val_main_v68 (F := Ideal) x0 x1 x2 x3 x4 x5 x6) fun R => P.da (Z R) (C R) := fun R j => by
  have h := r_dy h0 h1 h2 h3 h4 h5 h6
  pointwise [val_main_v68]
  simp only [h _ _, h5 _ _, ← EReal.coe_mul, ← coe_sum, zero_add, add_zero]; rfl

theorem r_du : IsR (val_main_v69 (F := Ideal) x0 x1 x2 x3 x4 x5 x6) fun R => P.du (Z R) (C R) := fun R j => by
  have h := r_da h0 h1 h2 h3 h4 h5 h6 R j
  have h' := r_silu h0 h1 h3 R j
  pointwise [val_main_v69]
  rw [h, h', ← EReal.coe_mul, mul_comm]; rfl

theorem r_dg : IsR (val_main_v71 (F := Ideal) x0 x1 x2 x3 x4 x5 x6) fun R => P.dg (Z R) (C R) := fun R j => by
  have h := r_da h0 h1 h2 h3 h4 h5 h6 R j
  have h' := r_ga h0 h1 h3 R j
  have hu := r_up h0 h1 h4 R j
  have hs := r_sgm h0 h1 h3 R j
  have hd := r_dsg h0 h1 h3 R j
  pointwise [val_main_v71, val_main_call1_v0, val_main_call1_v1, val_main_call1_v2, val_main_v70]
  rw [h, h', hu, hs, hd]
  simp only [← EReal.coe_mul, ← EReal.coe_add]
  refine congrArg _ ?_
  unfold Par.dg
  ring

theorem r_dh : IsR (val_main_v74 (F := Ideal) x0 x1 x2 x3 x4 x5 x6) fun R => P.dh (Z R) (C R) := fun R j => by
  have h := r_dg h0 h1 h2 h3 h4 h5 h6
  have h' := r_du h0 h1 h2 h3 h4 h5 h6
  pointwise [val_main_v74, val_main_v73, val_main_v72]
  simp only [h _ _, h' _ _, h3 _ _, h4 _ _, ← EReal.coe_mul, ← coe_sum, zero_add, add_zero]
  rw [← EReal.coe_add, add_comm]; rfl

theorem r_dhg : IsR (val_main_v79 (F := Ideal) x0 x1 x2 x3 x4 x5 x6) fun R j => P.dh (Z R) (C R) j * P.g0 j := fun R j => by
  have h := r_dh h0 h1 h2 h3 h4 h5 h6 R j
  pointwise [val_main_v79, val_main_v78, val_main_v15]
  rw [h, h1, ← EReal.coe_mul]

theorem r_through : IsR (val_main_v91 (F := Ideal) x0 x1 x2 x3 x4 x5 x6) fun R _ => through P.g0 (Z R) (P.dh (Z R) (C R)) := fun R j => by
  have h := r_dhg h0 h1 h2 h3 h4 h5 h6
  have hs := r_slope h0
  pointwise [val_main_v91, val_main_v90, val_main_cst_20, val_main_v89, val_main_v88, val_main_cst_19, val_main_v87, val_main_v83, val_main_v82, val_main_cst_18, val_main_v81]
  simp only [Finset.univ_unique, Finset.sum_singleton, h _ _, h0 _ _, hs _ _, ← EReal.coe_mul, ← coe_sum, zero_add]
  rw [ofBits_1024, div_real (by norm_num)]; rfl

/-! ## The results -/

theorem r_dx : IsR (val_main_v95 (F := Ideal) x0 x1 x2 x3 x4 x5 x6) fun R => P.dx (Z R) (C R) := fun R j => by
  have h := r_dhg h0 h1 h2 h3 h4 h5 h6 R j
  have hr := r_rs h0
  have ht := r_through h0 h1 h2 h3 h4 h5 h6 R j
  pointwise [val_main_v95, val_main_v94, val_main_v93, val_main_v92, val_main_v86, val_main_v85, val_main_v84]
  rw [h, hr, ht, h0, h6]
  simp only [← EReal.coe_mul, ← EReal.coe_add]
  refine congrArg _ ?_
  unfold Par.dx
  rw [← back_eq]
  ring

theorem r_dy16 : IsR (val_main_v96 (F := Ideal) x0 x1 x2 x3 x4 x5 x6) fun R => P.dy (Z R) (C R) := fun R j => by
  have h := r_dy h0 h1 h2 h3 h4 h5 h6 R j
  pointwise [val_main_v96]
  exact h

theorem r_dgu : IsR (val_main_v99 (F := Ideal) x0 x1 x2 x3 x4 x5 x6) fun R => P.dgu (Z R) (C R) := fun R j => by
  have h := r_dg h0 h1 h2 h3 h4 h5 h6
  have h' := r_du h0 h1 h2 h3 h4 h5 h6
  pointwise [val_main_v99, val_main_v98]
  unfold Par.dgu
  split
  · exact h R ⟨j, _⟩
  · exact h' R ⟨j - 2816, _⟩

theorem r_dg0 (r : Fin 1) (j : Fin 1024) : val_main_v100 (F := Ideal) x0 x1 x2 x3 x4 x5 x6 (ix2 r j) =
    ((∑ R : Fin 8192, P.dg0 (Z R) (C R) j : ℝ) : EReal) := by
  have h := r_dh h0 h1 h2 h3 h4 h5 h6
  have h' := r_xh h0
  pointwise [val_main_v100, val_main_v80, val_main_cst_17, val_main_v77, val_main_v76, val_main_cst_16, val_main_v75]
  simp only [Finset.univ_unique, Finset.sum_singleton, h _ _, h' _ _, ← EReal.coe_mul, ← coe_sum, zero_add]
  exact congrArg _ (Finset.sum_congr rfl fun _ _ => mul_comm _ _)

omit h2
theorem r_dg1 (r : Fin 1) (j : Fin 1024) : val_main_v101 (F := Ideal) x0 x1 x3 x4 x5 x6 (ix2 r j) =
    ((∑ R : Fin 8192, P.dg1 (Z R) (C R) j : ℝ) : EReal) := by
  have h := r_half h6
  have h' := r_yxh h0 h1 h3 h4 h5
  pointwise [val_main_v101, val_main_v53, val_main_cst_12, val_main_v50, val_main_v49, val_main_cst_11, val_main_v48]
  simp only [Finset.univ_unique, Finset.sum_singleton, h _ _, h' _ _, ← EReal.coe_mul, ← coe_sum, zero_add]
  exact congrArg _ (Finset.sum_congr rfl fun _ _ => mul_comm _ _)

omit h5 h6
theorem r_act16 : IsR (val_main_v97 (F := Ideal) x0 x1 x3 x4) fun R => P.act (Z R) := fun R j => by
  have h := r_act h0 h1 h3 h4 R j
  pointwise [val_main_v97]
  exact h
end backward

end Cert.Ffn

end

end
-- ==== Proof.Ffn.Claims.lean ====
/-
  The claims about the feed-forward block's backward kernel: its arguments are finite, hence real arrays; the kernel's
  results and the reference's are then the same real numbers, entry by entry.
-/
module

public import proofs.«01_k».proof.Defs
public import proofs.«01_k».proof.Proof.Ffn.BitsFrame
public import proofs.«01_k».proof.Proof.Ffn.Total
public import proofs.«01_k».proof.Proof.Ffn.Ref
public import proofs.«01_k».proof.Proof.Sg.Claims
public import proofs.«01_k».proof.Proof.Gen.Pre_finite9
public import proofs.«01_k».proof.Proof.Gen.Reference9Ideal.Run

@[expose] public section

set_option maxRecDepth 16384

noncomputable section

namespace Cert.Ffn

open Idealize.ShloMosaic Idealize.ShloMosaic.TcCoe Idealize.SL.Sem Cert.Kernel9Ideal.Gen
open Cert.Sg (IsR real_of_lt lift1 lift2 lift1_eq lift2_eq)

theorem lifted (m : (ℓ : Loc Cert.Kernel9Ideal.nD Cert.Kernel9Ideal.τ Cert.Kernel9Ideal.sig) → Buf (Elt Ideal) ℓ)
    (h : Pre_Kernel9Ideal_finite9 (hPre_finite9 := Cert.Pre_finite9.Gen.facts) m) (c : Dev Cert.Kernel9Ideal.nD) :
    Lifted m c ⟨lift1 (A1 m c), lift1 (A2 m c), lift2 (A3 m c), lift2 (A4 m c), lift2 (A5 m c)⟩ (lift2 (A0 m c)) (lift2 (A6 m c)) where
  h0 := lift2_eq fun i => real_of_lt (congrFun (h c).1 i)
  h1 := lift1_eq fun i => real_of_lt (congrFun (h c).2.1 i)
  h2 := lift1_eq fun i => real_of_lt (congrFun (h c).2.2.1 i)
  h3 := lift2_eq fun i => real_of_lt (congrFun (h c).2.2.2.1 i)
  h4 := lift2_eq fun i => real_of_lt (congrFun (h c).2.2.2.2.1 i)
  h5 := lift2_eq fun i => real_of_lt (congrFun (h c).2.2.2.2.2.1 i)
  h6 := lift2_eq fun i => real_of_lt (congrFun (h c).2.2.2.2.2.2 i)

theorem frame_r : quiescent_Reference9Ideal := fun m ρ _ =>
  (θ_run Cert.Reference9Ideal.defs _ _).mono (fun r h => ⟨fun c => (h c).2.2.2.2.2.2,
      sem_eq_zero_of_no_sems (by decide) r.2⟩) (Cert.Reference9Ideal.Value.run (F := Ideal) m ρ)

theorem algebraic : algebraic_Kernel9Ideal_Reference9Ideal_pre_finite9 (hPre_finite9 := Cert.Pre_finite9.Gen.facts) := by
  intro m ρ m' ρ' hpre hagree
  refine ⟨_, _, _, _, _, _, run_named (m := m) ρ, ?_⟩
  refine (θ_run Cert.Reference9Ideal.defs _ _).mono (fun _ h c => ?_) (Cert.Reference9Ideal.Value.run (F := Ideal) m' ρ')
  obtain ⟨e0, e1, e2, e3, e4, e5, e6⟩ := hagree c
  have H := lifted m hpre c
  obtain ⟨r0, r1, r2, r3, r4, r5, ra⟩ := h c
  have h0 : IsR (StableHlo.launchContents m' c (Proc.devRef .tc Cert.Reference9Ideal.main_arg0)) _ := fun R j => (congrFun e0 _).trans (H.h0 R j)
  have h1 : ∀ j, (StableHlo.launchContents m' c (Proc.devRef .tc Cert.Reference9Ideal.main_arg1) : Cert.Reference9Ideal.S1024.Idx → EReal) (ix1 j) = _ := fun j => (congrFun e1 _).trans (H.h1 j)
  have h2 : ∀ j, (StableHlo.launchContents m' c (Proc.devRef .tc Cert.Reference9Ideal.main_arg2) : Cert.Reference9Ideal.S1024.Idx → EReal) (ix1 j) = _ := fun j => (congrFun e2 _).trans (H.h2 j)
  have h3 : IsR (StableHlo.launchContents m' c (Proc.devRef .tc Cert.Reference9Ideal.main_arg3)) _ := fun R j => (congrFun e3 _).trans (H.h3 R j)
  have h4 : IsR (StableHlo.launchContents m' c (Proc.devRef .tc Cert.Reference9Ideal.main_arg4)) _ := fun R j => (congrFun e4 _).trans (H.h4 R j)
  have h5 : IsR (StableHlo.launchContents m' c (Proc.devRef .tc Cert.Reference9Ideal.main_arg5)) _ := fun R j => (congrFun e5 _).trans (H.h5 R j)
  have h6 : IsR (StableHlo.launchContents m' c (Proc.devRef .tc Cert.Reference9Ideal.main_arg6)) _ := fun R j => (congrFun e6 _).trans (H.h6 R j)
  refine ⟨r0.trans ?_, r1.trans ?_, r2.trans ?_, r3.trans ?_, r4.trans ?_, r5.trans ?_, ra⟩
  · rw [Cert.Reference9Ideal.Read.val_main_v95_eq]
    funext i
    idx_vars i
    exact (r_dx h0 h1 h2 h3 h4 h5 h6 i0 i1).trans (res0 H (ix2 i0 i1)).symm
  · rw [Cert.Reference9Ideal.Read.val_main_v96_eq]
    funext i
    idx_vars i
    exact (r_dy16 h0 h1 h2 h3 h4 h5 h6 i0 i1).trans (res1 H (ix2 i0 i1)).symm
  · rw [Cert.Reference9Ideal.Read.val_main_v97_eq]
    funext i
    idx_vars i
    exact (r_act16 h0 h1 h3 h4 i0 i1).trans (res2 H (ix2 i0 i1)).symm
  · rw [Cert.Reference9Ideal.Read.val_main_v99_eq]
    funext i
    idx_vars i
    exact (r_dgu h0 h1 h2 h3 h4 h5 h6 i0 i1).trans (res3 H (ix2 i0 i1)).symm
  · rw [Cert.Reference9Ideal.Read.val_main_v100_eq]
    funext i
    idx_vars i
    exact (r_dg0 h0 h1 h2 h3 h4 h5 h6 i0 i1).trans (res4 H i0 i1).symm
  · rw [Cert.Reference9Ideal.Read.val_main_v101_eq]
    funext i
    idx_vars i
    exact (r_dg1 h0 h1 h3 h4 h5 h6 i0 i1).trans (res5 H i0 i1).symm

end Cert.Ffn

end

end
-- ==== Proof.Fwd.Spec.lean ====
/-
  The feed-forward block over the extended reals: every array of the block as a function of one row of its argument, the
  gains and the weights.
-/
module

public import proofs.«01_k».proof.Proof.Mm.Blocks

@[expose] public section

noncomputable section

namespace Cert.Fwd

open Idealize.ShloMosaic Idealize.ShloMosaic.TcCoe

/-- The values at every index of a matrix, by row and column. -/
abbrev Is {a b : ℕ} (x : (Shape.mk 2 ![a, b]).Idx → EReal) (f : ℕ → ℕ → EReal) : Prop := ∀ i j, x (ix2 i j) = f i.val j.val

/-- The mean of a row's squares, with what is added to it; and the reciprocal of its root. -/
def ms (z : ℕ → EReal) : EReal :=
  Ideal.div (∑ j : Fin 1024, z j * z j) (Ideal.ofBits .f32 0x44800000#32) + Ideal.ofBits .f32 0x358637bd#32
def rs (z : ℕ → EReal) : EReal := Ideal.rsqrt (ms z)
/-- The logistic function. -/
def sg (t : EReal) : EReal := Ideal.div 1 (1 + Ideal.exp (-t))
/-- A row scaled to mean square one, times a gain. -/
def norm (g z : ℕ → EReal) (j : ℕ) : EReal := z j * rs z * g j

/-- The gains and the weights of a block. -/
structure Par where
  g0 : ℕ → EReal
  g1 : ℕ → EReal
  gn : ℕ → EReal
  wg : ℕ → ℕ → EReal
  wu : ℕ → ℕ → EReal
  wd : ℕ → ℕ → EReal

namespace Par
variable (P : Par) (z : ℕ → EReal)

def ga (f : ℕ) : EReal := ∑ d : Fin 1024, norm P.g0 z d * P.wg d f
def up (f : ℕ) : EReal := ∑ d : Fin 1024, norm P.g0 z d * P.wu d f
def gu (f : ℕ) : EReal := if f < 2816 then P.ga z f else P.up z (f - 2816)
def act (f : ℕ) : EReal := P.ga z f * sg (P.ga z f) * P.up z f
def yy (j : ℕ) : EReal := ∑ f : Fin 2816, P.act z f * P.wd f j
/-- The block's output, and its norm with the next gain. -/
def out (j : ℕ) : EReal := z j + Ideal.ofBits .f32 0x3f000000#32 * norm P.g1 (P.yy z) j
/-- The two projections' weights, one above the other. -/
def rows (f d : ℕ) : EReal := if f < 2816 then P.wg d f else P.wu d (f - 2816)
theorem sum_rows (f : ℕ) : (∑ d : Fin 1024, norm P.g0 z d * P.rows f d) = P.gu z f := by
  unfold gu rows
  split <;> rfl
theorem gu_left {f : ℕ} (h : f < 2816) : P.gu z f = P.ga z f := if_pos h
theorem gu_right (f f' : ℕ) (e : f' = f + 2816) (h : f < 2816) : P.gu z f' = P.up z f := by
  subst e; unfold gu; rw [if_neg (by omega), Nat.add_sub_cancel]
def next (j : ℕ) : EReal := norm P.gn (P.out z) j
end Par

end Cert.Fwd

end

end
-- ==== Proof.Fwd.Body.lean ====
/-
  The kernel's body read at an index: each output is what the specification names, when the blocks and the weights in
  scratch hold what they should.
-/
module

public import proofs.«01_k».proof.Proof.Fwd.Spec
public import proofs.«01_k».proof.Proof.Gen.Kernel10Ideal.Skeleton

@[expose] public section

set_option maxRecDepth 16384

noncomputable section

namespace Cert.Fwd

open Cert.Kernel10Ideal Cert.Kernel10Ideal.Gen Idealize.ShloMosaic Idealize.ShloMosaic.TcCoe Idealize.SL.Sem

variable {P : Par} {zs : ℕ → ℕ → EReal} {x : Vec Ideal S256x1024 .f32} {g0 g1 gn : Vec Ideal S1x1024 .f32}
  {s0 : Vec Ideal S5632x1024 .bf16} {s1 : Vec Ideal S2816x1024 .bf16}
  (hx : Is x zs) (h0 : Is g0 fun _ => P.g0) (h1 : Is g1 fun _ => P.g1) (hn : Is gn fun _ => P.gn)
  (hs0 : Is s0 P.rows) (hs1 : Is s1 P.wd)

include hx h0
theorem pay1_val : Is (k0_pay1 x g0) fun r => norm P.g0 (zs r) := fun r j => by
  pointwise [k0_pay1]
  simp only [hx _ _, h0 _ _]
  rfl

include hs0
theorem pay2_val : Is (k0_pay2 x g0 s0) fun r => P.gu (zs r) := fun r f => by
  have h := pay1_val hx h0
  pointwise [k0_pay2]
  simp only [h _ _, hs0 _ _, zero_add, add_zero]
  exact P.sum_rows (zs r) f

theorem pay3_val : Is (k0_pay3 x g0 s0) fun r => P.gu (zs r) := fun r f => by
  have h := pay2_val hx h0 hs0 r f
  pointwise [k0_pay3]
  exact h

theorem pay4_val : Is (k0_pay4 x g0 s0) fun r => P.act (zs r) := fun r f => by
  have h := pay2_val hx h0 hs0 r
  have hf := f.isLt
  pointwise [k0_pay4]
  simp only [h _, zero_sub]
  rw [P.gu_left _ hf]
  refine congrArg₂ _ rfl (P.gu_right _ _ _ ?_ hf)
  all_goals (try dsimp only) <;> omega

include hs1
theorem pay5_val : Is (k0_pay5 (k0_pay4 x g0 s0) s1) fun r => P.yy (zs r) := fun r j => by
  have h := pay4_val hx h0 hs0
  pointwise [k0_pay5]
  simp only [h _ _, hs1 _ _, zero_add, add_zero]
  rfl

include h1
theorem pay6_val : Is (k0_pay6 x (k0_pay4 x g0 s0) s1 g1) fun r => P.out (zs r) := fun r j => by
  have h := pay5_val hx h0 hs0 hs1
  pointwise [k0_pay6]
  simp only [hx _ _, h _ _, h1 _ _]
  rfl

include hn
theorem pay7_val : Is (k0_pay7 x (k0_pay4 x g0 s0) s1 g1 gn) fun r => P.next (zs r) := fun r j => by
  have h := pay6_val hx h0 h1 hs0 hs1
  pointwise [k0_pay7]
  simp only [h _ _, hn _ _]
  rfl

end Cert.Fwd

end

end
-- ==== Proof.Fwd.IdealRunA.lean ====
module

public import proofs.«01_k».proof.Proof.Gen.Kernel10Ideal.Frame.Runs

@[expose] public section

/-! The first grid point of the feed-forward forward kernel, read over the extended reals. -/

set_option maxRecDepth 16384

noncomputable section

namespace Cert.Fwd.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (Pipeline.UD sig nD τ) ℕ

-- the run's term is large
set_option maxHeartbeats 1000000 in
set_option sl_exec.rejoinHeartbeats 400000 in
set_option sl_exec.dmaWindow true in
set_option sl_exec.dmaWindowSet true in
/-- The body at the first point: the weights are copied from the shards into scratch and a block of rows goes through. The lists are what the run stores into each output and into scratch. -/
noncomputable def runA (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg11 : Memref sig .tc .vmem S256x1024 .f32) (harg11 : arg11.IsWhole) (arg12 : Memref sig .tc .vmem S256x1024 .bf16) (harg12 : arg12.IsWhole) (arg13 : Memref sig .tc .vmem S256x5632 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S5632x1024 .bf16) (harg16 : arg16.IsWhole) (arg17 : Memref sig .tc .vmem S2816x1024 .bf16) (harg17 : arg17.IsWhole) (hc0 : cond0_0 i)
    (x0 : Vec F S256x1024 .f32) (x1 : Vec F S1x1024 .f32) (x2 : Vec F S1x1024 .f32) (x3 : Vec F S1x1024 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L11 : List (View.Piece (Elt F) S256x1024 .f32)), Σ' (L12 : List (View.Piece (Elt F) S256x1024 .bf16)), Σ' (L13 : List (View.Piece (Elt F) S256x5632 .bf16)), Σ' (L14 : List (View.Piece (Elt F) S256x1024 .f32)), Σ' (L15 : List (View.Piece (Elt F) S256x1024 .bf16)), Σ' (L16 : List (View.Piece (Elt F) S5632x1024 .bf16)), { L17 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_ffn_fwd i arg1 harg1 arg2 harg2 arg3 harg3 arg4 harg4 (Memref.whole main_v4) (Memref.isWhole_whole _) (Memref.whole main_v2) (Memref.isWhole_whole _) (Memref.whole main_v9) (Memref.isWhole_whole _) (Memref.whole main_v7) (Memref.isWhole_whole _) (Memref.whole main_v13) (Memref.isWhole_whole _) (Memref.whole main_v11) (Memref.isWhole_whole _) arg11 harg11 arg12 harg12 arg13 harg13 arg14 harg14 arg15 harg15 arg16 harg16 arg17 harg17 cc0_scratch2) K } := by
  refine ⟨?_, ?_, ?_, ?_, ?_, ?_, ?_, fun W K => ?run⟩
  case run =>
    simp only [cc0_ffn_fwd_eq_skeleton]; unfold cc0_ffn_fwd_skel
    simp only [k0_part6_eq_skeleton, k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hq0, Hq1, Hq2, Hq3, Hq4, Hq5, Hq6, Hq7, Hq8, Hq9, Hq10, Hq11, Hh0, Hh1, Hh2, Hh3, Hh4, Hh5, HW, Hk⟩
    obtain rfl := harg1.eq_unread hf0; obtain rfl := harg2.eq_unread hf1; obtain rfl := harg3.eq_unread hf2; obtain rfl := harg4.eq_unread hf3
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.Fwd.Ideal

end
-- ==== Proof.Fwd.IdealRunB.lean ====
module

public import proofs.«01_k».proof.Proof.Gen.Kernel10Ideal.Frame.Runs

@[expose] public section

/-! A later grid point of the feed-forward forward kernel, read over the extended reals. -/

set_option maxRecDepth 16384

noncomputable section

namespace Cert.Fwd.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (Pipeline.UD sig nD τ) ℕ

-- the run's term is large
set_option maxHeartbeats 1000000 in
/-- The body at a later point: the weights stay in scratch and a block of rows goes through. The lists are what the run stores into each output. -/
noncomputable def runB (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg11 : Memref sig .tc .vmem S256x1024 .f32) (harg11 : arg11.IsWhole) (arg12 : Memref sig .tc .vmem S256x1024 .bf16) (harg12 : arg12.IsWhole) (arg13 : Memref sig .tc .vmem S256x5632 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S5632x1024 .bf16) (harg16 : arg16.IsWhole) (arg17 : Memref sig .tc .vmem S2816x1024 .bf16) (harg17 : arg17.IsWhole) (hc0 : ¬cond0_0 i)
    (x0 : Vec F S256x1024 .f32) (x1 : Vec F S1x1024 .f32) (x2 : Vec F S1x1024 .f32) (x3 : Vec F S1x1024 .f32) (s0 : Vec F S5632x1024 .bf16) (s1 : Vec F S2816x1024 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L11 : List (View.Piece (Elt F) S256x1024 .f32)), Σ' (L12 : List (View.Piece (Elt F) S256x1024 .bf16)), Σ' (L13 : List (View.Piece (Elt F) S256x5632 .bf16)), Σ' (L14 : List (View.Piece (Elt F) S256x1024 .f32)), { L15 : List (View.Piece (Elt F) S256x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare s0 ∗ owns (c : Thread nD τ) arg17 fullShare s1 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare s0 ∗ owns (c : Thread nD τ) arg17 fullShare s1 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_ffn_fwd i arg1 harg1 arg2 harg2 arg3 harg3 arg4 harg4 (Memref.whole main_v4) (Memref.isWhole_whole _) (Memref.whole main_v2) (Memref.isWhole_whole _) (Memref.whole main_v9) (Memref.isWhole_whole _) (Memref.whole main_v7) (Memref.isWhole_whole _) (Memref.whole main_v13) (Memref.isWhole_whole _) (Memref.whole main_v11) (Memref.isWhole_whole _) arg11 harg11 arg12 harg12 arg13 harg13 arg14 harg14 arg15 harg15 arg16 harg16 arg17 harg17 cc0_scratch2) K } := by
  refine ⟨?_, ?_, ?_, ?_, ?_, fun W K => ?run⟩
  case run =>
    simp only [cc0_ffn_fwd_eq_skeleton]; unfold cc0_ffn_fwd_skel
    simp only [k0_part6_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, Hq0, Hq1, Hq2, Hq3, Hq4, Hq5, Hq6, Hq7, Hq8, Hq9, Hq10, Hq11, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg16.eq_unread hf9; obtain rfl := harg17.eq_unread hf10
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]
    · iexists _; isplitr; · ipureintro; exact harg16.read_unread _
      iexact H9
    isplitl [H10]
    · iexists _; isplitr; · ipureintro; exact harg17.read_unread _
      iexact H10
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.Fwd.Ideal

end
-- ==== Proof.Fwd.IdealFrame.lean ====
module

public import proofs.«01_k».proof.Proof.Fwd.IdealRunA
public import proofs.«01_k».proof.Proof.Fwd.IdealRunB
public import Idealize.ShloMosaic.Lib.Claim

@[expose] public section

/-! The frame of the feed-forward forward kernel, read over the extended reals: what every point leaves, and the run as a whole. -/

set_option maxRecDepth 16384

noncomputable section

namespace Cert.Fwd.Ideal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem t_lt (t : Fin cfg0.N) : t.val < 32 := lt_of_lt_of_eq t.isLt (show cfg0.N = 32 from N_0)

/-- The branch's condition: the point is the first. -/
theorem cA0 (t : Fin cfg0.N) (h : t.val = 0) : cond0_0 (grid0.coords t) := (hcond0_0 t).mpr (by rw [h])
theorem cB0 (t : Fin cfg0.N) (h : t.val ≠ 0) : ¬cond0_0 (grid0.coords t) := fun q => by
  have := (hcond0_0 t).mp q; have := t_lt t; omega

/-- The first point's run, at the staging memrefs it is called with. -/
abbrev atA (c : Dev nD) (t : Fin cfg0.N) (h : t.val = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (cA0 t h) (iblk m c 0 t) (iblk m c 1 t) (iblk m c 2 t) (iblk m c 3 t) (V m c main_v4) (V m c main_v2) (V m c main_v9) (V m c main_v7) (V m c main_v13) (V m c main_v11)

/-- A later point's run, the weights at what the point before left. -/
abbrev atB (c : Dev nD) (t : Fin cfg0.N) (h : t.val ≠ 0) (s0 : Vec F S5632x1024 .bf16) (s1 : Vec F S2816x1024 .bf16) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (cB0 t h) (iblk m c 0 t) (iblk m c 1 t) (iblk m c 2 t) (iblk m c 3 t) s0 s1 (V m c main_v4) (V m c main_v2) (V m c main_v9) (V m c main_v7) (V m c main_v13) (V m c main_v11)

theorem coverA0 (c : Dev nD) (t : Fin cfg0.N) (h : t.val = 0) (y : S256x1024.Idx) : ∃ pc ∈ (atA m c t h).1, y ∈ pc.1.set :=
  View.cover_of_tiledL (atA m c t h).1 S256x1024.size (by sl_kernel_rfl) y
theorem coverA1 (c : Dev nD) (t : Fin cfg0.N) (h : t.val = 0) (y : S256x1024.Idx) : ∃ pc ∈ (atA m c t h).2.1, y ∈ pc.1.set :=
  View.cover_of_tiledL (atA m c t h).2.1 S256x1024.size (by sl_kernel_rfl) y
theorem coverA2 (c : Dev nD) (t : Fin cfg0.N) (h : t.val = 0) (y : S256x5632.Idx) : ∃ pc ∈ (atA m c t h).2.2.1, y ∈ pc.1.set :=
  View.cover_of_tiledL (atA m c t h).2.2.1 S256x5632.size (by sl_kernel_rfl) y
theorem coverA3 (c : Dev nD) (t : Fin cfg0.N) (h : t.val = 0) (y : S256x1024.Idx) : ∃ pc ∈ (atA m c t h).2.2.2.1, y ∈ pc.1.set :=
  View.cover_of_tiledL (atA m c t h).2.2.2.1 S256x1024.size (by sl_kernel_rfl) y
theorem coverA4 (c : Dev nD) (t : Fin cfg0.N) (h : t.val = 0) (y : S256x1024.Idx) : ∃ pc ∈ (atA m c t h).2.2.2.2.1, y ∈ pc.1.set :=
  View.cover_of_tiledL (atA m c t h).2.2.2.2.1 S256x1024.size (by sl_kernel_rfl) y
theorem coverA5 (c : Dev nD) (t : Fin cfg0.N) (h : t.val = 0) (y : S5632x1024.Idx) : ∃ pc ∈ (atA m c t h).2.2.2.2.2.1, y ∈ pc.1.set :=
  View.cover_of_tiledL (atA m c t h).2.2.2.2.2.1 S704x1024.size (by sl_kernel_rfl) y
theorem coverA6 (c : Dev nD) (t : Fin cfg0.N) (h : t.val = 0) (y : S2816x1024.Idx) : ∃ pc ∈ (atA m c t h).2.2.2.2.2.2.1, y ∈ pc.1.set :=
  View.cover_of_tiledL (atA m c t h).2.2.2.2.2.2.1 S704x1024.size (by sl_kernel_rfl) y
theorem coverB0 (c : Dev nD) (t : Fin cfg0.N) (h : t.val ≠ 0) (s0 : Vec F S5632x1024 .bf16) (s1 : Vec F S2816x1024 .bf16) (y : S256x1024.Idx) : ∃ pc ∈ (atB m c t h s0 s1).1, y ∈ pc.1.set :=
  View.cover_of_tiledL (atB m c t h s0 s1).1 S256x1024.size (by sl_kernel_rfl) y
theorem coverB1 (c : Dev nD) (t : Fin cfg0.N) (h : t.val ≠ 0) (s0 : Vec F S5632x1024 .bf16) (s1 : Vec F S2816x1024 .bf16) (y : S256x1024.Idx) : ∃ pc ∈ (atB m c t h s0 s1).2.1, y ∈ pc.1.set :=
  View.cover_of_tiledL (atB m c t h s0 s1).2.1 S256x1024.size (by sl_kernel_rfl) y
theorem coverB2 (c : Dev nD) (t : Fin cfg0.N) (h : t.val ≠ 0) (s0 : Vec F S5632x1024 .bf16) (s1 : Vec F S2816x1024 .bf16) (y : S256x5632.Idx) : ∃ pc ∈ (atB m c t h s0 s1).2.2.1, y ∈ pc.1.set :=
  View.cover_of_tiledL (atB m c t h s0 s1).2.2.1 S256x5632.size (by sl_kernel_rfl) y
theorem coverB3 (c : Dev nD) (t : Fin cfg0.N) (h : t.val ≠ 0) (s0 : Vec F S5632x1024 .bf16) (s1 : Vec F S2816x1024 .bf16) (y : S256x1024.Idx) : ∃ pc ∈ (atB m c t h s0 s1).2.2.2.1, y ∈ pc.1.set :=
  View.cover_of_tiledL (atB m c t h s0 s1).2.2.2.1 S256x1024.size (by sl_kernel_rfl) y
theorem coverB4 (c : Dev nD) (t : Fin cfg0.N) (h : t.val ≠ 0) (s0 : Vec F S5632x1024 .bf16) (s1 : Vec F S2816x1024 .bf16) (y : S256x1024.Idx) : ∃ pc ∈ (atB m c t h s0 s1).2.2.2.2.1, y ∈ pc.1.set :=
  View.cover_of_tiledL (atB m c t h s0 s1).2.2.2.2.1 S256x1024.size (by sl_kernel_rfl) y
/-- What the first point leaves in buffer 0 of the outputs and the scratch. -/
def outA0 (c : Dev nD) (t : Fin cfg0.N) (h : t.val = 0) : Vec F S256x1024 .f32 :=
  VO0_4.read (Elt F) (VO0_4.writes (Elt F) VO0_4.junk (atA m c t h).1)
/-- What the first point leaves in buffer 1 of the outputs and the scratch. -/
def outA1 (c : Dev nD) (t : Fin cfg0.N) (h : t.val = 0) : Vec F S256x1024 .bf16 :=
  VO0_5.read (Elt F) (VO0_5.writes (Elt F) VO0_5.junk (atA m c t h).2.1)
/-- What the first point leaves in buffer 2 of the outputs and the scratch. -/
def outA2 (c : Dev nD) (t : Fin cfg0.N) (h : t.val = 0) : Vec F S256x5632 .bf16 :=
  VO0_6.read (Elt F) (VO0_6.writes (Elt F) VO0_6.junk (atA m c t h).2.2.1)
/-- What the first point leaves in buffer 3 of the outputs and the scratch. -/
def outA3 (c : Dev nD) (t : Fin cfg0.N) (h : t.val = 0) : Vec F S256x1024 .f32 :=
  VO0_7.read (Elt F) (VO0_7.writes (Elt F) VO0_7.junk (atA m c t h).2.2.2.1)
/-- What the first point leaves in buffer 4 of the outputs and the scratch. -/
def outA4 (c : Dev nD) (t : Fin cfg0.N) (h : t.val = 0) : Vec F S256x1024 .bf16 :=
  VO0_8.read (Elt F) (VO0_8.writes (Elt F) VO0_8.junk (atA m c t h).2.2.2.2.1)
/-- What the first point leaves in buffer 5 of the outputs and the scratch. -/
def outA5 (c : Dev nD) (t : Fin cfg0.N) (h : t.val = 0) : Vec F S5632x1024 .bf16 :=
  VS0_0.read (Elt F) (VS0_0.writes (Elt F) VS0_0.junk (atA m c t h).2.2.2.2.2.1)
/-- What the first point leaves in buffer 6 of the outputs and the scratch. -/
def outA6 (c : Dev nD) (t : Fin cfg0.N) (h : t.val = 0) : Vec F S2816x1024 .bf16 :=
  VS0_1.read (Elt F) (VS0_1.writes (Elt F) VS0_1.junk (atA m c t h).2.2.2.2.2.2.1)
/-- What a later point leaves in output 0. -/
def outB0 (c : Dev nD) (t : Fin cfg0.N) (h : t.val ≠ 0) (s0 : Vec F S5632x1024 .bf16) (s1 : Vec F S2816x1024 .bf16) : Vec F S256x1024 .f32 :=
  VO0_4.read (Elt F) (VO0_4.writes (Elt F) VO0_4.junk (atB m c t h s0 s1).1)
/-- What a later point leaves in output 1. -/
def outB1 (c : Dev nD) (t : Fin cfg0.N) (h : t.val ≠ 0) (s0 : Vec F S5632x1024 .bf16) (s1 : Vec F S2816x1024 .bf16) : Vec F S256x1024 .bf16 :=
  VO0_5.read (Elt F) (VO0_5.writes (Elt F) VO0_5.junk (atB m c t h s0 s1).2.1)
/-- What a later point leaves in output 2. -/
def outB2 (c : Dev nD) (t : Fin cfg0.N) (h : t.val ≠ 0) (s0 : Vec F S5632x1024 .bf16) (s1 : Vec F S2816x1024 .bf16) : Vec F S256x5632 .bf16 :=
  VO0_6.read (Elt F) (VO0_6.writes (Elt F) VO0_6.junk (atB m c t h s0 s1).2.2.1)
/-- What a later point leaves in output 3. -/
def outB3 (c : Dev nD) (t : Fin cfg0.N) (h : t.val ≠ 0) (s0 : Vec F S5632x1024 .bf16) (s1 : Vec F S2816x1024 .bf16) : Vec F S256x1024 .f32 :=
  VO0_7.read (Elt F) (VO0_7.writes (Elt F) VO0_7.junk (atB m c t h s0 s1).2.2.2.1)
/-- What a later point leaves in output 4. -/
def outB4 (c : Dev nD) (t : Fin cfg0.N) (h : t.val ≠ 0) (s0 : Vec F S5632x1024 .bf16) (s1 : Vec F S2816x1024 .bf16) : Vec F S256x1024 .bf16 :=
  VO0_8.read (Elt F) (VO0_8.writes (Elt F) VO0_8.junk (atB m c t h s0 s1).2.2.2.2.1)

/-- The outputs' staging buffers and the scratch after a point: the outputs, then the two weights. -/
abbrev State (F : FTy → Type) : Type := Vec F S256x1024 .f32 × Vec F S256x1024 .bf16 × Vec F S256x5632 .bf16 × Vec F S256x1024 .f32 × Vec F S256x1024 .bf16 × Vec F S5632x1024 .bf16 × Vec F S2816x1024 .bf16

/-- The state after the first point. -/
def first (c : Dev nD) (t : Fin cfg0.N) (h : t.val = 0) : State F := (outA0 m c t h, outA1 m c t h, outA2 m c t h, outA3 m c t h, outA4 m c t h, outA5 m c t h, outA6 m c t h)
/-- The state after a later point, from the state before it. -/
def later (c : Dev nD) (t : Fin cfg0.N) (h : t.val ≠ 0) (p : State F) : State F :=
  (outB0 m c t h p.2.2.2.2.2.1 p.2.2.2.2.2.2, outB1 m c t h p.2.2.2.2.2.1 p.2.2.2.2.2.2, outB2 m c t h p.2.2.2.2.2.1 p.2.2.2.2.2.2, outB3 m c t h p.2.2.2.2.2.1 p.2.2.2.2.2.2, outB4 m c t h p.2.2.2.2.2.1 p.2.2.2.2.2.2, p.2.2.2.2.2.1, p.2.2.2.2.2.2)

/-- The state after point `n`. -/
def state (c : Dev nD) : (n : ℕ) → n < cfg0.N → State F
  | 0, hn => first m c ⟨0, hn⟩ rfl
  | n + 1, hn => later m c ⟨n + 1, hn⟩ (Nat.succ_ne_zero n) (state c n (Nat.lt_of_succ_lt hn))

theorem state_first (c : Dev nD) (t : Fin cfg0.N) (h : t.val = 0) : state m c t.val t.isLt = first m c t h := by
  obtain ⟨n, hn⟩ := t
  cases n with
  | zero => rfl
  | succ n => exact absurd h (Nat.succ_ne_zero n)

theorem state_later (c : Dev nD) (t : Fin cfg0.N) (h : t.val ≠ 0) :
    state m c t.val t.isLt = later m c t h (state m c (t.val - 1) (Nat.lt_of_le_of_lt (Nat.sub_le _ _) t.isLt)) := by
  obtain ⟨n, hn⟩ := t
  cases n with
  | zero => exact absurd rfl h
  | succ n => rfl

/-- The kernel's own semaphores at zero and the arrays it copies from, as the launch leaves them. -/
abbrev rest (c : Dev nD) : sProp 𝕄 := iprop((∃ r, prngReg c r) ∗ iprop(semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v4) ∗ hbPt0 c hbM0_1 (V m c main_v2) ∗ hbPt0 c hbM0_2 (V m c main_v9) ∗ hbPt0 c hbM0_3 (V m c main_v7) ∗ hbPt0 c hbM0_4 (V m c main_v13) ∗ hbPt0 c hbM0_5 (V m c main_v11)))

/-- What holds before point `n`: at first the launch's invariant, afterwards the same with the weights in scratch. -/
def Inv (c : Dev nD) : (n : ℕ) → n ≤ cfg0.N → sProp 𝕄
  | 0, _ => Pipeline.ΦD osem0 spec0 H0 (V m) c
  | n + 1, hn => iprop(iprop(owns (c : Thread nD τ) scM0_0 fullShare (state m c n hn).2.2.2.2.2.1 ∗ owns (c : Thread nD τ) scM0_1 fullShare (state m c n hn).2.2.2.2.2.2) ∗ rest m c)

theorem Inv_zero (c : Dev nD) (n : ℕ) (h : n ≤ cfg0.N) (hz : n = 0) : Inv m c n h = Pipeline.ΦD osem0 spec0 H0 (V m) c := by
  subst hz; rfl

theorem Inv_succ (c : Dev nD) (n : ℕ) (hn : n < cfg0.N) :
    Inv m c (n + 1) hn = iprop(iprop(owns (c : Thread nD τ) scM0_0 fullShare (state m c n hn).2.2.2.2.2.1 ∗ owns (c : Thread nD τ) scM0_1 fullShare (state m c n hn).2.2.2.2.2.2) ∗ rest m c) := rfl

theorem Inv_pos (c : Dev nD) (n : ℕ) (h : n ≤ cfg0.N) (hz : n ≠ 0) :
    Inv m c n h = iprop(iprop(owns (c : Thread nD τ) scM0_0 fullShare (state m c (n - 1) (by omega)).2.2.2.2.2.1 ∗ owns (c : Thread nD τ) scM0_1 fullShare (state m c (n - 1) (by omega)).2.2.2.2.2.2) ∗ rest m c) := by
  cases n with
  | zero => exact absurd rfl hz
  | succ n => rfl

/-- The pipeline's data: the arrays as the region finds them, each input's buffer at its block, the outputs' at the state. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (state m c t.val t.isLt).1
    | ⟨5, _⟩ => (state m c t.val t.isLt).2.1
    | ⟨6, _⟩ => (state m c t.val t.isLt).2.2.1
    | ⟨7, _⟩ => (state m c t.val t.isLt).2.2.2.1
    | ⟨8, _⟩ => (state m c t.val t.isLt).2.2.2.2.1
  Φ t := Inv m c t.val (Nat.le_of_lt_succ t.isLt)
  q _ := fullShare
  owed _ := 0

theorem data_A (c : Dev nD) (w : Fin cfg0.W) : (data m 0 c).A w = V m c (Pipeline.arrRef spec0 w) := by
  dsimp only [data]

theorem data_Inv (c : Dev nD) (t : Fin cfg0.N) : (data m 0 c).Φ t.castSucc = Inv m c t.val (Nat.le_of_lt t.isLt) := by
  dsimp only [data]; exact Pipeline.Dat.Φ_castSucc (Inv m c) t

theorem after0 (c : Dev nD) (t : Fin cfg0.N) : (data m 0 c).after 0 t = iblk m c 0 t := by dsimp only [data]
theorem before0 (c : Dev nD) (t : Fin cfg0.N) (d) : (data m 0 c).before 0 t d = iblk m c 0 t :=
  before0_0_of m (data m 0 c) (data_A m c 0) (after0 m c) t d
theorem after1 (c : Dev nD) (t : Fin cfg0.N) : (data m 0 c).after 1 t = iblk m c 1 t := by dsimp only [data]
theorem before1 (c : Dev nD) (t : Fin cfg0.N) (d) : (data m 0 c).before 1 t d = iblk m c 1 t :=
  before0_1_of m (data m 0 c) (data_A m c 1) (after1 m c) t d
theorem after2 (c : Dev nD) (t : Fin cfg0.N) : (data m 0 c).after 2 t = iblk m c 2 t := by dsimp only [data]
theorem before2 (c : Dev nD) (t : Fin cfg0.N) (d) : (data m 0 c).before 2 t d = iblk m c 2 t :=
  before0_2_of m (data m 0 c) (data_A m c 2) (after2 m c) t d
theorem after3 (c : Dev nD) (t : Fin cfg0.N) : (data m 0 c).after 3 t = iblk m c 3 t := by dsimp only [data]
theorem before3 (c : Dev nD) (t : Fin cfg0.N) (d) : (data m 0 c).before 3 t d = iblk m c 3 t :=
  before0_3_of m (data m 0 c) (data_A m c 3) (after3 m c) t d
theorem after4 (c : Dev nD) (t : Fin cfg0.N) : (data m 0 c).after 4 t = (state m c t.val t.isLt).1 := by dsimp only [data]
theorem after5 (c : Dev nD) (t : Fin cfg0.N) : (data m 0 c).after 5 t = (state m c t.val t.isLt).2.1 := by dsimp only [data]
theorem after6 (c : Dev nD) (t : Fin cfg0.N) : (data m 0 c).after 6 t = (state m c t.val t.isLt).2.2.1 := by dsimp only [data]
theorem after7 (c : Dev nD) (t : Fin cfg0.N) : (data m 0 c).after 7 t = (state m c t.val t.isLt).2.2.2.1 := by dsimp only [data]
theorem after8 (c : Dev nD) (t : Fin cfg0.N) : (data m 0 c).after 8 t = (state m c t.val t.isLt).2.2.2.2.1 := by dsimp only [data]

/-- What the body is called with at point `t`. -/
def bodyPre (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d)) ∗ (∃ d, owns (c : Thread nD τ) (ms0_1 t) fullShare ((data m 0 c).before 1 t d)) ∗ (∃ d, owns (c : Thread nD τ) (ms0_2 t) fullShare ((data m 0 c).before 2 t d)) ∗ (∃ d, owns (c : Thread nD τ) (ms0_3 t) fullShare ((data m 0 c).before 3 t d)) ∗ (∃ d, owns (c : Thread nD τ) (ms0_4 t) fullShare ((data m 0 c).before 4 t d)) ∗ (∃ d, owns (c : Thread nD τ) (ms0_5 t) fullShare ((data m 0 c).before 5 t d)) ∗ (∃ d, owns (c : Thread nD τ) (ms0_6 t) fullShare ((data m 0 c).before 6 t d)) ∗ (∃ d, owns (c : Thread nD τ) (ms0_7 t) fullShare ((data m 0 c).before 7 t d)) ∗ (∃ d, owns (c : Thread nD τ) (ms0_8 t) fullShare ((data m 0 c).before 8 t d)))

/-- What the body leaves at point `t`. -/
def bodyPost (c : Dev nD) (t : Fin cfg0.N) : sProp 𝕄 :=
  iprop((data m 0 c).Φ t.succ ∗ (data m 0 c).owesAt () t.succ
    ∗ owns (c : Thread nD τ) (ms0_0 t) fullShare ((data m 0 c).after 0 t) ∗ owns (c : Thread nD τ) (ms0_1 t) fullShare ((data m 0 c).after 1 t) ∗ owns (c : Thread nD τ) (ms0_2 t) fullShare ((data m 0 c).after 2 t) ∗ owns (c : Thread nD τ) (ms0_3 t) fullShare ((data m 0 c).after 3 t) ∗ owns (c : Thread nD τ) (ms0_4 t) fullShare ((data m 0 c).after 4 t) ∗ owns (c : Thread nD τ) (ms0_5 t) fullShare ((data m 0 c).after 5 t) ∗ owns (c : Thread nD τ) (ms0_6 t) fullShare ((data m 0 c).after 6 t) ∗ owns (c : Thread nD τ) (ms0_7 t) fullShare ((data m 0 c).after 7 t) ∗ owns (c : Thread nD τ) (ms0_8 t) fullShare ((data m 0 c).after 8 t))

set_option maxHeartbeats 9600000 in
/-- The body at any point takes what it is called with to what it leaves: the first point by its own run, every later one by the other. -/
theorem body_ok (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (data m 0 c).Φ t.succ = Inv m c (t.val + 1) t.isLt from rfl, Inv_succ, after0, after1, after2, after3, after4, after5, after6, after7, after8]
  unfold Dat.owesAt Pipeline.owesWithin
  rw [show (data m 0 c).owed t.castSucc = 0 from rfl, show (data m 0 c).owed t.succ = 0 from rfl]
  by_cases hz : t.val = 0
  · rw [data_Inv m c t, Inv_zero m c _ _ hz, PhiD0_eq, state_first m c t hz]
    unfold first outA0 outA1 outA2 outA3 outA4 outA5 outA6
    dsimp only
    iintro ⟨⟨⟨HS0, HS1⟩, Hg, ⟨Hq0, Hq1, Hq2, Hq3, Hq4, Hq5, Hq6, Hq7, Hq8, Hq9, Hq10, Hq11⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atA m c t hz).2.2.2.2.2.2.2 W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [HW]; · iexact HW
    iintro ⟨H0, H1, H2, H3, ⟨%e4, H4⟩, ⟨%e5, H5⟩, ⟨%e6, H6⟩, ⟨%e7, H7⟩, ⟨%e8, H8⟩, ⟨%es0, HS0⟩, ⟨%es1, HS1⟩, Hq0, Hq1, Hq2, Hq3, Hq4, Hq5, Hq6, Hq7, Hq8, Hq9, Hq10, Hq11, Hh0, Hh1, Hh2, Hh3, Hh4, Hh5, ⟨%W', HW'⟩⟩
    isplitl [HS0 HS1 Hg Hq0 Hq1 Hq2 Hq3 Hq4 Hq5 Hq6 Hq7 Hq8 Hq9 Hq10 Hq11 Hh0 Hh1 Hh2 Hh3 Hh4 Hh5]
    · isplitl [HS0 HS1]
      · isplitl [HS0]
        · unfold owns; iexists _; isplitr
          swap; · iexact HS0
          ipureintro; exact View.read_writes_of_cover _ _ _ _ _ (coverA5 m c t hz)
        unfold owns; iexists _; isplitr
        swap; · iexact HS1
        ipureintro; exact View.read_writes_of_cover _ _ _ _ _ (coverA6 m c t hz)
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      isplitl [Hh2]; · iexact Hh2
      isplitl [Hh3]; · iexact Hh3
      isplitl [Hh4]; · iexact Hh4
      iexact Hh5
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA0 m c t hz)
    isplitl [H5]
    · unfold owns; iexists _; isplitr
      swap; · iexact H5
      ipureintro; exact View.read_writes_of_cover _ _ _ _ _ (coverA1 m c t hz)
    isplitl [H6]
    · unfold owns; iexists _; isplitr
      swap; · iexact H6
      ipureintro; exact View.read_writes_of_cover _ _ _ _ _ (coverA2 m c t hz)
    isplitl [H7]
    · unfold owns; iexists _; isplitr
      swap; · iexact H7
      ipureintro; exact View.read_writes_of_cover _ _ _ _ _ (coverA3 m c t hz)
    unfold owns; iexists _; isplitr
    swap; · iexact H8
    ipureintro; exact View.read_writes_of_cover _ _ _ _ _ (coverA4 m c t hz)
  · rw [data_Inv m c t, Inv_pos m c _ _ hz, state_later m c t hz]
    unfold later outB0 outB1 outB2 outB3 outB4
    dsimp only
    iintro ⟨⟨⟨HS0, HS1⟩, Hg, ⟨Hq0, Hq1, Hq2, Hq3, Hq4, Hq5, Hq6, Hq7, Hq8, Hq9, Hq10, Hq11⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((atB m c t hz _ _).2.2.2.2.2 W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [HW]; · iexact HW
    iintro ⟨H0, H1, H2, H3, ⟨%e4, H4⟩, ⟨%e5, H5⟩, ⟨%e6, H6⟩, ⟨%e7, H7⟩, ⟨%e8, H8⟩, HS0, HS1, Hq0, Hq1, Hq2, Hq3, Hq4, Hq5, Hq6, Hq7, Hq8, Hq9, Hq10, Hq11, Hh0, Hh1, Hh2, Hh3, Hh4, Hh5, ⟨%W', HW'⟩⟩
    isplitl [HS0 HS1 Hg Hq0 Hq1 Hq2 Hq3 Hq4 Hq5 Hq6 Hq7 Hq8 Hq9 Hq10 Hq11 Hh0 Hh1 Hh2 Hh3 Hh4 Hh5]
    · isplitl [HS0 HS1]
      · isplitl [HS0]; · iexact HS0
        iexact HS1
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      isplitl [Hh2]; · iexact Hh2
      isplitl [Hh3]; · iexact Hh3
      isplitl [Hh4]; · iexact Hh4
      iexact Hh5
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB0 m c t hz _ _)
    isplitl [H5]
    · unfold owns; iexists _; isplitr
      swap; · iexact H5
      ipureintro; exact View.read_writes_of_cover _ _ _ _ _ (coverB1 m c t hz _ _)
    isplitl [H6]
    · unfold owns; iexists _; isplitr
      swap; · iexact H6
      ipureintro; exact View.read_writes_of_cover _ _ _ _ _ (coverB2 m c t hz _ _)
    isplitl [H7]
    · unfold owns; iexists _; isplitr
      swap; · iexact H7
      ipureintro; exact View.read_writes_of_cover _ _ _ _ _ (coverB3 m c t hz _ _)
    unfold owns; iexists _; isplitr
    swap; · iexact H8
    ipureintro; exact View.read_writes_of_cover _ _ _ _ _ (coverB4 m c t hz _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (body_ok m c t) rfl .rfl fun _ => .rfl

theorem enter (c : Dev nD) : Pipeline.ΦD osem0 spec0 H0 (V m) c ⊢ (data m 0 c).Φ 0 := by
  rw [show (data m 0 c).Φ 0 = Inv m c 0 (Nat.zero_le _) from rfl, Inv_zero m c 0 _ rfl]
  try exact Idealize.SL.BI.Entails.refl _

/-- After the last point the weights in scratch are forgotten and the launch's invariant is back. -/
theorem leave (c : Dev nD) : (data m 0 c).Φ (Fin.last cfg0.N) ⊢ Pipeline.ΦD osem0 spec0 H0 (V m) c := by
  have hN : (Fin.last cfg0.N).val ≠ 0 := by rw [Fin.val_last]; have : cfg0.N = 32 := N_0; omega
  rw [show (data m 0 c).Φ (Fin.last cfg0.N) = Inv m c (Fin.last cfg0.N).val (Nat.le_of_lt_succ (Fin.last cfg0.N).isLt) from rfl, Inv_pos m c _ _ hN, PhiD0_eq]
  iintro ⟨⟨HS0, HS1⟩, Hr⟩
  isplitl [HS0 HS1]
  · isplitl [HS0]
    · iexists _; iexact HS0
    iexists _; iexact HS1
  iexact Hr

set_option backward.isDefEq.respectTransparency.types false in
/-- The launch: every run ends with the arrays at what the pipeline's data say and every semaphore at zero. -/
theorem run_quiet : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 osem0 defs₀ Variants.none ownSemFacts0 H0 H0_sub m ρ main
    (hbody := fun c => (obligation m c).loose) (hshare := fun c => (data m 0 c).share_full fun _ => rfl)
    (howed := fun _ _ => rfl) (V := V m) (hmain := hmain m Variants.none) (hA := data_A m)
    (hin := enter m) (hout := leave m)

theorem run_all : θ_run defs (onTc (τ := τ) (main (F := F))) (s₀ m ρ) (Pipeline.FramePost cfgs (data m) 0 (V m)) :=
  (θ_run defs _ _).mono (fun _ h => h.1) (run_quiet m ρ)

/-- The frame: the arguments end unchanged and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (data m) (data_A m) (run_all m ρ)) ((θ_run defs _ _).mono (fun _ h => h.2) (run_quiet m ρ))

end Cert.Fwd.Ideal

end
-- ==== Proof.Fwd.Point.lean ====
/-
  What every point leaves, as the body's own arithmetic over the point's blocks and the weights in scratch.
-/
module

public import proofs.«01_k».proof.Proof.Fwd.IdealFrame
public import proofs.«01_k».proof.Proof.Mm.Blocks

@[expose] public section

set_option maxRecDepth 16384

noncomputable section

namespace Cert.Fwd

open Cert.Kernel10Ideal Cert.Kernel10Ideal.Gen Cert.Fwd.Ideal Idealize.ShloMosaic Idealize.ShloMosaic.TcCoe Idealize.SL.Sem

theorem readCov_ld {S : Shape} {e : EltTy} {κ : Kind} {sp : Space} (v : View sig κ sp S e)
    (L : List (View.Piece (Elt Ideal) S e)) (R : Rect S) : v.readCov L R.toLoadRect = View.ld (View.canon L) R :=
  View.readCov_eq_canon' v L R

variable (m : (ℓ : Loc nD τ sig) → Buf (Elt Ideal) ℓ) (c : Dev nD)

/-- The blocks a point reads. -/
abbrev B0 (t : Fin cfg0.N) : Vec Ideal S256x1024 .f32 := iblk m c 0 t
abbrev B1 (t : Fin cfg0.N) : Vec Ideal S1x1024 .f32 := iblk m c 1 t
abbrev B2 (t : Fin cfg0.N) : Vec Ideal S1x1024 .f32 := iblk m c 2 t
abbrev B3 (t : Fin cfg0.N) : Vec Ideal S1x1024 .f32 := iblk m c 3 t

section later
variable (t : Fin cfg0.N) (h : t.val ≠ 0) (s0 : Vec Ideal S5632x1024 .bf16) (s1 : Vec Ideal S2816x1024 .bf16)

theorem back0 : View.read (Elt Ideal) (View.whole cc0_scratch0) ((Memref.isWhole_whole cc0_scratch0).unread s0) = s0 :=
  Memref.IsWhole.read_unread (Memref.isWhole_whole _) _
theorem back1 : View.read (Elt Ideal) (View.whole cc0_scratch1) ((Memref.isWhole_whole cc0_scratch1).unread s1) = s1 :=
  Memref.IsWhole.read_unread (Memref.isWhole_whole _) _

theorem later0 : outB0 m c t h s0 s1 = k0_pay6 (B0 m c t) (k0_pay4 (B0 m c t) (B1 m c t) s0) s1 (B2 m c t) := by
  unfold outB0 atB
  frame_out
  simp only [back0, back1]
theorem later1 : outB1 m c t h s0 s1 = k0_pay1 (B0 m c t) (B1 m c t) := by
  unfold outB1 atB
  frame_out
theorem later2 : outB2 m c t h s0 s1 = k0_pay3 (B0 m c t) (B1 m c t) s0 := by
  unfold outB2 atB
  frame_out
  simp only [back0]
theorem later3 : outB3 m c t h s0 s1 = k0_pay5 (k0_pay4 (B0 m c t) (B1 m c t) s0) s1 := by
  unfold outB3 atB
  frame_out
  simp only [back0, back1]
theorem later4 : outB4 m c t h s0 s1 = k0_pay7 (B0 m c t) (k0_pay4 (B0 m c t) (B1 m c t) s0) s1 (B2 m c t) (B3 m c t) := by
  unfold outB4 atB
  frame_out
  simp only [back0, back1]
end later

section first
variable (t : Fin cfg0.N) (h : t.val = 0)

theorem canon5 : outA5 m c t h = View.canon (atA m c t h).2.2.2.2.2.1 := by
  unfold outA5; exact View.read_writes_junk_eq_canon _ _
theorem canon6 : outA6 m c t h = View.canon (atA m c t h).2.2.2.2.2.2.1 := by
  unfold outA6; exact View.read_writes_junk_eq_canon _ _

set_option maxHeartbeats 1000000 in
theorem first0_of (w5 : Vec Ideal S5632x1024 .bf16) (e5 : w5 = View.canon (atA m c t h).2.2.2.2.2.1) (w6 : Vec Ideal S2816x1024 .bf16) (e6 : w6 = View.canon (atA m c t h).2.2.2.2.2.2.1) : outA0 m c t h = k0_pay6 (B0 m c t) (k0_pay4 (B0 m c t) (B1 m c t) w5) w6 (B2 m c t) := by
  unfold outA0
  unfold atA at *
  frame_out
  frame_out at e5
  frame_out at e6
  simp only [readCov_ld]
  rw [← e5, ← e6, View.ld_unit_lit _ _ (by decide), View.ld_unit_lit _ _ (by decide)]
theorem first0 : outA0 m c t h = k0_pay6 (B0 m c t) (k0_pay4 (B0 m c t) (B1 m c t) (outA5 m c t h)) (outA6 m c t h) (B2 m c t) :=
  first0_of m c t h _ (canon5 m c t h) _ (canon6 m c t h)
theorem first1 : outA1 m c t h = k0_pay1 (B0 m c t) (B1 m c t) := by
  unfold outA1 atA
  frame_out
set_option maxHeartbeats 1000000 in
theorem first2_of (w5 : Vec Ideal S5632x1024 .bf16) (e5 : w5 = View.canon (atA m c t h).2.2.2.2.2.1) : outA2 m c t h = k0_pay3 (B0 m c t) (B1 m c t) w5 := by
  unfold outA2
  unfold atA at *
  frame_out
  frame_out at e5
  simp only [readCov_ld]
  rw [← e5, View.ld_unit_lit _ _ (by decide)]
theorem first2 : outA2 m c t h = k0_pay3 (B0 m c t) (B1 m c t) (outA5 m c t h) :=
  first2_of m c t h _ (canon5 m c t h)
set_option maxHeartbeats 1000000 in
theorem first3_of (w5 : Vec Ideal S5632x1024 .bf16) (e5 : w5 = View.canon (atA m c t h).2.2.2.2.2.1) (w6 : Vec Ideal S2816x1024 .bf16) (e6 : w6 = View.canon (atA m c t h).2.2.2.2.2.2.1) : outA3 m c t h = k0_pay5 (k0_pay4 (B0 m c t) (B1 m c t) w5) w6 := by
  unfold outA3
  unfold atA at *
  frame_out
  frame_out at e5
  frame_out at e6
  simp only [readCov_ld]
  rw [← e5, ← e6, View.ld_unit_lit _ _ (by decide), View.ld_unit_lit _ _ (by decide)]
theorem first3 : outA3 m c t h = k0_pay5 (k0_pay4 (B0 m c t) (B1 m c t) (outA5 m c t h)) (outA6 m c t h) :=
  first3_of m c t h _ (canon5 m c t h) _ (canon6 m c t h)
set_option maxHeartbeats 1000000 in
theorem first4_of (w5 : Vec Ideal S5632x1024 .bf16) (e5 : w5 = View.canon (atA m c t h).2.2.2.2.2.1) (w6 : Vec Ideal S2816x1024 .bf16) (e6 : w6 = View.canon (atA m c t h).2.2.2.2.2.2.1) : outA4 m c t h = k0_pay7 (B0 m c t) (k0_pay4 (B0 m c t) (B1 m c t) w5) w6 (B2 m c t) (B3 m c t) := by
  unfold outA4
  unfold atA at *
  frame_out
  frame_out at e5
  frame_out at e6
  simp only [readCov_ld]
  rw [← e5, ← e6, View.ld_unit_lit _ _ (by decide), View.ld_unit_lit _ _ (by decide)]
theorem first4 : outA4 m c t h = k0_pay7 (B0 m c t) (k0_pay4 (B0 m c t) (B1 m c t) (outA5 m c t h)) (outA6 m c t h) (B2 m c t) (B3 m c t) :=
  first4_of m c t h _ (canon5 m c t h) _ (canon6 m c t h)
end first

end Cert.Fwd

end

end
-- ==== Proof.Fwd.Host.lean ====
/-
  What the feed-forward kernel is given: the arguments, and the shards of the three weights.
-/
module

public import proofs.«01_k».proof.Proof.Fwd.Body
public import proofs.«01_k».proof.Proof.Fwd.Point

@[expose] public section

set_option maxRecDepth 16384

noncomputable section

namespace Cert.Fwd

open Cert.Kernel10Ideal Cert.Kernel10Ideal.Gen Cert.Fwd.Ideal Idealize.ShloMosaic Idealize.ShloMosaic.TcCoe Idealize.SL.Sem

variable (m : (ℓ : Loc nD τ sig) → Buf (Elt Ideal) ℓ) (c : Dev nD)

/-- The arguments: the rows, the three gains, the three weights. -/
abbrev A0 : S8192x1024.Idx → EReal := m ((c : Thread nD τ).loc main_arg0)
abbrev A1 : S1024.Idx → EReal := m ((c : Thread nD τ).loc main_arg1)
abbrev A2 : S1024.Idx → EReal := m ((c : Thread nD τ).loc main_arg2)
abbrev A3 : S1024.Idx → EReal := m ((c : Thread nD τ).loc main_arg3)
abbrev A4 : S1024x2816.Idx → EReal := m ((c : Thread nD τ).loc main_arg4)
abbrev A5 : S1024x2816.Idx → EReal := m ((c : Thread nD τ).loc main_arg5)
abbrev A6 : S2816x1024.Idx → EReal := m ((c : Thread nD τ).loc main_arg6)

/-- The arguments hold the numbers named. -/
structure Given (P : Par) (Z : ℕ → ℕ → EReal) : Prop where
  h0 : Is (A0 m c) Z
  h1 : ∀ j, A1 m c (ix1 j) = P.g0 j
  h2 : ∀ j, A2 m c (ix1 j) = P.g1 j
  h3 : ∀ j, A3 m c (ix1 j) = P.gn j
  h4 : Is (A4 m c) P.wg
  h5 : Is (A5 m c) P.wu
  h6 : Is (A6 m c) P.wd

variable {m c} {P : Par} {Z : ℕ → ℕ → EReal} (H : Given m c P Z)
include H

theorem V_g0 : Is (V m c main_v14 : S1x1024.Idx → EReal) fun _ => P.g0 := fun R j => by
  refine Eq.trans ?_ (H.h1 j)
  unfold V
  after_reads_simp
  pointwise
theorem V_g1 : Is (V m c main_v15 : S1x1024.Idx → EReal) fun _ => P.g1 := fun R j => by
  refine Eq.trans ?_ (H.h2 j)
  unfold V
  after_reads_simp
  pointwise
theorem V_gn : Is (V m c main_v16 : S1x1024.Idx → EReal) fun _ => P.gn := fun R j => by
  refine Eq.trans ?_ (H.h3 j)
  unfold V
  after_reads_simp
  pointwise

/-! ## The weights' shards -/

theorem V_v2 (k : Fin 4) (r : Fin 704) (d : Fin 1024) : (V m c main_v2 : S4x704x1024.Idx → EReal) (ix3 k r d) = P.wg d (704 * k + r) := by
  unfold V
  after_reads_simp
  pointwise
  rw [mul_comm 704 (k : ℕ)]
  exact H.h4 d ⟨k * 704 + r, _⟩
theorem V_v4 (r : Fin 704) (d : Fin 1024) : (V m c main_v4 : S704x1024.Idx → EReal) (ix2 r d) = P.wg d r := by
  unfold V
  after_reads_simp
  pointwise
  exact H.h4 d ⟨r, _⟩
theorem V_v7 (k : Fin 4) (r : Fin 704) (d : Fin 1024) : (V m c main_v7 : S4x704x1024.Idx → EReal) (ix3 k r d) = P.wu d (704 * k + r) := by
  unfold V
  after_reads_simp
  pointwise
  rw [mul_comm 704 (k : ℕ)]
  exact H.h5 d ⟨k * 704 + r, _⟩
theorem V_v9 (r : Fin 704) (d : Fin 1024) : (V m c main_v9 : S704x1024.Idx → EReal) (ix2 r d) = P.wu d r := by
  unfold V
  after_reads_simp
  pointwise
  exact H.h5 d ⟨r, _⟩
theorem V_v11 (k : Fin 4) (r : Fin 704) (d : Fin 1024) : (V m c main_v11 : S4x704x1024.Idx → EReal) (ix3 k r d) = P.wd (704 * k + r) d := by
  unfold V
  after_reads_simp
  pointwise
  rw [mul_comm 704 (k : ℕ)]
  exact H.h6 ⟨k * 704 + r, _⟩ d
theorem V_v13 (r : Fin 704) (d : Fin 1024) : (V m c main_v13 : S704x1024.Idx → EReal) (ix2 r d) = P.wd r d := by
  unfold V
  after_reads_simp
  pointwise
  exact H.h6 ⟨r, _⟩ d

/-! ## What the first point leaves in scratch -/

omit H
/-- A shard of an array of shards, read through the slice that drops the shards' axis. -/
theorem shard2 (x : main_v2.ty.Contents (Elt Ideal)) (k : ℕ) (hk : k < 4) (inb) (hs) (r : Fin 704) (d : Fin 1024) :
    ReadAs.same.apply (View.read (Elt Ideal) (((View.whole main_v2).slice (Rect.unit ![k, 0, 0] ![1, 704, 1024] inb)).reshape S704x1024 hs) x)
      (ix2 r d) = (x : S4x704x1024.Idx → EReal) (ix3 ⟨k, hk⟩ r d) := by
  show (shapeCast S704x1024 (fun y : S1x704x1024.Idx => (x : S4x704x1024.Idx → EReal)
    ((Rect.unit (s := S4x704x1024) ![k, 0, 0] ![1, 704, 1024] inb).emb y)) hs : S704x1024.Idx → EReal) (ix2 r d) = _
  pointwise
  refine congrArg x (funext fun a => Fin.ext ?_)
  match a with
  | ⟨0, _⟩ => rfl
  | ⟨1, _⟩ => show 0 + 1 * r.val = r.val; omega
  | ⟨2, _⟩ => show 0 + 1 * d.val = d.val; omega
/-- A shard of an array of shards, read through the slice that drops the shards' axis. -/
theorem shard7 (x : main_v7.ty.Contents (Elt Ideal)) (k : ℕ) (hk : k < 4) (inb) (hs) (r : Fin 704) (d : Fin 1024) :
    ReadAs.same.apply (View.read (Elt Ideal) (((View.whole main_v7).slice (Rect.unit ![k, 0, 0] ![1, 704, 1024] inb)).reshape S704x1024 hs) x)
      (ix2 r d) = (x : S4x704x1024.Idx → EReal) (ix3 ⟨k, hk⟩ r d) := by
  show (shapeCast S704x1024 (fun y : S1x704x1024.Idx => (x : S4x704x1024.Idx → EReal)
    ((Rect.unit (s := S4x704x1024) ![k, 0, 0] ![1, 704, 1024] inb).emb y)) hs : S704x1024.Idx → EReal) (ix2 r d) = _
  pointwise
  refine congrArg x (funext fun a => Fin.ext ?_)
  match a with
  | ⟨0, _⟩ => rfl
  | ⟨1, _⟩ => show 0 + 1 * r.val = r.val; omega
  | ⟨2, _⟩ => show 0 + 1 * d.val = d.val; omega
/-- A shard of an array of shards, read through the slice that drops the shards' axis. -/
theorem shard11 (x : main_v11.ty.Contents (Elt Ideal)) (k : ℕ) (hk : k < 4) (inb) (hs) (r : Fin 704) (d : Fin 1024) :
    ReadAs.same.apply (View.read (Elt Ideal) (((View.whole main_v11).slice (Rect.unit ![k, 0, 0] ![1, 704, 1024] inb)).reshape S704x1024 hs) x)
      (ix2 r d) = (x : S4x704x1024.Idx → EReal) (ix3 ⟨k, hk⟩ r d) := by
  show (shapeCast S704x1024 (fun y : S1x704x1024.Idx => (x : S4x704x1024.Idx → EReal)
    ((Rect.unit (s := S4x704x1024) ![k, 0, 0] ![1, 704, 1024] inb).emb y)) hs : S704x1024.Idx → EReal) (ix2 r d) = _
  pointwise
  refine congrArg x (funext fun a => Fin.ext ?_)
  match a with
  | ⟨0, _⟩ => rfl
  | ⟨1, _⟩ => show 0 + 1 * r.val = r.val; omega
  | ⟨2, _⟩ => show 0 + 1 * d.val = d.val; omega
include H

theorem down (t : Fin cfg0.N) (h : t.val = 0) : Is (outA6 m c t h) P.wd := fun f d => by
  rw [canon6 m c t h]
  refine View.canon_apply_of_pieces (Val := Elt Ideal) (S := S2816x1024) (e := .bf16) (fun i => P.wd (i 0).val (i 1).val) _ ?_ (ix2 f d)
    (coverA6 m c t h _)
  intro p hp i
  unfold atA at hp
  frame_out at hp
  simp only [List.mem_cons, List.not_mem_nil, or_false] at hp
  rcases hp with rfl | rfl | rfl | rfl
  · idx_vars i
    have hi := i0.isLt
    refine (shard11 _ 3 (by decide) _ _ i0 i1).trans ((V_v11 H _ _ _).trans ?_)
    show P.wd (2112 + i0.val) i1.val = P.wd (2112 + 1 * i0.val) (0 + 1 * i1.val)
    rw [Nat.zero_add, Nat.one_mul, Nat.one_mul]
  · idx_vars i
    have hi := i0.isLt
    refine (shard11 _ 2 (by decide) _ _ i0 i1).trans ((V_v11 H _ _ _).trans ?_)
    show P.wd (1408 + i0.val) i1.val = P.wd (1408 + 1 * i0.val) (0 + 1 * i1.val)
    rw [Nat.zero_add, Nat.one_mul, Nat.one_mul]
  · idx_vars i
    have hi := i0.isLt
    refine (shard11 _ 1 (by decide) _ _ i0 i1).trans ((V_v11 H _ _ _).trans ?_)
    show P.wd (704 + i0.val) i1.val = P.wd (704 + 1 * i0.val) (0 + 1 * i1.val)
    rw [Nat.zero_add, Nat.one_mul, Nat.one_mul]
  · idx_vars i
    have hi := i0.isLt
    refine (V_v13 H i0 i1).trans ?_
    show P.wd (i0.val) i1.val = P.wd (0 + 1 * i0.val) (0 + 1 * i1.val)
    rw [Nat.zero_add, Nat.zero_add, Nat.one_mul, Nat.one_mul]
theorem gate_up (t : Fin cfg0.N) (h : t.val = 0) : Is (outA5 m c t h) P.rows := fun f d => by
  rw [canon5 m c t h]
  refine View.canon_apply_of_pieces (Val := Elt Ideal) (S := S5632x1024) (e := .bf16) (fun i => P.rows (i 0).val (i 1).val) _ ?_ (ix2 f d)
    (coverA5 m c t h _)
  intro p hp i
  unfold atA at hp
  frame_out at hp
  simp only [List.mem_cons, List.not_mem_nil, or_false] at hp
  rcases hp with rfl | rfl | rfl | rfl | rfl | rfl | rfl | rfl
  · idx_vars i
    have hi := i0.isLt
    refine (shard7 _ 3 (by decide) _ _ i0 i1).trans ((V_v7 H _ _ _).trans ?_)
    show P.wu i1.val (2112 + i0.val) = P.rows (4928 + 1 * i0.val) (0 + 1 * i1.val)
    rw [Nat.zero_add, Nat.one_mul, Nat.one_mul, Par.rows, if_neg (by omega), show 4928 + i0.val - 2816 = 2112 + i0.val by omega]
  · idx_vars i
    have hi := i0.isLt
    refine (shard7 _ 2 (by decide) _ _ i0 i1).trans ((V_v7 H _ _ _).trans ?_)
    show P.wu i1.val (1408 + i0.val) = P.rows (4224 + 1 * i0.val) (0 + 1 * i1.val)
    rw [Nat.zero_add, Nat.one_mul, Nat.one_mul, Par.rows, if_neg (by omega), show 4224 + i0.val - 2816 = 1408 + i0.val by omega]
  · idx_vars i
    have hi := i0.isLt
    refine (shard7 _ 1 (by decide) _ _ i0 i1).trans ((V_v7 H _ _ _).trans ?_)
    show P.wu i1.val (704 + i0.val) = P.rows (3520 + 1 * i0.val) (0 + 1 * i1.val)
    rw [Nat.zero_add, Nat.one_mul, Nat.one_mul, Par.rows, if_neg (by omega), show 3520 + i0.val - 2816 = 704 + i0.val by omega]
  · idx_vars i
    have hi := i0.isLt
    refine (V_v9 H i0 i1).trans ?_
    show P.wu i1.val (i0.val) = P.rows (2816 + 1 * i0.val) (0 + 1 * i1.val)
    rw [Nat.zero_add, Nat.one_mul, Nat.one_mul, Par.rows, if_neg (by omega), show 2816 + i0.val - 2816 = i0.val by omega]
  · idx_vars i
    have hi := i0.isLt
    refine (shard2 _ 3 (by decide) _ _ i0 i1).trans ((V_v2 H _ _ _).trans ?_)
    show P.wg i1.val (2112 + i0.val) = P.rows (2112 + 1 * i0.val) (0 + 1 * i1.val)
    rw [Nat.zero_add, Nat.one_mul, Nat.one_mul, Par.rows, if_pos (by omega)]
  · idx_vars i
    have hi := i0.isLt
    refine (shard2 _ 2 (by decide) _ _ i0 i1).trans ((V_v2 H _ _ _).trans ?_)
    show P.wg i1.val (1408 + i0.val) = P.rows (1408 + 1 * i0.val) (0 + 1 * i1.val)
    rw [Nat.zero_add, Nat.one_mul, Nat.one_mul, Par.rows, if_pos (by omega)]
  · idx_vars i
    have hi := i0.isLt
    refine (shard2 _ 1 (by decide) _ _ i0 i1).trans ((V_v2 H _ _ _).trans ?_)
    show P.wg i1.val (704 + i0.val) = P.rows (704 + 1 * i0.val) (0 + 1 * i1.val)
    rw [Nat.zero_add, Nat.one_mul, Nat.one_mul, Par.rows, if_pos (by omega)]
  · idx_vars i
    have hi := i0.isLt
    refine (V_v4 H i0 i1).trans ?_
    show P.wg i1.val (i0.val) = P.rows (0 + 1 * i0.val) (0 + 1 * i1.val)
    rw [Nat.zero_add, Nat.zero_add, Nat.one_mul, Nat.one_mul, Par.rows, if_pos (by omega)]

end Cert.Fwd

end

end
-- ==== Proof.Fwd.Total.lean ====
/-
  The feed-forward kernel's result arrays as numbers: the weights stay in scratch from the first point on, and every result is
  written block by block.
-/
module

public import proofs.«01_k».proof.Proof.Fwd.Host

@[expose] public section

set_option maxRecDepth 16384

noncomputable section

namespace Cert.Fwd

open Cert.Kernel10Ideal Cert.Kernel10Ideal.Gen Cert.Fwd.Ideal Idealize.ShloMosaic Idealize.ShloMosaic.TcCoe Idealize.SL.Sem

variable (m : (ℓ : Loc nD τ sig) → Buf (Elt Ideal) ℓ) (ρ : Dev nD → PrngReg) (c : Dev nD)

theorem N32 : cfg0.N = 32 := N_0

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = t.val ∧ win0_5.index t 1 = 0 :=
  (by decide +kernel : ∀ t : Fin grid0.N, win0_5.index t 0 = t.val ∧ win0_5.index t 1 = 0)
theorem at6 : ∀ t : Fin cfg0.N, win0_6.index t 0 = t.val ∧ win0_6.index t 1 = 0 :=
  (by decide +kernel : ∀ t : Fin grid0.N, win0_6.index t 0 = t.val ∧ win0_6.index t 1 = 0)
theorem at7 : ∀ t : Fin cfg0.N, win0_7.index t 0 = t.val ∧ win0_7.index t 1 = 0 :=
  (by decide +kernel : ∀ t : Fin grid0.N, win0_7.index t 0 = t.val ∧ win0_7.index t 1 = 0)
theorem at8 : ∀ t : Fin cfg0.N, win0_8.index t 0 = t.val ∧ win0_8.index t 1 = 0 :=
  (by decide +kernel : ∀ t : Fin grid0.N, win0_8.index t 0 = t.val ∧ win0_8.index t 1 = 0)

/-- The rows of block `t`. -/
def rows (Z : ℕ → ℕ → EReal) (t : ℕ) : ℕ → ℕ → EReal := fun r => Z (256 * t + r)

theorem row_lt (t : Fin cfg0.N) (r : Fin 256) : 256 * t.val + r.val < 8192 := by
  have := t.isLt; have := N32; omega

theorem blk0 (t : Fin cfg0.N) (r : Fin 256) (j : Fin 1024) : B0 m c t (ix2 r j) = A0 m c (ix2 ⟨256 * t.val + r.val, row_lt t r⟩ j) := by
  blk_ext! [B0, iblk, A0, V, at0 t]
theorem blk1 (t : Fin cfg0.N) (r : Fin 1) (j : Fin 1024) : B1 m c t (ix2 r j) = (V m c main_v14 : S1x1024.Idx → EReal) (ix2 r j) := by
  blk_ext! [B1, iblk, at1 t]
theorem blk2 (t : Fin cfg0.N) (r : Fin 1) (j : Fin 1024) : B2 m c t (ix2 r j) = (V m c main_v15 : S1x1024.Idx → EReal) (ix2 r j) := by
  blk_ext! [B2, iblk, at2 t]
theorem blk3 (t : Fin cfg0.N) (r : Fin 1) (j : Fin 1024) : B3 m c t (ix2 r j) = (V m c main_v16 : S1x1024.Idx → EReal) (ix2 r j) := by
  blk_ext! [B3, iblk, at3 t]

/-! ## The state, read -/

theorem stA0 (t : Fin cfg0.N) (h : t.val = 0) : (state m c t.val t.isLt).1 = outA0 m c t h := by
  rw [state_first m c t h]; unfold first; dsimp only
theorem stA1 (t : Fin cfg0.N) (h : t.val = 0) : (state m c t.val t.isLt).2.1 = outA1 m c t h := by
  rw [state_first m c t h]; unfold first; dsimp only
theorem stA2 (t : Fin cfg0.N) (h : t.val = 0) : (state m c t.val t.isLt).2.2.1 = outA2 m c t h := by
  rw [state_first m c t h]; unfold first; dsimp only
theorem stA3 (t : Fin cfg0.N) (h : t.val = 0) : (state m c t.val t.isLt).2.2.2.1 = outA3 m c t h := by
  rw [state_first m c t h]; unfold first; dsimp only
theorem stA4 (t : Fin cfg0.N) (h : t.val = 0) : (state m c t.val t.isLt).2.2.2.2.1 = outA4 m c t h := by
  rw [state_first m c t h]; unfold first; dsimp only
theorem stA5 (t : Fin cfg0.N) (h : t.val = 0) : (state m c t.val t.isLt).2.2.2.2.2.1 = outA5 m c t h := by
  rw [state_first m c t h]; unfold first; dsimp only
theorem stA6 (t : Fin cfg0.N) (h : t.val = 0) : (state m c t.val t.isLt).2.2.2.2.2.2 = outA6 m c t h := by
  rw [state_first m c t h]; unfold first; dsimp only
theorem stB0 (t : Fin cfg0.N) (h : t.val ≠ 0) : (state m c t.val t.isLt).1 =
    outB0 m c t h (state m c (t.val - 1) (Nat.lt_of_le_of_lt (Nat.sub_le _ _) t.isLt)).2.2.2.2.2.1 (state m c (t.val - 1) (Nat.lt_of_le_of_lt (Nat.sub_le _ _) t.isLt)).2.2.2.2.2.2 := by
  rw [state_later m c t h]; unfold later; dsimp only
theorem stB1 (t : Fin cfg0.N) (h : t.val ≠ 0) : (state m c t.val t.isLt).2.1 =
    outB1 m c t h (state m c (t.val - 1) (Nat.lt_of_le_of_lt (Nat.sub_le _ _) t.isLt)).2.2.2.2.2.1 (state m c (t.val - 1) (Nat.lt_of_le_of_lt (Nat.sub_le _ _) t.isLt)).2.2.2.2.2.2 := by
  rw [state_later m c t h]; unfold later; dsimp only
theorem stB2 (t : Fin cfg0.N) (h : t.val ≠ 0) : (state m c t.val t.isLt).2.2.1 =
    outB2 m c t h (state m c (t.val - 1) (Nat.lt_of_le_of_lt (Nat.sub_le _ _) t.isLt)).2.2.2.2.2.1 (state m c (t.val - 1) (Nat.lt_of_le_of_lt (Nat.sub_le _ _) t.isLt)).2.2.2.2.2.2 := by
  rw [state_later m c t h]; unfold later; dsimp only
theorem stB3 (t : Fin cfg0.N) (h : t.val ≠ 0) : (state m c t.val t.isLt).2.2.2.1 =
    outB3 m c t h (state m c (t.val - 1) (Nat.lt_of_le_of_lt (Nat.sub_le _ _) t.isLt)).2.2.2.2.2.1 (state m c (t.val - 1) (Nat.lt_of_le_of_lt (Nat.sub_le _ _) t.isLt)).2.2.2.2.2.2 := by
  rw [state_later m c t h]; unfold later; dsimp only
theorem stB4 (t : Fin cfg0.N) (h : t.val ≠ 0) : (state m c t.val t.isLt).2.2.2.2.1 =
    outB4 m c t h (state m c (t.val - 1) (Nat.lt_of_le_of_lt (Nat.sub_le _ _) t.isLt)).2.2.2.2.2.1 (state m c (t.val - 1) (Nat.lt_of_le_of_lt (Nat.sub_le _ _) t.isLt)).2.2.2.2.2.2 := by
  rw [state_later m c t h]; unfold later; dsimp only
theorem stB5 (t : Fin cfg0.N) (h : t.val ≠ 0) : (state m c t.val t.isLt).2.2.2.2.2.1 = (state m c (t.val - 1) (Nat.lt_of_le_of_lt (Nat.sub_le _ _) t.isLt)).2.2.2.2.2.1 := by
  rw [state_later m c t h]; unfold later; dsimp only
theorem stB6 (t : Fin cfg0.N) (h : t.val ≠ 0) : (state m c t.val t.isLt).2.2.2.2.2.2 = (state m c (t.val - 1) (Nat.lt_of_le_of_lt (Nat.sub_le _ _) t.isLt)).2.2.2.2.2.2 := by
  rw [state_later m c t h]; unfold later; dsimp only

/-! ## The weights in scratch -/

variable {m c} {P : Par} {Z : ℕ → ℕ → EReal} (H : Given m c P Z)
include H

theorem weights (n : ℕ) (hn : n < cfg0.N) : Is (state m c n hn).2.2.2.2.2.1 P.rows ∧ Is (state m c n hn).2.2.2.2.2.2 P.wd := by
  induction n with
  | zero =>
    have e5 := stA5 m c ⟨0, hn⟩ rfl
    have e6 := stA6 m c ⟨0, hn⟩ rfl
    dsimp only at e5 e6
    rw [e5, e6]
    exact ⟨gate_up H ⟨0, hn⟩ rfl, down H ⟨0, hn⟩ rfl⟩
  | succ n ih =>
    have e5 := stB5 m c ⟨n + 1, hn⟩ (Nat.succ_ne_zero n)
    have e6 := stB6 m c ⟨n + 1, hn⟩ (Nat.succ_ne_zero n)
    dsimp only [Nat.add_sub_cancel] at e5 e6
    rw [e5, e6]
    exact ih _

/-! ## The blocks, as numbers -/

theorem x_blk (t : Fin cfg0.N) : Is (B0 m c t) (rows Z t) := fun r j => (blk0 m c t r j).trans (H.h0 _ _)
theorem g0_blk (t : Fin cfg0.N) : Is (B1 m c t) fun _ => P.g0 := fun r j => (blk1 m c t r j).trans (V_g0 H _ _)
theorem g1_blk (t : Fin cfg0.N) : Is (B2 m c t) fun _ => P.g1 := fun r j => (blk2 m c t r j).trans (V_g1 H _ _)
theorem gn_blk (t : Fin cfg0.N) : Is (B3 m c t) fun _ => P.gn := fun r j => (blk3 m c t r j).trans (V_gn H _ _)

/-! ## What a point leaves in the outputs -/

theorem pt0 (t : Fin cfg0.N) : Is (state m c t.val t.isLt).1 fun r => P.out (rows Z t r) := fun r j => by
  by_cases h : t.val = 0
  · rw [stA0 m c t h, first0 m c t h]; exact pay6_val (x_blk H t) (g0_blk H t) (g1_blk H t) (gate_up H t h) (down H t h) r j
  · rw [stB0 m c t h, later0 m c t h]; exact pay6_val (x_blk H t) (g0_blk H t) (g1_blk H t) (weights H _ _).1 (weights H _ _).2 r j
theorem pt1 (t : Fin cfg0.N) : Is (state m c t.val t.isLt).2.1 fun r => norm P.g0 (rows Z t r) := fun r j => by
  by_cases h : t.val = 0
  · rw [stA1 m c t h, first1 m c t h]; exact pay1_val (x_blk H t) (g0_blk H t) r j
  · rw [stB1 m c t h, later1 m c t h]; exact pay1_val (x_blk H t) (g0_blk H t) r j
theorem pt2 (t : Fin cfg0.N) : Is (state m c t.val t.isLt).2.2.1 fun r => P.gu (rows Z t r) := fun r j => by
  by_cases h : t.val = 0
  · rw [stA2 m c t h, first2 m c t h]; exact pay3_val (x_blk H t) (g0_blk H t) (gate_up H t h) r j
  · rw [stB2 m c t h, later2 m c t h]; exact pay3_val (x_blk H t) (g0_blk H t) (weights H _ _).1 r j
theorem pt3 (t : Fin cfg0.N) : Is (state m c t.val t.isLt).2.2.2.1 fun r => P.yy (rows Z t r) := fun r j => by
  by_cases h : t.val = 0
  · rw [stA3 m c t h, first3 m c t h]; exact pay5_val (x_blk H t) (g0_blk H t) (gate_up H t h) (down H t h) r j
  · rw [stB3 m c t h, later3 m c t h]; exact pay5_val (x_blk H t) (g0_blk H t) (weights H _ _).1 (weights H _ _).2 r j
theorem pt4 (t : Fin cfg0.N) : Is (state m c t.val t.isLt).2.2.2.2.1 fun r => P.next (rows Z t r) := fun r j => by
  by_cases h : t.val = 0
  · rw [stA4 m c t h, first4 m c t h]; exact pay7_val (x_blk H t) (g0_blk H t) (g1_blk H t) (gn_blk H t) (gate_up H t h) (down H t h) r j
  · rw [stB4 m c t h, later4 m c t h]; exact pay7_val (x_blk H t) (g0_blk H t) (g1_blk H t) (gn_blk H t) (weights H _ _).1 (weights H _ _).2 r j

/-! ## The result arrays -/

theorem res0 (i : S8192x1024.Idx) : ((data m 0 c).arrAt 4 cfg0.N : S8192x1024.Idx → EReal) i = P.out (Z (i 0).val) (i 1).val := by
  have := (data m 0 c).arrAt_eq_of_covers 4 (fun i : S8192x1024.Idx => P.out (Z (i 0).val) (i 1).val)
    (by decide +kernel) fun t hf y => by
      blk_simp
      rw [after4]
      change S256x1024.Idx at y
      idx_vars y
      refine (pt0 H t y0 y1).trans ?_
      have e0 : win0_4.index t 0 = t.val := (at4 t).1
      have e1 : win0_4.index t 1 = 0 := (at4 t).2
      show _ = P.out (Z (win0_4.index t 0 * 256 + y0.val)) (win0_4.index t 1 * 1024 + y1.val)
      rw [e0, e1, show 0 * 1024 + y1.val = y1.val by omega, Nat.mul_comm t.val 256]
      rfl
  exact congrFun this i
theorem res1 (i : S8192x1024.Idx) : ((data m 0 c).arrAt 5 cfg0.N : S8192x1024.Idx → EReal) i = norm P.g0 (Z (i 0).val) (i 1).val := by
  have := (data m 0 c).arrAt_eq_of_covers 5 (fun i : S8192x1024.Idx => norm P.g0 (Z (i 0).val) (i 1).val)
    (by decide +kernel) fun t hf y => by
      blk_simp
      rw [after5]
      change S256x1024.Idx at y
      idx_vars y
      refine (pt1 H t y0 y1).trans ?_
      have e0 : win0_5.index t 0 = t.val := (at5 t).1
      have e1 : win0_5.index t 1 = 0 := (at5 t).2
      show _ = norm P.g0 (Z (win0_5.index t 0 * 256 + y0.val)) (win0_5.index t 1 * 1024 + y1.val)
      rw [e0, e1, show 0 * 1024 + y1.val = y1.val by omega, Nat.mul_comm t.val 256]
      rfl
  exact congrFun this i
theorem res2 (i : S8192x5632.Idx) : ((data m 0 c).arrAt 6 cfg0.N : S8192x5632.Idx → EReal) i = P.gu (Z (i 0).val) (i 1).val := by
  have := (data m 0 c).arrAt_eq_of_covers 6 (fun i : S8192x5632.Idx => P.gu (Z (i 0).val) (i 1).val)
    (by decide +kernel) fun t hf y => by
      blk_simp
      rw [after6]
      change S256x5632.Idx at y
      idx_vars y
      refine (pt2 H t y0 y1).trans ?_
      have e0 : win0_6.index t 0 = t.val := (at6 t).1
      have e1 : win0_6.index t 1 = 0 := (at6 t).2
      show _ = P.gu (Z (win0_6.index t 0 * 256 + y0.val)) (win0_6.index t 1 * 5632 + y1.val)
      rw [e0, e1, show 0 * 5632 + y1.val = y1.val by omega, Nat.mul_comm t.val 256]
      rfl
  exact congrFun this i
theorem res3 (i : S8192x1024.Idx) : ((data m 0 c).arrAt 7 cfg0.N : S8192x1024.Idx → EReal) i = P.yy (Z (i 0).val) (i 1).val := by
  have := (data m 0 c).arrAt_eq_of_covers 7 (fun i : S8192x1024.Idx => P.yy (Z (i 0).val) (i 1).val)
    (by decide +kernel) fun t hf y => by
      blk_simp
      rw [after7]
      change S256x1024.Idx at y
      idx_vars y
      refine (pt3 H t y0 y1).trans ?_
      have e0 : win0_7.index t 0 = t.val := (at7 t).1
      have e1 : win0_7.index t 1 = 0 := (at7 t).2
      show _ = P.yy (Z (win0_7.index t 0 * 256 + y0.val)) (win0_7.index t 1 * 1024 + y1.val)
      rw [e0, e1, show 0 * 1024 + y1.val = y1.val by omega, Nat.mul_comm t.val 256]
      rfl
  exact congrFun this i
theorem res4 (i : S8192x1024.Idx) : ((data m 0 c).arrAt 8 cfg0.N : S8192x1024.Idx → EReal) i = P.next (Z (i 0).val) (i 1).val := by
  have := (data m 0 c).arrAt_eq_of_covers 8 (fun i : S8192x1024.Idx => P.next (Z (i 0).val) (i 1).val)
    (by decide +kernel) fun t hf y => by
      blk_simp
      rw [after8]
      change S256x1024.Idx at y
      idx_vars y
      refine (pt4 H t y0 y1).trans ?_
      have e0 : win0_8.index t 0 = t.val := (at8 t).1
      have e1 : win0_8.index t 1 = 0 := (at8 t).2
      show _ = P.next (Z (win0_8.index t 0 * 256 + y0.val)) (win0_8.index t 1 * 1024 + y1.val)
      rw [e0, e1, show 0 * 1024 + y1.val = y1.val by omega, Nat.mul_comm t.val 256]
      rfl
  exact congrFun this i

/-! ## The run -/

omit H
theorem keeps0 (r : PUnit × MemSt nD τ sig (Elt Ideal)) (h : Pipeline.FramePost cfgs (data m) 0 (V m) r) (c : Dev nD) :
    r.2.mem ((c : Thread nD τ).loc main_arg0) = m ((c : Thread nD τ).loc main_arg0) :=
  ((h c).1 0).trans (((data m 0 c).arrAt_in 0 rfl _).trans ((data_A m c 0).trans (V_main_arg0 m c)))
theorem keeps1 (r : PUnit × MemSt nD τ sig (Elt Ideal)) (h : Pipeline.FramePost cfgs (data m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem keeps2 (r : PUnit × MemSt nD τ sig (Elt Ideal)) (h : Pipeline.FramePost cfgs (data m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem keeps3 (r : PUnit × MemSt nD τ sig (Elt Ideal)) (h : Pipeline.FramePost cfgs (data m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem keeps4 (r : PUnit × MemSt nD τ sig (Elt Ideal)) (h : Pipeline.FramePost cfgs (data m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem keeps5 (r : PUnit × MemSt nD τ sig (Elt Ideal)) (h : Pipeline.FramePost cfgs (data m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem keeps6 (r : PUnit × MemSt nD τ sig (Elt Ideal)) (h : Pipeline.FramePost cfgs (data m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run with each result array named and the arguments unchanged. -/
theorem run_named : θ_run defs (onTc (τ := τ) (main (F := Ideal))) ⟨m, fun _ => 0, ρ⟩ fun r => ∀ c : Dev nD,
      r.2.mem ((c : Thread nD τ).loc main_v17_0) = (data m 0 c).arrAt 4 cfg0.N
      ∧ r.2.mem ((c : Thread nD τ).loc main_v17_1) = (data m 0 c).arrAt 5 cfg0.N
      ∧ r.2.mem ((c : Thread nD τ).loc main_v17_2) = (data m 0 c).arrAt 6 cfg0.N
      ∧ r.2.mem ((c : Thread nD τ).loc main_v17_3) = (data m 0 c).arrAt 7 cfg0.N
      ∧ r.2.mem ((c : Thread nD τ).loc main_v17_4) = (data m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 4, (h c).1 5, (h c).1 6, (h c).1 7, (h c).1 8, keeps0 r h c, keeps1 r h c, keeps2 r h c, keeps3 r h c, keeps4 r h c, keeps5 r h c, keeps6 r h c⟩)
    (run_all m ρ)

end Cert.Fwd

end

end
-- ==== Proof.Fwd.Ref.lean ====
/-
  The reference of the feed-forward block: each value it computes, at an index, as the specification names it.
-/
module

public import proofs.«01_k».proof.Proof.Fwd.Spec
public import proofs.«01_k».proof.Proof.Gen.Reference10Ideal.Read

@[expose] public section

set_option maxRecDepth 16384

noncomputable section

namespace Cert.Fwd

open Cert.Reference10Ideal Cert.Reference10Ideal.Gen Cert.Reference10Ideal.Read Idealize.ShloMosaic Idealize.ShloMosaic.TcCoe

variable {P : Par} {Z : ℕ → ℕ → EReal} {x0 : S8192x1024.Idx → EReal} {x1 x2 x3 : S1024.Idx → EReal} {x4 x5 : S1024x2816.Idx → EReal}
  {x6 : S2816x1024.Idx → EReal}
  (h0 : Is x0 Z) (h1 : ∀ j, x1 (ix1 j) = P.g0 j) (h2 : ∀ j, x2 (ix1 j) = P.g1 j) (h3 : ∀ j, x3 (ix1 j) = P.gn j)
  (h4 : Is x4 P.wg) (h5 : Is x5 P.wu) (h6 : Is x6 P.wd)

section first
include h0
theorem r_rs : Is (val_main_v7 (F := Ideal) x0) fun R _ => rs (Z R) := fun R j => by
  pointwise [val_main_v7, val_main_v6, val_main_v5, val_main_cst_1, val_main_v4, val_main_v3, val_main_cst_0, val_main_v2, val_main_v1, val_main_cst, val_main_v0]
  simp only [h0 _ _, zero_add, add_zero]; rfl

include h1
theorem r_h : Is (val_main_v12 (F := Ideal) x0 x1) fun R => norm P.g0 (Z R) := fun R j => by
  have h := r_rs h0
  pointwise [val_main_v12, val_main_v11, val_main_v10, val_main_v9, val_main_v8]
  rw [h0, h, h1]; rfl

theorem r_h16 : Is (val_main_v34 (F := Ideal) x0 x1) fun R => norm P.g0 (Z R) := fun R j => by
  have h := r_h h0 h1 R j
  pointwise [val_main_v34]
  exact h

include h4
theorem r_ga : Is (val_main_v13 (F := Ideal) x0 x1 x4) fun R => P.ga (Z R) := fun R j => by
  have h := r_h h0 h1
  pointwise [val_main_v13]
  simp only [h _ _, h4 _ _]; rfl

theorem r_silu : Is (val_main_v15 (F := Ideal) x0 x1 x4) fun R f => P.ga (Z R) f * sg (P.ga (Z R) f) := fun R j => by
  have h := r_ga h0 h1 h4 R j
  pointwise [val_main_v15, val_main_call0_v5, val_main_call0_v4, val_main_call0_cst_0, val_main_call0_v3, val_main_call0_v2, val_main_call0_cst, val_main_call0_v1, val_main_call0_v0]
  rw [h]; rfl

omit h4
include h5
theorem r_up : Is (val_main_v14 (F := Ideal) x0 x1 x5) fun R => P.up (Z R) := fun R j => by
  have h := r_h h0 h1
  pointwise [val_main_v14]
  simp only [h _ _, h5 _ _]; rfl

include h4
theorem r_act : Is (val_main_v16 (F := Ideal) x0 x1 x4 x5) fun R => P.act (Z R) := fun R j => by
  have h := r_silu h0 h1 h4 R j
  have h' := r_up h0 h1 h5 R j
  pointwise [val_main_v16]
  rw [h, h']; rfl

theorem r_gu : Is (val_main_v36 (F := Ideal) x0 x1 x4 x5) fun R => P.gu (Z R) := fun R j => by
  have h := r_ga h0 h1 h4
  have h' := r_up h0 h1 h5
  pointwise [val_main_v36, val_main_v35]
  split
  · rename_i hj
    rw [h, P.gu_left (Z R) hj]
  · rename_i hj
    rw [h']
    exact (P.gu_right (Z R) _ _ (by dsimp only; omega) (by dsimp only; omega)).symm

include h6
theorem r_y : Is (val_main_v17 (F := Ideal) x0 x1 x4 x5 x6) fun R => P.yy (Z R) := fun R j => by
  have h := r_act h0 h1 h4 h5
  pointwise [val_main_v17]
  simp only [h _ _, h6 _ _]; rfl

theorem r_yrs : Is (val_main_v25 (F := Ideal) x0 x1 x4 x5 x6) fun R _ => rs (P.yy (Z R)) := fun R j => by
  have h := r_y h0 h1 h4 h5 h6
  pointwise [val_main_v25, val_main_v24, val_main_v23, val_main_cst_4, val_main_v22, val_main_v21, val_main_cst_3, val_main_v20, val_main_v19, val_main_cst_2, val_main_v18]
  simp only [h _ _, zero_add, add_zero]; rfl

include h2
theorem r_out : Is (val_main_v33 (F := Ideal) x0 x1 x2 x4 x5 x6) fun R => P.out (Z R) := fun R j => by
  have h := r_yrs h0 h1 h4 h5 h6
  have h' := r_y h0 h1 h4 h5 h6
  pointwise [val_main_v33, val_main_v32, val_main_v31, val_main_cst_5, val_main_v30, val_main_v29, val_main_v28, val_main_v27, val_main_v26]
  rw [h0, h', h, h2]; rfl

theorem r_ors : Is (val_main_v44 (F := Ideal) x0 x1 x2 x4 x5 x6) fun R _ => rs (P.out (Z R)) := fun R j => by
  have h := r_out h0 h1 h2 h4 h5 h6
  pointwise [val_main_v44, val_main_v43, val_main_v42, val_main_cst_8, val_main_v41, val_main_v40, val_main_cst_7, val_main_v39, val_main_v38, val_main_cst_6, val_main_v37]
  simp only [h _ _, zero_add, add_zero]; rfl

include h3
theorem r_next : Is (val_main_v50 (F := Ideal) x0 x1 x2 x3 x4 x5 x6) fun R => P.next (Z R) := fun R j => by
  have h := r_ors h0 h1 h2 h4 h5 h6
  have h' := r_out h0 h1 h2 h4 h5 h6
  pointwise [val_main_v50, val_main_v49, val_main_v48, val_main_v47, val_main_v46, val_main_v45]
  rw [h', h, h3]; rfl
end first

end Cert.Fwd

end

end
-- ==== Proof.Fwd.Claims.lean ====
/-
  The claims about the feed-forward block's kernel: its results and the reference's are the same numbers, entry by entry,
  whatever the arguments.
-/
module

public import proofs.«01_k».proof.Defs
public import proofs.«01_k».proof.Proof.Fwd.BitsFrame
public import proofs.«01_k».proof.Proof.Fwd.Total
public import proofs.«01_k».proof.Proof.Fwd.Ref
public import proofs.«01_k».proof.Proof.Gen.Reference10Ideal.Run

@[expose] public section

set_option maxRecDepth 16384

noncomputable section

namespace Cert.Fwd

open Idealize.ShloMosaic Idealize.ShloMosaic.TcCoe Idealize.SL.Sem Cert.Kernel10Ideal.Gen

/-- The entries of a vector and of a matrix, by number. -/
def nat1 {a : ℕ} (x : (Shape.mk 1 ![a]).Idx → EReal) (i : ℕ) : EReal := if h : i < a then x (ix1 ⟨i, h⟩) else 0
def nat2 {a b : ℕ} (x : (Shape.mk 2 ![a, b]).Idx → EReal) (i j : ℕ) : EReal :=
  if h : i < a ∧ j < b then x (ix2 ⟨i, h.1⟩ ⟨j, h.2⟩) else 0
theorem nat1_eq {a : ℕ} (x : (Shape.mk 1 ![a]).Idx → EReal) (i : Fin a) : x (ix1 i) = nat1 x i  := by
  unfold nat1; rw [dif_pos i.isLt]
theorem nat2_eq {a b : ℕ} (x : (Shape.mk 2 ![a, b]).Idx → EReal) : Is x (nat2 x) := fun i j => by
  unfold nat2; rw [dif_pos ⟨i.isLt, j.isLt⟩]

theorem given (m : (ℓ : Loc Cert.Kernel10Ideal.nD Cert.Kernel10Ideal.τ Cert.Kernel10Ideal.sig) → Buf (Elt Ideal) ℓ)
    (c : Dev Cert.Kernel10Ideal.nD) :
    Given m c ⟨nat1 (A1 m c), nat1 (A2 m c), nat1 (A3 m c), nat2 (A4 m c), nat2 (A5 m c), nat2 (A6 m c)⟩ (nat2 (A0 m c)) where
  h0 := nat2_eq _
  h1 := nat1_eq _
  h2 := nat1_eq _
  h3 := nat1_eq _
  h4 := nat2_eq _
  h5 := nat2_eq _
  h6 := nat2_eq _

theorem frame_r : quiescent_Reference10Ideal := fun m ρ _ =>
  (θ_run Cert.Reference10Ideal.defs _ _).mono (fun r h => ⟨fun c => (h c).2.2.2.2.2,
      sem_eq_zero_of_no_sems (by decide) r.2⟩) (Cert.Reference10Ideal.Value.run (F := Ideal) m ρ)

theorem algebraic : algebraic_Kernel10Ideal_Reference10Ideal := by
  intro m ρ m' ρ' hpre hagree
  refine ⟨_, _, _, _, _, run_named (m := m) ρ, ?_⟩
  refine (θ_run Cert.Reference10Ideal.defs _ _).mono (fun _ h c => ?_) (Cert.Reference10Ideal.Value.run (F := Ideal) m' ρ')
  obtain ⟨e0, e1, e2, e3, e4, e5, e6⟩ := hagree c
  have H := given m c
  obtain ⟨r0, r1, r2, r3, r4, ra⟩ := h c
  have h0 : Is (StableHlo.launchContents m' c (Proc.devRef .tc Cert.Reference10Ideal.main_arg0)) _ := fun R j => (congrFun e0 _).trans (H.h0 R j)
  have h1 : ∀ j, (StableHlo.launchContents m' c (Proc.devRef .tc Cert.Reference10Ideal.main_arg1) : Cert.Reference10Ideal.S1024.Idx → EReal) (ix1 j) = _ := fun j => (congrFun e1 _).trans (H.h1 j)
  have h2 : ∀ j, (StableHlo.launchContents m' c (Proc.devRef .tc Cert.Reference10Ideal.main_arg2) : Cert.Reference10Ideal.S1024.Idx → EReal) (ix1 j) = _ := fun j => (congrFun e2 _).trans (H.h2 j)
  have h3 : ∀ j, (StableHlo.launchContents m' c (Proc.devRef .tc Cert.Reference10Ideal.main_arg3) : Cert.Reference10Ideal.S1024.Idx → EReal) (ix1 j) = _ := fun j => (congrFun e3 _).trans (H.h3 j)
  have h4 : Is (StableHlo.launchContents m' c (Proc.devRef .tc Cert.Reference10Ideal.main_arg4)) _ := fun R j => (congrFun e4 _).trans (H.h4 R j)
  have h5 : Is (StableHlo.launchContents m' c (Proc.devRef .tc Cert.Reference10Ideal.main_arg5)) _ := fun R j => (congrFun e5 _).trans (H.h5 R j)
  have h6 : Is (StableHlo.launchContents m' c (Proc.devRef .tc Cert.Reference10Ideal.main_arg6)) _ := fun R j => (congrFun e6 _).trans (H.h6 R j)
  refine ⟨r0.trans ?_, r1.trans ?_, r2.trans ?_, r3.trans ?_, r4.trans ?_, ra⟩
  · rw [Cert.Reference10Ideal.Read.val_main_v33_eq]
    funext i
    idx_vars i
    exact (r_out h0 h1 h2 h4 h5 h6 i0 i1).trans (res0 H (ix2 i0 i1)).symm
  · rw [Cert.Reference10Ideal.Read.val_main_v34_eq]
    funext i
    idx_vars i
    exact (r_h16 h0 h1 i0 i1).trans (res1 H (ix2 i0 i1)).symm
  · rw [Cert.Reference10Ideal.Read.val_main_v36_eq]
    funext i
    idx_vars i
    exact (r_gu h0 h1 h4 h5 i0 i1).trans (res2 H (ix2 i0 i1)).symm
  · rw [Cert.Reference10Ideal.Read.val_main_v17_eq]
    funext i
    idx_vars i
    exact (r_y h0 h1 h4 h5 h6 i0 i1).trans (res3 H (ix2 i0 i1)).symm
  · rw [Cert.Reference10Ideal.Read.val_main_v50_eq]
    funext i
    idx_vars i
    exact (r_next h0 h1 h2 h3 h4 h5 h6 i0 i1).trans (res4 H (ix2 i0 i1)).symm

end Cert.Fwd

end

end
-- ==== Proof.Mm.Proj.lean ====
/-
  The projection to 4096 columns: every grid point multiplies a block of 1024 rows by a block of 1024 columns of the weight,
  over all 1024 terms at once.
-/
module

public import proofs.«01_k».proof.Defs
public import proofs.«01_k».proof.Proof.Mm.Blocks
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Mm.Proj

open Idealize.ShloMosaic Idealize.ShloMosaic.TcCoe Idealize.SL.Sem

section kernel
open Cert.Kernel11Ideal Cert.Kernel11Ideal.Gen
variable (m : (ℓ : Loc nD τ sig) → Buf (Elt Ideal) ℓ) (c : Dev nD)

/-- The arguments. -/
abbrev A0 : S8192x1024.Idx → EReal := m ((c : Thread nD τ).loc main_arg0)
abbrev A1 : S1024x4096.Idx → EReal := m ((c : Thread nD τ).loc main_arg1)
/-- The blocks a point reads. -/
abbrev B0 (t : Fin cfg0.N) : Vec Ideal S1024x1024 .bf16 := iblk m c 0 t
abbrev B1 (t : Fin cfg0.N) : Vec Ideal S1024x1024 .bf16 := iblk m c 1 t

theorem N_pts : cfg0.N = 32 := N_0

theorem out_eq (t : Fin cfg0.N) : outsAt0 m c t = k0_pay2 (k0_pay1 (F := Ideal)) (B0 m c t) (B1 m c t) := by
  unfold outsAt0
  frame_out

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val / 8 :=
  (by decide +kernel : ∀ t : Fin grid0.N, win0_1.index t 0 = 0 ∧ win0_1.index t 1 = t.val / 8)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)

theorem row_lt (t : Fin cfg0.N) (r : Fin 1024) : 1024 * (t.val % 8) + r.val < 8192 := by omega
theorem col_lt (t : Fin cfg0.N) (r : Fin 1024) : 1024 * (t.val / 8) + r.val < 4096 := by
  have := t.isLt; have := N_pts; omega

theorem blk0 (t : Fin cfg0.N) (r k : Fin 1024) : B0 m c t (ix2 r k) = A0 m c (ix2 ⟨1024 * (t.val % 8) + r.val, row_lt t r⟩ k) := by
  blk_ext! [B0, A0, iblk, V, idx0 t]
theorem blk1 (t : Fin cfg0.N) (k j : Fin 1024) : B1 m c t (ix2 k j) = A1 m c (ix2 k ⟨1024 * (t.val / 8) + j.val, col_lt t j⟩) := by
  blk_ext! [B1, A1, iblk, V, idx1 t]

theorem pay_apply (v : Vec Ideal S1024x1024 .f32) (a b : Vec Ideal S1024x1024 .bf16) (i j : Fin 1024) :
    k0_pay2 v a b (ix2 i j) = (v (ix2 i j) + ∑ k : Fin 1024, a (ix2 i k) * b (ix2 k j) : EReal) := by
  pointwise [k0_pay2]

theorem pay_zero (i j : Fin 1024) : k0_pay1 (F := Ideal) (ix2 i j) = (0 : EReal) := by
  pointwise [k0_pay1]

/-- The result after the run. -/
theorem res (i : S8192x4096.Idx) : ((dats m 0 c).arrAt 2 cfg0.N : S8192x4096.Idx → EReal) i
    = (∑ k : Fin 1024, A0 m c (ix2 (i 0) k) * A1 m c (ix2 k (i 1)) : EReal) := by
  have := (dats m 0 c).arrAt_eq_of_covers 2
    (fun i : S8192x4096.Idx => (∑ k : Fin 1024, A0 m c (ix2 (i 0) k) * A1 m c (ix2 k (i 1)) : EReal))
    (by decide +kernel) fun t hf y => by
      blk_simp
      rw [after0_2, out_eq]
      change S1024x1024.Idx at y
      idx_vars y
      refine (pay_apply _ _ _ y0 y1).trans ?_
      rw [pay_zero, zero_add]
      have e0 : win0_2.index t 0 = t.val % 8 := (idx2 t).1
      have e1 : win0_2.index t 1 = t.val / 8 := (idx2 t).2
      refine Finset.sum_congr rfl fun k _ => ?_
      rw [blk0, blk1]
      congr 2
      · refine congrArg (ix2 · k) (Fin.ext ?_)
        show 1024 * (t.val % 8) + y0.val = win0_2.index t 0 * 1024 + 1 * y0.val
        rw [e0]; omega
      · refine congrArg (ix2 k) (Fin.ext ?_)
        show 1024 * (t.val / 8) + y1.val = win0_2.index t 1 * 1024 + 1 * y1.val
        rw [e1]; omega
  exact congrFun this i

end kernel

theorem ref {x0 : Cert.Reference11Ideal.S8192x1024.Idx → EReal} {x1 : Cert.Reference11Ideal.S1024x4096.Idx → EReal}
    (i : Fin 8192) (j : Fin 4096) : Cert.Reference11Ideal.Read.val_main_v2 (F := Ideal) x0 x1 (ix2 i j)
      = (∑ k : Fin 1024, x0 (ix2 i k) * x1 (ix2 k j) : EReal) := by
  pointwise [Cert.Reference11Ideal.Read.val_main_v2, Cert.Reference11Ideal.Read.val_main_v1, Cert.Reference11Ideal.Read.val_main_v0]

theorem frame_r : quiescent_Reference11Ideal := fun m ρ _ =>
  (θ_run Cert.Reference11Ideal.defs _ _).mono (fun r h => ⟨fun c => (h c).2,
      sem_eq_zero_of_no_sems (by decide) r.2⟩) (Cert.Reference11Ideal.Value.run (F := Ideal) m ρ)

theorem algebraic : algebraic_Kernel11Ideal_Reference11Ideal := by
  intro m ρ m' ρ' hpre hagree
  refine ⟨_, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨e0, e1⟩ := hagree c
  obtain ⟨r0, ra⟩ := h c
  refine ⟨r0.trans ?_, ra⟩
  rw [Cert.Reference11Ideal.Read.val_main_v2_eq]
  funext i
  idx_vars i
  refine (ref i0 i1).trans (.trans ?_ (res m c (ix2 i0 i1)).symm)
  exact Finset.sum_congr rfl fun k _ => congrArg₂ _ (congrFun e0 _) (congrFun e1 _)

end Cert.Mm.Proj
end
-- ==== Proof.Mm.DnDgrad.lean ====
/-
  The gradient of the query, key and value projection with respect to its input: the kernel adds, block of 1536 columns by
  block of columns, the products of the two operands' rows; the reference sums over all 3072 columns at once.
-/
module

public import proofs.«01_k».proof.Defs
public import proofs.«01_k».proof.Proof.Mm.Blocks
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Mm.DnDgrad

open Idealize.ShloMosaic Idealize.ShloMosaic.TcCoe Idealize.SL.Sem

section kernel
open Cert.Kernel12Ideal Cert.Kernel12Ideal.Gen
variable (m : (ℓ : Loc nD τ sig) → Buf (Elt Ideal) ℓ) (c : Dev nD)

/-- The arguments. -/
abbrev A0 : S8192x3072.Idx → EReal := m ((c : Thread nD τ).loc main_arg0)
abbrev A1 : S1024x3072.Idx → EReal := m ((c : Thread nD τ).loc main_arg1)
/-- The blocks a point reads. -/
abbrev B0 (t : Fin cfg0.N) : Vec Ideal S1024x1536 .bf16 := iblk m c 0 t
abbrev B1 (t : Fin cfg0.N) : Vec Ideal S1024x1536 .bf16 := iblk m c 1 t

theorem N_pts : cfg0.N = 16 := N_0

/-- What the scratch holds after the first point of a run. -/
theorem scrA (t : Fin cfg0.N) (h : t.val % 2 = 0) :
    (outsAt0 m c t.val t.isLt).2 = k0_pay2 (k0_pay1 (F := Ideal)) (B0 m c t) (B1 m c t) := by
  rw [outsAt0_A m c t h (by omega)]
  frame_out

/-- … and after a later one. -/
theorem scrB (t : Fin cfg0.N) (h : ¬t.val % 2 = 0) : (outsAt0 m c t.val t.isLt).2
    = k0_pay2 (outsAt0 m c (t.val - 1) (lt_of_le_of_lt (Nat.sub_le _ _) t.isLt)).2 (B0 m c t) (B1 m c t) := by
  rw [outsAt0_B m c t h (by omega)]
  frame_out
  exact congrArg (fun v => k0_pay2 v (B0 m c t) (B1 m c t)) (Memref.IsWhole.read_unread (Memref.isWhole_whole _) _)

/-- The last point of a run stores the scratch. -/
theorem outC (t : Fin cfg0.N) (h : t.val % 2 = 1) : (outsAt0 m c t.val t.isLt).1 = (outsAt0 m c t.val t.isLt).2 := by
  rw [outsAt0_B m c t (by omega) h]
  frame_out

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)

theorem row_lt (t : Fin cfg0.N) (r : Fin 1024) : 1024 * (t.val / 2) + r.val < 8192 := by
  have := t.isLt; have := N_pts; omega
theorem col_lt (t : Fin cfg0.N) (r : Fin 1536) : 1536 * (t.val % 2) + r.val < 3072 := by omega

theorem blk0 (t : Fin cfg0.N) (r : Fin 1024) (k : Fin 1536) :
    B0 m c t (ix2 r k) = A0 m c (ix2 ⟨1024 * (t.val / 2) + r.val, row_lt t r⟩ ⟨1536 * (t.val % 2) + k.val, col_lt t k⟩) := by
  blk_ext! [B0, A0, iblk, V, idx0 t]
theorem blk1 (t : Fin cfg0.N) (j : Fin 1024) (k : Fin 1536) :
    B1 m c t (ix2 j k) = A1 m c (ix2 j ⟨1536 * (t.val % 2) + k.val, col_lt t k⟩) := by
  blk_ext! [B1, A1, iblk, V, idx1 t]

theorem pay_apply (v : Vec Ideal S1024x1024 .f32) (a : Vec Ideal S1024x1536 .bf16) (b : Vec Ideal S1024x1536 .bf16)
    (i : Fin 1024) (j : Fin 1024) :
    k0_pay2 v a b (ix2 i j) = (v (ix2 i j) + ∑ k : Fin 1536, a (ix2 i k) * b (ix2 j k) : EReal) := by
  pointwise [k0_pay2]

theorem pay_zero (i : Fin 1024) (j : Fin 1024) : k0_pay1 (F := Ideal) (ix2 i j) = (0 : EReal) := by
  pointwise [k0_pay1]

/-- One point's products. -/
abbrev term (t : Fin cfg0.N) (j : S1024x1024.Idx) : EReal := ∑ k : Fin 1536, B0 m c t (ix2 (j 0) k) * B1 m c t (ix2 (j 1) k)

/-- After the last point of a run: the sum over all columns. -/
theorem scr_last (t : Fin cfg0.N) (h : t.val % 2 = 1) (i : Fin 1024) (j : Fin 1024) : (outsAt0 m c t.val t.isLt).2 (ix2 i j)
    = (∑ k : Fin 3072, A0 m c (ix2 ⟨1024 * (t.val / 2) + i.val, row_lt t i⟩ k) * A1 m c (ix2 j k) : EReal) := by
  rw [Pipeline.eq_sum_fin_of_reset_step_apply_of_flush (fun n h => (outsAt0 m c n h).2) 2 (fun _ => (0 : EReal)) (term m c)
    (fun t h j => by
      idx_vars j
      show (outsAt0 m c t.val t.isLt).2 _ = _
      rw [scrA m c t h, pay_apply, pay_zero]
      rfl)
    (fun t h j => by
      idx_vars j
      show (outsAt0 m c t.val t.isLt).2 _ = _
      rw [scrB m c t h, pay_apply]
      rfl)
    t h (ix2 i j), zero_add]
  rw [← sum_blocks (a := 2) (b := 1536) rfl _ (fun s k => by omega)]
  refine Finset.sum_congr rfl fun s _ => Finset.sum_congr rfl fun k _ => ?_
  show B0 m c _ (ix2 i k) * B1 m c _ (ix2 j k) = _
  rw [blk0, blk1]
  have hs : (2 * (t.val / 2) + s.val) % 2 = s.val := by omega
  have hd : (2 * (t.val / 2) + s.val) / 2 = t.val / 2 := by omega
  simp only [hs, hd]

theorem idx2 : ∀ t : Fin cfg0.N, win0_2.index t 0 = t.val / 2 ∧ win0_2.index t 1 = 0 :=
  (by decide +kernel : ∀ t : Fin grid0.N, win0_2.index t 0 = t.val / 2 ∧ win0_2.index t 1 = 0)

/-- The result after the run. -/
theorem res (i : S8192x1024.Idx) : ((dats m 0 c).arrAt 2 cfg0.N : S8192x1024.Idx → EReal) i
    = (∑ k : Fin 3072, A0 m c (ix2 (i 0) k) * A1 m c (ix2 (i 1) k) : EReal) := by
  have := (dats m 0 c).arrAt_eq_of_covers 2
    (fun i : S8192x1024.Idx => (∑ k : Fin 3072, A0 m c (ix2 (i 0) k) * A1 m c (ix2 (i 1) k) : EReal))
    (by decide +kernel) fun t hf y => by
      blk_simp
      rw [after0_2]
      change S1024x1024.Idx at y
      idx_vars y
      have hm : t.val % 2 = 1 := (flush0_2 t).mp hf
      refine ((congrFun (outC m c t hm) _).trans (scr_last m c t hm y0 y1)).trans ?_
      have e0 : win0_2.index t 0 = t.val / 2 := (idx2 t).1
      have e1 : win0_2.index t 1 = 0 := (idx2 t).2
      refine Finset.sum_congr rfl fun k _ => ?_
      congr 2
      · refine congrArg (ix2 · k) (Fin.ext ?_)
        show 1024 * (t.val / 2) + y0.val = win0_2.index t 0 * 1024 + 1 * y0.val
        rw [e0]; omega
      · refine congrArg (ix2 · k) (Fin.ext ?_)
        show y1.val = win0_2.index t 1 * 1024 + 1 * y1.val
        rw [e1]; omega
  exact congrFun this i

end kernel

theorem ref {x0 : Cert.Reference12Ideal.S8192x3072.Idx → EReal} {x1 : Cert.Reference12Ideal.S1024x3072.Idx → EReal}
    (i : Fin 8192) (j : Fin 1024) : Cert.Reference12Ideal.Read.val_main_v4 (F := Ideal) x0 x1 (ix2 i j)
      = (∑ k : Fin 3072, x0 (ix2 i k) * x1 (ix2 j k) : EReal) := by
  pointwise [Cert.Reference12Ideal.Read.val_main_v4, Cert.Reference12Ideal.Read.val_main_v3, Cert.Reference12Ideal.Read.val_main_v1]

theorem frame_r : quiescent_Reference12Ideal := fun m ρ _ =>
  (θ_run Cert.Reference12Ideal.defs _ _).mono (fun r h => ⟨fun c => (h c).2,
      sem_eq_zero_of_no_sems (by decide) r.2⟩) (Cert.Reference12Ideal.Value.run (F := Ideal) m ρ)

theorem algebraic : algebraic_Kernel12Ideal_Reference12Ideal := by
  intro m ρ m' ρ' hpre hagree
  refine ⟨_, Cert.Kernel12Ideal.Value.run_blocks (F := Ideal) m ρ, ?_⟩
  refine (θ_run Cert.Reference12Ideal.defs _ _).mono (fun _ h c => ?_) (Cert.Reference12Ideal.Value.run (F := Ideal) m' ρ')
  obtain ⟨e0, e1⟩ := hagree c
  obtain ⟨r0, ra⟩ := h c
  refine ⟨r0.trans ?_, ra⟩
  rw [Cert.Reference12Ideal.Read.val_main_v4_eq]
  funext i
  idx_vars i
  refine (ref i0 i1).trans (.trans ?_ (res m c (ix2 i0 i1)).symm)
  exact Finset.sum_congr rfl fun k _ => congrArg₂ _ (congrFun e0 _) (congrFun e1 _)

end Cert.Mm.DnDgrad
end
-- ==== Proof.Dgrad.SgOut.lean ====
/-
  The norm after the output projection taken back, then the projection: every grid point does a block of 1024 rows and
  adds the rows' part of the gain's cotangent to the block all points share.
-/
module

public import proofs.«01_k».proof.Defs
public import proofs.«01_k».proof.Proof.Mm.Blocks
public import proofs.«01_k».proof.Proof.Ffn.Spec
public import proofs.«01_k».proof.Proof.Sg.Claims
public import proofs.«01_k».proof.Proof.Gen.Pre_finite13
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Dgrad.SgOut

open Idealize.ShloMosaic Idealize.ShloMosaic.TcCoe Idealize.SL.Sem
open Cert.Sg (IsR coe_sum div_real rsqrt_real ofBits_neg_half real_of_lt lift1 lift2 lift1_eq lift2_eq)
open Cert.Ffn (eps ms rs xh back through ofBits_eps ofBits_1024 ms_eps_pos back_eq)

section kernel
open Cert.Kernel13Ideal Cert.Kernel13Ideal.Gen

section norm
variable {zs : ℕ → ℕ → ℝ} {y : Vec Ideal S1024x1024 .f32} (hy : IsR y zs)
include hy
theorem rs_val : IsR (k0_pay3 y) fun r _ => rs (zs r) := fun r j => by
  pointwise [k0_pay3]
  simp only [hy _ _, ← EReal.coe_mul]
  rw [← coe_sum, ofBits_1024, div_real (by norm_num), ofBits_eps, ← EReal.coe_add, rsqrt_real]; rfl
  exact ms_eps_pos (zs r)
theorem xh_val : IsR (k0_pay4 y) fun r => xh (zs r) := fun r j => by
  have h1 := hy r j
  have h2 := rs_val hy
  pointwise [k0_pay4]
  rw [h1, h2, ← EReal.coe_mul]; rfl
theorem gain_val {ds : ℕ → ℕ → ℝ} {D : Vec Ideal S1024x1024 .f32} (hD : IsR D ds) (p : Vec Ideal S1x1024 .f32) (r : Fin 1) (j : Fin 1024) :
    k0_pay5 y D p (ix2 r j) = (p (ix2 r j) + ((∑ t : Fin 1024, ds t j * xh (zs t) j : ℝ) : EReal) : EReal) := by
  have h2 := xh_val hy
  pointwise [k0_pay5]
  simp only [hD _ _, h2 _ _, ← EReal.coe_mul, ← coe_sum]
end norm

section point
variable {zs ds w : ℕ → ℕ → ℝ} {g : ℕ → ℝ} {D y : Vec Ideal S1024x1024 .f32} {gr : Vec Ideal S1x1024 .f32} {b : Vec Ideal S2048x1024 .bf16}
  (hD : IsR D ds) (hy : IsR y zs) (hg : IsR gr fun _ => g) (hb : IsR b w)
include hD hy hg
theorem back_val : IsR (k0_pay6 y gr D) fun r => back g (zs r) (ds r) := fun r j => by
  have h2 := xh_val hy
  have h3 := rs_val hy
  pointwise [k0_pay6]
  simp only [hD _ _, h2 _ _, h3 _ _, hg _ _, ← EReal.coe_mul, ← coe_sum]
  rw [ofBits_1024, div_real (by norm_num), ← EReal.coe_mul, ← EReal.coe_sub, ← EReal.coe_mul]; rfl
include hb
theorem proj_val : IsR (k0_pay1 (k0_pay6 y gr D) b) fun r k => ∑ j : Fin 1024, back g (zs r) (ds r) j * w k j := fun r k => by
  have h := back_val hD hy hg
  pointwise [k0_pay1]
  simp only [h _ _, hb _ _, ← EReal.coe_mul, ← coe_sum, zero_add]
end point

variable (m : (ℓ : Loc nD τ sig) → Buf (Elt Ideal) ℓ) (c : Dev nD)

/-- The arguments. -/
abbrev A0 : S8192x1024.Idx → EReal := m ((c : Thread nD τ).loc main_arg0)
abbrev A1 : S8192x1024.Idx → EReal := m ((c : Thread nD τ).loc main_arg1)
abbrev A2 : S1024.Idx → EReal := m ((c : Thread nD τ).loc main_arg2)
abbrev A3 : S2048x1024.Idx → EReal := m ((c : Thread nD τ).loc main_arg3)
/-- The blocks a point reads. -/
abbrev B0 (t : Fin cfg0.N) : Vec Ideal S1024x1024 .f32 := iblk m c 0 t
abbrev B1 (t : Fin cfg0.N) : Vec Ideal S1024x1024 .f32 := iblk m c 1 t
abbrev B2 (t : Fin cfg0.N) : Vec Ideal S1x1024 .f32 := iblk m c 2 t
abbrev B3 (t : Fin cfg0.N) : Vec Ideal S2048x1024 .bf16 := iblk m c 3 t

theorem N_pts : cfg0.N = 8 := N_0

theorem outDm (t : Fin cfg0.N) : (outsAt0 m c t.val t.isLt).1 = k0_pay6 (B1 m c t) (B2 m c t) (B0 m c t) := by
  by_cases h : t.val % 8 = 0
  · rw [outsAt0_A m c t h]
    frame_out
  · rw [outsAt0_B m c t h]
    frame_out
theorem outDo (t : Fin cfg0.N) : (outsAt0 m c t.val t.isLt).2.2 = k0_pay1 (k0_pay6 (B1 m c t) (B2 m c t) (B0 m c t)) (B3 m c t) := by
  by_cases h : t.val % 8 = 0
  · rw [outsAt0_A m c t h]
    frame_out
  · rw [outsAt0_B m c t h]
    frame_out
theorem outGA (t : Fin cfg0.N) (h : t.val % 8 = 0) : (outsAt0 m c t.val t.isLt).2.1 = k0_pay5 (B1 m c t) (B0 m c t) (k0_pay2 (F := Ideal)) := by
  rw [outsAt0_A m c t h]
  frame_out
theorem outGB (t : Fin cfg0.N) (h : ¬t.val % 8 = 0) : (outsAt0 m c t.val t.isLt).2.1
    = k0_pay5 (B1 m c t) (B0 m c t) (outsAt0 m c (t.val - 1) (lt_of_le_of_lt (Nat.sub_le _ _) t.isLt)).2.1 := by
  rw [outsAt0_B m c t h]
  frame_out

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem row_lt (t : Fin cfg0.N) (r : Fin 1024) : 1024 * t.val + r.val < 8192 := by
  have := t.isLt; have := N_pts; omega

/-- The arguments hold real numbers. -/
structure Lifted (C Z w : ℕ → ℕ → ℝ) (g : ℕ → ℝ) : Prop where
  h0 : IsR (A0 m c) C
  h1 : IsR (A1 m c) Z
  h2 : ∀ j, A2 m c (ix1 j) = ((g j : ℝ) : EReal)
  h3 : IsR (A3 m c) w

variable {m c} {C Z w : ℕ → ℕ → ℝ} {g : ℕ → ℝ} (H : Lifted m c C Z w g)
include H

theorem blk0 (t : Fin cfg0.N) : IsR (B0 m c t) fun r => C (1024 * t.val + r) := fun r j => by
  refine Eq.trans ?_ (H.h0 ⟨1024 * t.val + r.val, row_lt t r⟩ j)
  blk_ext! [B0, A0, iblk, V, idx0 t]
theorem blk1 (t : Fin cfg0.N) : IsR (B1 m c t) fun r => Z (1024 * t.val + r) := fun r j => by
  refine Eq.trans ?_ (H.h1 ⟨1024 * t.val + r.val, row_lt t r⟩ j)
  blk_ext! [B1, A1, iblk, V, idx1 t]
theorem gain (r : Fin 1) (j : Fin 1024) : (V m c main_v0 : S1x1024.Idx → EReal) (ix2 r j) = ((g j : ℝ) : EReal) := by
  refine Eq.trans ?_ (H.h2 j)
  unfold V
  after_reads_simp
  pointwise
theorem blk2 (t : Fin cfg0.N) : IsR (B2 m c t) fun _ => g := fun r j => by
  refine Eq.trans ?_ (gain H r j)
  blk_ext! [B2, iblk, idx2 t]
theorem blk3 (t : Fin cfg0.N) : IsR (B3 m c t) w := fun k j => by
  refine Eq.trans ?_ (H.h3 k j)
  blk_ext! [B3, A3, iblk, V, idx3 t]

/-- The results after the run. -/
theorem resDm (i : S8192x1024.Idx) : ((dats m 0 c).arrAt 4 cfg0.N : S8192x1024.Idx → EReal) i
    = ((back g (Z (i 0).val) (C (i 0).val) (i 1).val : ℝ) : EReal) := by
  have := (dats m 0 c).arrAt_eq_of_covers 4 (fun i : S8192x1024.Idx => ((back g (Z (i 0).val) (C (i 0).val) (i 1).val : ℝ) : EReal))
    (by decide +kernel) fun t hf y => by
      blk_simp
      rw [after0_4, outDm]
      change S1024x1024.Idx at y
      idx_vars y
      refine (back_val (blk0 H t) (blk1 H t) (blk2 H t) y0 y1).trans ?_
      have e0 : win0_4.index t 0 = t.val := (idx4 t).1
      have e1 : win0_4.index t 1 = 0 := (idx4 t).2
      show _ = ((back g (Z (win0_4.index t 0 * 1024 + y0.val)) (C (win0_4.index t 0 * 1024 + y0.val)) (win0_4.index t 1 * 1024 + y1.val) : ℝ) : EReal)
      rw [e0, e1, Nat.mul_comm t.val 1024, Nat.zero_mul, Nat.zero_add]
  exact congrFun this i
theorem resDo (i : S8192x2048.Idx) : ((dats m 0 c).arrAt 6 cfg0.N : S8192x2048.Idx → EReal) i
    = ((∑ j : Fin 1024, back g (Z (i 0).val) (C (i 0).val) j * w (i 1).val j : ℝ) : EReal) := by
  have := (dats m 0 c).arrAt_eq_of_covers 6 (fun i : S8192x2048.Idx => ((∑ j : Fin 1024, back g (Z (i 0).val) (C (i 0).val) j * w (i 1).val j : ℝ) : EReal))
    (by decide +kernel) fun t hf y => by
      blk_simp
      rw [after0_6, outDo]
      change S1024x2048.Idx at y
      idx_vars y
      refine (proj_val (blk0 H t) (blk1 H t) (blk2 H t) (blk3 H t) y0 y1).trans ?_
      have e0 : win0_6.index t 0 = t.val := (idx6 t).1
      have e1 : win0_6.index t 1 = 0 := (idx6 t).2
      show _ = ((∑ j : Fin 1024, back g (Z (win0_6.index t 0 * 1024 + y0.val)) (C (win0_6.index t 0 * 1024 + y0.val)) j * w (win0_6.index t 1 * 2048 + y1.val) j : ℝ) : EReal)
      rw [e0, e1, Nat.mul_comm t.val 1024, Nat.zero_mul, Nat.zero_add]
  exact congrFun this i

omit H in
theorem lastN : (⟨7, by have := N_pts; omega⟩ : Fin cfg0.N).val + 1 = cfg0.N := N_pts.symm
/-- The last point. -/
abbrev last : Fin cfg0.N := ⟨7, by have := N_pts; omega⟩

theorem ptG (j : S1x1024.Idx) : (outsAt0 m c last.val last.isLt).2.1 j
    = ((∑ p : Fin cfg0.N, ∑ r : Fin 1024, C (1024 * p + r) (j 1).val * xh (Z (1024 * p + r)) (j 1).val : ℝ) : EReal) := by
  idx_vars j
  rw [Pipeline.eq_sum_fin_of_reset_step_apply_last (fun n h => (outsAt0 m c n h).2.1) 8 (fun _ => 0)
    (fun t j => ((∑ r : Fin 1024, C (1024 * t + r) (j 1).val * xh (Z (1024 * t + r)) (j 1).val : ℝ) : EReal))
    (fun t h j => by
      idx_vars j
      show (outsAt0 m c t.val t.isLt).2.1 _ = _
      rw [outGA m c t h, gain_val (blk1 H t) (blk0 H t)]
      congr 1
      pointwise [k0_pay2])
    (fun t h j => by
      idx_vars j
      show (outsAt0 m c t.val t.isLt).2.1 _ = _
      rw [outGB m c t h, gain_val (blk1 H t) (blk0 H t)])
    (le_of_eq N_pts) last lastN]
  rw [zero_add, ← coe_sum]
  rfl

omit H in
/-- A sum over the points and a block's rows is a sum over all the rows. -/
theorem sum_rows (f : ℕ → ℝ) : ∑ p : Fin cfg0.N, ∑ r : Fin 1024, f (1024 * p + r) = ∑ R : Fin 8192, f R := by
  have h : ∀ N, N = 8 → ∑ p : Fin N, ∑ r : Fin 1024, f (1024 * p + r) = ∑ R : Fin 8192, f R := by
    rintro _ rfl
    exact Cert.Mm.sum_blocks (a := 8) (b := 1024) rfl (fun R : Fin 8192 => f R) fun s k => by omega
  exact h _ N_pts

theorem resG (r : Fin 1) (j : Fin 1024) : ((dats m 0 c).arrAt 5 cfg0.N : S1x1024.Idx → EReal) (ix2 r j)
    = ((∑ R : Fin 8192, C R j * xh (Z R) j : ℝ) : EReal) := by
  refine ((dats m 0 c).arrAt_emb_eq_after_last 5 last (by decide +kernel) (ix2 r j)).trans ?_
  blk_simp
  rw [after0_5]
  refine (ptG H (ix2 r j)).trans (congrArg _ ?_)
  exact sum_rows fun R => C R j * xh (Z R) j

end kernel

section reference
open Cert.Reference13Ideal Cert.Reference13Ideal.Read
variable {Z C w : ℕ → ℕ → ℝ} {g : ℕ → ℝ} {x0 x1 : S8192x1024.Idx → EReal} {x2 : S1024.Idx → EReal} {x3 : S2048x1024.Idx → EReal}
  (h0 : IsR x0 C) (hz : IsR x1 Z) (hg : ∀ j, x2 (ix1 j) = ((g j : ℝ) : EReal)) (h3 : IsR x3 w)

include hz
theorem r_var : IsR (val_main_v6 (F := Ideal) x1) fun R _ => ms (Z R) + eps := fun R j => by
  pointwise [val_main_v6, val_main_v5, val_main_cst_1, val_main_v4, val_main_v3, val_main_cst_0, val_main_v2, val_main_v1, val_main_cst, val_main_v0]
  simp only [hz _ _, ← EReal.coe_mul, zero_add]
  rw [← coe_sum, ofBits_1024, div_real (by norm_num), ofBits_eps, ← EReal.coe_add]; rfl
theorem r_rs : IsR (val_main_v7 (F := Ideal) x1) fun R _ => rs (Z R) := fun R j => by
  have h := r_var hz R j
  pointwise [val_main_v7]
  rw [h, rsqrt_real (ms_eps_pos _)]; rfl
theorem r_slope : IsR (val_main_v10 (F := Ideal) x1) fun R _ => -(1 / 2) * (rs (Z R) / (ms (Z R) + eps)) := fun R j => by
  have h := r_var hz R j
  have h' := r_rs hz R j
  pointwise [val_main_v10, val_main_v9, val_main_cst_2, val_main_v8]
  rw [h, h', ofBits_neg_half, div_real (ms_eps_pos _).ne', ← EReal.coe_mul]
theorem r_xh : IsR (val_main_v12 (F := Ideal) x1) fun R => xh (Z R) := fun R j => by
  have h := r_rs hz
  pointwise [val_main_v12, val_main_v11]
  rw [hz, h, ← EReal.coe_mul]; rfl
include h0
theorem r_gain (r : Fin 1) (j : Fin 1024) : val_main_v41 (F := Ideal) x0 x1 (ix2 r j) = ((∑ R : Fin 8192, C R j * xh (Z R) j : ℝ) : EReal) := by
  have h := r_xh hz
  have hd := h0
  pointwise [val_main_v41, val_main_v21, val_main_cst_4, val_main_v18, val_main_v17, val_main_cst_3, val_main_v16]
  simp only [Finset.univ_unique, Finset.sum_singleton, h _ _, hd _ _, ← EReal.coe_mul, ← coe_sum, zero_add]
  exact congrArg _ (Finset.sum_congr rfl fun R _ => mul_comm _ _)
include hg
omit hz in
theorem r_cg : IsR (val_main_v20 (F := Ideal) x0 x2) fun R j => C R j * g j := fun R j => by
  have h := h0 R j
  pointwise [val_main_v20, val_main_v19, val_main_v13]
  rw [h, hg, ← EReal.coe_mul]
theorem r_through : IsR (val_main_v31 (F := Ideal) x0 x1 x2) fun R _ => through g (Z R) (C R) := fun R j => by
  have h := r_cg h0 hg
  have hs := r_slope hz
  pointwise [val_main_v31, val_main_v30, val_main_cst_7, val_main_v29, val_main_v28, val_main_cst_6, val_main_v27, val_main_v24, val_main_v23, val_main_cst_5, val_main_v22]
  simp only [Finset.univ_unique, Finset.sum_singleton, h _ _, hz _ _, hs _ _, ← EReal.coe_mul, ← coe_sum, zero_add]
  rw [ofBits_1024, div_real (by norm_num)]; rfl
theorem r_back : IsR (val_main_v35 (F := Ideal) x0 x1 x2) fun R => back g (Z R) (C R) := fun R j => by
  have h := r_cg h0 hg R j
  have hr := r_rs hz
  have ht := r_through h0 hz hg R j
  pointwise [val_main_v35, val_main_v34, val_main_v33, val_main_v32, val_main_v26, val_main_v25]
  rw [h, hr, ht, hz]
  simp only [← EReal.coe_mul, ← EReal.coe_add]
  rw [back_eq]
include h3
theorem r_do : IsR (val_main_v39 (F := Ideal) x0 x1 x2 x3) fun R k => ∑ j : Fin 1024, back g (Z R) (C R) j * w k j := fun R k => by
  have h := r_back h0 hz hg
  pointwise [val_main_v39, val_main_v37]
  simp only [h _ _, h3 _ _, ← EReal.coe_mul, ← coe_sum, zero_add]
omit h3
theorem r_dm : IsR (val_main_v40 (F := Ideal) x0 x1 x2) fun R => back g (Z R) (C R) := fun R j => by
  have h := r_back h0 hz hg R j
  pointwise [val_main_v40]
  exact h
end reference

theorem frame_r : quiescent_Reference13Ideal := fun m ρ _ =>
  (θ_run Cert.Reference13Ideal.defs _ _).mono (fun r h => ⟨fun c => (h c).2.2.2,
      sem_eq_zero_of_no_sems (by decide) r.2⟩) (Cert.Reference13Ideal.Value.run (F := Ideal) m ρ)

theorem lifted (m : (ℓ : Loc Cert.Kernel13Ideal.nD Cert.Kernel13Ideal.τ Cert.Kernel13Ideal.sig) → Buf (Elt Ideal) ℓ)
    (h : Pre_Kernel13Ideal_finite13 (hPre_finite13 := Cert.Pre_finite13.Gen.facts) m) (c : Dev Cert.Kernel13Ideal.nD) :
    Lifted m c (lift2 (A0 m c)) (lift2 (A1 m c)) (lift2 (A3 m c)) (lift1 (A2 m c)) where
  h0 := lift2_eq fun i => real_of_lt (congrFun (h c).1 i)
  h1 := lift2_eq fun i => real_of_lt (congrFun (h c).2.1 i)
  h2 := lift1_eq fun i => real_of_lt (congrFun (h c).2.2.1 i)
  h3 := lift2_eq fun i => real_of_lt (congrFun (h c).2.2.2 i)

theorem algebraic : algebraic_Kernel13Ideal_Reference13Ideal_pre_finite13 (hPre_finite13 := Cert.Pre_finite13.Gen.facts) := by
  intro m ρ m' ρ' hpre hagree
  refine ⟨_, _, _, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨e0, e1, e2, e3⟩ := hagree c
  have H := lifted m hpre c
  obtain ⟨r0, r1, r2, ra⟩ := h c
  have h0 := fun r k => (congrFun e0 (ix2 r k)).trans (H.h0 r k)
  have h1 := fun r k => (congrFun e1 (ix2 r k)).trans (H.h1 r k)
  have h2 := fun j => (congrFun e2 (ix1 j)).trans (H.h2 j)
  have h3 := fun r k => (congrFun e3 (ix2 r k)).trans (H.h3 r k)
  refine ⟨r0.trans ?_, r1.trans ?_, r2.trans ?_, ra⟩
  · rw [Cert.Reference13Ideal.Read.val_main_v40_eq]
    funext i
    idx_vars i
    exact (r_dm h0 h1 h2 i0 i1).trans (resDm H (ix2 i0 i1)).symm
  · rw [Cert.Reference13Ideal.Read.val_main_v41_eq]
    funext i
    idx_vars i
    exact (r_gain h0 h1 i0 i1).trans (resG H i0 i1).symm
  · rw [Cert.Reference13Ideal.Read.val_main_v39_eq]
    funext i
    idx_vars i
    exact (r_do h0 h1 h2 h3 i0 i1).trans (resDo H (ix2 i0 i1)).symm

end Cert.Dgrad.SgOut
end
-- ==== Proof.Dgrad.DnOut.lean ====
/-
  The norm after the output projection taken back, then the projection: every grid point does a block of 1024 rows and
  adds the rows' part of the gain's cotangent to the block all points share.
-/
module

public import proofs.«01_k».proof.Defs
public import proofs.«01_k».proof.Proof.Mm.Blocks
public import proofs.«01_k».proof.Proof.Ffn.Spec
public import proofs.«01_k».proof.Proof.Sg.Claims
public import proofs.«01_k».proof.Proof.Gen.Pre_finite14
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Dgrad.DnOut

open Idealize.ShloMosaic Idealize.ShloMosaic.TcCoe Idealize.SL.Sem
open Cert.Sg (IsR coe_sum div_real rsqrt_real ofBits_neg_half real_of_lt lift1 lift2 lift1_eq lift2_eq)
open Cert.Ffn (eps ms rs xh back through ofBits_eps ofBits_1024 ms_eps_pos back_eq)

section kernel
open Cert.Kernel14Ideal Cert.Kernel14Ideal.Gen

section norm
variable {zs : ℕ → ℕ → ℝ} {y : Vec Ideal S1024x1024 .f32} (hy : IsR y zs)
include hy
theorem rs_val : IsR (k0_pay3 y) fun r _ => rs (zs r) := fun r j => by
  pointwise [k0_pay3]
  simp only [hy _ _, ← EReal.coe_mul]
  rw [← coe_sum, ofBits_1024, div_real (by norm_num), ofBits_eps, ← EReal.coe_add, rsqrt_real]; rfl
  exact ms_eps_pos (zs r)
theorem xh_val : IsR (k0_pay4 y) fun r => xh (zs r) := fun r j => by
  have h1 := hy r j
  have h2 := rs_val hy
  pointwise [k0_pay4]
  rw [h1, h2, ← EReal.coe_mul]; rfl
theorem gain_val {ds : ℕ → ℕ → ℝ} {D : Vec Ideal S1024x1024 .f32} (hD : IsR D ds) (p : Vec Ideal S1x1024 .f32) (r : Fin 1) (j : Fin 1024) :
    k0_pay5 y D p (ix2 r j) = (p (ix2 r j) + ((∑ t : Fin 1024, ds t j * xh (zs t) j : ℝ) : EReal) : EReal) := by
  have h2 := xh_val hy
  pointwise [k0_pay5]
  simp only [hD _ _, h2 _ _, ← EReal.coe_mul, ← coe_sum]
end norm

section point
variable {zs ds w : ℕ → ℕ → ℝ} {g : ℕ → ℝ} {D y : Vec Ideal S1024x1024 .f32} {gr : Vec Ideal S1x1024 .f32} {b : Vec Ideal S1024x1024 .bf16}
  (hD : IsR D ds) (hy : IsR y zs) (hg : IsR gr fun _ => g) (hb : IsR b w)
include hD hy hg
theorem back_val : IsR (k0_pay6 y gr D) fun r => back g (zs r) (ds r) := fun r j => by
  have h2 := xh_val hy
  have h3 := rs_val hy
  pointwise [k0_pay6]
  simp only [hD _ _, h2 _ _, h3 _ _, hg _ _, ← EReal.coe_mul, ← coe_sum]
  rw [ofBits_1024, div_real (by norm_num), ← EReal.coe_mul, ← EReal.coe_sub, ← EReal.coe_mul]; rfl
include hb
theorem proj_val : IsR (k0_pay1 (k0_pay6 y gr D) b) fun r k => ∑ j : Fin 1024, back g (zs r) (ds r) j * w k j := fun r k => by
  have h := back_val hD hy hg
  pointwise [k0_pay1]
  simp only [h _ _, hb _ _, ← EReal.coe_mul, ← coe_sum, zero_add]
end point

variable (m : (ℓ : Loc nD τ sig) → Buf (Elt Ideal) ℓ) (c : Dev nD)

/-- The arguments. -/
abbrev A0 : S8192x1024.Idx → EReal := m ((c : Thread nD τ).loc main_arg0)
abbrev A1 : S8192x1024.Idx → EReal := m ((c : Thread nD τ).loc main_arg1)
abbrev A2 : S1024.Idx → EReal := m ((c : Thread nD τ).loc main_arg2)
abbrev A3 : S1024x1024.Idx → EReal := m ((c : Thread nD τ).loc main_arg3)
/-- The blocks a point reads. -/
abbrev B0 (t : Fin cfg0.N) : Vec Ideal S1024x1024 .f32 := iblk m c 0 t
abbrev B1 (t : Fin cfg0.N) : Vec Ideal S1024x1024 .f32 := iblk m c 1 t
abbrev B2 (t : Fin cfg0.N) : Vec Ideal S1x1024 .f32 := iblk m c 2 t
abbrev B3 (t : Fin cfg0.N) : Vec Ideal S1024x1024 .bf16 := iblk m c 3 t

theorem N_pts : cfg0.N = 8 := N_0

theorem outDm (t : Fin cfg0.N) : (outsAt0 m c t.val t.isLt).1 = k0_pay6 (B1 m c t) (B2 m c t) (B0 m c t) := by
  by_cases h : t.val % 8 = 0
  · rw [outsAt0_A m c t h]
    frame_out
  · rw [outsAt0_B m c t h]
    frame_out
theorem outDo (t : Fin cfg0.N) : (outsAt0 m c t.val t.isLt).2.2 = k0_pay1 (k0_pay6 (B1 m c t) (B2 m c t) (B0 m c t)) (B3 m c t) := by
  by_cases h : t.val % 8 = 0
  · rw [outsAt0_A m c t h]
    frame_out
  · rw [outsAt0_B m c t h]
    frame_out
theorem outGA (t : Fin cfg0.N) (h : t.val % 8 = 0) : (outsAt0 m c t.val t.isLt).2.1 = k0_pay5 (B1 m c t) (B0 m c t) (k0_pay2 (F := Ideal)) := by
  rw [outsAt0_A m c t h]
  frame_out
theorem outGB (t : Fin cfg0.N) (h : ¬t.val % 8 = 0) : (outsAt0 m c t.val t.isLt).2.1
    = k0_pay5 (B1 m c t) (B0 m c t) (outsAt0 m c (t.val - 1) (lt_of_le_of_lt (Nat.sub_le _ _) t.isLt)).2.1 := by
  rw [outsAt0_B m c t h]
  frame_out

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

theorem row_lt (t : Fin cfg0.N) (r : Fin 1024) : 1024 * t.val + r.val < 8192 := by
  have := t.isLt; have := N_pts; omega

/-- The arguments hold real numbers. -/
structure Lifted (C Z w : ℕ → ℕ → ℝ) (g : ℕ → ℝ) : Prop where
  h0 : IsR (A0 m c) C
  h1 : IsR (A1 m c) Z
  h2 : ∀ j, A2 m c (ix1 j) = ((g j : ℝ) : EReal)
  h3 : IsR (A3 m c) w

variable {m c} {C Z w : ℕ → ℕ → ℝ} {g : ℕ → ℝ} (H : Lifted m c C Z w g)
include H

theorem blk0 (t : Fin cfg0.N) : IsR (B0 m c t) fun r => C (1024 * t.val + r) := fun r j => by
  refine Eq.trans ?_ (H.h0 ⟨1024 * t.val + r.val, row_lt t r⟩ j)
  blk_ext! [B0, A0, iblk, V, idx0 t]
theorem blk1 (t : Fin cfg0.N) : IsR (B1 m c t) fun r => Z (1024 * t.val + r) := fun r j => by
  refine Eq.trans ?_ (H.h1 ⟨1024 * t.val + r.val, row_lt t r⟩ j)
  blk_ext! [B1, A1, iblk, V, idx1 t]
theorem gain (r : Fin 1) (j : Fin 1024) : (V m c main_v0 : S1x1024.Idx → EReal) (ix2 r j) = ((g j : ℝ) : EReal) := by
  refine Eq.trans ?_ (H.h2 j)
  unfold V
  after_reads_simp
  pointwise
theorem blk2 (t : Fin cfg0.N) : IsR (B2 m c t) fun _ => g := fun r j => by
  refine Eq.trans ?_ (gain H r j)
  blk_ext! [B2, iblk, idx2 t]
theorem blk3 (t : Fin cfg0.N) : IsR (B3 m c t) w := fun k j => by
  refine Eq.trans ?_ (H.h3 k j)
  blk_ext! [B3, A3, iblk, V, idx3 t]

/-- The results after the run. -/
theorem resDm (i : S8192x1024.Idx) : ((dats m 0 c).arrAt 4 cfg0.N : S8192x1024.Idx → EReal) i
    = ((back g (Z (i 0).val) (C (i 0).val) (i 1).val : ℝ) : EReal) := by
  have := (dats m 0 c).arrAt_eq_of_covers 4 (fun i : S8192x1024.Idx => ((back g (Z (i 0).val) (C (i 0).val) (i 1).val : ℝ) : EReal))
    (by decide +kernel) fun t hf y => by
      blk_simp
      rw [after0_4, outDm]
      change S1024x1024.Idx at y
      idx_vars y
      refine (back_val (blk0 H t) (blk1 H t) (blk2 H t) y0 y1).trans ?_
      have e0 : win0_4.index t 0 = t.val := (idx4 t).1
      have e1 : win0_4.index t 1 = 0 := (idx4 t).2
      show _ = ((back g (Z (win0_4.index t 0 * 1024 + y0.val)) (C (win0_4.index t 0 * 1024 + y0.val)) (win0_4.index t 1 * 1024 + y1.val) : ℝ) : EReal)
      rw [e0, e1, Nat.mul_comm t.val 1024, Nat.zero_mul, Nat.zero_add]
  exact congrFun this i
theorem resDo (i : S8192x1024.Idx) : ((dats m 0 c).arrAt 6 cfg0.N : S8192x1024.Idx → EReal) i
    = ((∑ j : Fin 1024, back g (Z (i 0).val) (C (i 0).val) j * w (i 1).val j : ℝ) : EReal) := by
  have := (dats m 0 c).arrAt_eq_of_covers 6 (fun i : S8192x1024.Idx => ((∑ j : Fin 1024, back g (Z (i 0).val) (C (i 0).val) j * w (i 1).val j : ℝ) : EReal))
    (by decide +kernel) fun t hf y => by
      blk_simp
      rw [after0_6, outDo]
      change S1024x1024.Idx at y
      idx_vars y
      refine (proj_val (blk0 H t) (blk1 H t) (blk2 H t) (blk3 H t) y0 y1).trans ?_
      have e0 : win0_6.index t 0 = t.val := (idx6 t).1
      have e1 : win0_6.index t 1 = 0 := (idx6 t).2
      show _ = ((∑ j : Fin 1024, back g (Z (win0_6.index t 0 * 1024 + y0.val)) (C (win0_6.index t 0 * 1024 + y0.val)) j * w (win0_6.index t 1 * 1024 + y1.val) j : ℝ) : EReal)
      rw [e0, e1, Nat.mul_comm t.val 1024, Nat.zero_mul, Nat.zero_add]
  exact congrFun this i

omit H in
theorem lastN : (⟨7, by have := N_pts; omega⟩ : Fin cfg0.N).val + 1 = cfg0.N := N_pts.symm
/-- The last point. -/
abbrev last : Fin cfg0.N := ⟨7, by have := N_pts; omega⟩

theorem ptG (j : S1x1024.Idx) : (outsAt0 m c last.val last.isLt).2.1 j
    = ((∑ p : Fin cfg0.N, ∑ r : Fin 1024, C (1024 * p + r) (j 1).val * xh (Z (1024 * p + r)) (j 1).val : ℝ) : EReal) := by
  idx_vars j
  rw [Pipeline.eq_sum_fin_of_reset_step_apply_last (fun n h => (outsAt0 m c n h).2.1) 8 (fun _ => 0)
    (fun t j => ((∑ r : Fin 1024, C (1024 * t + r) (j 1).val * xh (Z (1024 * t + r)) (j 1).val : ℝ) : EReal))
    (fun t h j => by
      idx_vars j
      show (outsAt0 m c t.val t.isLt).2.1 _ = _
      rw [outGA m c t h, gain_val (blk1 H t) (blk0 H t)]
      congr 1
      pointwise [k0_pay2])
    (fun t h j => by
      idx_vars j
      show (outsAt0 m c t.val t.isLt).2.1 _ = _
      rw [outGB m c t h, gain_val (blk1 H t) (blk0 H t)])
    (le_of_eq N_pts) last lastN]
  rw [zero_add, ← coe_sum]
  rfl

omit H in
/-- A sum over the points and a block's rows is a sum over all the rows. -/
theorem sum_rows (f : ℕ → ℝ) : ∑ p : Fin cfg0.N, ∑ r : Fin 1024, f (1024 * p + r) = ∑ R : Fin 8192, f R := by
  have h : ∀ N, N = 8 → ∑ p : Fin N, ∑ r : Fin 1024, f (1024 * p + r) = ∑ R : Fin 8192, f R := by
    rintro _ rfl
    exact Cert.Mm.sum_blocks (a := 8) (b := 1024) rfl (fun R : Fin 8192 => f R) fun s k => by omega
  exact h _ N_pts

theorem resG (r : Fin 1) (j : Fin 1024) : ((dats m 0 c).arrAt 5 cfg0.N : S1x1024.Idx → EReal) (ix2 r j)
    = ((∑ R : Fin 8192, C R j * xh (Z R) j : ℝ) : EReal) := by
  refine ((dats m 0 c).arrAt_emb_eq_after_last 5 last (by decide +kernel) (ix2 r j)).trans ?_
  blk_simp
  rw [after0_5]
  refine (ptG H (ix2 r j)).trans (congrArg _ ?_)
  exact sum_rows fun R => C R j * xh (Z R) j

end kernel

section reference
open Cert.Reference14Ideal Cert.Reference14Ideal.Read
variable {Z C w : ℕ → ℕ → ℝ} {g : ℕ → ℝ} {x0 x1 : S8192x1024.Idx → EReal} {x2 : S1024.Idx → EReal} {x3 : S1024x1024.Idx → EReal}
  (h0 : IsR x0 C) (hz : IsR x1 Z) (hg : ∀ j, x2 (ix1 j) = ((g j : ℝ) : EReal)) (h3 : IsR x3 w)

include hz
theorem r_var : IsR (val_main_v6 (F := Ideal) x1) fun R _ => ms (Z R) + eps := fun R j => by
  pointwise [val_main_v6, val_main_v5, val_main_cst_1, val_main_v4, val_main_v3, val_main_cst_0, val_main_v2, val_main_v1, val_main_cst, val_main_v0]
  simp only [hz _ _, ← EReal.coe_mul, zero_add]
  rw [← coe_sum, ofBits_1024, div_real (by norm_num), ofBits_eps, ← EReal.coe_add]; rfl
theorem r_rs : IsR (val_main_v7 (F := Ideal) x1) fun R _ => rs (Z R) := fun R j => by
  have h := r_var hz R j
  pointwise [val_main_v7]
  rw [h, rsqrt_real (ms_eps_pos _)]; rfl
theorem r_slope : IsR (val_main_v10 (F := Ideal) x1) fun R _ => -(1 / 2) * (rs (Z R) / (ms (Z R) + eps)) := fun R j => by
  have h := r_var hz R j
  have h' := r_rs hz R j
  pointwise [val_main_v10, val_main_v9, val_main_cst_2, val_main_v8]
  rw [h, h', ofBits_neg_half, div_real (ms_eps_pos _).ne', ← EReal.coe_mul]
theorem r_xh : IsR (val_main_v12 (F := Ideal) x1) fun R => xh (Z R) := fun R j => by
  have h := r_rs hz
  pointwise [val_main_v12, val_main_v11]
  rw [hz, h, ← EReal.coe_mul]; rfl
include h0
theorem r_gain (r : Fin 1) (j : Fin 1024) : val_main_v41 (F := Ideal) x0 x1 (ix2 r j) = ((∑ R : Fin 8192, C R j * xh (Z R) j : ℝ) : EReal) := by
  have h := r_xh hz
  have hd := h0
  pointwise [val_main_v41, val_main_v21, val_main_cst_4, val_main_v18, val_main_v17, val_main_cst_3, val_main_v16]
  simp only [Finset.univ_unique, Finset.sum_singleton, h _ _, hd _ _, ← EReal.coe_mul, ← coe_sum, zero_add]
  exact congrArg _ (Finset.sum_congr rfl fun R _ => mul_comm _ _)
include hg
omit hz in
theorem r_cg : IsR (val_main_v20 (F := Ideal) x0 x2) fun R j => C R j * g j := fun R j => by
  have h := h0 R j
  pointwise [val_main_v20, val_main_v19, val_main_v13]
  rw [h, hg, ← EReal.coe_mul]
theorem r_through : IsR (val_main_v31 (F := Ideal) x0 x1 x2) fun R _ => through g (Z R) (C R) := fun R j => by
  have h := r_cg h0 hg
  have hs := r_slope hz
  pointwise [val_main_v31, val_main_v30, val_main_cst_7, val_main_v29, val_main_v28, val_main_cst_6, val_main_v27, val_main_v24, val_main_v23, val_main_cst_5, val_main_v22]
  simp only [Finset.univ_unique, Finset.sum_singleton, h _ _, hz _ _, hs _ _, ← EReal.coe_mul, ← coe_sum, zero_add]
  rw [ofBits_1024, div_real (by norm_num)]; rfl
theorem r_back : IsR (val_main_v35 (F := Ideal) x0 x1 x2) fun R => back g (Z R) (C R) := fun R j => by
  have h := r_cg h0 hg R j
  have hr := r_rs hz
  have ht := r_through h0 hz hg R j
  pointwise [val_main_v35, val_main_v34, val_main_v33, val_main_v32, val_main_v26, val_main_v25]
  rw [h, hr, ht, hz]
  simp only [← EReal.coe_mul, ← EReal.coe_add]
  rw [back_eq]
include h3
theorem r_do : IsR (val_main_v39 (F := Ideal) x0 x1 x2 x3) fun R k => ∑ j : Fin 1024, back g (Z R) (C R) j * w k j := fun R k => by
  have h := r_back h0 hz hg
  pointwise [val_main_v39, val_main_v37]
  simp only [h _ _, h3 _ _, ← EReal.coe_mul, ← coe_sum, zero_add]
omit h3
theorem r_dm : IsR (val_main_v40 (F := Ideal) x0 x1 x2) fun R => back g (Z R) (C R) := fun R j => by
  have h := r_back h0 hz hg R j
  pointwise [val_main_v40]
  exact h
end reference

theorem frame_r : quiescent_Reference14Ideal := fun m ρ _ =>
  (θ_run Cert.Reference14Ideal.defs _ _).mono (fun r h => ⟨fun c => (h c).2.2.2,
      sem_eq_zero_of_no_sems (by decide) r.2⟩) (Cert.Reference14Ideal.Value.run (F := Ideal) m ρ)

theorem lifted (m : (ℓ : Loc Cert.Kernel14Ideal.nD Cert.Kernel14Ideal.τ Cert.Kernel14Ideal.sig) → Buf (Elt Ideal) ℓ)
    (h : Pre_Kernel14Ideal_finite14 (hPre_finite14 := Cert.Pre_finite14.Gen.facts) m) (c : Dev Cert.Kernel14Ideal.nD) :
    Lifted m c (lift2 (A0 m c)) (lift2 (A1 m c)) (lift2 (A3 m c)) (lift1 (A2 m c)) where
  h0 := lift2_eq fun i => real_of_lt (congrFun (h c).1 i)
  h1 := lift2_eq fun i => real_of_lt (congrFun (h c).2.1 i)
  h2 := lift1_eq fun i => real_of_lt (congrFun (h c).2.2.1 i)
  h3 := lift2_eq fun i => real_of_lt (congrFun (h c).2.2.2 i)

theorem algebraic : algebraic_Kernel14Ideal_Reference14Ideal_pre_finite14 (hPre_finite14 := Cert.Pre_finite14.Gen.facts) := by
  intro m ρ m' ρ' hpre hagree
  refine ⟨_, _, _, Cert.Kernel14Ideal.Value.run_blocks (F := Ideal) m ρ, ?_⟩
  refine (θ_run Cert.Reference14Ideal.defs _ _).mono (fun _ h c => ?_) (Cert.Reference14Ideal.Value.run (F := Ideal) m' ρ')
  obtain ⟨e0, e1, e2, e3⟩ := hagree c
  have H := lifted m hpre c
  obtain ⟨r0, r1, r2, ra⟩ := h c
  have h0 := fun r k => (congrFun e0 (ix2 r k)).trans (H.h0 r k)
  have h1 := fun r k => (congrFun e1 (ix2 r k)).trans (H.h1 r k)
  have h2 := fun j => (congrFun e2 (ix1 j)).trans (H.h2 j)
  have h3 := fun r k => (congrFun e3 (ix2 r k)).trans (H.h3 r k)
  refine ⟨r0.trans ?_, r1.trans ?_, r2.trans ?_, ra⟩
  · rw [Cert.Reference14Ideal.Read.val_main_v40_eq]
    funext i
    idx_vars i
    exact (r_dm h0 h1 h2 i0 i1).trans (resDm H (ix2 i0 i1)).symm
  · rw [Cert.Reference14Ideal.Read.val_main_v41_eq]
    funext i
    idx_vars i
    exact (r_gain h0 h1 i0 i1).trans (resG H i0 i1).symm
  · rw [Cert.Reference14Ideal.Read.val_main_v39_eq]
    funext i
    idx_vars i
    exact (r_do h0 h1 h2 h3 i0 i1).trans (resDo H (ix2 i0 i1)).symm

end Cert.Dgrad.DnOut
end
-- ==== Proof.Dgrad.SgIn.lean ====
/-
  The input projections taken back, then the norm before them: every block of 1024 rows takes two grid points, the
  product's first half of terms and its second; the second point also takes the norm back, adds the stream's cotangent
  and adds the rows' part of the gain's cotangent to the block all points share.
-/
module

public import proofs.«01_k».proof.Defs
public import proofs.«01_k».proof.Proof.Mm.Blocks
public import proofs.«01_k».proof.Proof.Ffn.Spec
public import proofs.«01_k».proof.Proof.Sg.Claims
public import proofs.«01_k».proof.Proof.Gen.Pre_finite15
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Dgrad.SgIn

open Idealize.ShloMosaic Idealize.ShloMosaic.TcCoe Idealize.SL.Sem
open Cert.Sg (IsR coe_sum div_real rsqrt_real ofBits_neg_half real_of_lt lift1 lift2 lift1_eq lift2_eq)
open Cert.Ffn (eps ms rs xh back through ofBits_eps ofBits_1024 ms_eps_pos back_eq)

/-- The product: row `R` of the cotangent with row `j` of the weight. -/
def dh (D w : ℕ → ℕ → ℝ) (R j : ℕ) : ℝ := ∑ k : Fin 4096, D R k * w j k
/-- One half of its terms. -/
def part (s : ℕ) (D w : ℕ → ℕ → ℝ) (R j : ℕ) : ℝ := ∑ k : Fin 2048, D R (2048 * s + k) * w j (2048 * s + k)
theorem dh_eq (D w : ℕ → ℕ → ℝ) (R j : ℕ) : part 0 D w R j + part 1 D w R j = dh D w R j := by
  unfold dh part
  rw [← Cert.Mm.sum_blocks (a := 2) (b := 2048) rfl (fun k : Fin 4096 => D R k * w j k) (fun s k => by omega), Fin.sum_univ_two]
  rfl

section kernel
open Cert.Kernel15Ideal Cert.Kernel15Ideal.Gen

section norm
variable {zs : ℕ → ℕ → ℝ} {y : Vec Ideal S1024x1024 .f32} (hy : IsR y zs)
include hy
theorem rs_val : IsR (k0_pay4 y) fun r _ => rs (zs r) := fun r j => by
  pointwise [k0_pay4]
  simp only [hy _ _, ← EReal.coe_mul]
  rw [← coe_sum, ofBits_1024, div_real (by norm_num), ofBits_eps, ← EReal.coe_add, rsqrt_real]; rfl
  exact ms_eps_pos (zs r)
theorem xh_val : IsR (k0_pay5 y) fun r => xh (zs r) := fun r j => by
  have h1 := hy r j
  have h2 := rs_val hy
  pointwise [k0_pay5]
  rw [h1, h2, ← EReal.coe_mul]; rfl
theorem gain_val {ds : ℕ → ℕ → ℝ} {D : Vec Ideal S1024x1024 .f32} (hD : IsR D ds) (p : Vec Ideal S1x1024 .f32) (r : Fin 1) (j : Fin 1024) :
    k0_pay6 y D p (ix2 r j) = (p (ix2 r j) + ((∑ t : Fin 1024, ds t j * xh (zs t) j : ℝ) : EReal) : EReal) := by
  have h2 := xh_val hy
  pointwise [k0_pay6]
  simp only [hD _ _, h2 _ _, ← EReal.coe_mul, ← coe_sum]
end norm

section point
variable {zs ds xs a b : ℕ → ℕ → ℝ} {g : ℕ → ℝ} {D y X v : Vec Ideal S1024x1024 .f32} {gr : Vec Ideal S1x1024 .f32} {p q : Vec Ideal S1024x2048 .bf16}
theorem half_val (hp : IsR p a) (hq : IsR q b) (r j : Fin 1024) :
    k0_pay3 v p q (ix2 r j) = (v (ix2 r j) + ((∑ k : Fin 2048, a r k * b j k : ℝ) : EReal) : EReal) := by
  pointwise [k0_pay3]
  simp only [hp _ _, hq _ _, ← EReal.coe_mul, ← coe_sum, zero_add]
theorem zero_val (r j : Fin 1024) : k0_pay2 (F := Ideal) (ix2 r j) = (0 : EReal) := by
  pointwise [k0_pay2]
theorem dx_val (hD : IsR D ds) (hy : IsR y zs) (hg : IsR gr fun _ => g) (hX : IsR X xs) :
    IsR (k0_pay7 y gr D X) fun r j => xs r j + back g (zs r) (ds r) j := fun r j => by
  have h2 := xh_val hy
  have h3 := rs_val hy
  pointwise [k0_pay7]
  simp only [hD _ _, h2 _ _, h3 _ _, hg _ _, hX _ _, ← EReal.coe_mul, ← coe_sum]
  rw [ofBits_1024, div_real (by norm_num), ← EReal.coe_mul, ← EReal.coe_sub, ← EReal.coe_mul, ← EReal.coe_add]; rfl
end point

variable (m : (ℓ : Loc nD τ sig) → Buf (Elt Ideal) ℓ) (c : Dev nD)

/-- The arguments. -/
abbrev A0 : S8192x4096.Idx → EReal := m ((c : Thread nD τ).loc main_arg0)
abbrev A1 : S1024x4096.Idx → EReal := m ((c : Thread nD τ).loc main_arg1)
abbrev A2 : S8192x1024.Idx → EReal := m ((c : Thread nD τ).loc main_arg2)
abbrev A3 : S8192x1024.Idx → EReal := m ((c : Thread nD τ).loc main_arg3)
abbrev A4 : S1024.Idx → EReal := m ((c : Thread nD τ).loc main_arg4)
/-- The blocks a point reads. -/
abbrev B0 (t : Fin cfg0.N) : Vec Ideal S1024x2048 .bf16 := iblk m c 0 t
abbrev B1 (t : Fin cfg0.N) : Vec Ideal S1024x2048 .bf16 := iblk m c 1 t
abbrev B2 (t : Fin cfg0.N) : Vec Ideal S1024x1024 .f32 := iblk m c 2 t
abbrev B3 (t : Fin cfg0.N) : Vec Ideal S1024x1024 .f32 := iblk m c 3 t
abbrev B4 (t : Fin cfg0.N) : Vec Ideal S1x1024 .f32 := iblk m c 4 t

theorem N_pts : cfg0.N = 16 := N_0

/-- What the point before left. -/
abbrev prev (t : Fin cfg0.N) := outsAt0 m c (t.val - 1) (lt_of_le_of_lt (Nat.sub_le _ _) t.isLt)

/-- The scratch after the first point of a block of rows, and after the second. -/
theorem scrA (t : Fin cfg0.N) (h : t.val % 2 = 0) : (outsAt0 m c t.val t.isLt).2.2 = k0_pay3 (k0_pay2 (F := Ideal)) (B0 m c t) (B1 m c t) := by
  by_cases h0 : t.val % 16 = 0
  · rw [outsAt0_A m c t h0 h (by omega)]
    frame_out
  · rw [outsAt0_C m c t h0 h (by omega)]
    frame_out
theorem scrB (t : Fin cfg0.N) (h : t.val % 2 = 1) : (outsAt0 m c t.val t.isLt).2.2 = k0_pay3 (prev m c t).2.2 (B0 m c t) (B1 m c t) := by
  rw [outsAt0_B m c t (by omega) (by omega) h]
  frame_out
  exact congrArg (fun v => k0_pay3 v (B0 m c t) (B1 m c t)) (Memref.IsWhole.read_unread (Memref.isWhole_whole _) _)
theorem outDx (t : Fin cfg0.N) (h : t.val % 2 = 1) : (outsAt0 m c t.val t.isLt).1
    = k0_pay7 (B3 m c t) (B4 m c t) (outsAt0 m c t.val t.isLt).2.2 (B2 m c t) := by
  rw [outsAt0_B m c t (by omega) (by omega) h]
  frame_out
/-- The gain's block after the very first point, after a later point that is first of its rows, after one that is second. -/
theorem outGA (t : Fin cfg0.N) (h : t.val % 16 = 0) : (outsAt0 m c t.val t.isLt).2.1 = k0_pay1 (F := Ideal) := by
  rw [outsAt0_A m c t h (by omega) (by omega)]
  frame_out
theorem outGC (t : Fin cfg0.N) (h : ¬t.val % 16 = 0) (h1 : t.val % 2 = 0) : (outsAt0 m c t.val t.isLt).2.1 = (prev m c t).2.1 := by
  rw [outsAt0_C m c t h h1 (by omega)]
  frame_out
  rfl
theorem outGB (t : Fin cfg0.N) (h : t.val % 2 = 1) : (outsAt0 m c t.val t.isLt).2.1
    = k0_pay6 (B3 m c t) (outsAt0 m c t.val t.isLt).2.2 (prev m c t).2.1 := by
  rw [outsAt0_B m c t (by omega) (by omega) h]
  frame_out

theorem idx0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = t.val / 2 ∧ win0_3.index t 1 = 0 :=
  (by decide +kernel : ∀ t : Fin grid0.N, win0_3.index t 0 = t.val / 2 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val / 2 ∧ win0_5.index t 1 = 0 :=
  (by decide +kernel : ∀ t : Fin grid0.N, win0_5.index t 0 = t.val / 2 ∧ win0_5.index t 1 = 0)

theorem row_lt (t : Fin cfg0.N) (r : Fin 1024) : 1024 * (t.val / 2) + r.val < 8192 := by
  have := t.isLt; have := N_pts; omega
theorem col_lt (t : Fin cfg0.N) (r : Fin 2048) : 2048 * (t.val % 2) + r.val < 4096 := by omega

/-- The arguments hold real numbers. -/
structure Lifted (D w E Z : ℕ → ℕ → ℝ) (g : ℕ → ℝ) : Prop where
  h0 : IsR (A0 m c) D
  h1 : IsR (A1 m c) w
  h2 : IsR (A2 m c) E
  h3 : IsR (A3 m c) Z
  h4 : ∀ j, A4 m c (ix1 j) = ((g j : ℝ) : EReal)

variable {m c} {D w E Z : ℕ → ℕ → ℝ} {g : ℕ → ℝ} (H : Lifted m c D w E Z g)
include H

theorem blk0 (t : Fin cfg0.N) : IsR (B0 m c t) fun r k => D (1024 * (t.val / 2) + r) (2048 * (t.val % 2) + k) := fun r k => by
  refine Eq.trans ?_ (H.h0 ⟨1024 * (t.val / 2) + r.val, row_lt t r⟩ ⟨2048 * (t.val % 2) + k.val, col_lt t k⟩)
  blk_ext! [B0, A0, iblk, V, idx0 t]
theorem blk1 (t : Fin cfg0.N) : IsR (B1 m c t) fun j k => w j (2048 * (t.val % 2) + k) := fun j k => by
  refine Eq.trans ?_ (H.h1 j ⟨2048 * (t.val % 2) + k.val, col_lt t k⟩)
  blk_ext! [B1, A1, iblk, V, idx1 t]
theorem blk2 (t : Fin cfg0.N) : IsR (B2 m c t) fun r => E (1024 * (t.val / 2) + r) := fun r j => by
  refine Eq.trans ?_ (H.h2 ⟨1024 * (t.val / 2) + r.val, row_lt t r⟩ j)
  blk_ext! [B2, A2, iblk, V, idx2 t]
theorem blk3 (t : Fin cfg0.N) : IsR (B3 m c t) fun r => Z (1024 * (t.val / 2) + r) := fun r j => by
  refine Eq.trans ?_ (H.h3 ⟨1024 * (t.val / 2) + r.val, row_lt t r⟩ j)
  blk_ext! [B3, A3, iblk, V, idx3 t]
theorem gain (r : Fin 1) (j : Fin 1024) : (V m c main_v0 : S1x1024.Idx → EReal) (ix2 r j) = ((g j : ℝ) : EReal) := by
  refine Eq.trans ?_ (H.h4 j)
  unfold V
  after_reads_simp
  pointwise
theorem blk4 (t : Fin cfg0.N) : IsR (B4 m c t) fun _ => g := fun r j => by
  refine Eq.trans ?_ (gain H r j)
  blk_ext! [B4, iblk, idx4 t]

/-- The scratch after a first point: half of the terms. -/
theorem scr_first (t : Fin cfg0.N) (h : t.val % 2 = 0) : IsR (outsAt0 m c t.val t.isLt).2.2 fun r => part 0 D w (1024 * (t.val / 2) + r) := fun r j => by
  rw [scrA m c t h, half_val (blk0 H t) (blk1 H t), zero_val, zero_add, h]
  rfl
/-- … and after a second: all of them. -/
theorem scr_second (t : Fin cfg0.N) (h : t.val % 2 = 1) : IsR (outsAt0 m c t.val t.isLt).2.2 fun r => dh D w (1024 * (t.val / 2) + r) := fun r j => by
  rw [scrB m c t h, half_val (blk0 H t) (blk1 H t)]
  have hp := scr_first H ⟨t.val - 1, lt_of_le_of_lt (Nat.sub_le _ _) t.isLt⟩ (show (t.val - 1) % 2 = 0 by omega) r j
  refine (congrArg (· + _) hp).trans ?_
  rw [← EReal.coe_add, h]
  refine congrArg _ ?_
  show part 0 D w (1024 * ((t.val - 1) / 2) + r) j + part 1 D w (1024 * (t.val / 2) + r) j = dh D w (1024 * (t.val / 2) + r) j
  rw [show (t.val - 1) / 2 = t.val / 2 by omega, dh_eq]

/-- The results after the run. -/
theorem resDx (i : S8192x1024.Idx) : ((dats m 0 c).arrAt 5 cfg0.N : S8192x1024.Idx → EReal) i
    = ((E (i 0).val (i 1).val + back g (Z (i 0).val) (dh D w (i 0).val) (i 1).val : ℝ) : EReal) := by
  have := (dats m 0 c).arrAt_eq_of_covers 5 (fun i : S8192x1024.Idx => ((E (i 0).val (i 1).val + back g (Z (i 0).val) (dh D w (i 0).val) (i 1).val : ℝ) : EReal))
    (by decide +kernel) fun t hf y => by
      have h := (flush0_5 t).mp hf
      blk_simp
      rw [after0_5, outDx m c t h]
      change S1024x1024.Idx at y
      idx_vars y
      refine (dx_val (scr_second H t h) (blk3 H t) (blk4 H t) (blk2 H t) y0 y1).trans ?_
      have e0 : win0_5.index t 0 = t.val / 2 := (idx5 t).1
      have e1 : win0_5.index t 1 = 0 := (idx5 t).2
      show _ = ((E (win0_5.index t 0 * 1024 + y0.val) (win0_5.index t 1 * 1024 + y1.val) + back g (Z (win0_5.index t 0 * 1024 + y0.val)) (dh D w (win0_5.index t 0 * 1024 + y0.val)) (win0_5.index t 1 * 1024 + y1.val) : ℝ) : EReal)
      rw [e0, e1, Nat.mul_comm (t.val / 2) 1024, Nat.zero_mul, Nat.zero_add]
  exact congrFun this i

omit H in
theorem lastN : (⟨15, by have := N_pts; omega⟩ : Fin cfg0.N).val + 1 = cfg0.N := N_pts.symm
/-- The last point. -/
abbrev last : Fin cfg0.N := ⟨15, by have := N_pts; omega⟩

/-- A block of rows' part of the gain's cotangent, and what a point adds of it. -/
def rowsG (D w Z : ℕ → ℕ → ℝ) (s j : ℕ) : ℝ := ∑ r : Fin 1024, dh D w (1024 * s + r) j * xh (Z (1024 * s + r)) j
def adds (D w Z : ℕ → ℕ → ℝ) (t j : ℕ) : ℝ := if t % 2 = 1 then rowsG D w Z (t / 2) j else 0

theorem ptG (j : S1x1024.Idx) : (outsAt0 m c last.val last.isLt).2.1 j
    = ((∑ p : Fin cfg0.N, adds D w Z p (j 1).val : ℝ) : EReal) := by
  idx_vars j
  rw [Pipeline.eq_sum_fin_of_reset_step_apply_last (fun n h => (outsAt0 m c n h).2.1) 16 (fun _ => 0)
    (fun t j => ((adds D w Z t (j 1).val : ℝ) : EReal))
    (fun t h j => by
      idx_vars j
      show (outsAt0 m c t.val t.isLt).2.1 _ = (0 + ((adds D w Z t.val j1.val : ℝ) : EReal) : EReal)
      rw [outGA m c t h, adds, if_neg (by omega), EReal.coe_zero, add_zero]
      pointwise [k0_pay1])
    (fun t h j => by
      idx_vars j
      show (outsAt0 m c t.val t.isLt).2.1 _ = ((prev m c t).2.1 (ix2 j0 j1) + ((adds D w Z t.val j1.val : ℝ) : EReal) : EReal)
      by_cases h1 : t.val % 2 = 0
      · rw [outGC m c t h h1, adds, if_neg (by omega), EReal.coe_zero, add_zero]
      · rw [outGB m c t (by omega), gain_val (blk3 H t) (scr_second H t (by omega)), adds, if_pos (by omega)]
        rfl)
    (le_of_eq N_pts) last lastN]
  rw [zero_add, ← coe_sum]
  rfl

omit H in
/-- What the points add is the sum over all the rows. -/
theorem sum_adds (j : ℕ) : ∑ p : Fin cfg0.N, adds D w Z p j = ∑ R : Fin 8192, dh D w R j * xh (Z R) j := by
  have h : ∀ N, N = 16 → ∑ p : Fin N, adds D w Z p j = ∑ R : Fin 8192, dh D w R j * xh (Z R) j := by
    rintro _ rfl
    rw [← Cert.Mm.sum_blocks (a := 8) (b := 1024) rfl (fun R : Fin 8192 => dh D w R j * xh (Z R) j) (fun s k => by omega)]
    show _ = ∑ s : Fin 8, rowsG D w Z s j
    rw [← Cert.Mm.sum_blocks (a := 8) (b := 2) rfl (fun p : Fin 16 => adds D w Z p j) (fun s k => by omega)]
    refine Finset.sum_congr rfl fun s _ => ?_
    rw [Fin.sum_univ_two]
    show adds D w Z (2 * s.val + 0) j + adds D w Z (2 * s.val + 1) j = _
    rw [adds, adds, if_neg (by omega), if_pos (by omega), zero_add, show (2 * s.val + 1) / 2 = s.val by omega]
  exact h _ N_pts

theorem resG (r : Fin 1) (j : Fin 1024) : ((dats m 0 c).arrAt 6 cfg0.N : S1x1024.Idx → EReal) (ix2 r j)
    = ((∑ R : Fin 8192, dh D w R j * xh (Z R) j : ℝ) : EReal) := by
  refine ((dats m 0 c).arrAt_emb_eq_after_last 6 last (by decide +kernel) (ix2 r j)).trans ?_
  blk_simp
  rw [after0_6]
  exact (ptG H (ix2 r j)).trans (congrArg _ (sum_adds j.val))

end kernel

section reference
open Cert.Reference15Ideal Cert.Reference15Ideal.Read
variable {Z D w E : ℕ → ℕ → ℝ} {g : ℕ → ℝ} {x0 : S8192x4096.Idx → EReal} {x1 : S1024x4096.Idx → EReal} {x2 x3 : S8192x1024.Idx → EReal} {x4 : S1024.Idx → EReal}
  (h0 : IsR x0 D) (h1 : IsR x1 w) (h2 : IsR x2 E) (hz : IsR x3 Z) (hg : ∀ j, x4 (ix1 j) = ((g j : ℝ) : EReal))

include hz
theorem r_var : IsR (val_main_v11 (F := Ideal) x3) fun R _ => ms (Z R) + eps := fun R j => by
  pointwise [val_main_v11, val_main_v10, val_main_cst_2, val_main_v9, val_main_v8, val_main_cst_1, val_main_v7, val_main_v6, val_main_cst_0, val_main_v5]
  simp only [hz _ _, ← EReal.coe_mul, zero_add]
  rw [← coe_sum, ofBits_1024, div_real (by norm_num), ofBits_eps, ← EReal.coe_add]; rfl
theorem r_rs : IsR (val_main_v12 (F := Ideal) x3) fun R _ => rs (Z R) := fun R j => by
  have h := r_var hz R j
  pointwise [val_main_v12]
  rw [h, rsqrt_real (ms_eps_pos _)]; rfl
theorem r_slope : IsR (val_main_v15 (F := Ideal) x3) fun R _ => -(1 / 2) * (rs (Z R) / (ms (Z R) + eps)) := fun R j => by
  have h := r_var hz R j
  have h' := r_rs hz R j
  pointwise [val_main_v15, val_main_v14, val_main_cst_3, val_main_v13]
  rw [h, h', ofBits_neg_half, div_real (ms_eps_pos _).ne', ← EReal.coe_mul]
theorem r_xh : IsR (val_main_v17 (F := Ideal) x3) fun R => xh (Z R) := fun R j => by
  have h := r_rs hz
  pointwise [val_main_v17, val_main_v16]
  rw [hz, h, ← EReal.coe_mul]; rfl
omit hz
include h0 h1
theorem r_dh : IsR (val_main_v4 (F := Ideal) x0 x1) fun R => dh D w R := fun R j => by
  pointwise [val_main_v4, val_main_v3, val_main_v1]
  simp only [h0 _ _, h1 _ _, ← EReal.coe_mul, ← coe_sum, zero_add]; rfl
include hz
theorem r_gain (r : Fin 1) (j : Fin 1024) : val_main_v42 (F := Ideal) x0 x1 x3 (ix2 r j) = ((∑ R : Fin 8192, dh D w R j * xh (Z R) j : ℝ) : EReal) := by
  have h := r_xh hz
  have hd := r_dh h0 h1
  pointwise [val_main_v42, val_main_v26, val_main_cst_5, val_main_v23, val_main_v22, val_main_cst_4, val_main_v21]
  simp only [Finset.univ_unique, Finset.sum_singleton, h _ _, hd _ _, ← EReal.coe_mul, ← coe_sum, zero_add]
  exact congrArg _ (Finset.sum_congr rfl fun R _ => mul_comm _ _)
include hg
omit hz in
theorem r_cg : IsR (val_main_v25 (F := Ideal) x0 x1 x4) fun R j => dh D w R j * g j := fun R j => by
  have h := r_dh h0 h1 R j
  pointwise [val_main_v25, val_main_v24, val_main_v18]
  rw [h, hg, ← EReal.coe_mul]
theorem r_through : IsR (val_main_v36 (F := Ideal) x0 x1 x3 x4) fun R _ => through g (Z R) (dh D w R) := fun R j => by
  have h := r_cg h0 h1 hg
  have hs := r_slope hz
  pointwise [val_main_v36, val_main_v35, val_main_cst_8, val_main_v34, val_main_v33, val_main_cst_7, val_main_v32, val_main_v29, val_main_v28, val_main_cst_6, val_main_v27]
  simp only [Finset.univ_unique, Finset.sum_singleton, h _ _, hz _ _, hs _ _, ← EReal.coe_mul, ← coe_sum, zero_add]
  rw [ofBits_1024, div_real (by norm_num)]; rfl
theorem r_back : IsR (val_main_v40 (F := Ideal) x0 x1 x3 x4) fun R => back g (Z R) (dh D w R) := fun R j => by
  have h := r_cg h0 h1 hg R j
  have hr := r_rs hz
  have ht := r_through h0 h1 hz hg R j
  pointwise [val_main_v40, val_main_v39, val_main_v38, val_main_v37, val_main_v31, val_main_v30]
  rw [h, hr, ht, hz]
  simp only [← EReal.coe_mul, ← EReal.coe_add]
  rw [back_eq]
include h2
theorem r_dx : IsR (val_main_v41 (F := Ideal) x0 x1 x2 x3 x4) fun R j => E R j + back g (Z R) (dh D w R) j := fun R j => by
  have h := r_back h0 h1 hz hg R j
  pointwise [val_main_v41]
  rw [h, h2, ← EReal.coe_add]
end reference

theorem frame_r : quiescent_Reference15Ideal := fun m ρ _ =>
  (θ_run Cert.Reference15Ideal.defs _ _).mono (fun r h => ⟨fun c => (h c).2.2,
      sem_eq_zero_of_no_sems (by decide) r.2⟩) (Cert.Reference15Ideal.Value.run (F := Ideal) m ρ)

theorem lifted (m : (ℓ : Loc Cert.Kernel15Ideal.nD Cert.Kernel15Ideal.τ Cert.Kernel15Ideal.sig) → Buf (Elt Ideal) ℓ)
    (h : Pre_Kernel15Ideal_finite15 (hPre_finite15 := Cert.Pre_finite15.Gen.facts) m) (c : Dev Cert.Kernel15Ideal.nD) :
    Lifted m c (lift2 (A0 m c)) (lift2 (A1 m c)) (lift2 (A2 m c)) (lift2 (A3 m c)) (lift1 (A4 m c)) where
  h0 := lift2_eq fun i => real_of_lt (congrFun (h c).1 i)
  h1 := lift2_eq fun i => real_of_lt (congrFun (h c).2.1 i)
  h2 := lift2_eq fun i => real_of_lt (congrFun (h c).2.2.1 i)
  h3 := lift2_eq fun i => real_of_lt (congrFun (h c).2.2.2.1 i)
  h4 := lift1_eq fun i => real_of_lt (congrFun (h c).2.2.2.2 i)

theorem algebraic : algebraic_Kernel15Ideal_Reference15Ideal_pre_finite15 (hPre_finite15 := Cert.Pre_finite15.Gen.facts) := by
  intro m ρ m' ρ' hpre hagree
  refine ⟨_, _, Cert.Kernel15Ideal.Value.run_blocks (F := Ideal) m ρ, ?_⟩
  refine (θ_run Cert.Reference15Ideal.defs _ _).mono (fun _ h c => ?_) (Cert.Reference15Ideal.Value.run (F := Ideal) m' ρ')
  obtain ⟨e0, e1, e2, e3, e4⟩ := hagree c
  have H := lifted m hpre c
  obtain ⟨r0, r1, ra⟩ := h c
  have h0 := fun r k => (congrFun e0 (ix2 r k)).trans (H.h0 r k)
  have h1 := fun r k => (congrFun e1 (ix2 r k)).trans (H.h1 r k)
  have h2 := fun r k => (congrFun e2 (ix2 r k)).trans (H.h2 r k)
  have h3 := fun r k => (congrFun e3 (ix2 r k)).trans (H.h3 r k)
  have h4 := fun j => (congrFun e4 (ix1 j)).trans (H.h4 j)
  refine ⟨r0.trans ?_, r1.trans ?_, ra⟩
  · rw [Cert.Reference15Ideal.Read.val_main_v41_eq]
    funext i
    idx_vars i
    exact (r_dx h0 h1 h2 h3 h4 i0 i1).trans (resDx H (ix2 i0 i1)).symm
  · rw [Cert.Reference15Ideal.Read.val_main_v42_eq]
    funext i
    idx_vars i
    exact (r_gain h0 h1 h3 i0 i1).trans (resG H i0 i1).symm

end Cert.Dgrad.SgIn
end
-- ==== Proof.Mm.DnZ.lean ====
/-
  The cotangent of the normed stream through the output gate's weight, added to the one that came through the other
  projections: every grid point does a block of 1024 rows at once.
-/
module

public import proofs.«01_k».proof.Defs
public import proofs.«01_k».proof.Proof.Mm.Blocks
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

namespace Cert.Mm.DnZ

open Idealize.ShloMosaic Idealize.ShloMosaic.TcCoe Idealize.SL.Sem

section kernel
open Cert.Kernel16Ideal Cert.Kernel16Ideal.Gen
variable (m : (ℓ : Loc nD τ sig) → Buf (Elt Ideal) ℓ) (c : Dev nD)

/-- The arguments. -/
abbrev A0 : S8192x1024.Idx → EReal := m ((c : Thread nD τ).loc main_arg0)
abbrev A1 : S1024x1024.Idx → EReal := m ((c : Thread nD τ).loc main_arg1)
abbrev A2 : S8192x1024.Idx → EReal := m ((c : Thread nD τ).loc main_arg2)
/-- The blocks a point reads. -/
abbrev B0 (t : Fin cfg0.N) : Vec Ideal S1024x1024 .bf16 := iblk m c 0 t
abbrev B1 (t : Fin cfg0.N) : Vec Ideal S1024x1024 .bf16 := iblk m c 1 t
abbrev B2 (t : Fin cfg0.N) : Vec Ideal S1024x1024 .f32 := iblk m c 2 t

theorem N_pts : cfg0.N = 8 := N_0

theorem out_eq (t : Fin cfg0.N) : outsAt0 m c t = k0_pay2 (k0_pay1 (B2 m c t)) (B0 m c t) (B1 m c t) := by
  unfold outsAt0
  frame_out

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

theorem row_lt (t : Fin cfg0.N) (r : Fin 1024) : 1024 * t.val + r.val < 8192 := by
  have := t.isLt; have := N_pts; omega

theorem blk0 (t : Fin cfg0.N) (r k : Fin 1024) : B0 m c t (ix2 r k) = A0 m c (ix2 ⟨1024 * t.val + r.val, row_lt t r⟩ k) := by
  blk_ext! [B0, A0, iblk, V, idx0 t]
theorem blk1 (t : Fin cfg0.N) (k j : Fin 1024) : B1 m c t (ix2 k j) = A1 m c (ix2 k j) := by
  blk_ext! [B1, A1, iblk, V, idx1 t]
theorem blk2 (t : Fin cfg0.N) (r k : Fin 1024) : B2 m c t (ix2 r k) = A2 m c (ix2 ⟨1024 * t.val + r.val, row_lt t r⟩ k) := by
  blk_ext! [B2, A2, iblk, V, idx2 t]

theorem pay_apply (v : Vec Ideal S1024x1024 .f32) (a b : Vec Ideal S1024x1024 .bf16) (i j : Fin 1024) :
    k0_pay2 (k0_pay1 v) a b (ix2 i j) = (v (ix2 i j) + ∑ k : Fin 1024, a (ix2 i k) * b (ix2 j k) : EReal) := by
  pointwise [k0_pay2, k0_pay1]

/-- The result after the run. -/
theorem res (i : S8192x1024.Idx) : ((dats m 0 c).arrAt 3 cfg0.N : S8192x1024.Idx → EReal) i
    = (A2 m c (ix2 (i 0) (i 1)) + ∑ k : Fin 1024, A0 m c (ix2 (i 0) k) * A1 m c (ix2 (i 1) k) : EReal) := by
  have := (dats m 0 c).arrAt_eq_of_covers 3
    (fun i : S8192x1024.Idx => (A2 m c (ix2 (i 0) (i 1)) + ∑ k : Fin 1024, A0 m c (ix2 (i 0) k) * A1 m c (ix2 (i 1) k) : EReal))
    (by decide +kernel) fun t hf y => by
      blk_simp
      rw [after0_3, out_eq]
      change S1024x1024.Idx at y
      idx_vars y
      refine (pay_apply _ _ _ y0 y1).trans ?_
      have e0 : win0_3.index t 0 = t.val := (idx3 t).1
      have e1 : win0_3.index t 1 = 0 := (idx3 t).2
      rw [blk2]
      refine (congrArg (_ + ·) (Finset.sum_congr rfl fun k _ => by rw [blk0, blk1])).trans (congrArg₂ (fun (a : Fin 8192) (b : Fin 1024) =>
        (A2 m c (ix2 a b) + ∑ k : Fin 1024, A0 m c (ix2 a k) * A1 m c (ix2 b k) : EReal)) (Fin.ext ?_) (Fin.ext ?_))
      · show 1024 * t.val + y0.val = win0_3.index t 0 * 1024 + 1 * y0.val
        rw [e0]; omega
      · show y1.val = win0_3.index t 1 * 1024 + 1 * y1.val
        rw [e1]; omega
  exact congrFun this i

end kernel

theorem ref {x0 x2 : Cert.Reference16Ideal.S8192x1024.Idx → EReal} {x1 : Cert.Reference16Ideal.S1024x1024.Idx → EReal}
    (i : Fin 8192) (j : Fin 1024) : Cert.Reference16Ideal.Read.val_main_v5 (F := Ideal) x0 x1 x2 (ix2 i j)
      = (x2 (ix2 i j) + ∑ k : Fin 1024, x0 (ix2 i k) * x1 (ix2 j k) : EReal) := by
  pointwise [Cert.Reference16Ideal.Read.val_main_cst, Cert.Reference16Ideal.Read.val_main_v0, Cert.Reference16Ideal.Read.val_main_v1, Cert.Reference16Ideal.Read.val_main_v2, Cert.Reference16Ideal.Read.val_main_v3, Cert.Reference16Ideal.Read.val_main_v4, Cert.Reference16Ideal.Read.val_main_v5]

theorem frame_r : quiescent_Reference16Ideal := fun m ρ _ =>
  (θ_run Cert.Reference16Ideal.defs _ _).mono (fun r h => ⟨fun c => (h c).2,
      sem_eq_zero_of_no_sems (by decide) r.2⟩) (Cert.Reference16Ideal.Value.run (F := Ideal) m ρ)

theorem algebraic : algebraic_Kernel16Ideal_Reference16Ideal := by
  intro m ρ m' ρ' hpre hagree
  refine ⟨_, Cert.Kernel16Ideal.Value.run_blocks (F := Ideal) m ρ, ?_⟩
  refine (θ_run Cert.Reference16Ideal.defs _ _).mono (fun _ h c => ?_) (Cert.Reference16Ideal.Value.run (F := Ideal) m' ρ')
  obtain ⟨e0, e1, e2⟩ := hagree c
  obtain ⟨r0, ra⟩ := h c
  refine ⟨r0.trans ?_, ra⟩
  rw [Cert.Reference16Ideal.Read.val_main_v5_eq]
  funext i
  idx_vars i
  refine (ref i0 i1).trans (.trans ?_ (res m c (ix2 i0 i1)).symm)
  exact congrArg₂ _ (congrFun e2 _) (Finset.sum_congr rfl fun k _ => congrArg₂ _ (congrFun e0 _) (congrFun e1 _))

end Cert.Mm.DnZ
end
-- ==== Proof.Out.Sg.lean ====
/-
  The output projection and the norm after it: every grid point multiplies a block of 1024 rows with the whole weight,
  norms the product's rows and adds the stream.
-/
module

public import proofs.«01_k».proof.Defs
public import proofs.«01_k».proof.Proof.Mm.Blocks
public import proofs.«01_k».proof.Proof.Fwd.Spec
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

namespace Cert.Out.Sg

open Idealize.ShloMosaic Idealize.ShloMosaic.TcCoe Idealize.SL.Sem

open Cert.Fwd (ms rs norm)

/-- A row of the product, and a row of the result. -/
def mm (o : ℕ → EReal) (w : ℕ → ℕ → EReal) (j : ℕ) : EReal := ∑ k : Fin 2048, o k * w k j
def out (g o x : ℕ → EReal) (w : ℕ → ℕ → EReal) (j : ℕ) : EReal := x j + norm g (mm o w) j

section kernel
open Cert.Kernel17Ideal Cert.Kernel17Ideal.Gen

section point
variable {o : ℕ → ℕ → EReal} {w : ℕ → ℕ → EReal} {x : ℕ → ℕ → EReal} {g : ℕ → EReal}
  {b0 : Vec Ideal S1024x2048 .bf16} {b1 : Vec Ideal S2048x1024 .bf16} {b2 : Vec Ideal S1024x1024 .f32} {b3 : Vec Ideal S1x1024 .f32}
  (h0 : ∀ r k, b0 (ix2 r k) = o r.val k.val) (h1 : ∀ k j, b1 (ix2 k j) = w k.val j.val)
  (h2 : ∀ r j, b2 (ix2 r j) = x r.val j.val) (h3 : ∀ r j, b3 (ix2 r j) = g j.val)
include h0 h1
theorem mm_val (r j : Fin 1024) : k0_pay1 b0 b1 (ix2 r j) = mm (o r) w j := by
  pointwise [k0_pay1]
  simp only [h0 _ _, h1 _ _]; rfl
include h2 h3
theorem out_val (r j : Fin 1024) : k0_pay2 b0 b1 b2 b3 (ix2 r j) = out g (o r) (x r) w j := by
  have h := mm_val h0 h1
  pointwise [k0_pay2]
  simp only [h _ _, h2 _ _, h3 _ _]; rfl
end point

variable (m : (ℓ : Loc nD τ sig) → Buf (Elt Ideal) ℓ) (c : Dev nD)

/-- The arguments, by row and column. -/
def O (i k : ℕ) : EReal := if h : i < 8192 ∧ k < 2048 then (m ((c : Thread nD τ).loc main_arg0) : S8192x2048.Idx → EReal) (ix2 ⟨i, h.1⟩ ⟨k, h.2⟩) else 0
def W (k j : ℕ) : EReal := if h : k < 2048 ∧ j < 1024 then (m ((c : Thread nD τ).loc main_arg1) : S2048x1024.Idx → EReal) (ix2 ⟨k, h.1⟩ ⟨j, h.2⟩) else 0
def X (i j : ℕ) : EReal := if h : i < 8192 ∧ j < 1024 then (m ((c : Thread nD τ).loc main_arg2) : S8192x1024.Idx → EReal) (ix2 ⟨i, h.1⟩ ⟨j, h.2⟩) else 0
def G (j : ℕ) : EReal := if h : j < 1024 then (m ((c : Thread nD τ).loc main_arg3) : S1024.Idx → EReal) (ix1 ⟨j, h⟩) else 0
theorem O_eq (i : Fin 8192) (k : Fin 2048) : (m ((c : Thread nD τ).loc main_arg0) : S8192x2048.Idx → EReal) (ix2 i k) = O m c i k := by
  unfold O; rw [dif_pos ⟨i.isLt, k.isLt⟩]
theorem W_eq (k : Fin 2048) (j : Fin 1024) : (m ((c : Thread nD τ).loc main_arg1) : S2048x1024.Idx → EReal) (ix2 k j) = W m c k j := by
  unfold W; rw [dif_pos ⟨k.isLt, j.isLt⟩]
theorem X_eq (i : Fin 8192) (j : Fin 1024) : (m ((c : Thread nD τ).loc main_arg2) : S8192x1024.Idx → EReal) (ix2 i j) = X m c i j := by
  unfold X; rw [dif_pos ⟨i.isLt, j.isLt⟩]
theorem G_eq (j : Fin 1024) : (m ((c : Thread nD τ).loc main_arg3) : S1024.Idx → EReal) (ix1 j) = G m c j := by
  unfold G; rw [dif_pos j.isLt]

/-- The blocks a point reads. -/
abbrev B0 (t : Fin cfg0.N) : Vec Ideal S1024x2048 .bf16 := iblk m c 0 t
abbrev B1 (t : Fin cfg0.N) : Vec Ideal S2048x1024 .bf16 := iblk m c 1 t
abbrev B2 (t : Fin cfg0.N) : Vec Ideal S1024x1024 .f32 := iblk m c 2 t
abbrev B3 (t : Fin cfg0.N) : Vec Ideal S1x1024 .f32 := iblk m c 3 t

theorem N_pts : cfg0.N = 8 := N_0

theorem outA (t : Fin cfg0.N) : (dats m 0 c).after 4 t = k0_pay1 (B0 m c t) (B1 m c t) := by
  rw [after0_4]
  unfold out0_4
  frame_out
theorem outB (t : Fin cfg0.N) : (dats m 0 c).after 5 t = k0_pay2 (B0 m c t) (B1 m c t) (B2 m c t) (B3 m c t) := by
  rw [after0_5]
  unfold out0_5
  frame_out

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem row_lt (t : Fin cfg0.N) (r : Fin 1024) : 1024 * t.val + r.val < 8192 := by
  have := t.isLt; have := N_pts; omega

theorem blk0 (t : Fin cfg0.N) (r : Fin 1024) (k : Fin 2048) : B0 m c t (ix2 r k) = O m c (1024 * t.val + r.val) k.val := by
  refine Eq.trans ?_ (O_eq m c ⟨1024 * t.val + r.val, row_lt t r⟩ k)
  blk_ext! [B0, iblk, V, idx0 t]
theorem blk1 (t : Fin cfg0.N) (k : Fin 2048) (j : Fin 1024) : B1 m c t (ix2 k j) = W m c k.val j.val := by
  refine Eq.trans ?_ (W_eq m c k j)
  blk_ext! [B1, iblk, V, idx1 t]
theorem blk2 (t : Fin cfg0.N) (r j : Fin 1024) : B2 m c t (ix2 r j) = X m c (1024 * t.val + r.val) j.val := by
  refine Eq.trans ?_ (X_eq m c ⟨1024 * t.val + r.val, row_lt t r⟩ j)
  blk_ext! [B2, iblk, V, idx2 t]
theorem gain (r : Fin 1) (j : Fin 1024) : (V m c main_v0 : S1x1024.Idx → EReal) (ix2 r j) = G m c j.val := by
  refine Eq.trans ?_ (G_eq m c j)
  unfold V
  after_reads_simp
  pointwise
theorem blk3 (t : Fin cfg0.N) (r : Fin 1) (j : Fin 1024) : B3 m c t (ix2 r j) = G m c j.val := by
  refine Eq.trans ?_ (gain m c r j)
  blk_ext! [B3, iblk, idx3 t]

/-- The results after the run. -/
theorem resA (i : S8192x1024.Idx) : ((dats m 0 c).arrAt 4 cfg0.N : S8192x1024.Idx → EReal) i = mm (O m c (i 0).val) (W m c) (i 1).val := by
  have := (dats m 0 c).arrAt_eq_of_covers 4 (fun i : S8192x1024.Idx => mm (O m c (i 0).val) (W m c) (i 1).val)
    (by decide +kernel) fun t hf y => by
      blk_simp
      rw [outA]
      change S1024x1024.Idx at y
      idx_vars y
      refine (mm_val (o := fun r => O m c (1024 * t.val + r)) (blk0 m c t) (blk1 m c t) y0 y1).trans ?_
      have e0 : win0_4.index t 0 = t.val := (idx4 t).1
      have e1 : win0_4.index t 1 = 0 := (idx4 t).2
      show _ = mm (O m c (win0_4.index t 0 * 1024 + y0.val)) (W m c) (win0_4.index t 1 * 1024 + y1.val)
      rw [e0, e1, Nat.mul_comm t.val 1024, Nat.zero_mul, Nat.zero_add]
  exact congrFun this i
theorem resB (i : S8192x1024.Idx) : ((dats m 0 c).arrAt 5 cfg0.N : S8192x1024.Idx → EReal) i
    = out (G m c) (O m c (i 0).val) (X m c (i 0).val) (W m c) (i 1).val := by
  have := (dats m 0 c).arrAt_eq_of_covers 5 (fun i : S8192x1024.Idx => out (G m c) (O m c (i 0).val) (X m c (i 0).val) (W m c) (i 1).val)
    (by decide +kernel) fun t hf y => by
      blk_simp
      rw [outB]
      change S1024x1024.Idx at y
      idx_vars y
      refine (out_val (o := fun r => O m c (1024 * t.val + r)) (x := fun r => X m c (1024 * t.val + r)) (blk0 m c t) (blk1 m c t) (blk2 m c t) (blk3 m c t) y0 y1).trans ?_
      have e0 : win0_5.index t 0 = t.val := (idx5 t).1
      have e1 : win0_5.index t 1 = 0 := (idx5 t).2
      show _ = out (G m c) (O m c (win0_5.index t 0 * 1024 + y0.val)) (X m c (win0_5.index t 0 * 1024 + y0.val)) (W m c) (win0_5.index t 1 * 1024 + y1.val)
      rw [e0, e1, Nat.mul_comm t.val 1024, Nat.zero_mul, Nat.zero_add]
  exact congrFun this i

end kernel

section reference
open Cert.Reference17Ideal Cert.Reference17Ideal.Read
variable {o w x : ℕ → ℕ → EReal} {g : ℕ → EReal} {x0 : S8192x2048.Idx → EReal} {x1 : S2048x1024.Idx → EReal} {x2 : S8192x1024.Idx → EReal} {x3 : S1024.Idx → EReal}
  (h0 : ∀ r k, x0 (ix2 r k) = o r.val k.val) (h1 : ∀ k j, x1 (ix2 k j) = w k.val j.val)
  (h2 : ∀ r j, x2 (ix2 r j) = x r.val j.val) (h3 : ∀ j, x3 (ix1 j) = g j.val)
include h0 h1
theorem r_mm (i : Fin 8192) (j : Fin 1024) : val_main_v2 (F := Ideal) x0 x1 (ix2 i j) = mm (o i) w j := by
  pointwise [val_main_v2, val_main_v1, val_main_v0]
  simp only [h0 _ _, h1 _ _]; rfl
theorem r_rs (i : Fin 8192) (j : Fin 1) : val_main_v10 (F := Ideal) x0 x1 (ix2 i j) = rs (mm (o i) w) := by
  have h := r_mm h0 h1
  pointwise [val_main_v10, val_main_v9, val_main_v8, val_main_cst_1, val_main_v7, val_main_v6, val_main_cst_0, val_main_v5, val_main_v4, val_main_cst, val_main_v3]
  simp only [h _ _, zero_add]; rfl
include h2 h3
theorem r_out (i : Fin 8192) (j : Fin 1024) : val_main_v16 (F := Ideal) x0 x1 x2 x3 (ix2 i j) = out g (o i) (x i) w j := by
  have h := r_mm h0 h1
  have h' := r_rs h0 h1
  pointwise [val_main_v16, val_main_v15, val_main_v14, val_main_v13, val_main_v12, val_main_v11]
  simp only [h _ _, h' _ _, h2 _ _, h3 _]; rfl
end reference

theorem frame_r : quiescent_Reference17Ideal := fun m ρ _ =>
  (θ_run Cert.Reference17Ideal.defs _ _).mono (fun r h => ⟨fun c => (h c).2.2,
      sem_eq_zero_of_no_sems (by decide) r.2⟩) (Cert.Reference17Ideal.Value.run (F := Ideal) m ρ)

theorem algebraic : algebraic_Kernel17Ideal_Reference17Ideal := by
  intro m ρ m' ρ' hpre hagree
  refine ⟨_, _, Cert.Kernel17Ideal.Value.run_blocks (F := Ideal) m ρ, ?_⟩
  refine (θ_run Cert.Reference17Ideal.defs _ _).mono (fun _ h c => ?_) (Cert.Reference17Ideal.Value.run (F := Ideal) m' ρ')
  obtain ⟨e0, e1, e2, e3⟩ := hagree c
  obtain ⟨r0, r1, ra⟩ := h c
  have h0 := fun r k => (congrFun e0 (ix2 r k)).trans (O_eq m c r k)
  have h1 := fun r k => (congrFun e1 (ix2 r k)).trans (W_eq m c r k)
  have h2 := fun r k => (congrFun e2 (ix2 r k)).trans (X_eq m c r k)
  have h3 := fun j => (congrFun e3 (ix1 j)).trans (G_eq m c j)
  refine ⟨r0.trans ?_, r1.trans ?_, ra⟩
  · rw [Cert.Reference17Ideal.Read.val_main_v2_eq]
    funext i
    idx_vars i
    exact (r_mm h0 h1 i0 i1).trans (resA m c (ix2 i0 i1)).symm
  · rw [Cert.Reference17Ideal.Read.val_main_v16_eq]
    funext i
    idx_vars i
    exact (r_out h0 h1 h2 h3 i0 i1).trans (resB m c (ix2 i0 i1)).symm

end Cert.Out.Sg
end
-- ==== Proof.Out.Dn.lean ====
/-
  The output projection and the norm after it: every grid point multiplies a block of 1024 rows with the whole weight,
  norms the product's rows and adds the stream.
-/
module

public import proofs.«01_k».proof.Defs
public import proofs.«01_k».proof.Proof.Mm.Blocks
public import proofs.«01_k».proof.Proof.Fwd.Spec
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384

noncomputable section

namespace Cert.Out.Dn

open Idealize.ShloMosaic Idealize.ShloMosaic.TcCoe Idealize.SL.Sem

open Cert.Fwd (ms rs norm)

/-- A row of the product, and a row of the result. -/
def mm (o : ℕ → EReal) (w : ℕ → ℕ → EReal) (j : ℕ) : EReal := ∑ k : Fin 1024, o k * w k j
def out (g o x : ℕ → EReal) (w : ℕ → ℕ → EReal) (j : ℕ) : EReal := x j + norm g (mm o w) j

section kernel
open Cert.Kernel18Ideal Cert.Kernel18Ideal.Gen

section point
variable {o : ℕ → ℕ → EReal} {w : ℕ → ℕ → EReal} {x : ℕ → ℕ → EReal} {g : ℕ → EReal}
  {b0 : Vec Ideal S1024x1024 .bf16} {b1 : Vec Ideal S1024x1024 .bf16} {b2 : Vec Ideal S1024x1024 .f32} {b3 : Vec Ideal S1x1024 .f32}
  (h0 : ∀ r k, b0 (ix2 r k) = o r.val k.val) (h1 : ∀ k j, b1 (ix2 k j) = w k.val j.val)
  (h2 : ∀ r j, b2 (ix2 r j) = x r.val j.val) (h3 : ∀ r j, b3 (ix2 r j) = g j.val)
include h0 h1
theorem mm_val (r j : Fin 1024) : k0_pay1 b0 b1 (ix2 r j) = mm (o r) w j := by
  pointwise [k0_pay1]
  simp only [h0 _ _, h1 _ _]; rfl
include h2 h3
theorem out_val (r j : Fin 1024) : k0_pay2 b0 b1 b2 b3 (ix2 r j) = out g (o r) (x r) w j := by
  have h := mm_val h0 h1
  pointwise [k0_pay2]
  simp only [h _ _, h2 _ _, h3 _ _]; rfl
end point

variable (m : (ℓ : Loc nD τ sig) → Buf (Elt Ideal) ℓ) (c : Dev nD)

/-- The arguments, by row and column. -/
def O (i k : ℕ) : EReal := if h : i < 8192 ∧ k < 1024 then (m ((c : Thread nD τ).loc main_arg0) : S8192x1024.Idx → EReal) (ix2 ⟨i, h.1⟩ ⟨k, h.2⟩) else 0
def W (k j : ℕ) : EReal := if h : k < 1024 ∧ j < 1024 then (m ((c : Thread nD τ).loc main_arg1) : S1024x1024.Idx → EReal) (ix2 ⟨k, h.1⟩ ⟨j, h.2⟩) else 0
def X (i j : ℕ) : EReal := if h : i < 8192 ∧ j < 1024 then (m ((c : Thread nD τ).loc main_arg2) : S8192x1024.Idx → EReal) (ix2 ⟨i, h.1⟩ ⟨j, h.2⟩) else 0
def G (j : ℕ) : EReal := if h : j < 1024 then (m ((c : Thread nD τ).loc main_arg3) : S1024.Idx → EReal) (ix1 ⟨j, h⟩) else 0
theorem O_eq (i : Fin 8192) (k : Fin 1024) : (m ((c : Thread nD τ).loc main_arg0) : S8192x1024.Idx → EReal) (ix2 i k) = O m c i k := by
  unfold O; rw [dif_pos ⟨i.isLt, k.isLt⟩]
theorem W_eq (k : Fin 1024) (j : Fin 1024) : (m ((c : Thread nD τ).loc main_arg1) : S1024x1024.Idx → EReal) (ix2 k j) = W m c k j := by
  unfold W; rw [dif_pos ⟨k.isLt, j.isLt⟩]
theorem X_eq (i : Fin 8192) (j : Fin 1024) : (m ((c : Thread nD τ).loc main_arg2) : S8192x1024.Idx → EReal) (ix2 i j) = X m c i j := by
  unfold X; rw [dif_pos ⟨i.isLt, j.isLt⟩]
theorem G_eq (j : Fin 1024) : (m ((c : Thread nD τ).loc main_arg3) : S1024.Idx → EReal) (ix1 j) = G m c j := by
  unfold G; rw [dif_pos j.isLt]

/-- The blocks a point reads. -/
abbrev B0 (t : Fin cfg0.N) : Vec Ideal S1024x1024 .bf16 := iblk m c 0 t
abbrev B1 (t : Fin cfg0.N) : Vec Ideal S1024x1024 .bf16 := iblk m c 1 t
abbrev B2 (t : Fin cfg0.N) : Vec Ideal S1024x1024 .f32 := iblk m c 2 t
abbrev B3 (t : Fin cfg0.N) : Vec Ideal S1x1024 .f32 := iblk m c 3 t

theorem N_pts : cfg0.N = 8 := N_0

theorem outA (t : Fin cfg0.N) : (dats m 0 c).after 4 t = k0_pay1 (B0 m c t) (B1 m c t) := by
  rw [after0_4]
  unfold out0_4
  frame_out
theorem outB (t : Fin cfg0.N) : (dats m 0 c).after 5 t = k0_pay2 (B0 m c t) (B1 m c t) (B2 m c t) (B3 m c t) := by
  rw [after0_5]
  unfold out0_5
  frame_out

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem row_lt (t : Fin cfg0.N) (r : Fin 1024) : 1024 * t.val + r.val < 8192 := by
  have := t.isLt; have := N_pts; omega

theorem blk0 (t : Fin cfg0.N) (r : Fin 1024) (k : Fin 1024) : B0 m c t (ix2 r k) = O m c (1024 * t.val + r.val) k.val := by
  refine Eq.trans ?_ (O_eq m c ⟨1024 * t.val + r.val, row_lt t r⟩ k)
  blk_ext! [B0, iblk, V, idx0 t]
theorem blk1 (t : Fin cfg0.N) (k : Fin 1024) (j : Fin 1024) : B1 m c t (ix2 k j) = W m c k.val j.val := by
  refine Eq.trans ?_ (W_eq m c k j)
  blk_ext! [B1, iblk, V, idx1 t]
theorem blk2 (t : Fin cfg0.N) (r j : Fin 1024) : B2 m c t (ix2 r j) = X m c (1024 * t.val + r.val) j.val := by
  refine Eq.trans ?_ (X_eq m c ⟨1024 * t.val + r.val, row_lt t r⟩ j)
  blk_ext! [B2, iblk, V, idx2 t]
theorem gain (r : Fin 1) (j : Fin 1024) : (V m c main_v0 : S1x1024.Idx → EReal) (ix2 r j) = G m c j.val := by
  refine Eq.trans ?_ (G_eq m c j)
  unfold V
  after_reads_simp
  pointwise
theorem blk3 (t : Fin cfg0.N) (r : Fin 1) (j : Fin 1024) : B3 m c t (ix2 r j) = G m c j.val := by
  refine Eq.trans ?_ (gain m c r j)
  blk_ext! [B3, iblk, idx3 t]

/-- The results after the run. -/
theorem resA (i : S8192x1024.Idx) : ((dats m 0 c).arrAt 4 cfg0.N : S8192x1024.Idx → EReal) i = mm (O m c (i 0).val) (W m c) (i 1).val := by
  have := (dats m 0 c).arrAt_eq_of_covers 4 (fun i : S8192x1024.Idx => mm (O m c (i 0).val) (W m c) (i 1).val)
    (by decide +kernel) fun t hf y => by
      blk_simp
      rw [outA]
      change S1024x1024.Idx at y
      idx_vars y
      refine (mm_val (o := fun r => O m c (1024 * t.val + r)) (blk0 m c t) (blk1 m c t) y0 y1).trans ?_
      have e0 : win0_4.index t 0 = t.val := (idx4 t).1
      have e1 : win0_4.index t 1 = 0 := (idx4 t).2
      show _ = mm (O m c (win0_4.index t 0 * 1024 + y0.val)) (W m c) (win0_4.index t 1 * 1024 + y1.val)
      rw [e0, e1, Nat.mul_comm t.val 1024, Nat.zero_mul, Nat.zero_add]
  exact congrFun this i
theorem resB (i : S8192x1024.Idx) : ((dats m 0 c).arrAt 5 cfg0.N : S8192x1024.Idx → EReal) i
    = out (G m c) (O m c (i 0).val) (X m c (i 0).val) (W m c) (i 1).val := by
  have := (dats m 0 c).arrAt_eq_of_covers 5 (fun i : S8192x1024.Idx => out (G m c) (O m c (i 0).val) (X m c (i 0).val) (W m c) (i 1).val)
    (by decide +kernel) fun t hf y => by
      blk_simp
      rw [outB]
      change S1024x1024.Idx at y
      idx_vars y
      refine (out_val (o := fun r => O m c (1024 * t.val + r)) (x := fun r => X m c (1024 * t.val + r)) (blk0 m c t) (blk1 m c t) (blk2 m c t) (blk3 m c t) y0 y1).trans ?_
      have e0 : win0_5.index t 0 = t.val := (idx5 t).1
      have e1 : win0_5.index t 1 = 0 := (idx5 t).2
      show _ = out (G m c) (O m c (win0_5.index t 0 * 1024 + y0.val)) (X m c (win0_5.index t 0 * 1024 + y0.val)) (W m c) (win0_5.index t 1 * 1024 + y1.val)
      rw [e0, e1, Nat.mul_comm t.val 1024, Nat.zero_mul, Nat.zero_add]
  exact congrFun this i

end kernel

section reference
open Cert.Reference18Ideal Cert.Reference18Ideal.Read
variable {o w x : ℕ → ℕ → EReal} {g : ℕ → EReal} {x0 : S8192x1024.Idx → EReal} {x1 : S1024x1024.Idx → EReal} {x2 : S8192x1024.Idx → EReal} {x3 : S1024.Idx → EReal}
  (h0 : ∀ r k, x0 (ix2 r k) = o r.val k.val) (h1 : ∀ k j, x1 (ix2 k j) = w k.val j.val)
  (h2 : ∀ r j, x2 (ix2 r j) = x r.val j.val) (h3 : ∀ j, x3 (ix1 j) = g j.val)
include h0 h1
theorem r_mm (i : Fin 8192) (j : Fin 1024) : val_main_v2 (F := Ideal) x0 x1 (ix2 i j) = mm (o i) w j := by
  pointwise [val_main_v2, val_main_v1, val_main_v0]
  simp only [h0 _ _, h1 _ _]; rfl
theorem r_rs (i : Fin 8192) (j : Fin 1) : val_main_v10 (F := Ideal) x0 x1 (ix2 i j) = rs (mm (o i) w) := by
  have h := r_mm h0 h1
  pointwise [val_main_v10, val_main_v9, val_main_v8, val_main_cst_1, val_main_v7, val_main_v6, val_main_cst_0, val_main_v5, val_main_v4, val_main_cst, val_main_v3]
  simp only [h _ _, zero_add]; rfl
include h2 h3
theorem r_out (i : Fin 8192) (j : Fin 1024) : val_main_v16 (F := Ideal) x0 x1 x2 x3 (ix2 i j) = out g (o i) (x i) w j := by
  have h := r_mm h0 h1
  have h' := r_rs h0 h1
  pointwise [val_main_v16, val_main_v15, val_main_v14, val_main_v13, val_main_v12, val_main_v11]
  simp only [h _ _, h' _ _, h2 _ _, h3 _]; rfl
end reference

theorem frame_r : quiescent_Reference18Ideal := fun m ρ _ =>
  (θ_run Cert.Reference18Ideal.defs _ _).mono (fun r h => ⟨fun c => (h c).2.2,
      sem_eq_zero_of_no_sems (by decide) r.2⟩) (Cert.Reference18Ideal.Value.run (F := Ideal) m ρ)

theorem algebraic : algebraic_Kernel18Ideal_Reference18Ideal := by
  intro m ρ m' ρ' hpre hagree
  refine ⟨_, _, Cert.Kernel18Ideal.Value.run_blocks (F := Ideal) m ρ, ?_⟩
  refine (θ_run Cert.Reference18Ideal.defs _ _).mono (fun _ h c => ?_) (Cert.Reference18Ideal.Value.run (F := Ideal) m' ρ')
  obtain ⟨e0, e1, e2, e3⟩ := hagree c
  obtain ⟨r0, r1, ra⟩ := h c
  have h0 := fun r k => (congrFun e0 (ix2 r k)).trans (O_eq m c r k)
  have h1 := fun r k => (congrFun e1 (ix2 r k)).trans (W_eq m c r k)
  have h2 := fun r k => (congrFun e2 (ix2 r k)).trans (X_eq m c r k)
  have h3 := fun j => (congrFun e3 (ix1 j)).trans (G_eq m c j)
  refine ⟨r0.trans ?_, r1.trans ?_, ra⟩
  · rw [Cert.Reference18Ideal.Read.val_main_v2_eq]
    funext i
    idx_vars i
    exact (r_mm h0 h1 i0 i1).trans (resA m c (ix2 i0 i1)).symm
  · rw [Cert.Reference18Ideal.Read.val_main_v16_eq]
    funext i
    idx_vars i
    exact (r_out h0 h1 h2 h3 i0 i1).trans (resB m c (ix2 i0 i1)).symm

end Cert.Out.Dn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Sg.Claims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Mm.Down
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Mm.Up
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Mm.SgOut
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Mm.SgIn
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Mm.DnSquare
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Mm.DnQkv
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Mm.DnGates
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame.Runs
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame.Runs
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite9
public import proofs.«01_k».proof.Proof.Ffn.Claims
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame.Runs
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame.Runs
public import proofs.«01_k».proof.Proof.Gen.Reference10Ideal
public import proofs.«01_k».proof.Proof.Gen.Reference10Ideal.Run
public import proofs.«01_k».proof.Proof.Gen.Reference10Ideal.Read
public import proofs.«01_k».proof.Proof.Fwd.Claims
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Mm.Proj
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Mm.DnDgrad
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite13
public import proofs.«01_k».proof.Proof.Dgrad.SgOut
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_finite14
public import proofs.«01_k».proof.Proof.Dgrad.DnOut
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite15
public import proofs.«01_k».proof.Proof.Dgrad.SgIn
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Mm.DnZ
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Out.Sg
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Out.Dn
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Pre_finite.Gen.facts,
    Cert.Pre_finite9.Gen.facts,
    Cert.Pre_finite13.Gen.facts,
    Cert.Pre_finite14.Gen.facts,
    Cert.Pre_finite15.Gen.facts,
    fun m g _ => Cert.Kernel.Gen.frame m g,
    fun m g _ => Cert.KernelIdeal.Gen.frame m g,
    fun m g _ => Cert.KernelIdeal.Gen.frame m g,
    Cert.Sg.frame_r,
    fun m g _ => Cert.Sg.frame_r m g trivial,
    fun m g _ => Cert.Kernel2.Gen.frame m g,
    fun m g _ => Cert.Kernel2Ideal.Gen.frame m g,
    Cert.Mm.Down.frame_r,
    fun m g _ => Cert.Kernel3.Gen.frame m g,
    fun m g _ => Cert.Kernel3Ideal.Gen.frame m g,
    Cert.Mm.Up.frame_r,
    fun m g _ => Cert.Kernel4.Gen.frame m g,
    fun m g _ => Cert.Kernel4Ideal.Gen.frame m g,
    Cert.Mm.SgOut.frame_r,
    fun m g _ => Cert.Kernel5.Gen.frame m g,
    fun m g _ => Cert.Kernel5Ideal.Gen.frame m g,
    Cert.Mm.SgIn.frame_r,
    fun m g _ => Cert.Kernel6.Gen.frame m g,
    fun m g _ => Cert.Kernel6Ideal.Gen.frame m g,
    Cert.Mm.DnSquare.frame_r,
    fun m g _ => Cert.Kernel7.Gen.frame m g,
    fun m g _ => Cert.Kernel7Ideal.Gen.frame m g,
    Cert.Mm.DnQkv.frame_r,
    fun m g _ => Cert.Kernel8.Gen.frame m g,
    fun m g _ => Cert.Kernel8Ideal.Gen.frame m g,
    Cert.Mm.DnGates.frame_r,
    fun m g _ => Cert.Ffn.Bits.frame m g,
    fun m g _ => Cert.Ffn.Ideal.frame m g,
    fun m g _ => Cert.Ffn.Ideal.frame m g,
    Cert.Ffn.frame_r,
    fun m g _ => Cert.Ffn.frame_r m g trivial,
    fun m g _ => Cert.Fwd.Bits.frame m g,
    fun m g _ => Cert.Fwd.Ideal.frame m g,
    Cert.Fwd.frame_r,
    fun m g _ => Cert.Kernel11.Gen.frame m g,
    fun m g _ => Cert.Kernel11Ideal.Gen.frame m g,
    Cert.Mm.Proj.frame_r,
    fun m g _ => Cert.Kernel12.Gen.frame m g,
    fun m g _ => Cert.Kernel12Ideal.Gen.frame m g,
    Cert.Mm.DnDgrad.frame_r,
    fun m g _ => Cert.Kernel13.Gen.frame m g,
    fun m g _ => Cert.Kernel13Ideal.Gen.frame m g,
    fun m g _ => Cert.Kernel13Ideal.Gen.frame m g,
    Cert.Dgrad.SgOut.frame_r,
    fun m g _ => Cert.Dgrad.SgOut.frame_r m g trivial,
    fun m g _ => Cert.Kernel14.Gen.frame m g,
    fun m g _ => Cert.Kernel14Ideal.Gen.frame m g,
    fun m g _ => Cert.Kernel14Ideal.Gen.frame m g,
    Cert.Dgrad.DnOut.frame_r,
    fun m g _ => Cert.Dgrad.DnOut.frame_r m g trivial,
    fun m g _ => Cert.Kernel15.Gen.frame m g,
    fun m g _ => Cert.Kernel15Ideal.Gen.frame m g,
    fun m g _ => Cert.Kernel15Ideal.Gen.frame m g,
    Cert.Dgrad.SgIn.frame_r,
    fun m g _ => Cert.Dgrad.SgIn.frame_r m g trivial,
    fun m g _ => Cert.Kernel16.Gen.frame m g,
    fun m g _ => Cert.Kernel16Ideal.Gen.frame m g,
    Cert.Mm.DnZ.frame_r,
    fun m g _ => Cert.Kernel17.Gen.frame m g,
    fun m g _ => Cert.Kernel17Ideal.Gen.frame m g,
    Cert.Out.Sg.frame_r,
    fun m g _ => Cert.Kernel18.Gen.frame m g,
    fun m g _ => Cert.Kernel18Ideal.Gen.frame m g,
    Cert.Out.Dn.frame_r,
    Cert.Sg.preserves,
    Cert.Sg.algebraic,
    trivial,
    Cert.Mm.Down.algebraic,
    trivial,
    Cert.Mm.Up.algebraic,
    trivial,
    Cert.Mm.SgOut.algebraic,
    trivial,
    Cert.Mm.SgIn.algebraic,
    trivial,
    Cert.Mm.DnSquare.algebraic,
    trivial,
    Cert.Mm.DnQkv.algebraic,
    trivial,
    Cert.Mm.DnGates.algebraic,
    trivial,
    Cert.Ffn.algebraic,
    trivial,
    Cert.Fwd.algebraic,
    trivial,
    Cert.Mm.Proj.algebraic,
    trivial,
    Cert.Mm.DnDgrad.algebraic,
    trivial,
    Cert.Dgrad.SgOut.algebraic,
    trivial,
    Cert.Dgrad.DnOut.algebraic,
    trivial,
    Cert.Dgrad.SgIn.algebraic,
    trivial,
    Cert.Mm.DnZ.algebraic,
    trivial,
    Cert.Out.Sg.algebraic,
    trivial,
    Cert.Out.Dn.algebraic⟩

end Cert.Proof

end
